-- ==== Defs.lean ====
def Pre_Unsort [hPre_in_range : Cert.Pre_in_range.Facts] (m : (ℓ : Loc Cert.Unsort.nD Cert.Unsort.τ Cert.Unsort.sig) → Buf (Elt Bits) ℓ) : Prop :=
  ∀ c : Dev Cert.Unsort.nD,
    (Cert.Pre_in_range.fn (F := Bits) (m ((c.tc : Thread Cert.Unsort.nD Cert.Unsort.τ).loc Cert.Unsort.main_arg0)) (m ((c.tc : Thread Cert.Unsort.nD Cert.Unsort.τ).loc Cert.Unsort.main_arg1))) = (fun _ => 1#1)

def Pre_UnsortIdeal [hPre_in_range : Cert.Pre_in_range.Facts] (m : (ℓ : Loc Cert.UnsortIdeal.nD Cert.UnsortIdeal.τ Cert.UnsortIdeal.sig) → Buf (Elt Ideal) ℓ) : Prop :=
  ∀ c : Dev Cert.UnsortIdeal.nD,
    (Cert.Pre_in_range.fn (F := Ideal) (m ((c.tc : Thread Cert.UnsortIdeal.nD Cert.UnsortIdeal.τ).loc Cert.UnsortIdeal.main_arg0)) (m ((c.tc : Thread Cert.UnsortIdeal.nD Cert.UnsortIdeal.τ).loc Cert.UnsortIdeal.main_arg1))) = (fun _ => 1#1)

def Pre_UnsortRefIdeal [hPre_in_range : Cert.Pre_in_range.Facts] (m : (ℓ : Loc Cert.UnsortRefIdeal.nD Cert.UnsortRefIdeal.τ Cert.UnsortRefIdeal.sig) → Buf (Elt Ideal) ℓ) : Prop :=
  ∀ c : Dev Cert.UnsortRefIdeal.nD,
    (Cert.Pre_in_range.fn (F := Ideal) (m ((c.tc : Thread Cert.UnsortRefIdeal.nD Cert.UnsortRefIdeal.τ).loc Cert.UnsortRefIdeal.main_arg0)) (m ((c.tc : Thread Cert.UnsortRefIdeal.nD Cert.UnsortRefIdeal.τ).loc Cert.UnsortRefIdeal.main_arg1))) = (fun _ => 1#1)

def Pre_Permute [hPre_positions : Cert.Pre_positions.Facts] (m : (ℓ : Loc Cert.Permute.nD Cert.Permute.τ Cert.Permute.sig) → Buf (Elt Bits) ℓ) : Prop :=
  ∀ c : Dev Cert.Permute.nD,
    (Cert.Pre_positions.fn (F := Bits) (m ((c.tc : Thread Cert.Permute.nD Cert.Permute.τ).loc Cert.Permute.main_arg0)) (m ((c.tc : Thread Cert.Permute.nD Cert.Permute.τ).loc Cert.Permute.main_arg1))) = (fun _ => 1#1)

def Pre_PermuteIdeal [hPre_positions : Cert.Pre_positions.Facts] (m : (ℓ : Loc Cert.PermuteIdeal.nD Cert.PermuteIdeal.τ Cert.PermuteIdeal.sig) → Buf (Elt Ideal) ℓ) : Prop :=
  ∀ c : Dev Cert.PermuteIdeal.nD,
    (Cert.Pre_positions.fn (F := Ideal) (m ((c.tc : Thread Cert.PermuteIdeal.nD Cert.PermuteIdeal.τ).loc Cert.PermuteIdeal.main_arg0)) (m ((c.tc : Thread Cert.PermuteIdeal.nD Cert.PermuteIdeal.τ).loc Cert.PermuteIdeal.main_arg1))) = (fun _ => 1#1)

def Pre_PermuteRefIdeal [hPre_positions : Cert.Pre_positions.Facts] (m : (ℓ : Loc Cert.PermuteRefIdeal.nD Cert.PermuteRefIdeal.τ Cert.PermuteRefIdeal.sig) → Buf (Elt Ideal) ℓ) : Prop :=
  ∀ c : Dev Cert.PermuteRefIdeal.nD,
    (Cert.Pre_positions.fn (F := Ideal) (m ((c.tc : Thread Cert.PermuteRefIdeal.nD Cert.PermuteRefIdeal.τ).loc Cert.PermuteRefIdeal.main_arg0)) (m ((c.tc : Thread Cert.PermuteRefIdeal.nD Cert.PermuteRefIdeal.τ).loc Cert.PermuteRefIdeal.main_arg1))) = (fun _ => 1#1)

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_Attend (m : (ℓ : Loc Cert.Attend.nD Cert.Attend.τ Cert.Attend.sig) → Buf (Elt Bits) ℓ) : Prop :=
  True

def Pre_AttendIdeal (m : (ℓ : Loc Cert.AttendIdeal.nD Cert.AttendIdeal.τ Cert.AttendIdeal.sig) → Buf (Elt Ideal) ℓ) : Prop :=
  True

def Pre_AttendIdeal_finite [hPre_finite : Cert.Pre_finite.Facts] (m : (ℓ : Loc Cert.AttendIdeal.nD Cert.AttendIdeal.τ Cert.AttendIdeal.sig) → Buf (Elt Ideal) ℓ) : Prop :=
  ∀ c : Dev Cert.AttendIdeal.nD,
    (Cert.Pre_finite.fn (F := Ideal) (m ((c.tc : Thread Cert.AttendIdeal.nD Cert.AttendIdeal.τ).loc Cert.AttendIdeal.main_arg0))) = (fun _ => 1#1)

def Pre_AttendRefIdeal (m : (ℓ : Loc Cert.AttendRefIdeal.nD Cert.AttendRefIdeal.τ Cert.AttendRefIdeal.sig) → Buf (Elt Ideal) ℓ) : Prop :=
  True

def Pre_AttendRefIdeal_finite [hPre_finite : Cert.Pre_finite.Facts] (m : (ℓ : Loc Cert.AttendRefIdeal.nD Cert.AttendRefIdeal.τ Cert.AttendRefIdeal.sig) → Buf (Elt Ideal) ℓ) : Prop :=
  ∀ c : Dev Cert.AttendRefIdeal.nD,
    (Cert.Pre_finite.fn (F := Ideal) (m ((c.tc : Thread Cert.AttendRefIdeal.nD Cert.AttendRefIdeal.τ).loc Cert.AttendRefIdeal.main_arg0))) = (fun _ => 1#1)

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectRefIdeal (m : (ℓ : Loc Cert.ProjectRefIdeal.nD Cert.ProjectRefIdeal.τ Cert.ProjectRefIdeal.sig) → Buf (Elt Ideal) ℓ) : Prop :=
  True

def Pre_Rank (m : (ℓ : Loc Cert.Rank.nD Cert.Rank.τ Cert.Rank.sig) → Buf (Elt Bits) ℓ) : Prop :=
  True

def Pre_RankIdeal (m : (ℓ : Loc Cert.RankIdeal.nD Cert.RankIdeal.τ Cert.RankIdeal.sig) → Buf (Elt Ideal) ℓ) : Prop :=
  True

def Pre_RankRefIdeal (m : (ℓ : Loc Cert.RankRefIdeal.nD Cert.RankRefIdeal.τ Cert.RankRefIdeal.sig) → Buf (Elt Ideal) ℓ) : Prop :=
  True

def quiescent_Unsort [hUnsort : Cert.Unsort.Facts] [hPre_in_range : Cert.Pre_in_range.Facts] : Prop :=
  ∀ (m : (ℓ : Loc Cert.Unsort.nD Cert.Unsort.τ Cert.Unsort.sig) → Buf (Elt Bits) ℓ) (g : Dev Cert.Unsort.nD → PrngReg), Pre_Unsort m →
    θ_run (Cert.Unsort.defs (F := Bits)) (Cert.Unsort.threads (F := Bits)) ⟨m, fun _ => 0, g⟩ (fun r => (∀ c : Dev Cert.Unsort.nD,
      r.2.mem ((c.tc : Thread Cert.Unsort.nD Cert.Unsort.τ).loc Cert.Unsort.main_arg0) = m ((c.tc : Thread Cert.Unsort.nD Cert.Unsort.τ).loc Cert.Unsort.main_arg0)
      ∧ r.2.mem ((c.tc : Thread Cert.Unsort.nD Cert.Unsort.τ).loc Cert.Unsort.main_arg1) = m ((c.tc : Thread Cert.Unsort.nD Cert.Unsort.τ).loc Cert.Unsort.main_arg1))
      ∧ r.2.sem = fun _ => 0)

def quiescent_UnsortIdeal [hUnsortIdeal : Cert.UnsortIdeal.Facts] [hPre_in_range : Cert.Pre_in_range.Facts] : Prop :=
  ∀ (m : (ℓ : Loc Cert.UnsortIdeal.nD Cert.UnsortIdeal.τ Cert.UnsortIdeal.sig) → Buf (Elt Ideal) ℓ) (g : Dev Cert.UnsortIdeal.nD → PrngReg), Pre_UnsortIdeal m →
    θ_run (Cert.UnsortIdeal.defs (F := Ideal)) (Cert.UnsortIdeal.threads (F := Ideal)) ⟨m, fun _ => 0, g⟩ (fun r => (∀ c : Dev Cert.UnsortIdeal.nD,
      r.2.mem ((c.tc : Thread Cert.UnsortIdeal.nD Cert.UnsortIdeal.τ).loc Cert.UnsortIdeal.main_arg0) = m ((c.tc : Thread Cert.UnsortIdeal.nD Cert.UnsortIdeal.τ).loc Cert.UnsortIdeal.main_arg0)
      ∧ r.2.mem ((c.tc : Thread Cert.UnsortIdeal.nD Cert.UnsortIdeal.τ).loc Cert.UnsortIdeal.main_arg1) = m ((c.tc : Thread Cert.UnsortIdeal.nD Cert.UnsortIdeal.τ).loc Cert.UnsortIdeal.main_arg1))
      ∧ r.2.sem = fun _ => 0)

def quiescent_UnsortRefIdeal [hUnsortRefIdeal : Cert.UnsortRefIdeal.Facts] [hPre_in_range : Cert.Pre_in_range.Facts] : Prop :=
  ∀ (m : (ℓ : Loc Cert.UnsortRefIdeal.nD Cert.UnsortRefIdeal.τ Cert.UnsortRefIdeal.sig) → Buf (Elt Ideal) ℓ) (g : Dev Cert.UnsortRefIdeal.nD → PrngReg), Pre_UnsortRefIdeal m →
    θ_run (Cert.UnsortRefIdeal.defs (F := Ideal)) (onTc (τ := Cert.UnsortRefIdeal.τ) (Cert.UnsortRefIdeal.main (F := Ideal))) ⟨m, fun _ => 0, g⟩ (fun r => (∀ c : Dev Cert.UnsortRefIdeal.nD,
      r.2.mem ((c.tc : Thread Cert.UnsortRefIdeal.nD Cert.UnsortRefIdeal.τ).loc Cert.UnsortRefIdeal.main_arg0) = m ((c.tc : Thread Cert.UnsortRefIdeal.nD Cert.UnsortRefIdeal.τ).loc Cert.UnsortRefIdeal.main_arg0)
      ∧ r.2.mem ((c.tc : Thread Cert.UnsortRefIdeal.nD Cert.UnsortRefIdeal.τ).loc Cert.UnsortRefIdeal.main_arg1) = m ((c.tc : Thread Cert.UnsortRefIdeal.nD Cert.UnsortRefIdeal.τ).loc Cert.UnsortRefIdeal.main_arg1))
      ∧ r.2.sem = fun _ => 0)

def quiescent_Permute [hPermute : Cert.Permute.Facts] [hPre_positions : Cert.Pre_positions.Facts] : Prop :=
  ∀ (m : (ℓ : Loc Cert.Permute.nD Cert.Permute.τ Cert.Permute.sig) → Buf (Elt Bits) ℓ) (g : Dev Cert.Permute.nD → PrngReg), Pre_Permute m →
    θ_run (Cert.Permute.defs (F := Bits)) (Cert.Permute.threads (F := Bits)) ⟨m, fun _ => 0, g⟩ (fun r => (∀ c : Dev Cert.Permute.nD,
      r.2.mem ((c.tc : Thread Cert.Permute.nD Cert.Permute.τ).loc Cert.Permute.main_arg0) = m ((c.tc : Thread Cert.Permute.nD Cert.Permute.τ).loc Cert.Permute.main_arg0)
      ∧ r.2.mem ((c.tc : Thread Cert.Permute.nD Cert.Permute.τ).loc Cert.Permute.main_arg1) = m ((c.tc : Thread Cert.Permute.nD Cert.Permute.τ).loc Cert.Permute.main_arg1))
      ∧ r.2.sem = fun _ => 0)

def quiescent_PermuteIdeal [hPermuteIdeal : Cert.PermuteIdeal.Facts] [hPre_positions : Cert.Pre_positions.Facts] : Prop :=
  ∀ (m : (ℓ : Loc Cert.PermuteIdeal.nD Cert.PermuteIdeal.τ Cert.PermuteIdeal.sig) → Buf (Elt Ideal) ℓ) (g : Dev Cert.PermuteIdeal.nD → PrngReg), Pre_PermuteIdeal m →
    θ_run (Cert.PermuteIdeal.defs (F := Ideal)) (Cert.PermuteIdeal.threads (F := Ideal)) ⟨m, fun _ => 0, g⟩ (fun r => (∀ c : Dev Cert.PermuteIdeal.nD,
      r.2.mem ((c.tc : Thread Cert.PermuteIdeal.nD Cert.PermuteIdeal.τ).loc Cert.PermuteIdeal.main_arg0) = m ((c.tc : Thread Cert.PermuteIdeal.nD Cert.PermuteIdeal.τ).loc Cert.PermuteIdeal.main_arg0)
      ∧ r.2.mem ((c.tc : Thread Cert.PermuteIdeal.nD Cert.PermuteIdeal.τ).loc Cert.PermuteIdeal.main_arg1) = m ((c.tc : Thread Cert.PermuteIdeal.nD Cert.PermuteIdeal.τ).loc Cert.PermuteIdeal.main_arg1))
      ∧ r.2.sem = fun _ => 0)

def quiescent_PermuteRefIdeal [hPermuteRefIdeal : Cert.PermuteRefIdeal.Facts] [hPre_positions : Cert.Pre_positions.Facts] : Prop :=
  ∀ (m : (ℓ : Loc Cert.PermuteRefIdeal.nD Cert.PermuteRefIdeal.τ Cert.PermuteRefIdeal.sig) → Buf (Elt Ideal) ℓ) (g : Dev Cert.PermuteRefIdeal.nD → PrngReg), Pre_PermuteRefIdeal m →
    θ_run (Cert.PermuteRefIdeal.defs (F := Ideal)) (onTc (τ := Cert.PermuteRefIdeal.τ) (Cert.PermuteRefIdeal.main (F := Ideal))) ⟨m, fun _ => 0, g⟩ (fun r => (∀ c : Dev Cert.PermuteRefIdeal.nD,
      r.2.mem ((c.tc : Thread Cert.PermuteRefIdeal.nD Cert.PermuteRefIdeal.τ).loc Cert.PermuteRefIdeal.main_arg0) = m ((c.tc : Thread Cert.PermuteRefIdeal.nD Cert.PermuteRefIdeal.τ).loc Cert.PermuteRefIdeal.main_arg0)
      ∧ r.2.mem ((c.tc : Thread Cert.PermuteRefIdeal.nD Cert.PermuteRefIdeal.τ).loc Cert.PermuteRefIdeal.main_arg1) = m ((c.tc : Thread Cert.PermuteRefIdeal.nD Cert.PermuteRefIdeal.τ).loc Cert.PermuteRefIdeal.main_arg1))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10)
      ∧ r.2.mem ((c.tc : Thread Cert.Tail.nD Cert.Tail.τ).loc Cert.Tail.main_arg11) = m ((c.tc : Thread Cert.Tail.nD Cert.Tail.τ).loc Cert.Tail.main_arg11))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9)
      ∧ r.2.mem ((c.tc : Thread Cert.TailRefIdeal.nD Cert.TailRefIdeal.τ).loc Cert.TailRefIdeal.main_arg10) = m ((c.tc : Thread Cert.TailRefIdeal.nD Cert.TailRefIdeal.τ).loc Cert.TailRefIdeal.main_arg10)
      ∧ r.2.mem ((c.tc : Thread Cert.TailRefIdeal.nD Cert.TailRefIdeal.τ).loc Cert.TailRefIdeal.main_arg11) = m ((c.tc : Thread Cert.TailRefIdeal.nD Cert.TailRefIdeal.τ).loc Cert.TailRefIdeal.main_arg11))
      ∧ r.2.sem = fun _ => 0)

def quiescent_Attend [hAttend : Cert.Attend.Facts] : Prop :=
  ∀ (m : (ℓ : Loc Cert.Attend.nD Cert.Attend.τ Cert.Attend.sig) → Buf (Elt Bits) ℓ) (g : Dev Cert.Attend.nD → PrngReg), Pre_Attend m →
    θ_run (Cert.Attend.defs (F := Bits)) (onTc (τ := Cert.Attend.τ) (Cert.Attend.main (F := Bits))) ⟨m, fun _ => 0, g⟩ (fun r => (∀ c : Dev Cert.Attend.nD,
      r.2.mem ((c.tc : Thread Cert.Attend.nD Cert.Attend.τ).loc Cert.Attend.main_arg0) = m ((c.tc : Thread Cert.Attend.nD Cert.Attend.τ).loc Cert.Attend.main_arg0))
      ∧ r.2.sem = fun _ => 0)

def quiescent_AttendIdeal [hAttendIdeal : Cert.AttendIdeal.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0))
      ∧ r.2.sem = fun _ => 0)

def quiescent_AttendIdeal_pre_finite [hAttendIdeal : Cert.AttendIdeal.Facts] [hPre_finite : Cert.Pre_finite.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal_finite m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0))
      ∧ r.2.sem = fun _ => 0)

def quiescent_AttendRefIdeal [hAttendRefIdeal : Cert.AttendRefIdeal.Facts] : Prop :=
  ∀ (m : (ℓ : Loc Cert.AttendRefIdeal.nD Cert.AttendRefIdeal.τ Cert.AttendRefIdeal.sig) → Buf (Elt Ideal) ℓ) (g : Dev Cert.AttendRefIdeal.nD → PrngReg), Pre_AttendRefIdeal m →
    θ_run (Cert.AttendRefIdeal.defs (F := Ideal)) (onTc (τ := Cert.AttendRefIdeal.τ) (Cert.AttendRefIdeal.main (F := Ideal))) ⟨m, fun _ => 0, g⟩ (fun r => (∀ c : Dev Cert.AttendRefIdeal.nD,
      r.2.mem ((c.tc : Thread Cert.AttendRefIdeal.nD Cert.AttendRefIdeal.τ).loc Cert.AttendRefIdeal.main_arg0) = m ((c.tc : Thread Cert.AttendRefIdeal.nD Cert.AttendRefIdeal.τ).loc Cert.AttendRefIdeal.main_arg0))
      ∧ r.2.sem = fun _ => 0)

def quiescent_AttendRefIdeal_pre_finite [hAttendRefIdeal : Cert.AttendRefIdeal.Facts] [hPre_finite : Cert.Pre_finite.Facts] : Prop :=
  ∀ (m : (ℓ : Loc Cert.AttendRefIdeal.nD Cert.AttendRefIdeal.τ Cert.AttendRefIdeal.sig) → Buf (Elt Ideal) ℓ) (g : Dev Cert.AttendRefIdeal.nD → PrngReg), Pre_AttendRefIdeal_finite m →
    θ_run (Cert.AttendRefIdeal.defs (F := Ideal)) (onTc (τ := Cert.AttendRefIdeal.τ) (Cert.AttendRefIdeal.main (F := Ideal))) ⟨m, fun _ => 0, g⟩ (fun r => (∀ c : Dev Cert.AttendRefIdeal.nD,
      r.2.mem ((c.tc : Thread Cert.AttendRefIdeal.nD Cert.AttendRefIdeal.τ).loc Cert.AttendRefIdeal.main_arg0) = m ((c.tc : Thread Cert.AttendRefIdeal.nD Cert.AttendRefIdeal.τ).loc Cert.AttendRefIdeal.main_arg0))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4)
      ∧ r.2.mem ((c.tc : Thread Cert.Project.nD Cert.Project.τ).loc Cert.Project.main_arg5) = m ((c.tc : Thread Cert.Project.nD Cert.Project.τ).loc Cert.Project.main_arg5)
      ∧ r.2.mem ((c.tc : Thread Cert.Project.nD Cert.Project.τ).loc Cert.Project.main_arg6) = m ((c.tc : Thread Cert.Project.nD Cert.Project.τ).loc Cert.Project.main_arg6))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
      ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6))
      ∧ r.2.sem = fun _ => 0)

def quiescent_ProjectRefIdeal [hProjectRefIdeal : Cert.ProjectRefIdeal.Facts] : Prop :=
  ∀ (m : (ℓ : Loc Cert.ProjectRefIdeal.nD Cert.ProjectRefIdeal.τ Cert.ProjectRefIdeal.sig) → Buf (Elt Ideal) ℓ) (g : Dev Cert.ProjectRefIdeal.nD → PrngReg), Pre_ProjectRefIdeal m →
    θ_run (Cert.ProjectRefIdeal.defs (F := Ideal)) (onTc (τ := Cert.ProjectRefIdeal.τ) (Cert.ProjectRefIdeal.main (F := Ideal))) ⟨m, fun _ => 0, g⟩ (fun r => (∀ c : Dev Cert.ProjectRefIdeal.nD,
      r.2.mem ((c.tc : Thread Cert.ProjectRefIdeal.nD Cert.ProjectRefIdeal.τ).loc Cert.ProjectRefIdeal.main_arg0) = m ((c.tc : Thread Cert.ProjectRefIdeal.nD Cert.ProjectRefIdeal.τ).loc Cert.ProjectRefIdeal.main_arg0)
      ∧ r.2.mem ((c.tc : Thread Cert.ProjectRefIdeal.nD Cert.ProjectRefIdeal.τ).loc Cert.ProjectRefIdeal.main_arg1) = m ((c.tc : Thread Cert.ProjectRefIdeal.nD Cert.ProjectRefIdeal.τ).loc Cert.ProjectRefIdeal.main_arg1)
      ∧ r.2.mem ((c.tc : Thread Cert.ProjectRefIdeal.nD Cert.ProjectRefIdeal.τ).loc Cert.ProjectRefIdeal.main_arg2) = m ((c.tc : Thread Cert.ProjectRefIdeal.nD Cert.ProjectRefIdeal.τ).loc Cert.ProjectRefIdeal.main_arg2)
      ∧ r.2.mem ((c.tc : Thread Cert.ProjectRefIdeal.nD Cert.ProjectRefIdeal.τ).loc Cert.ProjectRefIdeal.main_arg3) = m ((c.tc : Thread Cert.ProjectRefIdeal.nD Cert.ProjectRefIdeal.τ).loc Cert.ProjectRefIdeal.main_arg3)
      ∧ r.2.mem ((c.tc : Thread Cert.ProjectRefIdeal.nD Cert.ProjectRefIdeal.τ).loc Cert.ProjectRefIdeal.main_arg4) = m ((c.tc : Thread Cert.ProjectRefIdeal.nD Cert.ProjectRefIdeal.τ).loc Cert.ProjectRefIdeal.main_arg4)
      ∧ r.2.mem ((c.tc : Thread Cert.ProjectRefIdeal.nD Cert.ProjectRefIdeal.τ).loc Cert.ProjectRefIdeal.main_arg5) = m ((c.tc : Thread Cert.ProjectRefIdeal.nD Cert.ProjectRefIdeal.τ).loc Cert.ProjectRefIdeal.main_arg5)
      ∧ r.2.mem ((c.tc : Thread Cert.ProjectRefIdeal.nD Cert.ProjectRefIdeal.τ).loc Cert.ProjectRefIdeal.main_arg6) = m ((c.tc : Thread Cert.ProjectRefIdeal.nD Cert.ProjectRefIdeal.τ).loc Cert.ProjectRefIdeal.main_arg6))
      ∧ r.2.sem = fun _ => 0)

def quiescent_Rank [hRank : Cert.Rank.Facts] : Prop :=
  ∀ (m : (ℓ : Loc Cert.Rank.nD Cert.Rank.τ Cert.Rank.sig) → Buf (Elt Bits) ℓ) (g : Dev Cert.Rank.nD → PrngReg), Pre_Rank m →
    θ_run (Cert.Rank.defs (F := Bits)) (onTc (τ := Cert.Rank.τ) (Cert.Rank.main (F := Bits))) ⟨m, fun _ => 0, g⟩ (fun r => (∀ c : Dev Cert.Rank.nD,
      r.2.mem ((c.tc : Thread Cert.Rank.nD Cert.Rank.τ).loc Cert.Rank.main_arg0) = m ((c.tc : Thread Cert.Rank.nD Cert.Rank.τ).loc Cert.Rank.main_arg0)
      ∧ r.2.mem ((c.tc : Thread Cert.Rank.nD Cert.Rank.τ).loc Cert.Rank.main_arg1) = m ((c.tc : Thread Cert.Rank.nD Cert.Rank.τ).loc Cert.Rank.main_arg1))
      ∧ r.2.sem = fun _ => 0)

def quiescent_RankIdeal [hRankIdeal : Cert.RankIdeal.Facts] : Prop :=
  ∀ (m : (ℓ : Loc Cert.RankIdeal.nD Cert.RankIdeal.τ Cert.RankIdeal.sig) → Buf (Elt Ideal) ℓ) (g : Dev Cert.RankIdeal.nD → PrngReg), Pre_RankIdeal m →
    θ_run (Cert.RankIdeal.defs (F := Ideal)) (onTc (τ := Cert.RankIdeal.τ) (Cert.RankIdeal.main (F := Ideal))) ⟨m, fun _ => 0, g⟩ (fun r => (∀ c : Dev Cert.RankIdeal.nD,
      r.2.mem ((c.tc : Thread Cert.RankIdeal.nD Cert.RankIdeal.τ).loc Cert.RankIdeal.main_arg0) = m ((c.tc : Thread Cert.RankIdeal.nD Cert.RankIdeal.τ).loc Cert.RankIdeal.main_arg0)
      ∧ r.2.mem ((c.tc : Thread Cert.RankIdeal.nD Cert.RankIdeal.τ).loc Cert.RankIdeal.main_arg1) = m ((c.tc : Thread Cert.RankIdeal.nD Cert.RankIdeal.τ).loc Cert.RankIdeal.main_arg1))
      ∧ r.2.sem = fun _ => 0)

def quiescent_RankRefIdeal [hRankRefIdeal : Cert.RankRefIdeal.Facts] : Prop :=
  ∀ (m : (ℓ : Loc Cert.RankRefIdeal.nD Cert.RankRefIdeal.τ Cert.RankRefIdeal.sig) → Buf (Elt Ideal) ℓ) (g : Dev Cert.RankRefIdeal.nD → PrngReg), Pre_RankRefIdeal m →
    θ_run (Cert.RankRefIdeal.defs (F := Ideal)) (onTc (τ := Cert.RankRefIdeal.τ) (Cert.RankRefIdeal.main (F := Ideal))) ⟨m, fun _ => 0, g⟩ (fun r => (∀ c : Dev Cert.RankRefIdeal.nD,
      r.2.mem ((c.tc : Thread Cert.RankRefIdeal.nD Cert.RankRefIdeal.τ).loc Cert.RankRefIdeal.main_arg0) = m ((c.tc : Thread Cert.RankRefIdeal.nD Cert.RankRefIdeal.τ).loc Cert.RankRefIdeal.main_arg0)
      ∧ r.2.mem ((c.tc : Thread Cert.RankRefIdeal.nD Cert.RankRefIdeal.τ).loc Cert.RankRefIdeal.main_arg1) = m ((c.tc : Thread Cert.RankRefIdeal.nD Cert.RankRefIdeal.τ).loc Cert.RankRefIdeal.main_arg1))
      ∧ r.2.sem = fun _ => 0)

def preserves_Unsort_UnsortIdeal : Prop :=
  True

def algebraic_UnsortIdeal_UnsortRefIdeal [hUnsortIdeal : Cert.UnsortIdeal.Facts] [hUnsortRefIdeal : Cert.UnsortRefIdeal.Facts] [hPre_in_range : Cert.Pre_in_range.Facts] : Prop :=
  ∀ (m : (ℓ : Loc Cert.UnsortIdeal.nD Cert.UnsortIdeal.τ Cert.UnsortIdeal.sig) → Buf (Elt Ideal) ℓ) (g : Dev Cert.UnsortIdeal.nD → PrngReg)
    (m' : (ℓ : Loc Cert.UnsortRefIdeal.nD Cert.UnsortRefIdeal.τ Cert.UnsortRefIdeal.sig) → Buf (Elt Ideal) ℓ) (g' : Dev Cert.UnsortRefIdeal.nD → PrngReg), Pre_UnsortIdeal m →
    (∀ c : Dev Cert.UnsortIdeal.nD,
      m' ((c.tc : Thread Cert.UnsortRefIdeal.nD Cert.UnsortRefIdeal.τ).loc Cert.UnsortRefIdeal.main_arg0) = m ((c.tc : Thread Cert.UnsortIdeal.nD Cert.UnsortIdeal.τ).loc Cert.UnsortIdeal.main_arg0)
      ∧ m' ((c.tc : Thread Cert.UnsortRefIdeal.nD Cert.UnsortRefIdeal.τ).loc Cert.UnsortRefIdeal.main_arg1) = m ((c.tc : Thread Cert.UnsortIdeal.nD Cert.UnsortIdeal.τ).loc Cert.UnsortIdeal.main_arg1)) →
    ∃ (v0 : (c : Dev Cert.UnsortIdeal.nD) → Buf (Elt Ideal) ((c.tc : Thread Cert.UnsortIdeal.nD Cert.UnsortIdeal.τ).loc Cert.UnsortIdeal.main_v0)),
      θ_run (Cert.UnsortIdeal.defs (F := Ideal)) (Cert.UnsortIdeal.threads (F := Ideal)) ⟨m, fun _ => 0, g⟩ (fun r => ∀ c : Dev Cert.UnsortIdeal.nD,
          r.2.mem ((c.tc : Thread Cert.UnsortIdeal.nD Cert.UnsortIdeal.τ).loc Cert.UnsortIdeal.main_v0) = v0 c
          ∧ r.2.mem ((c.tc : Thread Cert.UnsortIdeal.nD Cert.UnsortIdeal.τ).loc Cert.UnsortIdeal.main_arg0) = m ((c.tc : Thread Cert.UnsortIdeal.nD Cert.UnsortIdeal.τ).loc Cert.UnsortIdeal.main_arg0)
          ∧ r.2.mem ((c.tc : Thread Cert.UnsortIdeal.nD Cert.UnsortIdeal.τ).loc Cert.UnsortIdeal.main_arg1) = m ((c.tc : Thread Cert.UnsortIdeal.nD Cert.UnsortIdeal.τ).loc Cert.UnsortIdeal.main_arg1))
      ∧ θ_run (Cert.UnsortRefIdeal.defs (F := Ideal)) (onTc (τ := Cert.UnsortRefIdeal.τ) (Cert.UnsortRefIdeal.main (F := Ideal))) ⟨m', fun _ => 0, g'⟩ (fun r => ∀ c : Dev Cert.UnsortRefIdeal.nD,
          r.2.mem ((c.tc : Thread Cert.UnsortRefIdeal.nD Cert.UnsortRefIdeal.τ).loc Cert.UnsortRefIdeal.main_v1) = v0 c
          ∧ r.2.mem ((c.tc : Thread Cert.UnsortRefIdeal.nD Cert.UnsortRefIdeal.τ).loc Cert.UnsortRefIdeal.main_arg0) = m' ((c.tc : Thread Cert.UnsortRefIdeal.nD Cert.UnsortRefIdeal.τ).loc Cert.UnsortRefIdeal.main_arg0)
          ∧ r.2.mem ((c.tc : Thread Cert.UnsortRefIdeal.nD Cert.UnsortRefIdeal.τ).loc Cert.UnsortRefIdeal.main_arg1) = m' ((c.tc : Thread Cert.UnsortRefIdeal.nD Cert.UnsortRefIdeal.τ).loc Cert.UnsortRefIdeal.main_arg1))

def preserves_Permute_PermuteIdeal : Prop :=
  True

def algebraic_PermuteIdeal_PermuteRefIdeal [hPermuteIdeal : Cert.PermuteIdeal.Facts] [hPermuteRefIdeal : Cert.PermuteRefIdeal.Facts] [hPre_positions : Cert.Pre_positions.Facts] : Prop :=
  ∀ (m : (ℓ : Loc Cert.PermuteIdeal.nD Cert.PermuteIdeal.τ Cert.PermuteIdeal.sig) → Buf (Elt Ideal) ℓ) (g : Dev Cert.PermuteIdeal.nD → PrngReg)
    (m' : (ℓ : Loc Cert.PermuteRefIdeal.nD Cert.PermuteRefIdeal.τ Cert.PermuteRefIdeal.sig) → Buf (Elt Ideal) ℓ) (g' : Dev Cert.PermuteRefIdeal.nD → PrngReg), Pre_PermuteIdeal m →
    (∀ c : Dev Cert.PermuteIdeal.nD,
      m' ((c.tc : Thread Cert.PermuteRefIdeal.nD Cert.PermuteRefIdeal.τ).loc Cert.PermuteRefIdeal.main_arg0) = m ((c.tc : Thread Cert.PermuteIdeal.nD Cert.PermuteIdeal.τ).loc Cert.PermuteIdeal.main_arg0)
      ∧ m' ((c.tc : Thread Cert.PermuteRefIdeal.nD Cert.PermuteRefIdeal.τ).loc Cert.PermuteRefIdeal.main_arg1) = m ((c.tc : Thread Cert.PermuteIdeal.nD Cert.PermuteIdeal.τ).loc Cert.PermuteIdeal.main_arg1)) →
    ∃ (v0 : (c : Dev Cert.PermuteIdeal.nD) → Buf (Elt Ideal) ((c.tc : Thread Cert.PermuteIdeal.nD Cert.PermuteIdeal.τ).loc Cert.PermuteIdeal.main_v0)),
      θ_run (Cert.PermuteIdeal.defs (F := Ideal)) (Cert.PermuteIdeal.threads (F := Ideal)) ⟨m, fun _ => 0, g⟩ (fun r => ∀ c : Dev Cert.PermuteIdeal.nD,
          r.2.mem ((c.tc : Thread Cert.PermuteIdeal.nD Cert.PermuteIdeal.τ).loc Cert.PermuteIdeal.main_v0) = v0 c
          ∧ r.2.mem ((c.tc : Thread Cert.PermuteIdeal.nD Cert.PermuteIdeal.τ).loc Cert.PermuteIdeal.main_arg0) = m ((c.tc : Thread Cert.PermuteIdeal.nD Cert.PermuteIdeal.τ).loc Cert.PermuteIdeal.main_arg0)
          ∧ r.2.mem ((c.tc : Thread Cert.PermuteIdeal.nD Cert.PermuteIdeal.τ).loc Cert.PermuteIdeal.main_arg1) = m ((c.tc : Thread Cert.PermuteIdeal.nD Cert.PermuteIdeal.τ).loc Cert.PermuteIdeal.main_arg1))
      ∧ θ_run (Cert.PermuteRefIdeal.defs (F := Ideal)) (onTc (τ := Cert.PermuteRefIdeal.τ) (Cert.PermuteRefIdeal.main (F := Ideal))) ⟨m', fun _ => 0, g'⟩ (fun r => ∀ c : Dev Cert.PermuteRefIdeal.nD,
          r.2.mem ((c.tc : Thread Cert.PermuteRefIdeal.nD Cert.PermuteRefIdeal.τ).loc Cert.PermuteRefIdeal.main_v5) = v0 c
          ∧ r.2.mem ((c.tc : Thread Cert.PermuteRefIdeal.nD Cert.PermuteRefIdeal.τ).loc Cert.PermuteRefIdeal.main_arg0) = m' ((c.tc : Thread Cert.PermuteRefIdeal.nD Cert.PermuteRefIdeal.τ).loc Cert.PermuteRefIdeal.main_arg0)
          ∧ r.2.mem ((c.tc : Thread Cert.PermuteRefIdeal.nD Cert.PermuteRefIdeal.τ).loc Cert.PermuteRefIdeal.main_arg1) = m' ((c.tc : Thread Cert.PermuteRefIdeal.nD Cert.PermuteRefIdeal.τ).loc Cert.PermuteRefIdeal.main_arg1))

def preserves_Tail_TailIdeal : Prop :=
  IdealRules.named_const.Statement Cert.TailIdeal.κ "c" .f32 0x3A802008#32 ((1023⁻¹ : ℝ) : EReal)

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)
      ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)
      ∧ m' ((c.tc : Thread Cert.TailRefIdeal.nD Cert.TailRefIdeal.τ).loc Cert.TailRefIdeal.main_arg10) = m ((c.tc : Thread Cert.TailIdeal.nD Cert.TailIdeal.τ).loc Cert.TailIdeal.main_arg10)
      ∧ m' ((c.tc : Thread Cert.TailRefIdeal.nD Cert.TailRefIdeal.τ).loc Cert.TailRefIdeal.main_arg11) = m ((c.tc : Thread Cert.TailIdeal.nD Cert.TailIdeal.τ).loc Cert.TailIdeal.main_arg11)) →
    ∃ (v0 : (c : Dev Cert.TailIdeal.nD) → Buf (Elt Ideal) ((c.tc : Thread Cert.TailIdeal.nD Cert.TailIdeal.τ).loc Cert.TailIdeal.main_v10)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v10) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
          ∧ r.2.mem ((c.tc : Thread Cert.TailIdeal.nD Cert.TailIdeal.τ).loc Cert.TailIdeal.main_arg11) = m ((c.tc : Thread Cert.TailIdeal.nD Cert.TailIdeal.τ).loc Cert.TailIdeal.main_arg11))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v44) = v0 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8)
          ∧ r.2.mem ((c.tc : Thread Cert.TailRefIdeal.nD Cert.TailRefIdeal.τ).loc Cert.TailRefIdeal.main_arg9) = m' ((c.tc : Thread Cert.TailRefIdeal.nD Cert.TailRefIdeal.τ).loc Cert.TailRefIdeal.main_arg9)
          ∧ r.2.mem ((c.tc : Thread Cert.TailRefIdeal.nD Cert.TailRefIdeal.τ).loc Cert.TailRefIdeal.main_arg10) = m' ((c.tc : Thread Cert.TailRefIdeal.nD Cert.TailRefIdeal.τ).loc Cert.TailRefIdeal.main_arg10)
          ∧ r.2.mem ((c.tc : Thread Cert.TailRefIdeal.nD Cert.TailRefIdeal.τ).loc Cert.TailRefIdeal.main_arg11) = m' ((c.tc : Thread Cert.TailRefIdeal.nD Cert.TailRefIdeal.τ).loc Cert.TailRefIdeal.main_arg11))

def preserves_Attend_AttendIdeal : Prop :=
  IdealRules.named_const.Statement Cert.AttendIdeal.κ "mask" .f32 0xF149F2CA#32 ⊥

def algebraic_AttendIdeal_AttendRefIdeal_on_attended_lanes_pre_finite [hAttendIdeal : Cert.AttendIdeal.Facts] [hAttendRefIdeal : Cert.AttendRefIdeal.Facts] [hPre_finite : Cert.Pre_finite.Facts] [hOn_attended_lanes : Cert.On_attended_lanes.Facts] : Prop :=
  ∀ (m : (ℓ : Loc Cert.AttendIdeal.nD Cert.AttendIdeal.τ Cert.AttendIdeal.sig) → Buf (Elt Ideal) ℓ) (g : Dev Cert.AttendIdeal.nD → PrngReg)
    (m' : (ℓ : Loc Cert.AttendRefIdeal.nD Cert.AttendRefIdeal.τ Cert.AttendRefIdeal.sig) → Buf (Elt Ideal) ℓ) (g' : Dev Cert.AttendRefIdeal.nD → PrngReg), Pre_AttendIdeal_finite m →
    (∀ c : Dev Cert.AttendIdeal.nD,
      m' ((c.tc : Thread Cert.AttendRefIdeal.nD Cert.AttendRefIdeal.τ).loc Cert.AttendRefIdeal.main_arg0) = m ((c.tc : Thread Cert.AttendIdeal.nD Cert.AttendIdeal.τ).loc Cert.AttendIdeal.main_arg0)) →
    ∃ (v0 : (c : Dev Cert.AttendIdeal.nD) → Buf (Elt Ideal) ((c.tc : Thread Cert.AttendIdeal.nD Cert.AttendIdeal.τ).loc Cert.AttendIdeal.main_v0)),
      θ_run (Cert.AttendIdeal.defs (F := Ideal)) (onTc (τ := Cert.AttendIdeal.τ) (Cert.AttendIdeal.main (F := Ideal))) ⟨m, fun _ => 0, g⟩ (fun r => ∀ c : Dev Cert.AttendIdeal.nD,
          (∀ i : (⟨3, ![128, 2048, 128]⟩ : Shape).Idx, (Cert.On_attended_lanes.fn (F := Ideal) (m ((c.tc : Thread Cert.AttendIdeal.nD Cert.AttendIdeal.τ).loc Cert.AttendIdeal.main_arg0))) i = 1#1 → r.2.mem ((c.tc : Thread Cert.AttendIdeal.nD Cert.AttendIdeal.τ).loc Cert.AttendIdeal.main_v0) i = v0 c i)
          ∧ r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0))
      ∧ θ_run (Cert.AttendRefIdeal.defs (F := Ideal)) (onTc (τ := Cert.AttendRefIdeal.τ) (Cert.AttendRefIdeal.main (F := Ideal))) ⟨m', fun _ => 0, g'⟩ (fun r => ∀ c : Dev Cert.AttendRefIdeal.nD,
          (∀ i : (⟨3, ![128, 2048, 128]⟩ : Shape).Idx, (Cert.On_attended_lanes.fn (F := Ideal) (m ((c.tc : Thread Cert.AttendIdeal.nD Cert.AttendIdeal.τ).loc Cert.AttendIdeal.main_arg0))) i = 1#1 → r.2.mem ((c.tc : Thread Cert.AttendRefIdeal.nD Cert.AttendRefIdeal.τ).loc Cert.AttendRefIdeal.main_v27) i = v0 c i)
          ∧ r.2.mem ((c.tc : Thread Cert.AttendRefIdeal.nD Cert.AttendRefIdeal.τ).loc Cert.AttendRefIdeal.main_arg0) = m' ((c.tc : Thread Cert.AttendRefIdeal.nD Cert.AttendRefIdeal.τ).loc Cert.AttendRefIdeal.main_arg0))

def preserves_Project_ProjectIdeal : Prop :=
  IdealRules.named_const.Statement Cert.ProjectIdeal.κ "c" .f32 0x3A802008#32 ((1023⁻¹ : ℝ) : EReal)

def algebraic_ProjectIdeal_ProjectRefIdeal_on_projected_lanes [hProjectIdeal : Cert.ProjectIdeal.Facts] [hProjectRefIdeal : Cert.ProjectRefIdeal.Facts] [hOn_projected_lanes : Cert.On_projected_lanes.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectRefIdeal.nD Cert.ProjectRefIdeal.τ Cert.ProjectRefIdeal.sig) → Buf (Elt Ideal) ℓ) (g' : Dev Cert.ProjectRefIdeal.nD → PrngReg), Pre_ProjectIdeal m →
    (∀ c : Dev Cert.ProjectIdeal.nD,
      m' ((c.tc : Thread Cert.ProjectRefIdeal.nD Cert.ProjectRefIdeal.τ).loc Cert.ProjectRefIdeal.main_arg0) = m ((c.tc : Thread Cert.ProjectIdeal.nD Cert.ProjectIdeal.τ).loc Cert.ProjectIdeal.main_arg0)
      ∧ m' ((c.tc : Thread Cert.ProjectRefIdeal.nD Cert.ProjectRefIdeal.τ).loc Cert.ProjectRefIdeal.main_arg1) = m ((c.tc : Thread Cert.ProjectIdeal.nD Cert.ProjectIdeal.τ).loc Cert.ProjectIdeal.main_arg1)
      ∧ m' ((c.tc : Thread Cert.ProjectRefIdeal.nD Cert.ProjectRefIdeal.τ).loc Cert.ProjectRefIdeal.main_arg2) = m ((c.tc : Thread Cert.ProjectIdeal.nD Cert.ProjectIdeal.τ).loc Cert.ProjectIdeal.main_arg2)
      ∧ m' ((c.tc : Thread Cert.ProjectRefIdeal.nD Cert.ProjectRefIdeal.τ).loc Cert.ProjectRefIdeal.main_arg3) = m ((c.tc : Thread Cert.ProjectIdeal.nD Cert.ProjectIdeal.τ).loc Cert.ProjectIdeal.main_arg3)
      ∧ m' ((c.tc : Thread Cert.ProjectRefIdeal.nD Cert.ProjectRefIdeal.τ).loc Cert.ProjectRefIdeal.main_arg4) = m ((c.tc : Thread Cert.ProjectIdeal.nD Cert.ProjectIdeal.τ).loc Cert.ProjectIdeal.main_arg4)
      ∧ m' ((c.tc : Thread Cert.ProjectRefIdeal.nD Cert.ProjectRefIdeal.τ).loc Cert.ProjectRefIdeal.main_arg5) = m ((c.tc : Thread Cert.ProjectIdeal.nD Cert.ProjectIdeal.τ).loc Cert.ProjectIdeal.main_arg5)
      ∧ m' ((c.tc : Thread Cert.ProjectRefIdeal.nD Cert.ProjectRefIdeal.τ).loc Cert.ProjectRefIdeal.main_arg6) = m ((c.tc : Thread Cert.ProjectIdeal.nD Cert.ProjectIdeal.τ).loc Cert.ProjectIdeal.main_arg6)) →
    ∃ (v0 : (c : Dev Cert.ProjectIdeal.nD) → Buf (Elt Ideal) ((c.tc : Thread Cert.ProjectIdeal.nD Cert.ProjectIdeal.τ).loc Cert.ProjectIdeal.main_v4)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          (∀ i : (⟨3, ![128, 2048, 128]⟩ : Shape).Idx, (Cert.On_projected_lanes.fn (F := Ideal) (m ((c.tc : Thread Cert.ProjectIdeal.nD Cert.ProjectIdeal.τ).loc Cert.ProjectIdeal.main_arg0)) (m ((c.tc : Thread Cert.ProjectIdeal.nD Cert.ProjectIdeal.τ).loc Cert.ProjectIdeal.main_arg1)) (m ((c.tc : Thread Cert.ProjectIdeal.nD Cert.ProjectIdeal.τ).loc Cert.ProjectIdeal.main_arg2)) (m ((c.tc : Thread Cert.ProjectIdeal.nD Cert.ProjectIdeal.τ).loc Cert.ProjectIdeal.main_arg3)) (m ((c.tc : Thread Cert.ProjectIdeal.nD Cert.ProjectIdeal.τ).loc Cert.ProjectIdeal.main_arg4)) (m ((c.tc : Thread Cert.ProjectIdeal.nD Cert.ProjectIdeal.τ).loc Cert.ProjectIdeal.main_arg5)) (m ((c.tc : Thread Cert.ProjectIdeal.nD Cert.ProjectIdeal.τ).loc Cert.ProjectIdeal.main_arg6))) i = 1#1 → r.2.mem ((c.tc : Thread Cert.ProjectIdeal.nD Cert.ProjectIdeal.τ).loc Cert.ProjectIdeal.main_v4) i = v0 c i)
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
          ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
          ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6))
      ∧ θ_run (Cert.ProjectRefIdeal.defs (F := Ideal)) (onTc (τ := Cert.ProjectRefIdeal.τ) (Cert.ProjectRefIdeal.main (F := Ideal))) ⟨m', fun _ => 0, g'⟩ (fun r => ∀ c : Dev Cert.ProjectRefIdeal.nD,
          (∀ i : (⟨3, ![128, 2048, 128]⟩ : Shape).Idx, (Cert.On_projected_lanes.fn (F := Ideal) (m ((c.tc : Thread Cert.ProjectIdeal.nD Cert.ProjectIdeal.τ).loc Cert.ProjectIdeal.main_arg0)) (m ((c.tc : Thread Cert.ProjectIdeal.nD Cert.ProjectIdeal.τ).loc Cert.ProjectIdeal.main_arg1)) (m ((c.tc : Thread Cert.ProjectIdeal.nD Cert.ProjectIdeal.τ).loc Cert.ProjectIdeal.main_arg2)) (m ((c.tc : Thread Cert.ProjectIdeal.nD Cert.ProjectIdeal.τ).loc Cert.ProjectIdeal.main_arg3)) (m ((c.tc : Thread Cert.ProjectIdeal.nD Cert.ProjectIdeal.τ).loc Cert.ProjectIdeal.main_arg4)) (m ((c.tc : Thread Cert.ProjectIdeal.nD Cert.ProjectIdeal.τ).loc Cert.ProjectIdeal.main_arg5)) (m ((c.tc : Thread Cert.ProjectIdeal.nD Cert.ProjectIdeal.τ).loc Cert.ProjectIdeal.main_arg6))) i = 1#1 → r.2.mem ((c.tc : Thread Cert.ProjectRefIdeal.nD Cert.ProjectRefIdeal.τ).loc Cert.ProjectRefIdeal.main_v34) i = v0 c i)
          ∧ r.2.mem ((c.tc : Thread Cert.ProjectRefIdeal.nD Cert.ProjectRefIdeal.τ).loc Cert.ProjectRefIdeal.main_arg0) = m' ((c.tc : Thread Cert.ProjectRefIdeal.nD Cert.ProjectRefIdeal.τ).loc Cert.ProjectRefIdeal.main_arg0)
          ∧ r.2.mem ((c.tc : Thread Cert.ProjectRefIdeal.nD Cert.ProjectRefIdeal.τ).loc Cert.ProjectRefIdeal.main_arg1) = m' ((c.tc : Thread Cert.ProjectRefIdeal.nD Cert.ProjectRefIdeal.τ).loc Cert.ProjectRefIdeal.main_arg1)
          ∧ r.2.mem ((c.tc : Thread Cert.ProjectRefIdeal.nD Cert.ProjectRefIdeal.τ).loc Cert.ProjectRefIdeal.main_arg2) = m' ((c.tc : Thread Cert.ProjectRefIdeal.nD Cert.ProjectRefIdeal.τ).loc Cert.ProjectRefIdeal.main_arg2)
          ∧ r.2.mem ((c.tc : Thread Cert.ProjectRefIdeal.nD Cert.ProjectRefIdeal.τ).loc Cert.ProjectRefIdeal.main_arg3) = m' ((c.tc : Thread Cert.ProjectRefIdeal.nD Cert.ProjectRefIdeal.τ).loc Cert.ProjectRefIdeal.main_arg3)
          ∧ r.2.mem ((c.tc : Thread Cert.ProjectRefIdeal.nD Cert.ProjectRefIdeal.τ).loc Cert.ProjectRefIdeal.main_arg4) = m' ((c.tc : Thread Cert.ProjectRefIdeal.nD Cert.ProjectRefIdeal.τ).loc Cert.ProjectRefIdeal.main_arg4)
          ∧ r.2.mem ((c.tc : Thread Cert.ProjectRefIdeal.nD Cert.ProjectRefIdeal.τ).loc Cert.ProjectRefIdeal.main_arg5) = m' ((c.tc : Thread Cert.ProjectRefIdeal.nD Cert.ProjectRefIdeal.τ).loc Cert.ProjectRefIdeal.main_arg5)
          ∧ r.2.mem ((c.tc : Thread Cert.ProjectRefIdeal.nD Cert.ProjectRefIdeal.τ).loc Cert.ProjectRefIdeal.main_arg6) = m' ((c.tc : Thread Cert.ProjectRefIdeal.nD Cert.ProjectRefIdeal.τ).loc Cert.ProjectRefIdeal.main_arg6))

def preserves_Rank_RankIdeal : Prop :=
  True

def algebraic_RankIdeal_RankRefIdeal [hRankIdeal : Cert.RankIdeal.Facts] [hRankRefIdeal : Cert.RankRefIdeal.Facts] : Prop :=
  ∀ (m : (ℓ : Loc Cert.RankIdeal.nD Cert.RankIdeal.τ Cert.RankIdeal.sig) → Buf (Elt Ideal) ℓ) (g : Dev Cert.RankIdeal.nD → PrngReg)
    (m' : (ℓ : Loc Cert.RankRefIdeal.nD Cert.RankRefIdeal.τ Cert.RankRefIdeal.sig) → Buf (Elt Ideal) ℓ) (g' : Dev Cert.RankRefIdeal.nD → PrngReg), Pre_RankIdeal m →
    (∀ c : Dev Cert.RankIdeal.nD,
      m' ((c.tc : Thread Cert.RankRefIdeal.nD Cert.RankRefIdeal.τ).loc Cert.RankRefIdeal.main_arg0) = m ((c.tc : Thread Cert.RankIdeal.nD Cert.RankIdeal.τ).loc Cert.RankIdeal.main_arg0)
      ∧ m' ((c.tc : Thread Cert.RankRefIdeal.nD Cert.RankRefIdeal.τ).loc Cert.RankRefIdeal.main_arg1) = m ((c.tc : Thread Cert.RankIdeal.nD Cert.RankIdeal.τ).loc Cert.RankIdeal.main_arg1)) →
    ∃ (v0 : (c : Dev Cert.RankIdeal.nD) → Buf (Elt Ideal) ((c.tc : Thread Cert.RankIdeal.nD Cert.RankIdeal.τ).loc Cert.RankIdeal.main_v0)),
      θ_run (Cert.RankIdeal.defs (F := Ideal)) (onTc (τ := Cert.RankIdeal.τ) (Cert.RankIdeal.main (F := Ideal))) ⟨m, fun _ => 0, g⟩ (fun r => ∀ c : Dev Cert.RankIdeal.nD,
          r.2.mem ((c.tc : Thread Cert.RankIdeal.nD Cert.RankIdeal.τ).loc Cert.RankIdeal.main_v0) = v0 c
          ∧ r.2.mem ((c.tc : Thread Cert.RankIdeal.nD Cert.RankIdeal.τ).loc Cert.RankIdeal.main_arg0) = m ((c.tc : Thread Cert.RankIdeal.nD Cert.RankIdeal.τ).loc Cert.RankIdeal.main_arg0)
          ∧ r.2.mem ((c.tc : Thread Cert.RankIdeal.nD Cert.RankIdeal.τ).loc Cert.RankIdeal.main_arg1) = m ((c.tc : Thread Cert.RankIdeal.nD Cert.RankIdeal.τ).loc Cert.RankIdeal.main_arg1))
      ∧ θ_run (Cert.RankRefIdeal.defs (F := Ideal)) (onTc (τ := Cert.RankRefIdeal.τ) (Cert.RankRefIdeal.main (F := Ideal))) ⟨m', fun _ => 0, g'⟩ (fun r => ∀ c : Dev Cert.RankRefIdeal.nD,
          r.2.mem ((c.tc : Thread Cert.RankRefIdeal.nD Cert.RankRefIdeal.τ).loc Cert.RankRefIdeal.main_v22) = v0 c
          ∧ r.2.mem ((c.tc : Thread Cert.RankRefIdeal.nD Cert.RankRefIdeal.τ).loc Cert.RankRefIdeal.main_arg0) = m' ((c.tc : Thread Cert.RankRefIdeal.nD Cert.RankRefIdeal.τ).loc Cert.RankRefIdeal.main_arg0)
          ∧ r.2.mem ((c.tc : Thread Cert.RankRefIdeal.nD Cert.RankRefIdeal.τ).loc Cert.RankRefIdeal.main_arg1) = m' ((c.tc : Thread Cert.RankRefIdeal.nD Cert.RankRefIdeal.τ).loc Cert.RankRefIdeal.main_arg1))

def Claim : Prop :=
  ∃ (hUnsort : Cert.Unsort.Facts) (hUnsortIdeal : Cert.UnsortIdeal.Facts) (hUnsortRefIdeal : Cert.UnsortRefIdeal.Facts) (hPermute : Cert.Permute.Facts) (hPermuteIdeal : Cert.PermuteIdeal.Facts) (hPermuteRefIdeal : Cert.PermuteRefIdeal.Facts) (hTail : Cert.Tail.Facts) (hTailIdeal : Cert.TailIdeal.Facts) (hTailRefIdeal : Cert.TailRefIdeal.Facts) (hAttend : Cert.Attend.Facts) (hAttendIdeal : Cert.AttendIdeal.Facts) (hAttendRefIdeal : Cert.AttendRefIdeal.Facts) (hProject : Cert.Project.Facts) (hProjectIdeal : Cert.ProjectIdeal.Facts) (hProjectRefIdeal : Cert.ProjectRefIdeal.Facts) (hRank : Cert.Rank.Facts) (hRankIdeal : Cert.RankIdeal.Facts) (hRankRefIdeal : Cert.RankRefIdeal.Facts) (hPre_in_range : Cert.Pre_in_range.Facts) (hPre_positions : Cert.Pre_positions.Facts) (hPre_finite : Cert.Pre_finite.Facts) (hOn_attended_lanes : Cert.On_attended_lanes.Facts) (hOn_projected_lanes : Cert.On_projected_lanes.Facts),
    quiescent_Unsort (hUnsort := hUnsort) (hPre_in_range := hPre_in_range)
    ∧ quiescent_UnsortIdeal (hUnsortIdeal := hUnsortIdeal) (hPre_in_range := hPre_in_range)
    ∧ quiescent_UnsortRefIdeal (hUnsortRefIdeal := hUnsortRefIdeal) (hPre_in_range := hPre_in_range)
    ∧ quiescent_Permute (hPermute := hPermute) (hPre_positions := hPre_positions)
    ∧ quiescent_PermuteIdeal (hPermuteIdeal := hPermuteIdeal) (hPre_positions := hPre_positions)
    ∧ quiescent_PermuteRefIdeal (hPermuteRefIdeal := hPermuteRefIdeal) (hPre_positions := hPre_positions)
    ∧ quiescent_Tail (hTail := hTail)
    ∧ quiescent_TailIdeal (hTailIdeal := hTailIdeal)
    ∧ quiescent_TailRefIdeal (hTailRefIdeal := hTailRefIdeal)
    ∧ quiescent_Attend (hAttend := hAttend)
    ∧ quiescent_AttendIdeal (hAttendIdeal := hAttendIdeal)
    ∧ quiescent_AttendIdeal_pre_finite (hAttendIdeal := hAttendIdeal) (hPre_finite := hPre_finite)
    ∧ quiescent_AttendRefIdeal (hAttendRefIdeal := hAttendRefIdeal)
    ∧ quiescent_AttendRefIdeal_pre_finite (hAttendRefIdeal := hAttendRefIdeal) (hPre_finite := hPre_finite)
    ∧ quiescent_Project (hProject := hProject)
    ∧ quiescent_ProjectIdeal (hProjectIdeal := hProjectIdeal)
    ∧ quiescent_ProjectRefIdeal (hProjectRefIdeal := hProjectRefIdeal)
    ∧ quiescent_Rank (hRank := hRank)
    ∧ quiescent_RankIdeal (hRankIdeal := hRankIdeal)
    ∧ quiescent_RankRefIdeal (hRankRefIdeal := hRankRefIdeal)
    ∧ preserves_Unsort_UnsortIdeal
    ∧ algebraic_UnsortIdeal_UnsortRefIdeal (hUnsortIdeal := hUnsortIdeal) (hUnsortRefIdeal := hUnsortRefIdeal) (hPre_in_range := hPre_in_range)
    ∧ preserves_Permute_PermuteIdeal
    ∧ algebraic_PermuteIdeal_PermuteRefIdeal (hPermuteIdeal := hPermuteIdeal) (hPermuteRefIdeal := hPermuteRefIdeal) (hPre_positions := hPre_positions)
    ∧ preserves_Tail_TailIdeal
    ∧ algebraic_TailIdeal_TailRefIdeal (hTailIdeal := hTailIdeal) (hTailRefIdeal := hTailRefIdeal)
    ∧ preserves_Attend_AttendIdeal
    ∧ algebraic_AttendIdeal_AttendRefIdeal_on_attended_lanes_pre_finite (hAttendIdeal := hAttendIdeal) (hAttendRefIdeal := hAttendRefIdeal) (hPre_finite := hPre_finite) (hOn_attended_lanes := hOn_attended_lanes)
    ∧ preserves_Project_ProjectIdeal
    ∧ algebraic_ProjectIdeal_ProjectRefIdeal_on_projected_lanes (hProjectIdeal := hProjectIdeal) (hProjectRefIdeal := hProjectRefIdeal) (hOn_projected_lanes := hOn_projected_lanes)
    ∧ preserves_Rank_RankIdeal
    ∧ algebraic_RankIdeal_RankRefIdeal (hRankIdeal := hRankIdeal) (hRankRefIdeal := hRankRefIdeal)
-- ==== On_attended_lanes.lean ====
abbrev S128x2048x128 : Shape := ⟨3, ![128, 2048, 128]⟩
abbrev S_ : Shape := ⟨0, ![]⟩

class Facts : Prop where
  bcast_S_S128x2048x128 : S_.BroadcastsInDim S128x2048x128 (![] : Fin 0 → Fin S128x2048x128.rank)

variable [Facts]

def fn {F : FTy → Type} [FloatOps F] (main_arg0 : FVec F S128x2048x128 .f32) : IVec S128x2048x128 1 :=
  let main_v0 : IVec S128x2048x128 32 := iotaInDim S128x2048x128 32 2
  let main_c : IVec S_ 32 := constantI S_ 32 32#32
  let main_v1 : IVec S128x2048x128 32 := broadcastInDim S128x2048x128 ![] bcast_S_S128x2048x128 main_c
  let main_v2 : IVec S128x2048x128 1 := cmpi .slt main_v0 main_v1
  main_v2
-- ==== On_projected_lanes.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S128x2048x128 : Shape := ⟨3, ![128, 2048, 128]⟩
abbrev S_ : Shape := ⟨0, ![]⟩

class Facts : Prop where
  bcast_S_S128x2048x128 : S_.BroadcastsInDim S128x2048x128 (![] : Fin 0 → Fin S128x2048x128.rank)

variable [Facts]

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1x1x1024 .f32) (main_arg6 : FVec F S1x1x1024 .f32) : IVec S128x2048x128 1 :=
  let main_v0 : IVec S128x2048x128 32 := iotaInDim S128x2048x128 32 2
  let main_c : IVec S_ 32 := constantI S_ 32 64#32
  let main_v1 : IVec S128x2048x128 32 := broadcastInDim S128x2048x128 ![] bcast_S_S128x2048x128 main_c
  let main_v2 : IVec S128x2048x128 1 := cmpi .slt main_v0 main_v1
  main_v2
-- ==== Pre_finite.lean ====
abbrev S128x2048x128 : Shape := ⟨3, ![128, 2048, 128]⟩
abbrev S128x2048x32 : Shape := ⟨3, ![128, 2048, 32]⟩
abbrev S_ : Shape := ⟨0, ![]⟩

class Facts : Prop where
  slices_S128x2048x128_S128x2048x32_0_0_0 : S128x2048x128.Slices ![0, 0, 0] S128x2048x32
  bcast_S_S128x2048x32 : S_.BroadcastsInDim S128x2048x32 (![] : Fin 0 → Fin S128x2048x32.rank)
  reducesTo_S128x2048x32_S_d0_1_2 : S128x2048x32.ReducesTo [0, 1, 2] S_
  h_S_ : 0 < S_.numel

variable [Facts]

def fn {F : FTy → Type} [FloatOps F] (main_arg0 : FVec F S128x2048x128 .f32) : IVec S_ 1 :=
  let main_v0 : FVec F S128x2048x32 .f32 := (extractStridedSlice S128x2048x32 ![0, 0, 0] · slices_S128x2048x128_S128x2048x32_0_0_0) main_arg0
  let main_v1 : FVec F S128x2048x32 .f32 := Host.absf main_v0
  let main_cst : FVec F S_ .f32 := constant S_ .f32 0x7F800000#32
  let main_v2 : FVec F S128x2048x32 .f32 := broadcastInDim S128x2048x32 ![] bcast_S_S128x2048x32 main_cst
  let main_v3 : IVec S128x2048x32 1 := cmpf .olt main_v1 main_v2
  let main_c : IVec S_ 1 := constantI S_ 1 1#1
  let main_v4 : IVec S_ 1 := (fun x v => Host.reduce IntOp.andi x v reducesTo_S128x2048x32_S_d0_1_2 h_S_) main_v3 main_c
  main_v4
-- ==== Pre_in_range.lean ====
abbrev S262144x128 : Shape := ⟨2, ![262144, 128]⟩
abbrev S2048x128 : Shape := ⟨2, ![2048, 128]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel

variable [Facts]

def fn {F : FTy → Type} [FloatOps F] (main_arg0 : FVec F S262144x128 .f32) (main_arg1 : IVec S2048x128 32) : IVec S_ 1 :=
  let main_c : IVec S_ 32 := constantI S_ 32 0#32
  let main_v0 : IVec S2048x128 32 := broadcastInDim S2048x128 ![] bcast_S_S2048x128 main_c
  let main_v1 : IVec S2048x128 1 := cmpi .sge main_arg1 main_v0
  let main_c_0 : IVec S_ 32 := constantI S_ 32 262144#32
  let main_v2 : IVec S2048x128 32 := broadcastInDim S2048x128 ![] bcast_S_S2048x128 main_c_0
  let main_v3 : IVec S2048x128 1 := cmpi .slt main_arg1 main_v2
  let main_v4 : IVec S2048x128 1 := andi main_v1 main_v3
  let main_c_1 : IVec S_ 1 := constantI S_ 1 1#1
  let main_v5 : IVec S_ 1 := (fun x v => Host.reduce IntOp.andi x v reducesTo_S2048x128_S_d0_1 h_S_) main_v4 main_c_1
  main_v5
-- ==== Pre_positions.lean ====
abbrev S262144x128 : Shape := ⟨2, ![262144, 128]⟩
abbrev S2048x128 : Shape := ⟨2, ![2048, 128]⟩
abbrev S128x2048 : Shape := ⟨2, ![128, 2048]⟩
abbrev S262144 : Shape := ⟨1, ![262144]⟩
abbrev S_ : Shape := ⟨0, ![]⟩

class Facts : Prop where
  shapeCasts_S2048x128_S128x2048 : S2048x128.ShapeCasts S128x2048
  shapeCasts_S262144_S128x2048 : S262144.ShapeCasts S128x2048
  reducesTo_S128x2048_S_d0_1 : S128x2048.ReducesTo [0, 1] S_
  h_S_ : 0 < S_.numel

variable [Facts]

def comparator_i32_d1 : BitVec 32 → BitVec 32 → BitVec 1 :=
  fun l r =>
    let v1 := IntOp.cmpi .slt l r
    v1
def fn_sort {F : FTy → Type} [FloatOps F] (arg0 : IVec S128x2048 32) : IVec S128x2048 32 :=
  let v0 : IVec S128x2048 32 := (fun x => Host.sort S128x2048 1 comparator_i32_d1 x) arg0
  v0

def fn {F : FTy → Type} [FloatOps F] (main_arg0 : FVec F S262144x128 .f32) (main_arg1 : IVec S2048x128 32) : IVec S_ 1 :=
  let main_v0 : IVec S128x2048 32 := shapeCast S128x2048 main_arg1 shapeCasts_S2048x128_S128x2048
  let main_v1 : IVec S262144 32 := iotaInDim S262144 32 0
  let main_v2 : IVec S128x2048 32 := shapeCast S128x2048 main_v1 shapeCasts_S262144_S128x2048
  let main_v3 : IVec S128x2048 32 := fn_sort (F := F) main_v0
  let main_v4 : IVec S128x2048 1 := cmpi .eq main_v3 main_v2
  let main_c : IVec S_ 1 := constantI S_ 1 1#1
  let main_v5 : IVec S_ 1 := (fun x v => Host.reduce IntOp.andi x v reducesTo_S128x2048_S_d0_1 h_S_) main_v4 main_c
  main_v5
-- ==== Unsort.lean ====
abbrev S262144x128 : Shape := ⟨2, ![262144, 128]⟩
abbrev S2048x128 : Shape := ⟨2, ![2048, 128]⟩
abbrev S64x128 : Shape := ⟨2, ![64, 128]⟩
abbrev S4x128x128 : Shape := ⟨3, ![4, 128, 128]⟩
abbrev S_ : Shape := ⟨0, ![]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Table → Nat
  | .hbm => 3
  | .local .scVector .vmem => 2
  | _ => 0

abbrev bufTy : (tb : Table) → Fin (nBuf tb) → BufTy
  | .hbm, ⟨0, _⟩ => ⟨S262144x128, .f32⟩
  | .hbm, ⟨1, _⟩ => ⟨S2048x128, .i32⟩
  | .hbm, ⟨2, _⟩ => ⟨S262144x128, .f32⟩
  | .local .scVector .vmem, ⟨0, _⟩ => ⟨S64x128, .i32⟩
  | .local .scVector .vmem, ⟨1, _⟩ => ⟨S4x128x128, .f32⟩
  | _, _ => ⟨S262144x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_16_r0 : BitVec 32 := 0#32
  ![v2.toNat, 0]
@[reducible] def k0_t1_loop : Scf.Loop 32 :=
  let c0_i32_13 : BitVec 32 := 0#32
  let c16_i32 : BitVec 32 := 16#32
  let v13 : BitVec 32 := Scalar.addi c0_i32_13 c16_i32
  let c1_i32_14 : BitVec 32 := 1#32
  ⟨c0_i32_13, v13, c1_i32_14⟩
def k0_off2 (k0_t1 : Fin k0_t1_loop.trips) (c0_i32_19 : BitVec 32) : Fin 2 → Nat :=
  let c0_i32_13 : BitVec 32 := 0#32
  let c1_i32_14 : BitVec 32 := 1#32
  let arg11 : BitVec 32 := Scf.iv c0_i32_13 c1_i32_14 k0_t1
  let c2_i32_16 : BitVec 32 := 2#32
  let v14 : BitVec 32 := Scalar.muli arg11 c2_i32_16
  let c1_i32_17 : BitVec 32 := 1#32
  let v15 : BitVec 32 := Scalar.addi v14 c1_i32_17
  let c2_i32_18 : BitVec 32 := 2#32
  let v16 : BitVec 32 := Scalar.muli v15 c2_i32_18
  let v17 : BitVec 32 := Scalar.addi v16 c0_i32_19
  let c0_i32_23 : BitVec 32 := 0#32
  ![v17.toNat, 0]
def k0_off3 (k0_t1 : Fin k0_t1_loop.trips) (c0_i32_34 : BitVec 32) : Fin 2 → Nat :=
  let c0_i32_13 : BitVec 32 := 0#32
  let c1_i32_14 : BitVec 32 := 1#32
  let arg11 : BitVec 32 := Scf.iv c0_i32_13 c1_i32_14 k0_t1
  let c2_i32_16 : BitVec 32 := 2#32
  let v14 : BitVec 32 := Scalar.muli arg11 c2_i32_16
  let c2_i32_33 : BitVec 32 := 2#32
  let v30 : BitVec 32 := Scalar.muli v14 c2_i32_33
  let v31 : BitVec 32 := Scalar.addi v30 c0_i32_34
  let c0_i32_38 : BitVec 32 := 0#32
  ![v31.toNat, 0]
def k0_off4 (i : grid0.Coords) (k0_t1 : Fin k0_t1_loop.trips) (c0_i32_50 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v44 : BitVec 32 := Scalar.muli v1 c8192_i32
  let c0_i32_13 : BitVec 32 := 0#32
  let c1_i32_14 : BitVec 32 := 1#32
  let arg11 : BitVec 32 := Scf.iv c0_i32_13 c1_i32_14 k0_t1
  let c2_i32_16 : BitVec 32 := 2#32
  let v14 : BitVec 32 := Scalar.muli arg11 c2_i32_16
  let c2_i32_49 : BitVec 32 := 2#32
  let v45 : BitVec 32 := Scalar.muli v14 c2_i32_49
  let v46 : BitVec 32 := Scalar.addi v45 c0_i32_50
  let c128_i32 : BitVec 32 := 128#32
  let v47 : BitVec 32 := Scalar.muli v46 c128_i32
  let v48 : BitVec 32 := Scalar.addi v44 v47
  let c0_i32_54 : BitVec 32 := 0#32
  ![v48.toNat, 0]
def k0_off5 (i : grid0.Coords) (k0_t1 : Fin k0_t1_loop.trips) (c0_i32_89 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32_87 : BitVec 32 := 8192#32
  let v82 : BitVec 32 := Scalar.muli v1 c8192_i32_87
  let c0_i32_13 : BitVec 32 := 0#32
  let c1_i32_14 : BitVec 32 := 1#32
  let arg11 : BitVec 32 := Scf.iv c0_i32_13 c1_i32_14 k0_t1
  let c2_i32_16 : BitVec 32 := 2#32
  let v14 : BitVec 32 := Scalar.muli arg11 c2_i32_16
  let c1_i32_86 : BitVec 32 := 1#32
  let v81 : BitVec 32 := Scalar.addi v14 c1_i32_86
  let c2_i32_88 : BitVec 32 := 2#32
  let v83 : BitVec 32 := Scalar.muli v81 c2_i32_88
  let v84 : BitVec 32 := Scalar.addi v83 c0_i32_89
  let c128_i32_90 : BitVec 32 := 128#32
  let v85 : BitVec 32 := Scalar.muli v84 c128_i32_90
  let v86 : BitVec 32 := Scalar.addi v82 v85
  let c0_i32_94 : BitVec 32 := 0#32
  ![v86.toNat, 0]
def k0_cond1 (k0_t1 : Fin k0_t1_loop.trips) : BitVec 1 :=
  let c0_i32_13 : BitVec 32 := 0#32
  let c1_i32_14 : BitVec 32 := 1#32
  let arg11 : BitVec 32 := Scf.iv c0_i32_13 c1_i32_14 k0_t1
  let c15_i32 : BitVec 32 := 15#32
  let v126 : BitVec 1 := Scalar.cmpi .slt arg11 c15_i32
  let v127 : BitVec 32 := Scalar.extui v126
  let c0_i32_131 : BitVec 32 := 0#32
  let v128 : BitVec 1 := Scalar.cmpi .ne v127 c0_i32_131
  v128

def k0_off6 (k0_t1 : Fin k0_t1_loop.trips) (c0_i32_157 : BitVec 32) : Fin 2 → Nat :=
  let c0_i32_13 : BitVec 32 := 0#32
  let c1_i32_14 : BitVec 32 := 1#32
  let arg11 : BitVec 32 := Scf.iv c0_i32_13 c1_i32_14 k0_t1
  let c2_i32_16 : BitVec 32 := 2#32
  let v14 : BitVec 32 := Scalar.muli arg11 c2_i32_16
  let c2_i32_155 : BitVec 32 := 2#32
  let v152 : BitVec 32 := Scalar.addi v14 c2_i32_155
  let c2_i32_156 : BitVec 32 := 2#32
  let v153 : BitVec 32 := Scalar.muli v152 c2_i32_156
  let v154 : BitVec 32 := Scalar.addi v153 c0_i32_157
  let c0_i32_161 : BitVec 32 := 0#32
  ![v154.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== UnsortRefIdeal.lean ====
abbrev S262144x128 : Shape := ⟨2, ![262144, 128]⟩
abbrev S2048x128 : Shape := ⟨2, ![2048, 128]⟩
abbrev S262144 : Shape := ⟨1, ![262144]⟩
abbrev S_ : Shape := ⟨0, ![]⟩
abbrev S262144x1 : Shape := ⟨2, ![262144, 1]⟩
abbrev S1 : Shape := ⟨1, ![1]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S2048x128, .i32⟩
  | .hbm, ⟨2, _⟩ => ⟨S262144, .i32⟩
  | .hbm, ⟨3, _⟩ => ⟨S_, .i32⟩
  | .hbm, ⟨4, _⟩ => ⟨S262144, .i32⟩
  | .hbm, ⟨5, _⟩ => ⟨S262144, .i1⟩
  | .hbm, ⟨6, _⟩ => ⟨S_, .i32⟩
  | .hbm, ⟨7, _⟩ => ⟨S262144, .i32⟩
  | .hbm, ⟨8, _⟩ => ⟨S262144, .i32⟩
  | .hbm, ⟨9, _⟩ => ⟨S262144, .i32⟩
  | .hbm, ⟨10, _⟩ => ⟨S262144x1, .i32⟩
  | .hbm, ⟨11, _⟩ => ⟨S1, .i32⟩
  | .hbm, ⟨12, _⟩ => ⟨S_, .i32⟩
  | .hbm, ⟨13, _⟩ => ⟨S262144x1, .i32⟩
  | .hbm, ⟨14, _⟩ => ⟨S262144x1, .i1⟩
  | .hbm, ⟨15, _⟩ => ⟨S1x1, .i32⟩
  | .hbm, ⟨16, _⟩ => ⟨S262144x1, .i32⟩
  | .hbm, ⟨17, _⟩ => ⟨S262144x1, .i1⟩
  | .hbm, ⟨18, _⟩ => ⟨S262144x1, .i1⟩
  | .hbm, ⟨19, _⟩ => ⟨S_, .i1⟩
  | .hbm, ⟨20, _⟩ => ⟨S262144, .i1⟩
  | .hbm, ⟨21, _⟩ => ⟨S262144x128, .f32⟩
  | .hbm, ⟨22, _⟩ => ⟨S262144x128, .i1⟩
  | .hbm, ⟨23, _⟩ => ⟨S_, .f32⟩
  | .hbm, ⟨24, _⟩ => ⟨S262144x128, .f32⟩
  | .hbm, ⟨25, _⟩ => ⟨S262144x128, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩

abbrev nD : Nat := 1
abbrev τ : Topo := Topo.v7x

variable {F : FTy → Type} [FloatOps F]
-- ==== Permute.lean ====
abbrev S262144x128 : Shape := ⟨2, ![262144, 128]⟩
abbrev S2048x128 : Shape := ⟨2, ![2048, 128]⟩
abbrev S64x128 : Shape := ⟨2, ![64, 128]⟩
abbrev S4x128x128 : Shape := ⟨3, ![4, 128, 128]⟩
abbrev S_ : Shape := ⟨0, ![]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Table → Nat
  | .hbm => 3
  | .local .scVector .vmem => 2
  | _ => 0

abbrev bufTy : (tb : Table) → Fin (nBuf tb) → BufTy
  | .hbm, ⟨0, _⟩ => ⟨S262144x128, .f32⟩
  | .hbm, ⟨1, _⟩ => ⟨S2048x128, .i32⟩
  | .hbm, ⟨2, _⟩ => ⟨S262144x128, .f32⟩
  | .local .scVector .vmem, ⟨0, _⟩ => ⟨S64x128, .i32⟩
  | .local .scVector .vmem, ⟨1, _⟩ => ⟨S4x128x128, .f32⟩
  | _, _ => ⟨S262144x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_18_r0 : BitVec 32 := 0#32
  ![v2.toNat, 0]
def k0_off2 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v3 : BitVec 32 := Scalar.muli v1 c8192_i32
  let v4 : BitVec 32 := Scalar.addi v3 c0_i32
  let c0_i32_3 : BitVec 32 := 0#32
  ![v4.toNat, 0]
@[reducible] def k0_t1_loop : Scf.Loop 32 :=
  let c0_i32_15 : BitVec 32 := 0#32
  let c16_i32 : BitVec 32 := 16#32
  let v19 : BitVec 32 := Scalar.addi c0_i32_15 c16_i32
  let c1_i32_16 : BitVec 32 := 1#32
  ⟨c0_i32_15, v19, c1_i32_16⟩
def k0_off3 (i : grid0.Coords) (k0_t1 : Fin k0_t1_loop.trips) (c0_i32_22 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32_20 : BitVec 32 := 8192#32
  let v22 : BitVec 32 := Scalar.muli v1 c8192_i32_20
  let c0_i32_15 : BitVec 32 := 0#32
  let c1_i32_16 : BitVec 32 := 1#32
  let arg11 : BitVec 32 := Scf.iv c0_i32_15 c1_i32_16 k0_t1
  let c2_i32_18 : BitVec 32 := 2#32
  let v20 : BitVec 32 := Scalar.muli arg11 c2_i32_18
  let c1_i32_19 : BitVec 32 := 1#32
  let v21 : BitVec 32 := Scalar.addi v20 c1_i32_19
  let c2_i32_21 : BitVec 32 := 2#32
  let v23 : BitVec 32 := Scalar.muli v21 c2_i32_21
  let v24 : BitVec 32 := Scalar.addi v23 c0_i32_22
  let c128_i32_23 : BitVec 32 := 128#32
  let v25 : BitVec 32 := Scalar.muli v24 c128_i32_23
  let v26 : BitVec 32 := Scalar.addi v22 v25
  let c0_i32_27 : BitVec 32 := 0#32
  ![v26.toNat, 0]
def k0_off4 (i : grid0.Coords) (k0_t1 : Fin k0_t1_loop.trips) (c0_i32_43 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32_41 : BitVec 32 := 8192#32
  let v44 : BitVec 32 := Scalar.muli v1 c8192_i32_41
  let c0_i32_15 : BitVec 32 := 0#32
  let c1_i32_16 : BitVec 32 := 1#32
  let arg11 : BitVec 32 := Scf.iv c0_i32_15 c1_i32_16 k0_t1
  let c2_i32_18 : BitVec 32 := 2#32
  let v20 : BitVec 32 := Scalar.muli arg11 c2_i32_18
  let c2_i32_42 : BitVec 32 := 2#32
  let v45 : BitVec 32 := Scalar.muli v20 c2_i32_42
  let v46 : BitVec 32 := Scalar.addi v45 c0_i32_43
  let c128_i32_44 : BitVec 32 := 128#32
  let v47 : BitVec 32 := Scalar.muli v46 c128_i32_44
  let v48 : BitVec 32 := Scalar.addi v44 v47
  let c0_i32_48 : BitVec 32 := 0#32
  ![v48.toNat, 0]
def k0_off5 (k0_t1 : Fin k0_t1_loop.trips) (c0_i32_64 : BitVec 32) : Fin 2 → Nat :=
  let c0_i32_15 : BitVec 32 := 0#32
  let c1_i32_16 : BitVec 32 := 1#32
  let arg11 : BitVec 32 := Scf.iv c0_i32_15 c1_i32_16 k0_t1
  let c2_i32_18 : BitVec 32 := 2#32
  let v20 : BitVec 32 := Scalar.muli arg11 c2_i32_18
  let c2_i32_63 : BitVec 32 := 2#32
  let v66 : BitVec 32 := Scalar.muli v20 c2_i32_63
  let v67 : BitVec 32 := Scalar.addi v66 c0_i32_64
  let c0_i32_68 : BitVec 32 := 0#32
  ![v67.toNat, 0]
def k0_off6 (k0_t1 : Fin k0_t1_loop.trips) (c0_i32_104 : BitVec 32) : Fin 2 → Nat :=
  let c0_i32_15 : BitVec 32 := 0#32
  let c1_i32_16 : BitVec 32 := 1#32
  let arg11 : BitVec 32 := Scf.iv c0_i32_15 c1_i32_16 k0_t1
  let c2_i32_18 : BitVec 32 := 2#32
  let v20 : BitVec 32 := Scalar.muli arg11 c2_i32_18
  let c1_i32_102 : BitVec 32 := 1#32
  let v103 : BitVec 32 := Scalar.addi v20 c1_i32_102
  let c2_i32_103 : BitVec 32 := 2#32
  let v104 : BitVec 32 := Scalar.muli v103 c2_i32_103
  let v105 : BitVec 32 := Scalar.addi v104 c0_i32_104
  let c0_i32_108 : BitVec 32 := 0#32
  ![v105.toNat, 0]
def k0_cond1 (k0_t1 : Fin k0_t1_loop.trips) : BitVec 1 :=
  let c0_i32_15 : BitVec 32 := 0#32
  let c1_i32_16 : BitVec 32 := 1#32
  let arg11 : BitVec 32 := Scf.iv c0_i32_15 c1_i32_16 k0_t1
  let c15_i32 : BitVec 32 := 15#32
  let v132 : BitVec 1 := Scalar.cmpi .slt arg11 c15_i32
  let v133 : BitVec 32 := Scalar.extui v132
  let c0_i32_135 : BitVec 32 := 0#32
  let v134 : BitVec 1 := Scalar.cmpi .ne v133 c0_i32_135
  v134

def k0_off7 (i : grid0.Coords) (k0_t1 : Fin k0_t1_loop.trips) (c0_i32_156 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32_154 : BitVec 32 := 8192#32
  let v151 : BitVec 32 := Scalar.muli v1 c8192_i32_154
  let c0_i32_15 : BitVec 32 := 0#32
  let c1_i32_16 : BitVec 32 := 1#32
  let arg11 : BitVec 32 := Scf.iv c0_i32_15 c1_i32_16 k0_t1
  let c2_i32_18 : BitVec 32 := 2#32
  let v20 : BitVec 32 := Scalar.muli arg11 c2_i32_18
  let c2_i32_153 : BitVec 32 := 2#32
  let v150 : BitVec 32 := Scalar.addi v20 c2_i32_153
  let c2_i32_155 : BitVec 32 := 2#32
  let v152 : BitVec 32 := Scalar.muli v150 c2_i32_155
  let v153 : BitVec 32 := Scalar.addi v152 c0_i32_156
  let c128_i32_157 : BitVec 32 := 128#32
  let v154 : BitVec 32 := Scalar.muli v153 c128_i32_157
  let v155 : BitVec 32 := Scalar.addi v151 v154
  let c0_i32_161 : BitVec 32 := 0#32
  ![v155.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== PermuteRefIdeal.lean ====
abbrev S262144x128 : Shape := ⟨2, ![262144, 128]⟩
abbrev S2048x128 : Shape := ⟨2, ![2048, 128]⟩
abbrev S128x2048 : Shape := ⟨2, ![128, 2048]⟩
abbrev S128x2048x128 : Shape := ⟨3, ![128, 2048, 128]⟩
abbrev S128x2048x1 : Shape := ⟨3, ![128, 2048, 1]⟩
abbrev S_ : Shape := ⟨0, ![]⟩
abbrev S1 : Shape := ⟨1, ![1]⟩
abbrev S1x1x1 : Shape := ⟨3, ![1, 1, 1]⟩

abbrev nBuf : Space → Nat
  | .hbm => 31
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S2048x128, .i32⟩
  | .hbm, ⟨2, _⟩ => ⟨S128x2048, .i32⟩
  | .hbm, ⟨3, _⟩ => ⟨S128x2048, .i32⟩
  | .hbm, ⟨4, _⟩ => ⟨S128x2048, .i32⟩
  | .hbm, ⟨5, _⟩ => ⟨S128x2048, .i32⟩
  | .hbm, ⟨6, _⟩ => ⟨S128x2048x128, .f32⟩
  | .hbm, ⟨7, _⟩ => ⟨S128x2048x1, .i32⟩
  | .hbm, ⟨8, _⟩ => ⟨S_, .i32⟩
  | .hbm, ⟨9, _⟩ => ⟨S128x2048x1, .i32⟩
  | .hbm, ⟨10, _⟩ => ⟨S128x2048x1, .i1⟩
  | .hbm, ⟨11, _⟩ => ⟨S_, .i32⟩
  | .hbm, ⟨12, _⟩ => ⟨S128x2048x1, .i32⟩
  | .hbm, ⟨13, _⟩ => ⟨S128x2048x1, .i32⟩
  | .hbm, ⟨14, _⟩ => ⟨S128x2048x1, .i32⟩
  | .hbm, ⟨15, _⟩ => ⟨S1, .i32⟩
  | .hbm, ⟨16, _⟩ => ⟨S_, .i32⟩
  | .hbm, ⟨17, _⟩ => ⟨S128x2048x1, .i32⟩
  | .hbm, ⟨18, _⟩ => ⟨S128x2048x1, .i1⟩
  | .hbm, ⟨19, _⟩ => ⟨S1x1x1, .i32⟩
  | .hbm, ⟨20, _⟩ => ⟨S128x2048x1, .i32⟩
  | .hbm, ⟨21, _⟩ => ⟨S128x2048x1, .i1⟩
  | .hbm, ⟨22, _⟩ => ⟨S128x2048x1, .i1⟩
  | .hbm, ⟨23, _⟩ => ⟨S_, .i1⟩
  | .hbm, ⟨24, _⟩ => ⟨S128x2048, .i1⟩
  | .hbm, ⟨25, _⟩ => ⟨S128x2048x128, .f32⟩
  | .hbm, ⟨26, _⟩ => ⟨S128x2048x128, .i1⟩
  | .hbm, ⟨27, _⟩ => ⟨S_, .f32⟩
  | .hbm, ⟨28, _⟩ => ⟨S128x2048x128, .f32⟩
  | .hbm, ⟨29, _⟩ => ⟨S128x2048x128, .f32⟩
  | .hbm, ⟨30, _⟩ => ⟨S262144x128, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call1_c : Ref sig .tc := ⟨.hbm, 8, rfl⟩
abbrev main_call1_v0 : Ref sig .tc := ⟨.hbm, 9, rfl⟩
abbrev main_call1_v1 : Ref sig .tc := ⟨.hbm, 10, rfl⟩
abbrev main_call1_c_0 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_call1_c_1 : Ref sig .tc := ⟨.hbm, 15, rfl⟩
abbrev main_call1_c_2 : Ref sig .tc := ⟨.hbm, 16, rfl⟩
abbrev main_call1_v5 : Ref sig .tc := ⟨.hbm, 17, rfl⟩
abbrev main_call1_v6 : Ref sig .tc := ⟨.hbm, 18, rfl⟩
abbrev main_call1_v7 : Ref sig .tc := ⟨.hbm, 19, rfl⟩
abbrev main_call1_v8 : Ref sig .tc := ⟨.hbm, 20, rfl⟩
abbrev main_call1_v9 : Ref sig .tc := ⟨.hbm, 21, rfl⟩
abbrev main_call1_v10 : Ref sig .tc := ⟨.hbm, 22, rfl⟩
abbrev main_call1_c_3 : Ref sig .tc := ⟨.hbm, 23, rfl⟩
abbrev main_call1_v11 : Ref sig .tc := ⟨.hbm, 24, rfl⟩
abbrev main_call1_v12 : Ref sig .tc := ⟨.hbm, 25, rfl⟩
abbrev main_call1_v13 : Ref sig .tc := ⟨.hbm, 26, rfl⟩
abbrev main_call1_cst : Ref sig .tc := ⟨.hbm, 27, rfl⟩
abbrev main_call1_v14 : Ref sig .tc := ⟨.hbm, 28, rfl⟩
abbrev main_v4 : Ref sig .tc := ⟨.hbm, 29, rfl⟩
abbrev main_v5 : Ref sig .tc := ⟨.hbm, 30, rfl⟩

abbrev nD : Nat := 1
abbrev τ : Topo := Topo.v7x

variable {F : FTy → Type} [FloatOps F]
-- ==== Tail.lean ====
abbrev S128x2048x128 : Shape := ⟨3, ![128, 2048, 128]⟩
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S1024x3072 : Shape := ⟨2, ![1024, 3072]⟩
abbrev S3072 : Shape := ⟨1, ![3072]⟩
abbrev S3072x1024 : Shape := ⟨2, ![3072, 1024]⟩
abbrev S1x1024 : Shape := ⟨2, ![1, 1024]⟩
abbrev S1x3072 : Shape := ⟨2, ![1, 3072]⟩
abbrev S32x256x128 : Shape := ⟨3, ![32, 256, 128]⟩
abbrev S1x256x1024 : Shape := ⟨3, ![1, 256, 1024]⟩
abbrev S1x256x32 : Shape := ⟨3, ![1, 256, 32]⟩
abbrev S256x32 : Shape := ⟨2, ![256, 32]⟩
abbrev S256x1024 : Shape := ⟨2, ![256, 1024]⟩
abbrev S256 : Shape := ⟨1, ![256]⟩
abbrev S256x1 : Shape := ⟨2, ![256, 1]⟩
abbrev S256x3072 : Shape := ⟨2, ![256, 3072]⟩

abbrev nBuf : Space → Nat
  | .hbm => 23
  | .vmem => 16
  | .smem => 0
  | _ => 0

abbrev bufTy : (tb : Table) → Fin (tcTables nBuf tb) → BufTy
  | .hbm, ⟨0, _⟩ => ⟨S128x2048x128, .f32⟩
  | .hbm, ⟨1, _⟩ => ⟨S4x2048x1024, .f32⟩
  | .hbm, ⟨2, _⟩ => ⟨S1024x1024, .f32⟩
  | .hbm, ⟨3, _⟩ => ⟨S1024, .f32⟩
  | .hbm, ⟨4, _⟩ => ⟨S1x1x1024, .f32⟩
  | .hbm, ⟨5, _⟩ => ⟨S1x1x1024, .f32⟩
  | .hbm, ⟨6, _⟩ => ⟨S1024x3072, .f32⟩
  | .hbm, ⟨7, _⟩ => ⟨S3072, .f32⟩
  | .hbm, ⟨8, _⟩ => ⟨S1024x3072, .f32⟩
  | .hbm, ⟨9, _⟩ => ⟨S3072, .f32⟩
  | .hbm, ⟨10, _⟩ => ⟨S3072x1024, .f32⟩
  | .hbm, ⟨11, _⟩ => ⟨S1024, .f32⟩
  | .hbm, ⟨12, _⟩ => ⟨S1x1024, .f32⟩
  | .hbm, ⟨13, _⟩ => ⟨S1x1024, .f32⟩
  | .hbm, ⟨14, _⟩ => ⟨S1024x1024, .bf16⟩
  | .hbm, ⟨15, _⟩ => ⟨S1x1024, .f32⟩
  | .hbm, ⟨16, _⟩ => ⟨S1024x3072, .bf16⟩
  | .hbm, ⟨17, _⟩ => ⟨S1x3072, .f32⟩
  | .hbm, ⟨18, _⟩ => ⟨S1024x3072, .bf16⟩
  | .hbm, ⟨19, _⟩ => ⟨S1x3072, .f32⟩
  | .hbm, ⟨20, _⟩ => ⟨S3072x1024, .bf16⟩
  | .hbm, ⟨21, _⟩ => ⟨S1x1024, .f32⟩
  | .hbm, ⟨22, _⟩ => ⟨S4x2048x1024, .f32⟩
  | .local _ .vmem, ⟨0, _⟩ => ⟨S32x256x128, .f32⟩
  | .local _ .vmem, ⟨1, _⟩ => ⟨S32x256x128, .f32⟩
  | .local _ .vmem, ⟨2, _⟩ => ⟨S1x256x1024, .f32⟩
  | .local _ .vmem, ⟨3, _⟩ => ⟨S1x256x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x3072, .bf16⟩
  | .local _ .vmem, ⟨9, _⟩ => ⟨S1x3072, .f32⟩
  | .local _ .vmem, ⟨10, _⟩ => ⟨S1024x3072, .bf16⟩
  | .local _ .vmem, ⟨11, _⟩ => ⟨S1x3072, .f32⟩
  | .local _ .vmem, ⟨12, _⟩ => ⟨S3072x1024, .bf16⟩
  | .local _ .vmem, ⟨13, _⟩ => ⟨S1x1024, .f32⟩
  | .local _ .vmem, ⟨14, _⟩ => ⟨S1x256x1024, .f32⟩
  | .local _ .vmem, ⟨15, _⟩ => ⟨S1x256x1024, .f32⟩
  | _, _ => ⟨S128x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S32x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x3072 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S3072x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== TailIdeal.lean ====
variable {F : FTy → Type} [FloatOps F] [Named F]
def κ : String → Option EReal := fun
  | "c" => some ((1023⁻¹ : ℝ) : EReal)
  | _ => none
-- ==== TailRefIdeal.lean ====
abbrev S128x2048x128 : Shape := ⟨3, ![128, 2048, 128]⟩
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S1024x3072 : Shape := ⟨2, ![1024, 3072]⟩
abbrev S3072 : Shape := ⟨1, ![3072]⟩
abbrev S3072x1024 : Shape := ⟨2, ![3072, 1024]⟩
abbrev S128x2048x32 : Shape := ⟨3, ![128, 2048, 32]⟩
abbrev S4x32x2048x32 : Shape := ⟨4, ![4, 32, 2048, 32]⟩
abbrev S4x2048x32x32 : Shape := ⟨4, ![4, 2048, 32, 32]⟩
abbrev S_ : Shape := ⟨0, ![]⟩
abbrev S4x2048 : Shape := ⟨2, ![4, 2048]⟩
abbrev S4x2048x1 : Shape := ⟨3, ![4, 2048, 1]⟩
abbrev S4x2048x3072 : Shape := ⟨3, ![4, 2048, 3072]⟩
abbrev S1x1x3072 : Shape := ⟨3, ![1, 1, 3072]⟩

abbrev nBuf : Space → Nat
  | .hbm => 63
  | .vmem => 0
  | .smem => 0
  | _ => 0

abbrev bufTy : (tb : Table) → Fin (tcTables nBuf tb) → BufTy
  | .hbm, ⟨0, _⟩ => ⟨S128x2048x128, .f32⟩
  | .hbm, ⟨1, _⟩ => ⟨S4x2048x1024, .f32⟩
  | .hbm, ⟨2, _⟩ => ⟨S1024x1024, .f32⟩
  | .hbm, ⟨3, _⟩ => ⟨S1024, .f32⟩
  | .hbm, ⟨4, _⟩ => ⟨S1x1x1024, .f32⟩
  | .hbm, ⟨5, _⟩ => ⟨S1x1x1024, .f32⟩
  | .hbm, ⟨6, _⟩ => ⟨S1024x3072, .f32⟩
  | .hbm, ⟨7, _⟩ => ⟨S3072, .f32⟩
  | .hbm, ⟨8, _⟩ => ⟨S1024x3072, .f32⟩
  | .hbm, ⟨9, _⟩ => ⟨S3072, .f32⟩
  | .hbm, ⟨10, _⟩ => ⟨S3072x1024, .f32⟩
  | .hbm, ⟨11, _⟩ => ⟨S1024, .f32⟩
  | .hbm, ⟨12, _⟩ => ⟨S128x2048x32, .f32⟩
  | .hbm, ⟨13, _⟩ => ⟨S4x32x2048x32, .f32⟩
  | .hbm, ⟨14, _⟩ => ⟨S4x2048x32x32, .f32⟩
  | .hbm, ⟨15, _⟩ => ⟨S4x2048x1024, .f32⟩
  | .hbm, ⟨16, _⟩ => ⟨S4x2048x1024, .f32⟩
  | .hbm, ⟨17, _⟩ => ⟨S1x1x1024, .f32⟩
  | .hbm, ⟨18, _⟩ => ⟨S4x2048x1024, .f32⟩
  | .hbm, ⟨19, _⟩ => ⟨S4x2048x1024, .f32⟩
  | .hbm, ⟨20, _⟩ => ⟨S4x2048x1024, .f32⟩
  | .hbm, ⟨21, _⟩ => ⟨S_, .f32⟩
  | .hbm, ⟨22, _⟩ => ⟨S4x2048, .f32⟩
  | .hbm, ⟨23, _⟩ => ⟨S4x2048x1, .f32⟩
  | .hbm, ⟨24, _⟩ => ⟨S_, .f32⟩
  | .hbm, ⟨25, _⟩ => ⟨S4x2048x1, .f32⟩
  | .hbm, ⟨26, _⟩ => ⟨S4x2048x1, .f32⟩
  | .hbm, ⟨27, _⟩ => ⟨S4x2048x1024, .f32⟩
  | .hbm, ⟨28, _⟩ => ⟨S4x2048x1024, .f32⟩
  | .hbm, ⟨29, _⟩ => ⟨S4x2048x1024, .f32⟩
  | .hbm, ⟨30, _⟩ => ⟨S_, .f32⟩
  | .hbm, ⟨31, _⟩ => ⟨S4x2048, .f32⟩
  | .hbm, ⟨32, _⟩ => ⟨S4x2048x1, .f32⟩
  | .hbm, ⟨33, _⟩ => ⟨S_, .f32⟩
  | .hbm, ⟨34, _⟩ => ⟨S4x2048x1, .f32⟩
  | .hbm, ⟨35, _⟩ => ⟨S4x2048x1, .f32⟩
  | .hbm, ⟨36, _⟩ => ⟨S_, .f32⟩
  | .hbm, ⟨37, _⟩ => ⟨S4x2048x1, .f32⟩
  | .hbm, ⟨38, _⟩ => ⟨S4x2048x1, .f32⟩
  | .hbm, ⟨39, _⟩ => ⟨S4x2048x1, .f32⟩
  | .hbm, ⟨40, _⟩ => ⟨S4x2048x1024, .f32⟩
  | .hbm, ⟨41, _⟩ => ⟨S4x2048x1024, .f32⟩
  | .hbm, ⟨42, _⟩ => ⟨S4x2048x1024, .f32⟩
  | .hbm, ⟨43, _⟩ => ⟨S4x2048x1024, .f32⟩
  | .hbm, ⟨44, _⟩ => ⟨S4x2048x1024, .f32⟩
  | .hbm, ⟨45, _⟩ => ⟨S4x2048x1024, .f32⟩
  | .hbm, ⟨46, _⟩ => ⟨S4x2048x3072, .f32⟩
  | .hbm, ⟨47, _⟩ => ⟨S1x1x3072, .f32⟩
  | .hbm, ⟨48, _⟩ => ⟨S4x2048x3072, .f32⟩
  | .hbm, ⟨49, _⟩ => ⟨S4x2048x3072, .f32⟩
  | .hbm, ⟨50, _⟩ => ⟨S4x2048x3072, .f32⟩
  | .hbm, ⟨51, _⟩ => ⟨S1x1x3072, .f32⟩
  | .hbm, ⟨52, _⟩ => ⟨S4x2048x3072, .f32⟩
  | .hbm, ⟨53, _⟩ => ⟨S4x2048x3072, .f32⟩
  | .hbm, ⟨54, _⟩ => ⟨S_, .f32⟩
  | .hbm, ⟨55, _⟩ => ⟨S4x2048x3072, .f32⟩
  | .hbm, ⟨56, _⟩ => ⟨S4x2048x3072, .f32⟩
  | .hbm, ⟨57, _⟩ => ⟨S4x2048x3072, .f32⟩
  | .hbm, ⟨58, _⟩ => ⟨S4x2048x1024, .f32⟩
  | .hbm, ⟨59, _⟩ => ⟨S1x1x1024, .f32⟩
  | .hbm, ⟨60, _⟩ => ⟨S4x2048x1024, .f32⟩
  | .hbm, ⟨61, _⟩ => ⟨S4x2048x1024, .f32⟩
  | .hbm, ⟨62, _⟩ => ⟨S4x2048x1024, .f32⟩
  | _, _ => ⟨S128x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_4 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]
-- ==== Attend.lean ====
abbrev S128x2048x128 : Shape := ⟨3, ![128, 2048, 128]⟩
abbrev S1x2048x128 : Shape := ⟨3, ![1, 2048, 128]⟩
abbrev S1x2048x32 : Shape := ⟨3, ![1, 2048, 32]⟩
abbrev S2048x32 : Shape := ⟨2, ![2048, 32]⟩
abbrev S2048 : Shape := ⟨1, ![2048]⟩
abbrev S2048x1 : Shape := ⟨2, ![2048, 1]⟩
abbrev S256x256 : Shape := ⟨2, ![256, 256]⟩
abbrev S256x32 : Shape := ⟨2, ![256, 32]⟩
abbrev S256 : Shape := ⟨1, ![256]⟩
abbrev S256x1 : Shape := ⟨2, ![256, 1]⟩
abbrev S1x256x32 : Shape := ⟨3, ![1, 256, 32]⟩

abbrev nBuf : Space → Nat
  | .hbm => 2
  | .vmem => 4
  | .smem => 0
  | _ => 0

abbrev bufTy : (tb : Table) → Fin (tcTables nBuf tb) → BufTy
  | .hbm, ⟨0, _⟩ => ⟨S128x2048x128, .f32⟩
  | .hbm, ⟨1, _⟩ => ⟨S128x2048x128, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | _, _ => ⟨S128x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== AttendIdeal.lean ====
variable {F : FTy → Type} [FloatOps F] [Named F]
def κ : String → Option EReal := fun
  | "mask" => some ⊥
  | _ => none
-- ==== AttendRefIdeal.lean ====
abbrev S128x2048x128 : Shape := ⟨3, ![128, 2048, 128]⟩
abbrev S128x2048x32 : Shape := ⟨3, ![128, 2048, 32]⟩
abbrev S4x32x32x64x32 : Shape := ⟨5, ![4, 32, 32, 64, 32]⟩
abbrev S_ : Shape := ⟨0, ![]⟩
abbrev S4x32x32x64 : Shape := ⟨4, ![4, 32, 32, 64]⟩
abbrev S4x32x32x64x1 : Shape := ⟨5, ![4, 32, 32, 64, 1]⟩
abbrev S4x32x32x64x64 : Shape := ⟨5, ![4, 32, 32, 64, 64]⟩

abbrev nBuf : Space → Nat
  | .hbm => 40
  | .vmem => 0
  | .smem => 0
  | _ => 0

abbrev bufTy : (tb : Table) → Fin (tcTables nBuf tb) → BufTy
  | .hbm, ⟨0, _⟩ => ⟨S128x2048x128, .f32⟩
  | .hbm, ⟨1, _⟩ => ⟨S128x2048x32, .f32⟩
  | .hbm, ⟨2, _⟩ => ⟨S4x32x32x64x32, .f32⟩
  | .hbm, ⟨3, _⟩ => ⟨S128x2048x32, .f32⟩
  | .hbm, ⟨4, _⟩ => ⟨S4x32x32x64x32, .f32⟩
  | .hbm, ⟨5, _⟩ => ⟨S4x32x32x64x32, .f32⟩
  | .hbm, ⟨6, _⟩ => ⟨S_, .f32⟩
  | .hbm, ⟨7, _⟩ => ⟨S4x32x32x64, .f32⟩
  | .hbm, ⟨8, _⟩ => ⟨S4x32x32x64x1, .f32⟩
  | .hbm, ⟨9, _⟩ => ⟨S4x32x32x64x1, .f32⟩
  | .hbm, ⟨10, _⟩ => ⟨S_, .f32⟩
  | .hbm, ⟨11, _⟩ => ⟨S4x32x32x64x1, .f32⟩
  | .hbm, ⟨12, _⟩ => ⟨S4x32x32x64x1, .f32⟩
  | .hbm, ⟨13, _⟩ => ⟨S4x32x32x64x32, .f32⟩
  | .hbm, ⟨14, _⟩ => ⟨S4x32x32x64x32, .f32⟩
  | .hbm, ⟨15, _⟩ => ⟨S4x32x32x64x64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4x32x32x64x64, .f32⟩
  | .hbm, ⟨20, _⟩ => ⟨S4x32x32x64x64, .f32⟩
  | .hbm, ⟨21, _⟩ => ⟨S_, .f32⟩
  | .hbm, ⟨22, _⟩ => ⟨S4x32x32x64, .f32⟩
  | .hbm, ⟨23, _⟩ => ⟨S_, .f32⟩
  | .hbm, ⟨24, _⟩ => ⟨S4x32x32x64, .f32⟩
  | .hbm, ⟨25, _⟩ => ⟨S4x32x32x64, .f32⟩
  | .hbm, ⟨26, _⟩ => ⟨S4x32x32x64x1, .f32⟩
  | .hbm, ⟨27, _⟩ => ⟨S4x32x32x64x64, .f32⟩
  | .hbm, ⟨28, _⟩ => ⟨S4x32x32x64x64, .f32⟩
  | .hbm, ⟨29, _⟩ => ⟨S4x32x32x64x64, .f32⟩
  | .hbm, ⟨30, _⟩ => ⟨S_, .f32⟩
  | .hbm, ⟨31, _⟩ => ⟨S4x32x32x64, .f32⟩
  | .hbm, ⟨32, _⟩ => ⟨S4x32x32x64x1, .f32⟩
  | .hbm, ⟨33, _⟩ => ⟨S4x32x32x64x64, .f32⟩
  | .hbm, ⟨34, _⟩ => ⟨S4x32x32x64x64, .f32⟩
  | .hbm, ⟨35, _⟩ => ⟨S4x32x32x64x32, .f32⟩
  | .hbm, ⟨36, _⟩ => ⟨S128x2048x32, .f32⟩
  | .hbm, ⟨37, _⟩ => ⟨S_, .i32⟩
  | .hbm, ⟨38, _⟩ => ⟨S_, .f32⟩
  | .hbm, ⟨39, _⟩ => ⟨S128x2048x128, .f32⟩
  | _, _ => ⟨S128x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c : Ref sig .tc := ⟨.hbm, 37, rfl⟩
abbrev main_call1_v0 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== Project.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S1x1024 : Shape := ⟨2, ![1, 1024]⟩
abbrev S128x2048x128 : Shape := ⟨3, ![128, 2048, 128]⟩
abbrev S1x256x1024 : Shape := ⟨3, ![1, 256, 1024]⟩
abbrev S32x256x128 : Shape := ⟨3, ![32, 256, 128]⟩
abbrev S256x1024 : Shape := ⟨2, ![256, 1024]⟩
abbrev S256 : Shape := ⟨1, ![256]⟩
abbrev S256x1 : Shape := ⟨2, ![256, 1]⟩
abbrev S256x32 : Shape := ⟨2, ![256, 32]⟩
abbrev S256x64 : Shape := ⟨2, ![256, 64]⟩
abbrev S1x256x64 : Shape := ⟨3, ![1, 256, 64]⟩

abbrev nBuf : Space → Nat
  | .hbm => 12
  | .vmem => 10
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1x1x1024, .f32⟩
  | .hbm, ⟨6, _⟩ => ⟨S1x1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S128x2048x128, .f32⟩
  | .local _ .vmem, ⟨0, _⟩ => ⟨S1x256x1024, .f32⟩
  | .local _ .vmem, ⟨1, _⟩ => ⟨S1x256x1024, .f32⟩
  | .local _ .vmem, ⟨2, _⟩ => ⟨S1024x1024, .f32⟩
  | .local _ .vmem, ⟨3, _⟩ => ⟨S1x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S32x256x128, .f32⟩
  | .local _ .vmem, ⟨9, _⟩ => ⟨S32x256x128, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S32x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ProjectIdeal.lean ====
variable {F : FTy → Type} [FloatOps F] [Named F]
def κ : String → Option EReal := fun
  | "c" => some ((1023⁻¹ : ℝ) : EReal)
  | _ => none
-- ==== ProjectRefIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S4x2048 : Shape := ⟨2, ![4, 2048]⟩
abbrev S4x2048x1 : Shape := ⟨3, ![4, 2048, 1]⟩
abbrev S4x2048x32x32 : Shape := ⟨4, ![4, 2048, 32, 32]⟩
abbrev S4x32x2048x32 : Shape := ⟨4, ![4, 32, 2048, 32]⟩
abbrev S4x32x2048x64 : Shape := ⟨4, ![4, 32, 2048, 64]⟩
abbrev S128x2048x64 : Shape := ⟨3, ![128, 2048, 64]⟩
abbrev S128x2048x128 : Shape := ⟨3, ![128, 2048, 128]⟩

abbrev nBuf : Space → Nat
  | .hbm => 49
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1x1x1024, .f32⟩
  | .hbm, ⟨6, _⟩ => ⟨S1x1x1024, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S_, .f32⟩
  | .hbm, ⟨17, _⟩ => ⟨S4x2048, .f32⟩
  | .hbm, ⟨18, _⟩ => ⟨S4x2048x1, .f32⟩
  | .hbm, ⟨19, _⟩ => ⟨S_, .f32⟩
  | .hbm, ⟨20, _⟩ => ⟨S4x2048x1, .f32⟩
  | .hbm, ⟨21, _⟩ => ⟨S4x2048x1, .f32⟩
  | .hbm, ⟨22, _⟩ => ⟨S_, .f32⟩
  | .hbm, ⟨23, _⟩ => ⟨S4x2048x1, .f32⟩
  | .hbm, ⟨24, _⟩ => ⟨S4x2048x1, .f32⟩
  | .hbm, ⟨25, _⟩ => ⟨S4x2048x1, .f32⟩
  | .hbm, ⟨26, _⟩ => ⟨S4x2048x1024, .f32⟩
  | .hbm, ⟨27, _⟩ => ⟨S4x2048x1024, .f32⟩
  | .hbm, ⟨28, _⟩ => ⟨S4x2048x1024, .f32⟩
  | .hbm, ⟨29, _⟩ => ⟨S4x2048x1024, .f32⟩
  | .hbm, ⟨30, _⟩ => ⟨S4x2048x1024, .f32⟩
  | .hbm, ⟨31, _⟩ => ⟨S4x2048x1024, .f32⟩
  | .hbm, ⟨32, _⟩ => ⟨S4x2048x1024, .f32⟩
  | .hbm, ⟨33, _⟩ => ⟨S1x1x1024, .f32⟩
  | .hbm, ⟨34, _⟩ => ⟨S4x2048x1024, .f32⟩
  | .hbm, ⟨35, _⟩ => ⟨S4x2048x1024, .f32⟩
  | .hbm, ⟨36, _⟩ => ⟨S4x2048x32x32, .f32⟩
  | .hbm, ⟨37, _⟩ => ⟨S4x32x2048x32, .f32⟩
  | .hbm, ⟨38, _⟩ => ⟨S4x2048x1024, .f32⟩
  | .hbm, ⟨39, _⟩ => ⟨S1x1x1024, .f32⟩
  | .hbm, ⟨40, _⟩ => ⟨S4x2048x1024, .f32⟩
  | .hbm, ⟨41, _⟩ => ⟨S4x2048x1024, .f32⟩
  | .hbm, ⟨42, _⟩ => ⟨S4x2048x32x32, .f32⟩
  | .hbm, ⟨43, _⟩ => ⟨S4x32x2048x32, .f32⟩
  | .hbm, ⟨44, _⟩ => ⟨S4x32x2048x64, .f32⟩
  | .hbm, ⟨45, _⟩ => ⟨S128x2048x64, .f32⟩
  | .hbm, ⟨46, _⟩ => ⟨S_, .i32⟩
  | .hbm, ⟨47, _⟩ => ⟨S_, .f32⟩
  | .hbm, ⟨48, _⟩ => ⟨S128x2048x128, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c : Ref sig .tc := ⟨.hbm, 46, rfl⟩
abbrev main_call0_v0 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== Rank.lean ====
abbrev S128x2048x128 : Shape := ⟨3, ![128, 2048, 128]⟩
abbrev S32x32x16 : Shape := ⟨3, ![32, 32, 16]⟩
abbrev S2048x128 : Shape := ⟨2, ![2048, 128]⟩
abbrev S1x2048x128 : Shape := ⟨3, ![1, 2048, 128]⟩
abbrev S1x32x16 : Shape := ⟨3, ![1, 32, 16]⟩
abbrev S16x128 : Shape := ⟨2, ![16, 128]⟩
abbrev S1x2048x32 : Shape := ⟨3, ![1, 2048, 32]⟩
abbrev S2048x32 : Shape := ⟨2, ![2048, 32]⟩
abbrev S32x16 : Shape := ⟨2, ![32, 16]⟩
abbrev S2048x16 : Shape := ⟨2, ![2048, 16]⟩
abbrev S2048 : Shape := ⟨1, ![2048]⟩
abbrev S2048x1 : Shape := ⟨2, ![2048, 1]⟩
abbrev S128x128 : Shape := ⟨2, ![128, 128]⟩
abbrev S1x32 : Shape := ⟨2, ![1, 32]⟩
abbrev S128x32 : Shape := ⟨2, ![128, 32]⟩
abbrev S32 : Shape := ⟨1, ![32]⟩
abbrev S32x32 : Shape := ⟨2, ![32, 32]⟩
abbrev S128 : Shape := ⟨1, ![128]⟩
abbrev S128x1 : Shape := ⟨2, ![128, 1]⟩
abbrev S128x16 : Shape := ⟨2, ![128, 16]⟩

abbrev nBuf : Space → Nat
  | .hbm => 3
  | .vmem => 6
  | .smem => 0
  | _ => 0

abbrev bufTy : (tb : Table) → Fin (tcTables nBuf tb) → BufTy
  | .hbm, ⟨0, _⟩ => ⟨S128x2048x128, .f32⟩
  | .hbm, ⟨1, _⟩ => ⟨S32x32x16, .f32⟩
  | .hbm, ⟨2, _⟩ => ⟨S2048x128, .i32⟩
  | .local _ .vmem, ⟨0, _⟩ => ⟨S1x2048x128, .f32⟩
  | .local _ .vmem, ⟨1, _⟩ => ⟨S1x2048x128, .f32⟩
  | .local _ .vmem, ⟨2, _⟩ => ⟨S1x32x16, .f32⟩
  | .local _ .vmem, ⟨3, _⟩ => ⟨S1x32x16, .f32⟩
  | .local _ .vmem, ⟨4, _⟩ => ⟨S16x128, .i32⟩
  | .local _ .vmem, ⟨5, _⟩ => ⟨S16x128, .i32⟩
  | _, _ => ⟨S128x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S16x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RankRefIdeal.lean ====
abbrev S128x2048x128 : Shape := ⟨3, ![128, 2048, 128]⟩
abbrev S32x32x16 : Shape := ⟨3, ![32, 32, 16]⟩
abbrev S128x2048x32 : Shape := ⟨3, ![128, 2048, 32]⟩
abbrev S4x32x2048x32 : Shape := ⟨4, ![4, 32, 2048, 32]⟩
abbrev S32x16x4x2048 : Shape := ⟨4, ![32, 16, 4, 2048]⟩
abbrev S4x32x2048x16 : Shape := ⟨4, ![4, 32, 2048, 16]⟩
abbrev S_ : Shape := ⟨0, ![]⟩
abbrev S4x32x2048 : Shape := ⟨3, ![4, 32, 2048]⟩
abbrev S2048 : Shape := ⟨1, ![2048]⟩
abbrev S1x1x2048 : Shape := ⟨3, ![1, 1, 2048]⟩
abbrev S128x2048 : Shape := ⟨2, ![128, 2048]⟩
abbrev S128 : Shape := ⟨1, ![128]⟩
abbrev S128x1 : Shape := ⟨2, ![128, 1]⟩
abbrev S2048x128 : Shape := ⟨2, ![2048, 128]⟩

abbrev nBuf : Space → Nat
  | .hbm => 35
  | .vmem => 0
  | .smem => 0
  | _ => 0

abbrev bufTy : (tb : Table) → Fin (tcTables nBuf tb) → BufTy
  | .hbm, ⟨0, _⟩ => ⟨S128x2048x128, .f32⟩
  | .hbm, ⟨1, _⟩ => ⟨S32x32x16, .f32⟩
  | .hbm, ⟨2, _⟩ => ⟨S128x2048x32, .f32⟩
  | .hbm, ⟨3, _⟩ => ⟨S4x32x2048x32, .f32⟩
  | .hbm, ⟨4, _⟩ => ⟨S32x16x4x2048, .f32⟩
  | .hbm, ⟨5, _⟩ => ⟨S4x32x2048x16, .f32⟩
  | .hbm, ⟨6, _⟩ => ⟨S4x32x2048x16, .f32⟩
  | .hbm, ⟨7, _⟩ => ⟨S4x32x2048x32, .f32⟩
  | .hbm, ⟨8, _⟩ => ⟨S4x32x2048x32, .i32⟩
  | .hbm, ⟨9, _⟩ => ⟨S_, .f32⟩
  | .hbm, ⟨10, _⟩ => ⟨S_, .i32⟩
  | .hbm, ⟨11, _⟩ => ⟨S4x32x2048, .f32⟩
  | .hbm, ⟨12, _⟩ => ⟨S4x32x2048, .i32⟩
  | .hbm, ⟨13, _⟩ => ⟨S2048, .i32⟩
  | .hbm, ⟨14, _⟩ => ⟨S_, .i32⟩
  | .hbm, ⟨15, _⟩ => ⟨S4x32x2048, .i32⟩
  | .hbm, ⟨16, _⟩ => ⟨S4x32x2048, .i32⟩
  | .hbm, ⟨17, _⟩ => ⟨S1x1x2048, .i32⟩
  | .hbm, ⟨18, _⟩ => ⟨S4x32x2048, .i32⟩
  | .hbm, ⟨19, _⟩ => ⟨S4x32x2048, .i32⟩
  | .hbm, ⟨20, _⟩ => ⟨S4x32x2048, .i32⟩
  | .hbm, ⟨21, _⟩ => ⟨S4x32x2048, .i32⟩
  | .hbm, ⟨22, _⟩ => ⟨S4x32x2048, .i32⟩
  | .hbm, ⟨23, _⟩ => ⟨S4x32x2048, .i32⟩
  | .hbm, ⟨24, _⟩ => ⟨S4x32x2048, .i32⟩
  | .hbm, ⟨25, _⟩ => ⟨S4x32x2048, .i32⟩
  | .hbm, ⟨26, _⟩ => ⟨S128x2048, .i32⟩
  | .hbm, ⟨27, _⟩ => ⟨S128, .i32⟩
  | .hbm, ⟨28, _⟩ => ⟨S128x1, .i32⟩
  | .hbm, ⟨29, _⟩ => ⟨S_, .i32⟩
  | .hbm, ⟨30, _⟩ => ⟨S128x1, .i32⟩
  | .hbm, ⟨31, _⟩ => ⟨S128x1, .i32⟩
  | .hbm, ⟨32, _⟩ => ⟨S128x2048, .i32⟩
  | .hbm, ⟨33, _⟩ => ⟨S128x2048, .i32⟩
  | .hbm, ⟨34, _⟩ => ⟨S2048x128, .i32⟩
  | _, _ => ⟨S128x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_cst : Ref sig .tc := ⟨.hbm, 9, rfl⟩
abbrev main_call0_c : Ref sig .tc := ⟨.hbm, 10, rfl⟩
abbrev main_call0_v1_0 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call1_v0 : Ref sig .tc := ⟨.hbm, 20, rfl⟩
abbrev main_call1_v1_0 : Ref sig .tc := ⟨.hbm, 21, rfl⟩
abbrev main_v13 : Ref sig .tc := ⟨.hbm, 22, rfl⟩
abbrev main_call2_v0 : Ref sig .tc := ⟨.hbm, 23, rfl⟩
abbrev main_call2_v1_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]
-- ==== Proof.Streams.lean ====
/-
  Several indirect streams on ONE DMA semaphore.

  The kernels start two indirect copies on one semaphore and wait for both before they touch either buffer. An indirect
  copy moves one row per entry of its list, and each row credits the semaphore by the same amount. So two such copies are
  one counted batch (`Transfers.Batch`) of all their rows: this module issues an indirect gather, and an indirect scatter,
  as the NEXT rows of a batch, and joins the rows a finished batch hands back.
-/
module

public import Idealize.ShloMosaic.Lib.Batch
public import Idealize.ShloMosaic.Lib.SparseCore.Stream
public import Idealize.ShloMosaic.Lib.SparseCore.Scatter

@[expose] public section

noncomputable section

namespace Cert.Streams

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA
open Idealize.ShloMosaic.Transfers

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-! ## Index sets of a batch -/

/-- The pending issue rights from transfer `j₀` on are the next `o` of them and the ones after. -/
theorem pending_block {n : ℕ} (Φ : Fin n → sProp 𝕄) : ∀ (o j₀ : ℕ) (h : j₀ + o ≤ n),
    bigSep (pending j₀) Φ = iprop((bigSep Finset.univ fun j : Fin o => Φ ⟨j₀ + j.val, by omega⟩) ∗ bigSep (pending (j₀ + o)) Φ)
  | 0, j₀, h => by
    rw [Finset.univ_eq_empty, BI.bigSep_empty]
    exact (BI.Entails.antisymm BI.emp_sep.1 BI.emp_sep.2).symm
  | o + 1, j₀, h => by
    have hp : pending (n := n) (j₀ + 1 + o) = pending (j₀ + (o + 1)) := by congr 1; omega
    rw [bigSep_pending_step Φ j₀ (by omega), pending_block Φ o (j₀ + 1) (by omega), bigSep_univ_succ, hp]
    rw [show (fun j : Fin o => Φ ⟨j₀ + 1 + j.val, by omega⟩) = fun j : Fin o => Φ ⟨j₀ + j.succ.val, by have := j.isLt; simp; omega⟩ from
      funext fun j => congrArg Φ (Fin.ext (by simp; omega))]
    exact BI.Entails.antisymm (sep_assoc (P := Φ ⟨j₀, by omega⟩)).2 (sep_assoc (P := Φ ⟨j₀, by omega⟩)).1

/-- All the transfers of a batch of two streams are the first stream's and the second's. -/
theorem bigSep_two {o₁ o₂ : ℕ} (Φ : Fin (o₁ + o₂) → sProp 𝕄) :
    bigSep Finset.univ Φ = iprop((bigSep Finset.univ fun j : Fin o₁ => Φ ⟨j.val, by omega⟩)
      ∗ bigSep Finset.univ fun j : Fin o₂ => Φ ⟨o₁ + j.val, by omega⟩) := by
  rw [← pending_zero, pending_block Φ o₁ 0 (by omega), pending_block Φ o₂ (0 + o₁) (by omega)]
  have hz : pending (n := o₁ + o₂) (0 + o₁ + o₂) = ∅ := by
    ext t; simp [pending]
  rw [hz, BI.bigSep_empty]
  simp only [Nat.zero_add]
  congr 1
  exact BI.Entails.antisymm BI.sep_emp.1 BI.sep_emp.2

/-- The deliveries of a batch made of two streams' rows. -/
def pairD {o₁ o₂ : ℕ} (D₁ : Fin o₁ → sProp 𝕄) (D₂ : Fin o₂ → sProp 𝕄) (t : Fin (o₁ + o₂)) : sProp 𝕄 := Fin.append D₁ D₂ t

theorem pairD_left {o₁ o₂ : ℕ} (D₁ : Fin o₁ → sProp 𝕄) (D₂ : Fin o₂ → sProp 𝕄) (j : Fin o₁) (h : j.val < o₁ + o₂) :
    pairD D₁ D₂ ⟨j.val, h⟩ = D₁ j := Fin.append_left D₁ D₂ j
theorem pairD_right {o₁ o₂ : ℕ} (D₁ : Fin o₁ → sProp 𝕄) (D₂ : Fin o₂ → sProp 𝕄) (j : Fin o₂) (h : o₁ + j.val < o₁ + o₂) :
    pairD D₁ D₂ ⟨o₁ + j.val, h⟩ = D₂ j := Fin.append_right D₁ D₂ j

instance pairD_storable {o₁ o₂ : ℕ} (D₁ : Fin o₁ → sProp 𝕄) (D₂ : Fin o₂ → sProp 𝕄) [h₁ : ∀ j, Storable (upEmb : UEmb _ 𝕄) (D₁ j)]
    [h₂ : ∀ j, Storable (upEmb : UEmb _ 𝕄) (D₂ j)] (t : Fin (o₁ + o₂)) : Storable (upEmb : UEmb _ 𝕄) (pairD D₁ D₂ t) := by
  refine Fin.addCases (fun j => ?_) (fun j => ?_) t
  · unfold pairD; rw [Fin.append_left]; infer_instance
  · unfold pairD; rw [Fin.append_right]; infer_instance

/-- A finished pair hands back what the first stream's rows join to and what the second's do. -/
theorem pairD_join {o₁ o₂ : ℕ} {D₁ : Fin o₁ → sProp 𝕄} {D₂ : Fin o₂ → sProp 𝕄} {P₁ P₂ : sProp 𝕄}
    (h₁ : bigSep Finset.univ D₁ ⊢ P₁) (h₂ : bigSep Finset.univ D₂ ⊢ P₂) : bigSep Finset.univ (pairD D₁ D₂) ⊢ iprop(P₁ ∗ P₂) := by
  rw [bigSep_two]
  simp only [pairD_left, pairD_right]
  exact sep_mono h₁ h₂

/-! ## The indirect gather -/

section Gather

variable (src : Memref sig c.2.kind sp s₀ e) (dst : Memref sig c.2.kind .vmem s e) (hg : s₀.Gathers a s)
  (offs : Memref sig c.2.kind .vmem si .i32) (hn : si.numel = s.size hg.axis')
  (q qo : PosShare TreeShare) (fs : Buf (Elt F) (src.view.loc c)) (fd : Buf (Elt F) (dst.view.loc c)) (fo : Buf (Elt F) (offs.view.loc c))

/-- Entry `j` of a list, in row-major order. -/
abbrev entryIx {o : ℕ} (hn : si.numel = o) (j : Fin o) : si.Idx := si.rowMajor.symm (j.cast hn.symm)

/-- What a gather writes at row `j`: the row of the source the list's entry `j` names. -/
abbrev gatherRowPayload (hin : ∀ x, (offs.view.read (Elt F) fo x).toNat < s₀.size hg.axis) (j : Fin (s.size hg.axis')) :
    (s.rowShape hg.axis').Idx → Elt F e :=
  fun i => src.view.read (Elt F) fs (hg.rowIdx (rows (offs.view.read (Elt F) fo) hn hin j) i)

/-- What row `j` of an indirect gather hands back: row `j` of the destination written with the source's row the list's entry
    `j` names, that entry's share, and a piece of the source's share. -/
def gRow (ho : 0 < s.size hg.axis') (hin : ∀ x, (offs.view.read (Elt F) fo x).toNat < s₀.size hg.axis) (j : Fin (s.size hg.axis')) : sProp 𝕄 :=
  iprop(((dst.view.loc c ↦[(dst.view.slice (s.rowRect hg.axis' j)).set]{fullShare}
        ((dst.view.slice (s.rowRect hg.axis' j)).write (Elt F) fd (gatherRowPayload c src hg offs hn fs fo hin j) Finset.univ))
      ∗ (offs.view.loc c ↦[{offs.view.emb (entryIx hn j)}]{qo} fo)) ∗ (src.view.loc c ↦[src.view.set]{pieceOf q _ ho j} fs))

instance gRow_storable (ho : 0 < s.size hg.axis') (hin : ∀ x, (offs.view.read (Elt F) fo x).toNat < s₀.size hg.axis) (j : Fin (s.size hg.axis')) :
    Storable (upEmb : UEmb _ 𝕄) (gRow c src dst hg offs hn q qo fs fd fo ho hin j : sProp 𝕄) := by unfold gRow; infer_instance

/-- All the rows of a gather: the destination written with the gathered rows, the source's share and the list's. -/
theorem gRow_join (ho : 0 < s.size hg.axis') (hin : ∀ x, (offs.view.read (Elt F) fo x).toNat < s₀.size hg.axis) :
    bigSep Finset.univ (gRow c src dst hg offs hn q qo fs fd fo ho hin : _ → sProp 𝕄)
      ⊢ iprop((dst.view.loc c ↦[dst.view.set]{fullShare}
            (dst.view.write (Elt F) fd (gatherPayload hg (src.view.read (Elt F) fs) (rows (offs.view.read (Elt F) fo) hn hin)) Finset.univ))
          ∗ (src.view.loc c ↦[src.view.set]{q} fs) ∗ (offs.view.loc c ↦[offs.view.set]{qo} fo)) := by
  have hen : Function.Bijective (entryIx (si := si) hn) := si.rowMajor.symm.bijective.comp (finCongr hn.symm).bijective
  unfold gRow
  iintro HD
  ihave H1 := bigSep_sep_out _ _ _ $$ HD
  icases H1 with ⟨H2, Hsrc⟩
  ihave H3 := bigSep_sep_out _ _ _ $$ H2
  icases H3 with ⟨Hrows, Hoffs⟩
  isplitl [Hrows]
  · iapply (pointsTo_rows_write c dst.view hg.axis' fd
      (gatherRowPayload c src hg offs hn fs fo hin)
      (gatherPayload hg (src.view.read (Elt F) fs) (rows (offs.view.read (Elt F) fo) hn hin)) fun j i => by
        unfold gatherPayload gatherRowPayload; rw [Shape.Gathers.idx_rowRect_emb]) $$ Hrows
  isplitl [Hsrc]; · iapply (Entails.of_eq (pointsTo_piecesOf (src.view.set) fs ho q).symm) $$ Hsrc
  iapply (Entails.of_eq (pointsTo_entries c offs.view _ hen qo fo).symm) $$ Hoffs

/-- An indirect gather issued as the next `s.size hg.axis'` transfers of a batch whose deliveries its rows make. -/
theorem wp_gatherBatch [Infinite Name] [EC.LandsIn (upEmb : UEmb _ 𝕄)] {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    (ι : Ix) (N : ℕ) (hN : ∀ j, (dst.slice (s.rowRect hg.axis' j) (s.stride_rowRect hg.axis' j)).view.dmaCredit = N)
    (ho : 0 < s.size hg.axis') (hin : ∀ x, (offs.view.read (Elt F) fo x).toNat < s₀.size hg.axis)
    {n : ℕ} (D : Fin n → sProp 𝕄) (j₀ u : ℕ) (hj : j₀ + s.size hg.axis' ≤ n) (hu : u ≤ j₀ * N)
    (hD : ∀ j : Fin (s.size hg.axis'), (gRow c src dst hg offs hn q qo fs fd fo ho hin j : sProp 𝕄) ⊢ D ⟨j₀ + j.val, by omega⟩) :
    iprop((src.view.loc c ↦[src.view.set]{q} fs) ∗ (dst.view.loc c ↦[dst.view.set]{fullShare} fd)
        ∗ (offs.view.loc c ↦[offs.view.set]{qo} fo) ∗ Batch EC c (.dma sem) ι N D j₀ u)
      ⊢ iprop((Batch EC c (.dma sem) ι N D (j₀ + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hen : Function.Bijective S.entry := si.rowMajor.symm.bijective.comp (finCongr hn.symm).bijective
  have hNs : ∑ j, (dst.slice (s.rowRect hg.axis' j) (s.stride_rowRect hg.axis' j)).view.dmaCredit = s.size hg.axis' * N := by
    rw [Finset.sum_congr rfl fun j _ => hN j, Finset.sum_const, Finset.card_univ, Fintype.card_fin, smul_eq_mul]
  unfold Batch
  iintro ⟨Hs, Hd, Ho, ⟨%γ, %γ₀, %κ, #Hinv, HI, H0, Hcred⟩⟩ Hk
  ihave HI' := (Entails.of_eq (pending_block (fun t => count EC (γ t) 0) _ j₀ hj)) $$ HI
  icases HI' with ⟨Hγ, HI⟩
  ihave Hd' := (Entails.of_eq (pointsTo_rows c dst.view hg.axis' fullShare fd)) $$ Hd
  ihave Ho' := (Entails.of_eq (pointsTo_entries c offs.view S.entry hen qo fo)) $$ Ho
  ihave Hs' := (Entails.of_eq (pointsTo_piecesOf (src.view.set) fs ho q)) $$ Hs
  iapply (wp_enqueueIndirectDma 𝒱 c bd Set.univ (qo := qo) (fo := fo) (rd := rd) ι (s.size hg.axis' * N) hA hrd hNs) $$ [Hd' Ho' Hs' Hγ]
  · have hrow : ∀ j : Fin (s.size hg.axis'), iprop(inv κ (batchBody EC (c, SemLoc.dma sem) N D γ γ₀)
          ∗ ((((dst.view.loc c ↦[(dst.view.slice (s.rowRect hg.axis' j)).set]{fullShare} fd) ∗ S.heldEntry qo fo j)
          ∗ (src.view.loc c ↦[src.view.set]{pieceOf q _ ho j} fs)) ∗ count EC (γ ⟨j₀ + j.val, by omega⟩) 0))
        ⊢ iprop(S.heldEntry qo fo j ∗ (S.heldEntry qo fo j -∗ rowRes c (rd j))) := fun j => by
      iintro ⟨#Hinv, ⟨⟨Hr, He⟩, Hsq⟩, Hγj⟩
      isplitl [He]; · iexact He
      iintro He
      unfold rowRes
      iexists pieceOf q _ ho j, fs, iprop((dst.view.loc c ↦[(dst.view.slice (s.rowRect hg.axis' j)).set]{fullShare}
        ((dst.view.slice (s.rowRect hg.axis' j)).write (Elt F) fd (gatherRowPayload c src hg offs hn fs fo hin j) Finset.univ)) ∗ S.heldEntry qo fo j)
      isplitl [Hsq]; · iexact Hsq
      isplitl [Hr He]
      · iapply writeUpdate_frame
        isplitl [Hr]
        · iapply (pointsTo_writeUpdate c (v := dst.view.slice (s.rowRect hg.axis' j)) subset_rfl) $$ Hr
        · iexact He
      · rw [show (rd j).dst.view.amount (.dma sem) = N from hN j]
        iapply (batch_creditUpdate EC (D := D) (γ := γ) (γ₀ := γ₀) (ι := κ) ⟨j₀ + j.val, by omega⟩ (hD j))
        isplitr; · iexact Hinv
        iexact Hγj
    unfold Stream.res
    ihave H1 := bigSep_sep_in _ _ _ $$ [Hd' Ho']; · isplitl [Hd'] <;> iassumption
    ihave H2 := bigSep_sep_in _ _ _ $$ [H1 Hs']; · isplitl [H1] <;> iassumption
    ihave H3 := bigSep_sep_in _ _ _ $$ [H2 Hγ]; · isplitl [H2] <;> iassumption
    iapply (bigSep_mono_pers Finset.univ _ _ _ fun j _ => hrow j)
    isplitr; · iexact Hinv
    iexact H3
  · iintro Hcred'
    iapply Hk
    iexists γ, γ₀, κ
    isplitr; · iexact Hinv
    isplitl [HI]; · iexact HI
    isplitl [H0]; · iexact H0
    rw [show (j₀ + s.size hg.axis') * N - u = (j₀ * N - u) + s.size hg.axis' * N by rw [Nat.add_mul]; omega, ← tallyAt_add]
    icombine Hcred Hcred' as H
    iexact H

end Gather

/-! ## The indirect scatter -/

section Scatter

variable (src : Memref sig c.2.kind .vmem s e) (dst : Memref sig c.2.kind sp s₀ e) (hg : s₀.Gathers a s)
  (offs : Memref sig c.2.kind .vmem si .i32) (hn : si.numel = s.size hg.axis')
  (q qo : PosShare TreeShare) (fs : Buf (Elt F) (src.view.loc c)) (fd : Buf (Elt F) (dst.view.loc c)) (fo : Buf (Elt F) (offs.view.loc c))

/-- What row `j` of an indirect scatter hands back: the row of the target the list's entry `j` names, written with the source's
    row `j`, that entry's share, and the source's row `j`. -/
def sRow (hin : ∀ x, (offs.view.read (Elt F) fo x).toNat < s₀.size hg.axis) (j : Fin (s.size hg.axis')) : sProp 𝕄 :=
  iprop(((dst.view.loc c ↦[(dst.view.slice (s₀.rowRect hg.axis (rows (offs.view.read (Elt F) fo) hn hin j))).set]{fullShare}
        ((dst.view.slice (s₀.rowRect hg.axis (rows (offs.view.read (Elt F) fo) hn hin j))).write (Elt F) fd (scatterRowPayload c src hg fs j) Finset.univ))
      ∗ (offs.view.loc c ↦[{offs.view.emb (entryIx hn j)}]{qo} fo)) ∗ (src.view.loc c ↦[(src.view.slice (s.rowRect hg.axis' j)).set]{q} fs))

instance sRow_storable (hin : ∀ x, (offs.view.read (Elt F) fo x).toNat < s₀.size hg.axis) (j : Fin (s.size hg.axis')) :
    Storable (upEmb : UEmb _ 𝕄) (sRow c src dst hg offs hn q qo fs fd fo hin j : sProp 𝕄) := by unfold sRow; infer_instance

/-- All the rows of a scatter: the named rows of the target written, the source and the list's share back. -/
theorem sRow_join (hin : ∀ x, (offs.view.read (Elt F) fo x).toNat < s₀.size hg.axis)
    (hinj : Function.Injective (rows (offs.view.read (Elt F) fo) hn hin)) :
    bigSep Finset.univ (sRow c src dst hg offs hn q qo fs fd fo hin : _ → sProp 𝕄)
      ⊢ iprop((dst.view.loc c ↦[namedRows c dst.view hg.axis (rows (offs.view.read (Elt F) fo) hn hin)]{fullShare}
            (scatterBuf c dst.view hg.axis (rows (offs.view.read (Elt F) fo) hn hin) (scatterRowPayload c src hg fs) fd))
          ∗ (src.view.loc c ↦[src.view.set]{q} fs) ∗ (offs.view.loc c ↦[offs.view.set]{qo} fo)) := by
  have hen : Function.Bijective (entryIx (si := si) hn) := si.rowMajor.symm.bijective.comp (finCongr hn.symm).bijective
  have hdj : ∀ k ∈ (Finset.univ : Finset (Fin (s.size hg.axis'))), ∀ k' ∈ (Finset.univ : Finset (Fin (s.size hg.axis'))), k ≠ k' →
      Disjoint (dst.view.slice (s₀.rowRect hg.axis (rows (offs.view.read (Elt F) fo) hn hin k))).set
        (dst.view.slice (s₀.rowRect hg.axis (rows (offs.view.read (Elt F) fo) hn hin k'))).set :=
    fun k _ k' _ h => dst.view.disjoint_rows hg.axis fun e => h (hinj e)
  unfold sRow
  iintro HD
  ihave H1 := bigSep_sep_out _ _ _ $$ HD
  icases H1 with ⟨H2, Hsrc⟩
  ihave H3 := bigSep_sep_out _ _ _ $$ H2
  icases H3 with ⟨Hrows, Hoffs⟩
  isplitl [Hrows]
  · ihave Hj := (pointsTo_biUnion_join (ℓ := dst.view.loc c) (q := fullShare) Finset.univ _ _ fd hdj) $$ Hrows
    icases Hj with ⟨%g, %hgw, Hj⟩
    have hc : ∀ i ∈ Finset.univ.biUnion (fun k => (dst.view.slice (s₀.rowRect hg.axis (rows (offs.view.read (Elt F) fo) hn hin k))).set),
        g i = scatterBuf c dst.view hg.axis (rows (offs.view.read (Elt F) fo) hn hin) (scatterRowPayload c src hg fs) fd i := fun i hi => by
      obtain ⟨k, -, hk⟩ := Finset.mem_biUnion.mp hi
      exact (hgw k (Finset.mem_univ k) i hk).trans (scatterBuf_of_mem c dst.view hg.axis _ hinj (scatterRowPayload c src hg fs) fd hk).symm
    rw [namedRows_eq, ← pointsTo_congr hc]
    iexact Hj
  isplitl [Hsrc]; · iapply (Entails.of_eq (pointsTo_rows c src.view hg.axis' q fs).symm) $$ Hsrc
  iapply (Entails.of_eq (pointsTo_entries c offs.view _ hen qo fo).symm) $$ Hoffs

/-- An indirect scatter issued as the next `s.size hg.axis'` transfers of a batch whose deliveries its rows make. The list's
    entries name pairwise distinct rows, and the tile holds those rows of the target. -/
theorem wp_scatterBatch [Infinite Name] [EC.LandsIn (upEmb : UEmb _ 𝕄)] {sem : DmaSem sig}
    {hp : c.2.kind = .scVector} {he : e.bits = 32} {hsp : sp = .hbm ∨ sp = .shared} {hr : s₀.StreamRows a}
    {k : PUnit → Prog (TpuEff nD τ sig (Elt F) Λ c.2) α}
    (ι : Ix) (N : ℕ) (hin : ∀ x, (offs.view.read (Elt F) fo x).toNat < s₀.size hg.axis)
    (hinj : Function.Injective (rows (offs.view.read (Elt F) fo) hn hin))
    (hN : ∀ r, (dst.slice (s₀.rowRect hg.axis r) (s₀.stride_rowRect hg.axis r)).view.dmaCredit = N)
    {n : ℕ} (D : Fin n → sProp 𝕄) (j₀ u : ℕ) (hj : j₀ + s.size hg.axis' ≤ n) (hu : u ≤ j₀ * N)
    (hD : ∀ j : Fin (s.size hg.axis'), (sRow c src dst hg offs hn q qo fs fd fo hin j : sProp 𝕄) ⊢ D ⟨j₀ + j.val, by omega⟩) :
    iprop((src.view.loc c ↦[src.view.set]{q} fs)
        ∗ (dst.view.loc c ↦[namedRows c dst.view hg.axis (rows (offs.view.read (Elt F) fo) hn hin)]{fullShare} fd)
        ∗ (offs.view.loc c ↦[offs.view.set]{qo} fo) ∗ Batch EC c (.dma sem) ι N D j₀ u)
      ⊢ iprop((Batch EC c (.dma sem) ι N D (j₀ + s.size hg.axis') u -∗ wp frame (wpE defs 𝒱 c bd) Set.univ (k ⟨⟩) Q)
          -∗ wp frame (wpE defs 𝒱 c bd) Set.univ (enqueueIndirectScatter hp src dst hg offs hn sem he hsp hr >>= k) Q) := by
  classical
  rw [enqueueIndirectScatter_bind]
  let S : Stream nD τ sig (Elt F) :=
    Stream.issued c offs.view hn sem (fun j w => (rowOf (s₀.size hg.axis) w).map (scatterRow c src dst hg sem he hsp hr j)) 0
  let r : Fin (s.size hg.axis') → Fin (s₀.size hg.axis) := rows (offs.view.read (Elt F) fo) hn hin
  let rd : Fin (s.size hg.axis') → RowDma τ sig (Elt F) c.2 sem := fun j => scatterRow c src dst hg sem he hsp hr j (r j)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hen : Function.Bijective S.entry := si.rowMajor.symm.bijective.comp (finCongr hn.symm).bijective
  have hsrcset : ∀ j, (src.view.slice (s.rowRect hg.axis' j)).set = (rd j).src.view.set := fun j =>
    (View.set_cast (v := src.view.slice (s.rowRect hg.axis' j)) _ _).symm
  have hrows : (dst.view.loc c ↦[namedRows c dst.view hg.axis r]{fullShare} fd : sProp 𝕄)
      = bigSep Finset.univ fun j => dst.view.loc c ↦[(dst.view.slice (s₀.rowRect hg.axis (r j))).set]{fullShare} fd :=
    pointsTo_biUnion _ _ fun j _ j' _ h => dst.view.disjoint_rows hg.axis fun e => h (hinj e)
  have hNs : ∑ j, (dst.slice (s₀.rowRect hg.axis (r j)) (s₀.stride_rowRect hg.axis _)).view.dmaCredit = s.size hg.axis' * N := by
    rw [Finset.sum_congr rfl fun j _ => hN (r j), Finset.sum_const, Finset.card_univ, Fintype.card_fin, smul_eq_mul]
  unfold Batch
  iintro ⟨Hs, Hd, Ho, ⟨%γ, %γ₀, %κ, #Hinv, HI, H0, Hcred⟩⟩ Hk
  ihave HI' := (Entails.of_eq (pending_block (fun t => count EC (γ t) 0) _ j₀ hj)) $$ HI
  icases HI' with ⟨Hγ, HI⟩
  ihave Hd' := (Entails.of_eq hrows) $$ Hd
  ihave Ho' := (Entails.of_eq (pointsTo_entries c offs.view S.entry hen qo fo)) $$ Ho
  ihave Hs' := (Entails.of_eq (pointsTo_rows c src.view hg.axis' q fs)) $$ Hs
  iapply (wp_enqueueIndirectDma 𝒱 c bd Set.univ (qo := qo) (fo := fo) (rd := rd) ι (s.size hg.axis' * N) hA hrd hNs) $$ [Hd' Ho' Hs' Hγ]
  · have hrow : ∀ j : Fin (s.size hg.axis'), iprop(inv κ (batchBody EC (c, SemLoc.dma sem) N D γ γ₀)
          ∗ ((((dst.view.loc c ↦[(dst.view.slice (s₀.rowRect hg.axis (r j))).set]{fullShare} fd) ∗ S.heldEntry qo fo j)
          ∗ (src.view.loc c ↦[(src.view.slice (s.rowRect hg.axis' j)).set]{q} fs)) ∗ count EC (γ ⟨j₀ + j.val, by omega⟩) 0))
        ⊢ iprop(S.heldEntry qo fo j ∗ (S.heldEntry qo fo j -∗ rowRes c (rd j))) := fun j => by
      iintro ⟨#Hinv, ⟨⟨Hr, He⟩, Hsq⟩, Hγj⟩
      isplitl [He]; · iexact He
      iintro He
      unfold rowRes
      iexists q, fs, iprop((dst.view.loc c ↦[(dst.view.slice (s₀.rowRect hg.axis (r j))).set]{fullShare}
        ((dst.view.slice (s₀.rowRect hg.axis (r j))).write (Elt F) fd (scatterRowPayload c src hg fs j) Finset.univ)) ∗ S.heldEntry qo fo j)
      isplitl [Hsq]; · iapply (Entails.of_eq (congrArg (fun I => (src.view.loc c ↦[I]{q} fs : sProp 𝕄)) (hsrcset j))) $$ Hsq
      isplitl [Hr He]
      · iapply writeUpdate_frame
        isplitl [Hr]
        · iapply (pointsTo_writeUpdate c (v := dst.view.slice (s₀.rowRect hg.axis (r j))) subset_rfl) $$ Hr
        · iexact He
      · rw [show (rd j).dst.view.amount (.dma sem) = N from hN (r j)]
        iapply (batch_creditUpdate EC (D := D) (γ := γ) (γ₀ := γ₀) (ι := κ) ⟨j₀ + j.val, by omega⟩
          ((Entails.of_eq (by unfold sRow; rw [hsrcset j]; rfl)).trans (hD j)))
        isplitr; · iexact Hinv
        iexact Hγj
    unfold Stream.res
    ihave H1 := bigSep_sep_in _ _ _ $$ [Hd' Ho']; · isplitl [Hd'] <;> iassumption
    ihave H2 := bigSep_sep_in _ _ _ $$ [H1 Hs']; · isplitl [H1] <;> iassumption
    ihave H3 := bigSep_sep_in _ _ _ $$ [H2 Hγ]; · isplitl [H2] <;> iassumption
    iapply (bigSep_mono_pers Finset.univ _ _ _ fun j _ => hrow j)
    isplitr; · iexact Hinv
    iexact H3
  · iintro Hcred'
    iapply Hk
    iexists γ, γ₀, κ
    isplitr; · iexact Hinv
    isplitl [HI]; · iexact HI
    isplitl [H0]; · iexact H0
    rw [show (j₀ + s.size hg.axis') * N - u = (j₀ * N - u) + s.size hg.axis' * N by rw [Nat.add_mul]; omega, ← tallyAt_add]
    icombine Hcred Hcred' as H
    iexact H

end Scatter

end Cert.Streams

end
-- ==== Proof.Pairs.lean ====
/-
  Two transfers on one DMA semaphore, started one after the other and waited one after the other: what is held between, and
  the steps of the four kinds the kernels make (two plain copies, two indirect gathers, two indirect scatters, two waits).
-/
module

public import proofs.«01_k».proof.Proof.Streams

@[expose] public section

noncomputable section

namespace Cert.Streams

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA
open Idealize.ShloMosaic.Transfers

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {α : Type} {Q : α → sProp (MT nD τ sig Ix (Elt F) Name U Lvl)}

local notation "𝕄" => MT nD τ sig Ix (Elt F) Name U Lvl

/-- A batch of `n` transfers of `N` units all issued and none waited for, on the DMA semaphore `sem`: once all have landed
    it hands back `P`. -/
def InFlight (sem : DmaSem sig) (ι : Ix) (N n : ℕ) (P : sProp 𝕄) : sProp 𝕄 :=
  iprop(∃ (D : Fin n → sProp 𝕄) (P₀ : sProp 𝕄), ⌜bigSep Finset.univ D ⊢ P₀⌝ ∗ Batch EC c (.dma sem) ι N D n 0 ∗ (P₀ -∗ P))

theorem InFlight.mono {sem : DmaSem sig} {ι : Ix} {N n : ℕ} {P P' : sProp 𝕄} :
    iprop(InFlight EC c sem ι N n P ∗ (P -∗ P')) ⊢ InFlight EC c sem ι N n P' := by
  unfold InFlight
  iintro ⟨⟨%D, %P₀, %hD, HB, HP⟩, H⟩
  iexists D, P₀
  isplitr; · ipureintro; exact hD
  isplitl [HB]; · iexact HB
  iintro H0
  iapply H
  iapply HP
  iexact H0

/-- The two waits of a batch of two equal halves: after the second, everything the batch hands back. -/
theorem wp_wait_both [Infinite Name] [EC.LandsIn (upEmb : UEmb _ 𝕄)] {sem : DmaSem sig} {sp₁ sp₁' sp₂ sp₂' : Space} {s₁ s₁' s₂ s₂' : Shape} {e₁ e₁' e₂ e₂' : EltTy}
    {src₁ : Memref sig c.2.kind sp₁' s₁' e₁'} {dst₁ : Memref sig c.2.kind sp₁ s₁ e₁} {hs₁ : src₁.view.WordExact} {hd₁ : dst₁.view.WordExact}
    {src₂ : Memref sig c.2.kind sp₂' s₂' e₂'} {dst₂ : Memref sig c.2.kind sp₂ s₂ e₂} {hs₂ : src₂.view.WordExact} {hd₂ : dst₂.view.WordExact}
    {k : PUnit → Prog (TpuEff nD τ sig (Elt F) Λ c.2) α}
    (ι : Ix) {N n o : ℕ} {P : sProp 𝕄} (hN : 0 < N) (hn : n = o + o) (h₁ : dst₁.view.dmaCredit = o * N) (h₂ : dst₂.view.dmaCredit = o * N)
    {O : CellTallies nD τ sig Ix} {W : Waits sig Ix} :
    iprop(InFlight EC c sem ι N n P ∗ owes c O W ∗ MayWaits c ι O)
      ⊢ iprop((iprop(P ∗ semVal (c, .dma sem) 0 ∗ owes c O (insert (SemLoc.dma sem, ι) W)) -∗ wp frame (wpE defs 𝒱 c bd) Set.univ (k ⟨⟩) Q)
          -∗ wp frame (wpE defs 𝒱 c bd) Set.univ (.op (.waitDma2 sem src₁ dst₁ hs₁ hd₁) fun _ => .op (.waitDma2 sem src₂ dst₂ hs₂ hd₂) k) Q) := by
  subst hn
  have hu₁ : ∀ N o : ℕ, 0 + o * N ≤ N * (o + o) := fun N o => by rw [Nat.mul_add, Nat.mul_comm N o]; omega
  have hu₂ : ∀ N o : ℕ, 0 + o * N + o * N = N * (o + o) := fun N o => by rw [Nat.mul_add, Nat.mul_comm N o]; omega
  unfold InFlight
  iintro ⟨⟨%D, %P₀, %hD, HB, HP⟩, HO, #Hmw⟩ Hk
  iapply (wp_waitBatchMulO EC 𝒱 c bd ι o h₁ (hu₁ N o)) $$ [HB HO]
  · isplitl [HB]; · iexact HB
    isplitl [HO]; · iexact HO
    iapply (MayWaits.elim (SemLoc.dma sem)) $$ Hmw
  iintro ⟨HB, HO⟩
  iapply (wp_waitBatchAllO EC 𝒱 c bd ι h₂ hN (hu₂ N o)) $$ [HB HO]
  · isplitl [HB]; · iexact HB
    isplitl [HO]; · iexact HO
    iapply (MayWaits.elim (SemLoc.dma sem)) $$ Hmw
  iintro ⟨HD, Hv, HO⟩
  iapply Hk
  isplitl [HD HP]
  · iapply HP
    iapply hD
    iexact HD
  isplitl [Hv]; · iexact Hv
  rw [Finset.insert_idem]
  iexact HO

/-- What a plain copy hands back: the destination rewritten with what the source holds, and the source's share. -/
def copied {sp sp' : Space} {s : Shape} {e : EltTy} (src : Memref sig c.2.kind sp s e) (dst : Memref sig c.2.kind sp' s e) (q : PosShare TreeShare)
    (f : Buf (Elt F) (src.view.loc c)) (g : Buf (Elt F) (dst.view.loc c)) : sProp 𝕄 :=
  iprop((dst.view.loc c ↦[dst.view.set]{fullShare} (dst.view.write (Elt F) g (src.view.read (Elt F) f) Finset.univ)) ∗ (src.view.loc c ↦[src.view.set]{q} f))

instance copied_storable {sp sp' : Space} {s : Shape} {e : EltTy} (src : Memref sig c.2.kind sp s e) (dst : Memref sig c.2.kind sp' s e) (q : PosShare TreeShare)
    (f : Buf (Elt F) (src.view.loc c)) (g : Buf (Elt F) (dst.view.loc c)) :
    Storable (upEmb : UEmb _ 𝕄) (copied c src dst q f g : sProp 𝕄) := by unfold copied; infer_instance

/-- Two plain copies issued on one semaphore: in flight, delivering both destinations rewritten and both sources back. -/
theorem wp_copy_both [Infinite Name] [EC.LandsIn (upEmb : UEmb _ 𝕄)] {sem : DmaSem sig} {sp₁ sp₁' sp₂ sp₂' : Space} {s₁ s₂ : Shape} {e₁ e₂ : EltTy}
    {src₁ : Memref sig c.2.kind sp₁ s₁ e₁} {dst₁ : Memref sig c.2.kind sp₁' s₁ e₁}
    {hs₁ : src₁.view.WordExact} {hd₁ : dst₁.view.WordExact} {ht₁ : DmaTarget.Typed (nD := nD) sp₁ (.dma sem) (.here dst₁)}
    {src₂ : Memref sig c.2.kind sp₂ s₂ e₂} {dst₂ : Memref sig c.2.kind sp₂' s₂ e₂}
    {hs₂ : src₂.view.WordExact} {hd₂ : dst₂.view.WordExact} {ht₂ : DmaTarget.Typed (nD := nD) sp₂ (.dma sem) (.here dst₂)}
    {k : PUnit → Prog (TpuEff nD τ sig (Elt F) Λ c.2) α} {q₁ q₂ : PosShare TreeShare}
    {f₁ : Buf (Elt F) (src₁.view.loc c)} {g₁ : Buf (Elt F) (dst₁.view.loc c)} {f₂ : Buf (Elt F) (src₂.view.loc c)} {g₂ : Buf (Elt F) (dst₂.view.loc c)}
    (ι : Ix) (N : ℕ) (h₁ : dst₁.view.amount (.dma sem) = N) (h₂ : dst₂.view.amount (.dma sem) = N) :
    iprop((src₁.view.loc c ↦[src₁.view.set]{q₁} f₁) ∗ (dst₁.view.loc c ↦[dst₁.view.set]{fullShare} g₁)
        ∗ (src₂.view.loc c ↦[src₂.view.set]{q₂} f₂) ∗ (dst₂.view.loc c ↦[dst₂.view.set]{fullShare} g₂) ∗ semVal (c, .dma sem) 0)
      ⊢ iprop((InFlight EC c sem ι N 2 iprop(copied c src₁ dst₁ q₁ f₁ g₁ ∗ copied c src₂ dst₂ q₂ f₂ g₂)
              -∗ wp frame (wpE defs 𝒱 c bd) Set.univ (k ⟨⟩) Q)
          -∗ wp frame (wpE defs 𝒱 c bd) Set.univ (.op (.enqueueDma src₁ (.here dst₁) (.dma sem) hs₁ hd₁ ht₁)
              fun _ => .op (.enqueueDma src₂ (.here dst₂) (.dma sem) hs₂ hd₂ ht₂) k) Q) := by
  iintro ⟨Hs1, Hd1, Hs2, Hd2, Hv⟩ Hk
  imod (batch_alloc' EC c ι N (pairD (o₁ := 1) (o₂ := 1) (fun _ => copied c src₁ dst₁ q₁ f₁ g₁) (fun _ => copied c src₂ dst₂ q₂ f₂ g₂))) $$ Hv with HB
  iapply (wp_dmaBatch EC 𝒱 c bd (n := 1 + 1) ι N h₁ subset_rfl (by omega) (by omega)
      (D := pairD (o₁ := 1) (o₂ := 1) (fun _ => copied c src₁ dst₁ q₁ f₁ g₁) (fun _ => copied c src₂ dst₂ q₂ f₂ g₂)) (j := 0) (u := 0)
      ((show _ ⊢ copied c src₁ dst₁ q₁ f₁ g₁ by unfold copied; exact .rfl).trans (Entails.of_eq (pairD_left (o₁ := 1) (o₂ := 1) (fun _ => copied c src₁ dst₁ q₁ f₁ g₁) (fun _ => copied c src₂ dst₂ q₂ f₂ g₂) 0 (by decide)).symm))) $$ [Hs1 Hd1 HB]
  · isplitl [Hs1]; · iexact Hs1
    isplitl [Hd1]; · iexact Hd1
    iexact HB
  iintro HB
  iapply (wp_dmaBatch EC 𝒱 c bd (n := 1 + 1) ι N h₂ subset_rfl (by omega) (by omega)
      (D := pairD (o₁ := 1) (o₂ := 1) (fun _ => copied c src₁ dst₁ q₁ f₁ g₁) (fun _ => copied c src₂ dst₂ q₂ f₂ g₂)) (j := 1) (u := 0)
      ((show _ ⊢ copied c src₂ dst₂ q₂ f₂ g₂ by unfold copied; exact .rfl).trans (Entails.of_eq (pairD_right (o₁ := 1) (o₂ := 1) (fun _ => copied c src₁ dst₁ q₁ f₁ g₁) (fun _ => copied c src₂ dst₂ q₂ f₂ g₂) 0 (by decide)).symm))) $$ [Hs2 Hd2 HB]
  · isplitl [Hs2]; · iexact Hs2
    isplitl [Hd2]; · iexact Hd2
    iexact HB
  iintro HB
  iapply Hk
  unfold InFlight
  iexists (pairD (o₁ := 1) (o₂ := 1) (fun _ => copied c src₁ dst₁ q₁ f₁ g₁) (fun _ => copied c src₂ dst₂ q₂ f₂ g₂)), iprop(copied c src₁ dst₁ q₁ f₁ g₁ ∗ copied c src₂ dst₂ q₂ f₂ g₂)
  isplitr
  · ipureintro
    exact pairD_join (Entails.of_eq (BI.bigSep_univ_of_subsingleton (0 : Fin 1))) (Entails.of_eq (BI.bigSep_univ_of_subsingleton (0 : Fin 1)))
  isplitl [HB]; · iexact HB
  iintro H
  iexact H

section Gathers

variable {sp₁ sp₂ : Space} {s₁ s₂ t₁ t₂ i₁ i₂ : Shape} {e₁ e₂ : EltTy} {a₁ a₂ : Nat}

/-- Two indirect gathers issued on one semaphore: in flight, delivering both destinations with their gathered rows, and the
    shares of the sources and of the lists back. -/
theorem wp_gather_both [Infinite Name] [EC.LandsIn (upEmb : UEmb _ 𝕄)] {sem : DmaSem sig}
    {src₁ : Memref sig c.2.kind sp₁ s₁ e₁} {dst₁ : Memref sig c.2.kind .vmem t₁ e₁} {hg₁ : s₁.Gathers a₁ t₁}
    {offs₁ : Memref sig c.2.kind .vmem i₁ .i32} {hn₁ : i₁.numel = t₁.size hg₁.axis'}
    {hp₁ : c.2.kind = .scVector} {hs₁ : src₁.view.WordExact} {he₁ : e₁.bits = 32} {hsp₁ : sp₁ = .hbm ∨ sp₁ = .shared} {hr₁ : s₁.StreamRows a₁}
    {src₂ : Memref sig c.2.kind sp₂ s₂ e₂} {dst₂ : Memref sig c.2.kind .vmem t₂ e₂} {hg₂ : s₂.Gathers a₂ t₂}
    {offs₂ : Memref sig c.2.kind .vmem i₂ .i32} {hn₂ : i₂.numel = t₂.size hg₂.axis'}
    {hp₂ : c.2.kind = .scVector} {hs₂ : src₂.view.WordExact} {he₂ : e₂.bits = 32} {hsp₂ : sp₂ = .hbm ∨ sp₂ = .shared} {hr₂ : s₂.StreamRows a₂}
    {k : PUnit → Prog (TpuEff nD τ sig (Elt F) Λ c.2) α}
    {q₁ p₁ q₂ p₂ : PosShare TreeShare}
    {f₁ : Buf (Elt F) (src₁.view.loc c)} {g₁ : Buf (Elt F) (dst₁.view.loc c)} {l₁ : Buf (Elt F) (offs₁.view.loc c)}
    {f₂ : Buf (Elt F) (src₂.view.loc c)} {g₂ : Buf (Elt F) (dst₂.view.loc c)} {l₂ : Buf (Elt F) (offs₂.view.loc c)}
    (ι : Ix) (N : ℕ)
    (hN₁ : ∀ j, (dst₁.slice (t₁.rowRect hg₁.axis' j) (t₁.stride_rowRect hg₁.axis' j)).view.dmaCredit = N)
    (hN₂ : ∀ j, (dst₂.slice (t₂.rowRect hg₂.axis' j) (t₂.stride_rowRect hg₂.axis' j)).view.dmaCredit = N)
    (ho₁ : 0 < t₁.size hg₁.axis') (ho₂ : 0 < t₂.size hg₂.axis')
    (hin₁ : ∀ x, (offs₁.view.read (Elt F) l₁ x).toNat < s₁.size hg₁.axis) (hin₂ : ∀ x, (offs₂.view.read (Elt F) l₂ x).toNat < s₂.size hg₂.axis) :
    iprop(((src₁.view.loc c ↦[src₁.view.set]{q₁} f₁) ∗ (dst₁.view.loc c ↦[dst₁.view.set]{fullShare} g₁) ∗ (offs₁.view.loc c ↦[offs₁.view.set]{p₁} l₁))
        ∗ ((src₂.view.loc c ↦[src₂.view.set]{q₂} f₂) ∗ (dst₂.view.loc c ↦[dst₂.view.set]{fullShare} g₂) ∗ (offs₂.view.loc c ↦[offs₂.view.set]{p₂} l₂))
        ∗ semVal (c, .dma sem) 0)
      ⊢ iprop((InFlight EC c sem ι N (t₁.size hg₁.axis' + t₂.size hg₂.axis') iprop(
            ((dst₁.view.loc c ↦[dst₁.view.set]{fullShare}
                (dst₁.view.write (Elt F) g₁ (gatherPayload hg₁ (src₁.view.read (Elt F) f₁) (rows (offs₁.view.read (Elt F) l₁) hn₁ hin₁)) Finset.univ))
              ∗ (src₁.view.loc c ↦[src₁.view.set]{q₁} f₁) ∗ (offs₁.view.loc c ↦[offs₁.view.set]{p₁} l₁))
            ∗ ((dst₂.view.loc c ↦[dst₂.view.set]{fullShare}
                (dst₂.view.write (Elt F) g₂ (gatherPayload hg₂ (src₂.view.read (Elt F) f₂) (rows (offs₂.view.read (Elt F) l₂) hn₂ hin₂)) Finset.univ))
              ∗ (src₂.view.loc c ↦[src₂.view.set]{q₂} f₂) ∗ (offs₂.view.loc c ↦[offs₂.view.set]{p₂} l₂)))
              -∗ wp frame (wpE defs 𝒱 c bd) Set.univ (k ⟨⟩) Q)
          -∗ wp frame (wpE defs 𝒱 c bd) Set.univ (enqueueIndirectGather hp₁ src₁ dst₁ hg₁ offs₁ hn₁ sem hs₁ he₁ hsp₁ hr₁
              >>= fun _ => enqueueIndirectGather hp₂ src₂ dst₂ hg₂ offs₂ hn₂ sem hs₂ he₂ hsp₂ hr₂ >>= k) Q) := by
  iintro ⟨⟨Hs1, Hd1, Ho1⟩, ⟨Hs2, Hd2, Ho2⟩, Hv⟩ Hk
  imod (batch_alloc' EC c ι N (pairD (gRow c src₁ dst₁ hg₁ offs₁ hn₁ q₁ p₁ f₁ g₁ l₁ ho₁ hin₁) (gRow c src₂ dst₂ hg₂ offs₂ hn₂ q₂ p₂ f₂ g₂ l₂ ho₂ hin₂))) $$ Hv with HB
  iapply (wp_gatherBatch EC 𝒱 c bd src₁ dst₁ hg₁ offs₁ hn₁ q₁ p₁ f₁ g₁ l₁ ι N hN₁ ho₁ hin₁ (pairD (gRow c src₁ dst₁ hg₁ offs₁ hn₁ q₁ p₁ f₁ g₁ l₁ ho₁ hin₁) (gRow c src₂ dst₂ hg₂ offs₂ hn₂ q₂ p₂ f₂ g₂ l₂ ho₂ hin₂)) 0 0 (by omega) (by omega)
      (fun j => Entails.of_eq (by
        rw [show (⟨0 + j.val, by omega⟩ : Fin (t₁.size hg₁.axis' + t₂.size hg₂.axis')) = ⟨j.val, by omega⟩ from Fin.ext (Nat.zero_add _)]
        exact (pairD_left (gRow c src₁ dst₁ hg₁ offs₁ hn₁ q₁ p₁ f₁ g₁ l₁ ho₁ hin₁) (gRow c src₂ dst₂ hg₂ offs₂ hn₂ q₂ p₂ f₂ g₂ l₂ ho₂ hin₂) j (by omega)).symm))) $$ [Hs1 Hd1 Ho1 HB]
  · isplitl [Hs1]; · iexact Hs1
    isplitl [Hd1]; · iexact Hd1
    isplitl [Ho1]; · iexact Ho1
    iexact HB
  iintro HB
  rw [Nat.zero_add]
  iapply (wp_gatherBatch EC 𝒱 c bd src₂ dst₂ hg₂ offs₂ hn₂ q₂ p₂ f₂ g₂ l₂ ι N hN₂ ho₂ hin₂ (pairD (gRow c src₁ dst₁ hg₁ offs₁ hn₁ q₁ p₁ f₁ g₁ l₁ ho₁ hin₁) (gRow c src₂ dst₂ hg₂ offs₂ hn₂ q₂ p₂ f₂ g₂ l₂ ho₂ hin₂)) (t₁.size hg₁.axis') 0 le_rfl (Nat.zero_le _)
      (fun j => Entails.of_eq (pairD_right (gRow c src₁ dst₁ hg₁ offs₁ hn₁ q₁ p₁ f₁ g₁ l₁ ho₁ hin₁) (gRow c src₂ dst₂ hg₂ offs₂ hn₂ q₂ p₂ f₂ g₂ l₂ ho₂ hin₂) j (by omega)).symm)) $$ [Hs2 Hd2 Ho2 HB]
  · isplitl [Hs2]; · iexact Hs2
    isplitl [Hd2]; · iexact Hd2
    isplitl [Ho2]; · iexact Ho2
    iexact HB
  iintro HB
  iapply Hk
  unfold InFlight
  iexists (pairD (gRow c src₁ dst₁ hg₁ offs₁ hn₁ q₁ p₁ f₁ g₁ l₁ ho₁ hin₁) (gRow c src₂ dst₂ hg₂ offs₂ hn₂ q₂ p₂ f₂ g₂ l₂ ho₂ hin₂)), _
  isplitr
  · ipureintro
    exact pairD_join (gRow_join c src₁ dst₁ hg₁ offs₁ hn₁ q₁ p₁ f₁ g₁ l₁ ho₁ hin₁) (gRow_join c src₂ dst₂ hg₂ offs₂ hn₂ q₂ p₂ f₂ g₂ l₂ ho₂ hin₂)
  isplitl [HB]; · iexact HB
  iintro H
  iexact H

/-- Two indirect scatters issued on one semaphore: in flight, delivering both sets of named rows written, and the sources and
    the shares of the lists back. -/
theorem wp_scatter_both [Infinite Name] [EC.LandsIn (upEmb : UEmb _ 𝕄)] {sem : DmaSem sig}
    {src₁ : Memref sig c.2.kind .vmem t₁ e₁} {dst₁ : Memref sig c.2.kind sp₁ s₁ e₁} {hg₁ : s₁.Gathers a₁ t₁}
    {offs₁ : Memref sig c.2.kind .vmem i₁ .i32} {hn₁ : i₁.numel = t₁.size hg₁.axis'}
    {hp₁ : c.2.kind = .scVector} {he₁ : e₁.bits = 32} {hsp₁ : sp₁ = .hbm ∨ sp₁ = .shared} {hr₁ : s₁.StreamRows a₁}
    {src₂ : Memref sig c.2.kind .vmem t₂ e₂} {dst₂ : Memref sig c.2.kind sp₂ s₂ e₂} {hg₂ : s₂.Gathers a₂ t₂}
    {offs₂ : Memref sig c.2.kind .vmem i₂ .i32} {hn₂ : i₂.numel = t₂.size hg₂.axis'}
    {hp₂ : c.2.kind = .scVector} {he₂ : e₂.bits = 32} {hsp₂ : sp₂ = .hbm ∨ sp₂ = .shared} {hr₂ : s₂.StreamRows a₂}
    {k : PUnit → Prog (TpuEff nD τ sig (Elt F) Λ c.2) α}
    {q₁ p₁ q₂ p₂ : PosShare TreeShare}
    {f₁ : Buf (Elt F) (src₁.view.loc c)} {g₁ : Buf (Elt F) (dst₁.view.loc c)} {l₁ : Buf (Elt F) (offs₁.view.loc c)}
    {f₂ : Buf (Elt F) (src₂.view.loc c)} {g₂ : Buf (Elt F) (dst₂.view.loc c)} {l₂ : Buf (Elt F) (offs₂.view.loc c)}
    (ι : Ix) (N : ℕ)
    (hin₁ : ∀ x, (offs₁.view.read (Elt F) l₁ x).toNat < s₁.size hg₁.axis) (hin₂ : ∀ x, (offs₂.view.read (Elt F) l₂ x).toNat < s₂.size hg₂.axis)
    (hinj₁ : Function.Injective (rows (offs₁.view.read (Elt F) l₁) hn₁ hin₁)) (hinj₂ : Function.Injective (rows (offs₂.view.read (Elt F) l₂) hn₂ hin₂))
    (hN₁ : ∀ r, (dst₁.slice (s₁.rowRect hg₁.axis r) (s₁.stride_rowRect hg₁.axis r)).view.dmaCredit = N)
    (hN₂ : ∀ r, (dst₂.slice (s₂.rowRect hg₂.axis r) (s₂.stride_rowRect hg₂.axis r)).view.dmaCredit = N) :
    iprop(((src₁.view.loc c ↦[src₁.view.set]{q₁} f₁) ∗ (dst₁.view.loc c ↦[namedRows c dst₁.view hg₁.axis (rows (offs₁.view.read (Elt F) l₁) hn₁ hin₁)]{fullShare} g₁)
          ∗ (offs₁.view.loc c ↦[offs₁.view.set]{p₁} l₁))
        ∗ ((src₂.view.loc c ↦[src₂.view.set]{q₂} f₂) ∗ (dst₂.view.loc c ↦[namedRows c dst₂.view hg₂.axis (rows (offs₂.view.read (Elt F) l₂) hn₂ hin₂)]{fullShare} g₂)
          ∗ (offs₂.view.loc c ↦[offs₂.view.set]{p₂} l₂))
        ∗ semVal (c, .dma sem) 0)
      ⊢ iprop((InFlight EC c sem ι N (t₁.size hg₁.axis' + t₂.size hg₂.axis') iprop(
            ((dst₁.view.loc c ↦[namedRows c dst₁.view hg₁.axis (rows (offs₁.view.read (Elt F) l₁) hn₁ hin₁)]{fullShare}
                (scatterBuf c dst₁.view hg₁.axis (rows (offs₁.view.read (Elt F) l₁) hn₁ hin₁) (scatterRowPayload c src₁ hg₁ f₁) g₁))
              ∗ (src₁.view.loc c ↦[src₁.view.set]{q₁} f₁) ∗ (offs₁.view.loc c ↦[offs₁.view.set]{p₁} l₁))
            ∗ ((dst₂.view.loc c ↦[namedRows c dst₂.view hg₂.axis (rows (offs₂.view.read (Elt F) l₂) hn₂ hin₂)]{fullShare}
                (scatterBuf c dst₂.view hg₂.axis (rows (offs₂.view.read (Elt F) l₂) hn₂ hin₂) (scatterRowPayload c src₂ hg₂ f₂) g₂))
              ∗ (src₂.view.loc c ↦[src₂.view.set]{q₂} f₂) ∗ (offs₂.view.loc c ↦[offs₂.view.set]{p₂} l₂)))
              -∗ wp frame (wpE defs 𝒱 c bd) Set.univ (k ⟨⟩) Q)
          -∗ wp frame (wpE defs 𝒱 c bd) Set.univ (enqueueIndirectScatter hp₁ src₁ dst₁ hg₁ offs₁ hn₁ sem he₁ hsp₁ hr₁
              >>= fun _ => enqueueIndirectScatter hp₂ src₂ dst₂ hg₂ offs₂ hn₂ sem he₂ hsp₂ hr₂ >>= k) Q) := by
  iintro ⟨⟨Hs1, Hd1, Ho1⟩, ⟨Hs2, Hd2, Ho2⟩, Hv⟩ Hk
  imod (batch_alloc' EC c ι N (pairD (sRow c src₁ dst₁ hg₁ offs₁ hn₁ q₁ p₁ f₁ g₁ l₁ hin₁) (sRow c src₂ dst₂ hg₂ offs₂ hn₂ q₂ p₂ f₂ g₂ l₂ hin₂))) $$ Hv with HB
  iapply (wp_scatterBatch EC 𝒱 c bd src₁ dst₁ hg₁ offs₁ hn₁ q₁ p₁ f₁ g₁ l₁ ι N hin₁ hinj₁ hN₁ (pairD (sRow c src₁ dst₁ hg₁ offs₁ hn₁ q₁ p₁ f₁ g₁ l₁ hin₁) (sRow c src₂ dst₂ hg₂ offs₂ hn₂ q₂ p₂ f₂ g₂ l₂ hin₂)) 0 0 (by omega) (by omega)
      (fun j => Entails.of_eq (by
        rw [show (⟨0 + j.val, by omega⟩ : Fin (t₁.size hg₁.axis' + t₂.size hg₂.axis')) = ⟨j.val, by omega⟩ from Fin.ext (Nat.zero_add _)]
        exact (pairD_left (sRow c src₁ dst₁ hg₁ offs₁ hn₁ q₁ p₁ f₁ g₁ l₁ hin₁) (sRow c src₂ dst₂ hg₂ offs₂ hn₂ q₂ p₂ f₂ g₂ l₂ hin₂) j (by omega)).symm))) $$ [Hs1 Hd1 Ho1 HB]
  · isplitl [Hs1]; · iexact Hs1
    isplitl [Hd1]; · iexact Hd1
    isplitl [Ho1]; · iexact Ho1
    iexact HB
  iintro HB
  rw [Nat.zero_add]
  iapply (wp_scatterBatch EC 𝒱 c bd src₂ dst₂ hg₂ offs₂ hn₂ q₂ p₂ f₂ g₂ l₂ ι N hin₂ hinj₂ hN₂ (pairD (sRow c src₁ dst₁ hg₁ offs₁ hn₁ q₁ p₁ f₁ g₁ l₁ hin₁) (sRow c src₂ dst₂ hg₂ offs₂ hn₂ q₂ p₂ f₂ g₂ l₂ hin₂)) (t₁.size hg₁.axis') 0 le_rfl (Nat.zero_le _)
      (fun j => Entails.of_eq (pairD_right (sRow c src₁ dst₁ hg₁ offs₁ hn₁ q₁ p₁ f₁ g₁ l₁ hin₁) (sRow c src₂ dst₂ hg₂ offs₂ hn₂ q₂ p₂ f₂ g₂ l₂ hin₂) j (by omega)).symm)) $$ [Hs2 Hd2 Ho2 HB]
  · isplitl [Hs2]; · iexact Hs2
    isplitl [Hd2]; · iexact Hd2
    isplitl [Ho2]; · iexact Ho2
    iexact HB
  iintro HB
  iapply Hk
  unfold InFlight
  iexists (pairD (sRow c src₁ dst₁ hg₁ offs₁ hn₁ q₁ p₁ f₁ g₁ l₁ hin₁) (sRow c src₂ dst₂ hg₂ offs₂ hn₂ q₂ p₂ f₂ g₂ l₂ hin₂)), _
  isplitr
  · ipureintro
    exact pairD_join (sRow_join c src₁ dst₁ hg₁ offs₁ hn₁ q₁ p₁ f₁ g₁ l₁ hin₁ hinj₁) (sRow_join c src₂ dst₂ hg₂ offs₂ hn₂ q₂ p₂ f₂ g₂ l₂ hin₂ hinj₂)
  isplitl [HB]; · iexact HB
  iintro H
  iexact H

end Gathers

end Cert.Streams

end
-- ==== Proof.UnsortIdealBody.lean ====
/-
  The gathering kernel's tile program with its parts put together: one trip of its loop as the plain sequence of its
  transfers and waits, over names for the few views they use.
-/
module

public import proofs.«01_k».proof.Defs
public import proofs.«01_k».proof.Proof.Pairs
public import proofs.«01_k».proof.Proof.Gen.UnsortIdeal
public import proofs.«01_k».proof.Proof.Gen.UnsortIdeal.Skeleton

@[expose] public section

noncomputable section

namespace Cert.UnsortIdeal.Tile

open Cert.UnsortIdeal Cert.UnsortIdeal.Gen
open Idealize.ShloMosaic Idealize.ShloMosaic.SparseCore
open Idealize.SL.Sem

variable {F : FTy → Type}

/-- The table, the lists of row numbers, the result, the tile's own list and its four row buffers, each whole. -/
abbrev tabW : Memref sig .scVector .hbm S262144x128 .f32 := Memref.whole main_arg0_scv
abbrev idxW : Memref sig .scVector .hbm S2048x128 .i32 := Memref.whole main_arg1_scv
abbrev outW : Memref sig .scVector .hbm S262144x128 .f32 := Memref.whole main_v0_scv
abbrev listW : Memref sig .scVector .vmem S64x128 .i32 := Memref.whole cc0_scratch0
abbrev bufW : Memref sig .scVector .vmem S4x128x128 .f32 := Memref.whole cc0_scratch1

theorem inb_buf : ∀ b : Fin 4, ∀ a, (![b.val, 0, 0] : Fin 3 → Nat) a + S1x128x128.size a ≤ S4x128x128.size a := by decide

/-- The table as a gather names it. -/
abbrev tabV : Memref sig .scVector .hbm S262144x128 .f32 :=
  tabW.slice (Rect.unit (s := S262144x128) ![0, 0] S262144x128.size inb_S262144x128_S262144x128_0_0) (fun _ => rfl)
/-- Row buffer `b`. -/
abbrev bufV (b : Fin 4) : Memref sig .scVector .vmem S128x128 .f32 :=
  (bufW.slice (Rect.unit (s := S4x128x128) ![b.val, 0, 0] S1x128x128.size (inb_buf b)) (fun _ => rfl)).squeeze S128x128 squeezes_S1x128x128_S128x128
/-- One row of the tile's list: 128 row numbers. -/
abbrev listV (off : Fin 2 → Nat) (h : ∀ a, off a + S1x128.size a ≤ S64x128.size a) : Memref sig .scVector .vmem S128 .i32 :=
  (listW.slice (Rect.unit (s := S64x128) off S1x128.size h) (fun _ => rfl)).squeeze S128 squeezes_S1x128_S128
/-- 128 rows of the result. -/
abbrev chunkV (off : Fin 2 → Nat) (h : ∀ a, off a + S128x128.size a ≤ S262144x128.size a) : Memref sig .scVector .hbm S128x128 .f32 :=
  outW.slice (Rect.unit (s := S262144x128) off S128x128.size h) (fun _ => rfl)
/-- The tile's 64 rows of the lists. -/
abbrev blockV (i : grid0.Coords) : Memref sig .scVector .hbm S64x128 .i32 :=
  idxW.slice (Rect.unit (s := S2048x128) (k0_off1 i) S64x128.size (k0_off1_inb i)) (fun _ => rfl)

abbrev cV (i : grid0.Coords) : Fin τ.nSC := (i 0).castLE hcore0
abbrev jV (i : grid0.Coords) : Fin τ.nSub := (i 1).castLE hsub0

abbrev TileProg (F : FTy → Type) (i : grid0.Coords) (α : Type) := Prog (TpuEff nD τ sig (Elt F) Λ₀ (.scVector (cV i) (jV i))) α

variable {i : grid0.Coords}

/-- Start the gather of the rows a list row names into buffer `b`. -/
abbrev gatherTo (sem : DmaSem sig) (b : Fin 4) (off : Fin 2 → Nat) (h : ∀ a, off a + S1x128.size a ≤ S64x128.size a) : TileProg F i PUnit :=
  SparseCore.enqueueIndirectGather rfl tabV (bufV b) gathers_S262144x128_S128x128 (listV off h) rfl sem (View.wordExact_bits rfl) rfl (Or.inl rfl)
/-- Wait for the rows of one gather into buffer `b`. -/
abbrev waitRows (sem : DmaSem sig) (b : Fin 4) (k : PUnit → TileProg F i Unit) : TileProg F i Unit :=
  .op (.waitDma2 sem tabV (bufV b) (View.wordExact_bits rfl) ((View.wordExact_bits rfl).reshape _ _)) k
/-- Start the copy of buffer `b` out to 128 rows of the result. -/
abbrev copyOut (sem : DmaSem sig) (b : Fin 4) (off : Fin 2 → Nat) (h : ∀ a, off a + S128x128.size a ≤ S262144x128.size a)
    (k : PUnit → TileProg F i Unit) : TileProg F i Unit :=
  .op (.enqueueDma (bufV b) (.here (chunkV off h)) (.dma sem) ((View.wordExact_bits rfl).reshape _ _) (View.wordExact_bits rfl) ⟨Or.inl rfl, trivial⟩) k
/-- Wait for one copy out. -/
abbrev waitOut (sem : DmaSem sig) (b : Fin 4) (off : Fin 2 → Nat) (h : ∀ a, off a + S128x128.size a ≤ S262144x128.size a)
    (k : PUnit → TileProg F i Unit) : TileProg F i Unit :=
  .op (.waitDma2 sem (bufV b) (chunkV off h) ((View.wordExact_bits rfl).reshape _ _) (View.wordExact_bits rfl)) k

/-- The four semaphores: gathers into buffers 0 and 1, into 2 and 3; copies out of 0 and 1, of 2 and 3. -/
abbrev gA : DmaSem sig := cc0_scratch2.sem
abbrev gB : DmaSem sig := cc0_scratch3.sem
abbrev wA : DmaSem sig := cc0_scratch4.sem
abbrev wB : DmaSem sig := cc0_scratch5.sem
abbrev lS : DmaSem sig := cc0_scoped0.sem

/-- The last steps of a trip: the next gathers into buffers 0 and 1, but in the last trip, and the wait for the copies of 2 and 3. -/
def tripEnd (i : grid0.Coords) (t : Fin k0_t1_loop.trips) : TileProg F i Unit :=
  (if h : k0_cond1 t = 1#1 then
      gatherTo gA 0 (k0_off6 t 0#32) (k0_off6_inb t h 0) >>= fun _ => gatherTo gA 1 (k0_off6 t 1#32) (k0_off6_inb t h 1) >>= fun _ => pure ⟨⟩
    else pure ⟨⟩) >>= fun _ : PUnit =>
  waitOut wB 2 (k0_off5 i t 0#32) (k0_off5_inb i t 0) fun _ => waitOut wB 3 (k0_off5 i t 1#32) (k0_off5_inb i t 1) fun _ => pure ⟨⟩

/-- One trip of the loop: four list rows, gathered into the four buffers and copied out. -/
def trip (i : grid0.Coords) (t : Fin k0_t1_loop.trips) : TileProg F i Unit :=
  gatherTo gB 2 (k0_off2 t 0#32) (k0_off2_inb t 0) >>= fun _ => gatherTo gB 3 (k0_off2 t 1#32) (k0_off2_inb t 1) >>= fun _ =>
  waitRows gA 0 fun _ => waitRows gA 1 fun _ =>
  copyOut wA 0 (k0_off4 i t 0#32) (k0_off4_inb i t 0) fun _ => copyOut wA 1 (k0_off4 i t 1#32) (k0_off4_inb i t 1) fun _ =>
  waitRows gB 2 fun _ => waitRows gB 3 fun _ =>
  copyOut wB 2 (k0_off5 i t 0#32) (k0_off5_inb i t 0) fun _ => copyOut wB 3 (k0_off5 i t 1#32) (k0_off5_inb i t 1) fun _ =>
  waitOut wA 0 (k0_off4 i t 0#32) (k0_off4_inb i t 0) fun _ => waitOut wA 1 (k0_off4 i t 1#32) (k0_off4_inb i t 1) fun _ =>
  tripEnd i t

variable [FloatOps F]

set_option maxRecDepth 65536 in
theorem body_eq_trip (i : grid0.Coords) (v : BitVec 32) (t : Fin k0_t1_loop.trips) (a : Unit) :
    k0_t1_body (F := F) i tabW (Memref.isWhole_whole _) idxW (Memref.isWhole_whole _) outW (Memref.isWhole_whole _) listW (Memref.isWhole_whole _)
      bufW (Memref.isWhole_whole _) cc0_scratch2 cc0_scratch3 cc0_scratch4 cc0_scratch5 cc0_scoped0 v t a = trip i t := by
  unfold k0_t1_body trip tripEnd
  rw [k0_part5_eq_skeleton]; unfold k0_part5_skel
  rw [k0_part1_eq_skeleton, k0_part2_eq_skeleton, k0_part3_eq_skeleton, k0_part4_eq_skeleton]
  unfold k0_part1_skel k0_part2_skel k0_part3_skel k0_part4_skel
  by_cases h : k0_cond1 t = 1#1
  · simp only [dif_pos h, bind_assoc, pure_bind, Prog.bind_lift, Prog.bind_op, SparseCore.waitIndirectGather_bind]
    rfl
  · simp only [dif_neg h, bind_assoc, pure_bind, Prog.bind_lift, Prog.bind_op, SparseCore.waitIndirectGather_bind]
    rfl

/-- The whole tile program: fetch the list, wait for it, start the first two gathers, the loop. -/
def tileProg (i : grid0.Coords) : TileProg F i PUnit :=
  .op (.enqueueDma (blockV i) (.here listW) (.dma lS) (View.wordExact_bits rfl) (Memref.isWhole_whole _).wordExact ⟨Or.inl rfl, trivial⟩) fun _ =>
  .op (.waitDma2 lS (blockV i) listW (View.wordExact_bits rfl) (Memref.isWhole_whole _).wordExact) fun _ =>
  gatherTo gA 0 ![0, 0] inb_S64x128_S1x128_0_0 >>= fun _ => gatherTo gA 1 ![1, 0] inb_S64x128_S1x128_1_0 >>= fun _ =>
  (Scf.Loop.for k0_t1_loop k0_t1_ok ⟨⟩ fun t _ => trip i t) >>= fun _ => pure ⟨⟩

set_option maxRecDepth 65536 in
theorem kernel_eq (i : grid0.Coords) :
    cc0_k (F := F) i tabW (Memref.isWhole_whole _) idxW (Memref.isWhole_whole _) outW (Memref.isWhole_whole _) listW (Memref.isWhole_whole _)
      bufW (Memref.isWhole_whole _) cc0_scratch2 cc0_scratch3 cc0_scratch4 cc0_scratch5 cc0_scoped0 = tileProg i := by
  rw [cc0_k_eq_skeleton]
  unfold cc0_k_skel tileProg
  simp only [bind_assoc, pure_bind, Prog.bind_lift]
  rw [show k0_t1_body (F := F) i tabW (Memref.isWhole_whole _) idxW (Memref.isWhole_whole _) outW (Memref.isWhole_whole _) listW (Memref.isWhole_whole _)
      bufW (Memref.isWhole_whole _) cc0_scratch2 cc0_scratch3 cc0_scratch4 cc0_scratch5 cc0_scoped0
        (Scalar.addi (Scalar.muli (BitVec.ofNat 32 (i 1).val) 2#32) (BitVec.ofNat 32 (i 0).val)) = fun t _ => trip i t from
    funext fun t => funext fun a => body_eq_trip i _ t a]
  rfl

end Cert.UnsortIdeal.Tile

end
-- ==== Proof.UnsortIdealRows.lean ====
/-
  What the gathering kernel's tiles move, as plain functions of the table and the lists, and what its views read and
  write in those terms.
-/
module

public import proofs.«01_k».proof.Proof.UnsortIdealBody
public import Idealize.ShloMosaic.Lib.Pipeline.ValueKit.Geometry

@[expose] public section

noncomputable section

namespace Cert.UnsortIdeal.Tile

open Cert.UnsortIdeal Cert.UnsortIdeal.Gen
open Idealize.ShloMosaic Idealize.ShloMosaic.SparseCore
open Idealize.SL.Sem

variable {F : FTy → Type}

/-- The tile at core `i 0`, subcore `i 1` is tile `2 * i 1 + i 0` of the 32. -/
def tileNo (i : grid0.Coords) : Nat := 2 * (i 1).val + (i 0).val

theorem tileNo_lt (i : grid0.Coords) : tileNo i < 32 := by
  have h0 : (i 0).val < 2 := (i 0).isLt
  have h1 : (i 1).val < 16 := (i 1).isLt
  unfold tileNo; omega

/-- The table's row a word names. -/
def rowOf (v : BitVec 32) : Fin 262144 := ⟨v.toNat % 262144, Nat.mod_lt _ (by decide)⟩

/-- Entry `(r, c)` of the table or the result, of the lists, of a tile's list. -/
abbrev rowAt (r : Fin 262144) (c : Fin 128) : S262144x128.Idx := Shape.pair r c
abbrev wordAt (r : Fin 2048) (c : Fin 128) : S2048x128.Idx := Shape.pair r c
abbrev listAt (r : Fin 64) (c : Fin 128) : S64x128.Idx := Shape.pair r c

/-- The list row of the tile's list that entry `(r, x)` is at in the lists. -/
def listRow (i : grid0.Coords) (k : Fin 64) : Fin 2048 := ⟨64 * tileNo i + k.val, by have := tileNo_lt i; omega⟩

/-- The tile's own list. -/
def theList (X : S2048x128.Idx → BitVec 32) (i : grid0.Coords) : S64x128.Idx → BitVec 32 :=
  fun x => X (wordAt (listRow i (x 0)) (x 1))

/-- The rows the tile's list row `k` names. -/
def pay (T : S262144x128.Idx → Elt F .f32) (X : S2048x128.Idx → BitVec 32) (i : grid0.Coords) (k : Fin 64) : S128x128.Idx → Elt F .f32 :=
  fun y => T (rowAt (rowOf (theList X i (listAt k (y 0)))) (y 1))

/-- The result: row `r` is the table's row that word `r` of the lists names. -/
def gathered (T : S262144x128.Idx → Elt F .f32) (X : S2048x128.Idx → BitVec 32) : S262144x128.Idx → Elt F .f32 :=
  fun x => T (rowAt (rowOf (X (wordAt (⟨(x 0).val / 128, by have : (x 0).val < 262144 := (x 0).isLt; omega⟩ : Fin 2048)
    (⟨(x 0).val % 128, by omega⟩ : Fin 128)))) (x 1))

/-! ## The views' elements -/

theorem blockV_emb (i : grid0.Coords) (x : S64x128.Idx) : (blockV i).view.emb x = wordAt (listRow i (x 0)) (x 1) := by
  funext a
  refine Fin.ext ?_
  show k0_off1 i a + 1 * (x a).val = _
  rw [k0_off1_eq]
  match a with
  | 0 => show 128 * (i 1).val + 64 * (i 0).val + 1 * (x 0).val = 64 * tileNo i + (x 0).val; unfold tileNo; omega
  | 1 => show 0 + 1 * (x 1).val = (x 1).val; omega

theorem blockV_read (X : Buf (Elt F) ((V (0 : Dev nD) (0 : Fin τ.nSC) (0 : Fin τ.nSub)).loc main_arg1_scv)) (i : grid0.Coords) :
    (blockV i).view.read (Elt F) X = theList X i :=
  funext fun x => ((View.read_apply _ _).trans (cast_eq _ _)).trans (congrArg X (blockV_emb i x))

theorem tabV_emb (x : S262144x128.Idx) : (tabV).view.emb x = x := by
  funext a
  refine Fin.ext ?_
  show (![0, 0] : Fin 2 → Nat) a + 1 * (x a).val = _
  match a with
  | 0 => show 0 + 1 * (x 0).val = _; omega
  | 1 => show 0 + 1 * (x 1).val = _; omega

theorem listV_emb (k : Fin 64) {off : Fin 2 → Nat} (h) (hoff : off = ![k.val, 0]) (x : S128.Idx) :
    (listV off h).view.emb x = listAt k (x 0) := by
  subst hoff
  funext a
  refine Fin.ext ?_
  show (![k.val, 0] : Fin 2 → Nat) a + 1 * ((Shape.reshapeEquiv squeezes_S1x128_S128.numel_eq x) a).val = _
  rw [Shape.reshapeEquiv_cons_one]
  match a with
  | 0 => show k.val + 1 * 0 = _; rfl
  | 1 => show 0 + 1 * (x 0).val = (x 0).val; omega

theorem chunkV_emb (i : grid0.Coords) (k : Fin 64) {off : Fin 2 → Nat} (h) (hoff : off = ![8192 * tileNo i + 128 * k.val, 0]) (x : S128x128.Idx) :
    (chunkV off h).view.emb x
      = rowAt (⟨8192 * tileNo i + 128 * k.val + (x 0).val, by have := tileNo_lt i; have : (x 0).val < 128 := (x 0).isLt; omega⟩ : Fin 262144) (x 1) := by
  subst hoff
  funext a
  refine Fin.ext ?_
  show (![8192 * tileNo i + 128 * k.val, 0] : Fin 2 → Nat) a + 1 * (x a).val = _
  match a with
  | 0 => show 8192 * tileNo i + 128 * k.val + 1 * (x 0).val = 8192 * tileNo i + 128 * k.val + (x 0).val; omega
  | 1 => show 0 + 1 * (x 1).val = (x 1).val; omega

/-! ## What a gather brings, and what a copy out leaves -/

/-- Every word of the lists names a row of the table. -/
def AllRows (X : S2048x128.Idx → BitVec 32) : Prop := ∀ j, (X j).toNat < 262144

theorem listV_read (L : S64x128.Idx → BitVec 32) (k : Fin 64) {off : Fin 2 → Nat} (h) (hoff : off = ![k.val, 0]) (x : S128.Idx) :
    (listV off h).view.read (Elt F) L x = L (listAt k (x 0)) :=
  ((View.read_apply _ _).trans (cast_eq _ _)).trans (congrArg L (listV_emb k h hoff x))

theorem list_inb {X : S2048x128.Idx → BitVec 32} (hX : AllRows X) (i : grid0.Coords) (k : Fin 64) {off : Fin 2 → Nat} (h) (hoff : off = ![k.val, 0]) :
    ∀ x, ((listV off h).view.read (Elt F) (theList X i) x).toNat < S262144x128.size gathers_S262144x128_S128x128.axis := fun x => by
  rw [listV_read _ k h hoff]; exact hX _

theorem gather_eq (T : S262144x128.Idx → Elt F .f32) {X : S2048x128.Idx → BitVec 32} (hX : AllRows X) (i : grid0.Coords) (k : Fin 64) {off : Fin 2 → Nat} (h)
    (hoff : off = ![k.val, 0]) (hn : S128.numel = S128x128.size gathers_S262144x128_S128x128.axis') (hin) :
    gatherPayload gathers_S262144x128_S128x128 ((tabV).view.read (Elt F) T) (rows ((listV off h).view.read (Elt F) (theList X i)) hn hin)
      = pay T X i k := by
  funext y
  unfold gatherPayload pay
  refine ((View.read_apply _ _).trans (cast_eq _ _)).trans (congrArg T ?_)
  rw [tabV_emb]
  funext a
  refine Fin.ext ?_
  match a with
  | 0 =>
    refine (congrArg Fin.val (Shape.Gathers.idx_axis gathers_S262144x128_S128x128 _ y)).trans ?_
    have hx : ∀ x : S128.Idx, x = S128.rowMajor.symm ((y gathers_S262144x128_S128x128.axis').cast hn.symm) → (x 0).val = (y 0).val := fun x e => by
      rw [← Shape.rowMajor_val_one x, e, Equiv.apply_symm_apply]; rfl
    show ((listV off h).view.read (Elt F) (theList X i) (S128.rowMajor.symm ((y gathers_S262144x128_S128x128.axis').cast hn.symm))).toNat = _
    rw [listV_read _ k h hoff]
    have e0 : (S128.rowMajor.symm ((y gathers_S262144x128_S128x128.axis').cast hn.symm)) 0 = y 0 := Fin.ext (hx _ rfl)
    rw [e0]
    exact (Nat.mod_eq_of_lt (hX _)).symm
  | 1 =>
    exact Shape.Gathers.idx_of_ne gathers_S262144x128_S128x128 _ y 1 (by decide)

/-- What a copy out of a buffer holding list row `k`'s rows leaves in its 128 rows of the result. -/
theorem chunk_eq (T : S262144x128.Idx → Elt F .f32) (X : S2048x128.Idx → BitVec 32) (i : grid0.Coords) (k : Fin 64) {off : Fin 2 → Nat} (h)
    (hoff : off = ![8192 * tileNo i + 128 * k.val, 0]) (b : Fin 4) (f : S4x128x128.Idx → Elt F .f32) (g : S262144x128.Idx → Elt F .f32) :
    ∀ x ∈ (chunkV off h).view.set,
      (chunkV off h).view.write (Elt F) g ((bufV b).view.read (Elt F) ((bufV b).view.write (Elt F) f (pay T X i k) Finset.univ)) Finset.univ x
        = gathered T X x := by
  intro x hx
  obtain ⟨y, -, rfl⟩ := Finset.mem_map.1 hx
  rw [View.read_write_univ]
  refine (View.write_emb_of_mem _ _ (Finset.mem_univ y)).trans ((cast_eq _ _).trans ?_)
  rw [chunkV_emb i k h hoff]
  unfold gathered pay theList
  have hy : (y 0).val < 128 := (y 0).isLt
  congr 1
  congr 1
  congr 1
  congr 1
  congr 1
  · refine Fin.ext ?_
    show 64 * tileNo i + k.val = (8192 * tileNo i + 128 * k.val + (y 0).val) / 128
    omega
  · refine Fin.ext ?_
    show (y 0).val = (8192 * tileNo i + 128 * k.val + (y 0).val) % 128
    omega

end Cert.UnsortIdeal.Tile

end
-- ==== Proof.UnsortIdealSteps.lean ====
/-
  The gathering kernel's steps on one tile: what is held of a row buffer that is idle, or that holds gathered rows, and the
  six kinds of step a trip is made of.
-/
module

public import proofs.«01_k».proof.Proof.UnsortIdealRows
public import Idealize.ShloMosaic.Lib.SparseCore.Quiescent
public import Idealize.ShloMosaic.Lib.StableHlo.Run
public import Idealize.ShloMosaic.Lib.Pipeline.Kit
public import Idealize.ShloMosaic.Lib.Scf
public import Idealize.ShloMosaic.Lib.Tactic

@[expose] public section

noncomputable section

namespace Cert.UnsortIdeal.Tile

open Cert.UnsortIdeal Cert.UnsortIdeal.Gen Cert.Streams
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

/-- The ghost state: the handshakes' rounds and the transfers' counters. -/
abbrev UH : Type := URounds (GSem nD τ sig) ℕ
abbrev UU : Type := UH × Counters

local notation "𝕄" => MT nD τ sig (HIx 1) (Elt F) ℕ UU ℕ

abbrev 𝒱₀ : Variants := Variants.none

variable (d : Dev nD) (i : grid0.Coords)

/-- The tile's thread. -/
abbrev thr : Thread nD τ := V d (cV i) (jV i)

/-- The table's, the lists' and the result's buffers on device `d`. -/
abbrev tabLoc : Loc nD τ sig := (SparseCore.T d).loc main_arg0
abbrev idxLoc : Loc nD τ sig := (SparseCore.T d).loc main_arg1
abbrev outLoc : Loc nD τ sig := (SparseCore.T d).loc main_v0

variable (T : S262144x128.Idx → Elt F .f32) (X : S2048x128.Idx → BitVec 32) (q : PosShare TreeShare)

/-- Buffer `b`'s quarter of the tile's shares of the table and of its list. -/
def shares (b : Fin 4) : sProp 𝕄 :=
  iprop(((tabV).view.loc (thr d i) ↦[(tabV).view.set]{pieceOf q 4 (by decide) b} T)
    ∗ ((listW).view.loc (thr d i) ↦{pieceOf fullShare 4 (by decide) b} (theList X i : Buf (Elt F) ((listW).view.loc (thr d i)))))

/-- Row buffer `b`, idle. -/
def ticket (b : Fin 4) : sProp 𝕄 :=
  iprop((∃ g, (bufV b).view.loc (thr d i) ↦[(bufV b).view.set]{fullShare} g) ∗ shares d i T X q b)

/-- Row buffer `b` holding the rows that list row `k` names. -/
def filled (b : Fin 4) (k : Fin 64) : sProp 𝕄 :=
  iprop((∃ g, (bufV b).view.loc (thr d i) ↦[(bufV b).view.set]{fullShare} (bufV b).view.write (Elt F) g (pay T X i k) Finset.univ)
    ∗ shares d i T X q b)

/-- The 128 rows of the result that list row `k` of the tile is for. -/
def chunkSet (k : Fin 64) : Finset S262144x128.Idx := Finset.univ.filter fun x => (x 0).val / 128 = 64 * tileNo i + k.val

/-- Those rows of the result, at contents `f`. -/
def chunkAt (k : Fin 64) (f : S262144x128.Idx → Elt F .f32) : sProp 𝕄 := outLoc d ↦[chunkSet i k]{fullShare} f

theorem chunkV_set (k : Fin 64) {off : Fin 2 → Nat} (h) (hoff : off = ![8192 * tileNo i + 128 * k.val, 0]) :
    (chunkV off h).view.set = chunkSet i k := by
  ext x
  subst hoff
  refine (ValueKit.mem_set_slice_whole_iff main_v0_scv _ x (p := (x 0).val / 128 = 64 * tileNo i + k.val) ?_).trans
    (by unfold chunkSet; simp only [Finset.mem_filter, Finset.mem_univ, true_and])
  rw [Rect.mem_set_unit]
  show (∀ a : Fin 2, _) ↔ _
  rw [Fin.forall_fin_two]
  have h1 : (x 1).val < 128 := (x 1).isLt
  show ((8192 * tileNo i + 128 * k.val ≤ (x 0).val ∧ (x 0).val < 8192 * tileNo i + 128 * k.val + 128) ∧ (0 ≤ (x 1).val ∧ (x 1).val < 0 + 128)) ↔ _
  omega

/-- What a transfer of one row, of a row buffer, and of 128 rows of the result count on their semaphores. -/
theorem rowCredit (b : Fin 4) (j) : ((bufV b).slice (S128x128.rowRect gathers_S262144x128_S128x128.axis' j)
    (S128x128.stride_rowRect gathers_S262144x128_S128x128.axis' j)).view.dmaCredit = 4096 := by decide +revert +kernel
theorem bufCredit (b : Fin 4) : (bufV b).view.dmaCredit = 128 * 4096 := by decide +revert +kernel
theorem chunkCredit (off h) : (chunkV off h).view.dmaCredit = 128 * 4096 := by with_unfolding_all rfl

theorem size_pos : 0 < S128x128.size gathers_S262144x128_S128x128.axis' := by decide

variable {d i T X q} [FloatOps F]

/-- Starting the gathers of list rows `k₁` and `k₂` into two idle buffers. -/
theorem wp_gathers (hX : AllRows X) {sem : DmaSem sig} (b₁ b₂ : Fin 4) (k₁ k₂ : Fin 64) {off₁ off₂ : Fin 2 → Nat} {h₁ h₂}
    (e₁ : off₁ = ![k₁.val, 0]) (e₂ : off₂ = ![k₂.val, 0])
    {α : Type} {k : PUnit → TileProg F i α} {Q : α → sProp 𝕄} :
    iprop(ticket d i T X q b₁ ∗ ticket d i T X q b₂ ∗ semVal (thr d i, .dma sem) 0)
      ⊢ iprop((InFlight countersEmb (thr d i) sem (default : HIx 1) 4096 (128 + 128) iprop(filled d i T X q b₁ k₁ ∗ filled d i T X q b₂ k₂)
            -∗ wp frame (wpE (defs₀ (F := F)) 𝒱₀ (thr d i) none) Set.univ (k ⟨⟩) Q)
          -∗ wp frame (wpE (defs₀ (F := F)) 𝒱₀ (thr d i) none) Set.univ
              (gatherTo sem b₁ off₁ h₁ >>= fun _ => gatherTo sem b₂ off₂ h₂ >>= k) Q) := by
  unfold ticket shares
  iintro ⟨⟨⟨%g1, Hb1⟩, Ht1, Hl1⟩, ⟨⟨%g2, Hb2⟩, Ht2, Hl2⟩, Hs⟩ Hk
  ihave Hx1 := (pointsTo_split_subset (S := Finset.univ) (Finset.subset_univ (listV off₁ h₁).view.set)).1 $$ Hl1
  icases Hx1 with ⟨Hl1, Hr1⟩
  ihave Hx2 := (pointsTo_split_subset (S := Finset.univ) (Finset.subset_univ (listV off₂ h₂).view.set)).1 $$ Hl2
  icases Hx2 with ⟨Hl2, Hr2⟩
  iapply (wp_gather_both countersEmb 𝒱₀ (thr d i) none (sem := sem) (src₁ := tabV) (dst₁ := bufV b₁) (hg₁ := gathers_S262144x128_S128x128) (offs₁ := listV off₁ h₁)
      (src₂ := tabV) (dst₂ := bufV b₂) (hg₂ := gathers_S262144x128_S128x128) (offs₂ := listV off₂ h₂) (k := k)
      (default : HIx 1) 4096 (rowCredit b₁) (rowCredit b₂) size_pos size_pos
      (list_inb hX i k₁ h₁ e₁) (list_inb hX i k₂ h₂ e₂)) $$ [Ht1 Hb1 Hl1 Ht2 Hb2 Hl2 Hs]
  · isplitl [Ht1 Hb1 Hl1]
    · isplitl [Ht1]; · iexact Ht1
      isplitl [Hb1]; · iexact Hb1
      iexact Hl1
    isplitl [Ht2 Hb2 Hl2]
    · isplitl [Ht2]; · iexact Ht2
      isplitl [Hb2]; · iexact Hb2
      iexact Hl2
    iexact Hs
  rw [gather_eq T hX i k₁ h₁ e₁ rfl, gather_eq T hX i k₂ h₂ e₂ rfl]
  iintro Hf
  iapply Hk
  iapply (InFlight.mono countersEmb (thr d i))
  isplitl [Hf]; · iexact Hf
  unfold filled shares
  iintro ⟨⟨Hb1, Ht1, Hl1⟩, ⟨Hb2, Ht2, Hl2⟩⟩
  isplitl [Hb1 Ht1 Hl1 Hr1]
  · isplitl [Hb1]; · iexists g1; iexact Hb1
    isplitl [Ht1]; · iexact Ht1
    iapply (pointsTo_split_subset (S := Finset.univ) (Finset.subset_univ (listV off₁ h₁).view.set)).2
    isplitl [Hl1]; · iexact Hl1
    iexact Hr1
  · isplitl [Hb2]; · iexists g2; iexact Hb2
    isplitl [Ht2]; · iexact Ht2
    iapply (pointsTo_split_subset (S := Finset.univ) (Finset.subset_univ (listV off₂ h₂).view.set)).2
    isplitl [Hl2]; · iexact Hl2
    iexact Hr2

/-- A finished copy out of a filled buffer: the buffer is idle, the rows of the result are what they should be. -/
theorem copied_done (b : Fin 4) (kk : Fin 64) {off : Fin 2 → Nat} {h} (e : off = ![8192 * tileNo i + 128 * kk.val, 0]) (f : S4x128x128.Idx → Elt F .f32)
    (g : S262144x128.Idx → Elt F .f32) :
    iprop(copied (thr d i) (bufV b) (chunkV off h) fullShare ((bufV b).view.write (Elt F) f (pay T X i kk) Finset.univ) g ∗ shares d i T X q b)
      ⊢ (iprop(ticket d i T X q b ∗ chunkAt d i kk (gathered T X)) : sProp 𝕄) := by
  unfold copied ticket chunkAt
  iintro ⟨⟨Hd, Hs⟩, Hsh⟩
  isplitl [Hs Hsh]
  · isplitl [Hs]; · iexists _; iexact Hs
    iexact Hsh
  · iapply (Entails.of_eq ((pointsTo_congr (chunk_eq T X i kk h e b f g)).trans
      (congrArg (fun S => (outLoc d ↦[S]{fullShare} gathered T X : sProp 𝕄)) (chunkV_set i kk h e))))
    iexact Hd

/-- Starting the copies out of two filled buffers. -/
theorem wp_copies {sem : DmaSem sig} (b₁ b₂ : Fin 4) (k₁ k₂ : Fin 64) {off₁ off₂ : Fin 2 → Nat} {h₁ h₂}
    (e₁ : off₁ = ![8192 * tileNo i + 128 * k₁.val, 0]) (e₂ : off₂ = ![8192 * tileNo i + 128 * k₂.val, 0]) {k : PUnit → TileProg F i Unit}
    {Q : Unit → sProp 𝕄} {f : S262144x128.Idx → Elt F .f32} :
    iprop((filled d i T X q b₁ k₁ ∗ filled d i T X q b₂ k₂) ∗ chunkAt d i k₁ f ∗ chunkAt d i k₂ f ∗ semVal (thr d i, .dma sem) 0)
      ⊢ iprop((InFlight countersEmb (thr d i) sem (default : HIx 1) (128 * 4096) 2
              iprop((ticket d i T X q b₁ ∗ chunkAt d i k₁ (gathered T X)) ∗ (ticket d i T X q b₂ ∗ chunkAt d i k₂ (gathered T X)))
            -∗ wp frame (wpE (defs₀ (F := F)) 𝒱₀ (thr d i) none) Set.univ (k ⟨⟩) Q)
          -∗ wp frame (wpE (defs₀ (F := F)) 𝒱₀ (thr d i) none) Set.univ
              (copyOut sem b₁ off₁ h₁ fun _ => copyOut sem b₂ off₂ h₂ k) Q) := by
  unfold filled
  iintro ⟨⟨⟨⟨%g1, Hb1⟩, Hs1⟩, ⟨⟨%g2, Hb2⟩, Hs2⟩⟩, Hc1, Hc2, Hv⟩ Hk
  unfold chunkAt
  ihave Hc1 := (Entails.of_eq (congrArg (fun S => (outLoc d ↦[S]{fullShare} f : sProp 𝕄)) (chunkV_set i k₁ h₁ e₁).symm)) $$ Hc1
  ihave Hc2 := (Entails.of_eq (congrArg (fun S => (outLoc d ↦[S]{fullShare} f : sProp 𝕄)) (chunkV_set i k₂ h₂ e₂).symm)) $$ Hc2
  iapply (wp_copy_both countersEmb 𝒱₀ (thr d i) none (sem := sem) (src₁ := bufV b₁) (dst₁ := chunkV off₁ h₁) (src₂ := bufV b₂) (dst₂ := chunkV off₂ h₂) (k := k)
      (default : HIx 1) (128 * 4096) (chunkCredit off₁ h₁) (chunkCredit off₂ h₂)) $$ [Hb1 Hc1 Hb2 Hc2 Hv]
  · isplitl [Hb1]; · iexact Hb1
    isplitl [Hc1]; · iexact Hc1
    isplitl [Hb2]; · iexact Hb2
    isplitl [Hc2]; · iexact Hc2
    iexact Hv
  iintro Hf
  iapply Hk
  iapply (InFlight.mono countersEmb (thr d i))
  isplitl [Hf]; · iexact Hf
  iintro ⟨H1, H2⟩
  isplitl [H1 Hs1]
  · iapply (copied_done b₁ k₁ e₁ g1 f)
    isplitl [H1]; · iexact H1
    iexact Hs1
  · iapply (copied_done b₂ k₂ e₂ g2 f)
    isplitl [H2]; · iexact H2
    iexact Hs2

variable {O : CellTallies nD τ sig (HIx 1)} {W : Waits sig (HIx 1)}

/-- Waiting for two gathers. -/
theorem wp_rowsWait {sem : DmaSem sig} (b₁ b₂ : Fin 4) {P : sProp 𝕄} {k : PUnit → TileProg F i Unit} {Q : Unit → sProp 𝕄} :
    iprop(InFlight countersEmb (thr d i) sem (default : HIx 1) 4096 (128 + 128) P ∗ owes (thr d i) O W ∗ MayWaits (thr d i) (default : HIx 1) O)
      ⊢ iprop((iprop(P ∗ semVal (thr d i, .dma sem) 0 ∗ owes (thr d i) O (insert (SemLoc.dma sem, (default : HIx 1)) W))
            -∗ wp frame (wpE (defs₀ (F := F)) 𝒱₀ (thr d i) none) Set.univ (k ⟨⟩) Q)
          -∗ wp frame (wpE (defs₀ (F := F)) 𝒱₀ (thr d i) none) Set.univ (waitRows sem b₁ fun _ => waitRows sem b₂ k) Q) :=
  wp_wait_both countersEmb 𝒱₀ (thr d i) none (src₁ := tabV) (dst₁ := bufV b₁) (src₂ := tabV) (dst₂ := bufV b₂) (default : HIx 1) (o := 128) (by decide) rfl
    (bufCredit b₁) (bufCredit b₂)

/-- Waiting for two copies out. -/
theorem wp_outWait {sem : DmaSem sig} (b₁ b₂ : Fin 4) {off₁ off₂ : Fin 2 → Nat} {h₁ h₂} {P : sProp 𝕄} {k : PUnit → TileProg F i Unit} {Q : Unit → sProp 𝕄} :
    iprop(InFlight countersEmb (thr d i) sem (default : HIx 1) (128 * 4096) 2 P ∗ owes (thr d i) O W ∗ MayWaits (thr d i) (default : HIx 1) O)
      ⊢ iprop((iprop(P ∗ semVal (thr d i, .dma sem) 0 ∗ owes (thr d i) O (insert (SemLoc.dma sem, (default : HIx 1)) W))
            -∗ wp frame (wpE (defs₀ (F := F)) 𝒱₀ (thr d i) none) Set.univ (k ⟨⟩) Q)
          -∗ wp frame (wpE (defs₀ (F := F)) 𝒱₀ (thr d i) none) Set.univ (waitOut sem b₁ off₁ h₁ fun _ => waitOut sem b₂ off₂ h₂ k) Q) :=
  wp_wait_both countersEmb 𝒱₀ (thr d i) none (src₁ := bufV b₁) (dst₁ := chunkV off₁ h₁) (src₂ := bufV b₂) (dst₂ := chunkV off₂ h₂) (default : HIx 1) (o := 1)
    (by decide) rfl ((chunkCredit off₁ h₁).trans (Nat.one_mul _).symm) ((chunkCredit off₂ h₂).trans (Nat.one_mul _).symm)

end Cert.UnsortIdeal.Tile

end
-- ==== Proof.UnsortIdealTile.lean ====
/-
  The gathering kernel's loop on one tile, and its whole tile program: from the tile's shares of the table and the lists and
  its rows of the result, to the same with the result's rows gathered.
-/
module

public import proofs.«01_k».proof.Proof.UnsortIdealSteps

@[expose] public section

noncomputable section

namespace Cert.UnsortIdeal.Tile

open Cert.UnsortIdeal Cert.UnsortIdeal.Gen Cert.Streams
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

local notation "𝕄" => MT nD τ sig (HIx 1) (Elt F) ℕ UU ℕ

/-! ## Where a trip's transfers go -/

theorem trips_eq : k0_t1_loop.trips = 16 := by decide +kernel
theorem trip_lt (t : Fin k0_t1_loop.trips) : t.val < 16 := lt_of_lt_of_eq t.isLt trips_eq
theorem cond_iff : ∀ t : Fin k0_t1_loop.trips, k0_cond1 t = 1#1 ↔ t.val < 15 := by decide +kernel

/-- List row `4 * t + r`. -/
def lineNo (t : ℕ) (ht : t < 16) (r : Fin 4) : Fin 64 := ⟨4 * t + r.val, by omega⟩

theorem vec_eq {a b : ℕ} (h : a = b) : (![a, 0] : Fin 2 → ℕ) = ![b, 0] := h ▸ rfl

section Offsets
variable (i : grid0.Coords) (t : Fin k0_t1_loop.trips)
theorem off2_0 : k0_off2 t 0#32 = ![(lineNo t (trip_lt t) 2).val, 0] := (k0_off2_eq t 0).trans (vec_eq rfl)
theorem off2_1 : k0_off2 t 1#32 = ![(lineNo t (trip_lt t) 3).val, 0] := (k0_off2_eq t 1).trans (vec_eq rfl)
theorem off4_0 : k0_off4 i t 0#32 = ![8192 * tileNo i + 128 * (lineNo t (trip_lt t) 0).val, 0] :=
  (k0_off4_eq i t 0).trans (vec_eq (by
    show 16384 * (i 1).val + 8192 * (i 0).val + 512 * t.val + 128 * 0 = 8192 * (2 * (i 1).val + (i 0).val) + 128 * (4 * t.val + 0); omega))
theorem off4_1 : k0_off4 i t 1#32 = ![8192 * tileNo i + 128 * (lineNo t (trip_lt t) 1).val, 0] :=
  (k0_off4_eq i t 1).trans (vec_eq (by
    show 16384 * (i 1).val + 8192 * (i 0).val + 512 * t.val + 128 * 1 = 8192 * (2 * (i 1).val + (i 0).val) + 128 * (4 * t.val + 1); omega))
theorem off5_0 : k0_off5 i t 0#32 = ![8192 * tileNo i + 128 * (lineNo t (trip_lt t) 2).val, 0] :=
  (k0_off5_eq i t 0).trans (vec_eq (by
    show 16384 * (i 1).val + 8192 * (i 0).val + 512 * t.val + 128 * 0 + 256 = 8192 * (2 * (i 1).val + (i 0).val) + 128 * (4 * t.val + 2); omega))
theorem off5_1 : k0_off5 i t 1#32 = ![8192 * tileNo i + 128 * (lineNo t (trip_lt t) 3).val, 0] :=
  (k0_off5_eq i t 1).trans (vec_eq (by
    show 16384 * (i 1).val + 8192 * (i 0).val + 512 * t.val + 128 * 1 + 256 = 8192 * (2 * (i 1).val + (i 0).val) + 128 * (4 * t.val + 3); omega))
theorem off6_0 (h : t.val + 1 < 16) : k0_off6 t 0#32 = ![(lineNo (t.val + 1) h 0).val, 0] :=
  (k0_off6_eq t 0).trans (vec_eq (by show 4 * t.val + 0 + 4 = 4 * (t.val + 1) + 0; omega))
theorem off6_1 (h : t.val + 1 < 16) : k0_off6 t 1#32 = ![(lineNo (t.val + 1) h 1).val, 0] :=
  (k0_off6_eq t 1).trans (vec_eq (by show 4 * t.val + 1 + 4 = 4 * (t.val + 1) + 1; omega))
end Offsets

/-! ## The rows of the result as the trips go -/

variable (d : Dev nD) (i : grid0.Coords)
variable (T : S262144x128.Idx → Elt F .f32) (X : S2048x128.Idx → BitVec 32) (q : PosShare TreeShare)
variable (f₀ : S262144x128.Idx → Elt F .f32)

/-- List row `k`'s rows of the result before trip `t`: gathered if an earlier trip wrote them. -/
def line (t : ℕ) (k : Fin 64) : sProp 𝕄 := chunkAt d i k (if k.val < 4 * t then gathered T X else f₀)

/-- All but the four list rows of trip `t`. -/
def others (t : ℕ) (ht : t < 16) : Finset (Fin 64) :=
  (((Finset.univ.erase (lineNo t ht 0)).erase (lineNo t ht 1)).erase (lineNo t ht 2)).erase (lineNo t ht 3)

theorem lineNo_ne (t : ℕ) (ht : t < 16) {r r' : Fin 4} (h : r ≠ r') : lineNo t ht r ≠ lineNo t ht r' := fun e =>
  h (Fin.ext (by have := congrArg Fin.val e; simp only [lineNo] at this; omega))

theorem lines_split (t : ℕ) (ht : t < 16) (Φ : Fin 64 → sProp 𝕄) :
    bigSep Finset.univ Φ = iprop(Φ (lineNo t ht 0) ∗ Φ (lineNo t ht 1) ∗ Φ (lineNo t ht 2) ∗ Φ (lineNo t ht 3) ∗ bigSep (others t ht) Φ) := by
  unfold others
  rw [SparseCore.bigSep_erase' (Finset.mem_univ (lineNo t ht 0)),
    SparseCore.bigSep_erase' (s := Finset.univ.erase (lineNo t ht 0)) (i := lineNo t ht 1) (Finset.mem_erase.mpr ⟨lineNo_ne t ht (by decide), Finset.mem_univ _⟩),
    SparseCore.bigSep_erase' (s := (Finset.univ.erase (lineNo t ht 0)).erase (lineNo t ht 1)) (i := lineNo t ht 2)
      (Finset.mem_erase.mpr ⟨lineNo_ne t ht (by decide), Finset.mem_erase.mpr ⟨lineNo_ne t ht (by decide), Finset.mem_univ _⟩⟩),
    SparseCore.bigSep_erase' (s := ((Finset.univ.erase (lineNo t ht 0)).erase (lineNo t ht 1)).erase (lineNo t ht 2)) (i := lineNo t ht 3)
      (Finset.mem_erase.mpr ⟨lineNo_ne t ht (by decide), Finset.mem_erase.mpr ⟨lineNo_ne t ht (by decide), Finset.mem_erase.mpr ⟨lineNo_ne t ht (by decide), Finset.mem_univ _⟩⟩⟩)]

theorem line_todo (t : ℕ) (ht : t < 16) (r : Fin 4) : line d i T X f₀ t (lineNo t ht r) = chunkAt d i (lineNo t ht r) f₀ := by
  unfold line; rw [if_neg (by simp only [lineNo]; omega)]
theorem line_done (t : ℕ) (ht : t < 16) (r : Fin 4) : line d i T X f₀ (t + 1) (lineNo t ht r) = chunkAt d i (lineNo t ht r) (gathered T X) := by
  unfold line; rw [if_pos (by simp only [lineNo]; omega)]
theorem line_other (t : ℕ) (ht : t < 16) : bigSep (others t ht) (line d i T X f₀ t) = bigSep (others t ht) (line d i T X f₀ (t + 1)) :=
  bigSep_congr fun k hk => by
    simp only [others, Finset.mem_erase, ne_eq, Fin.ext_iff, lineNo] at hk
    have h : k.val < 4 * t ↔ k.val < 4 * (t + 1) := by
      obtain ⟨h3, h2, h1, h0, -⟩ := hk
      constructor
      · omega
      · intro hlt
        by_contra hge
        have e0 : ((0 : Fin 4) : Fin 4).val = 0 := rfl
        have e1 : ((1 : Fin 4) : Fin 4).val = 1 := rfl
        have e2 : ((2 : Fin 4) : Fin 4).val = 2 := rfl
        have e3 : ((3 : Fin 4) : Fin 4).val = 3 := rfl
        omega
    unfold line
    simp only [h]

/-- What is in flight on the first semaphore before trip `t`: the gathers of its first two list rows, or nothing after the last. -/
def ahead (t : ℕ) : sProp 𝕄 :=
  if h : t < 16 then
    InFlight countersEmb (thr d i) gA (default : HIx 1) 4096 (128 + 128) iprop(filled d i T X q 0 (lineNo t h 0) ∗ filled d i T X q 1 (lineNo t h 1))
  else iprop(ticket d i T X q 0 ∗ ticket d i T X q 1 ∗ semVal (thr d i, .dma gA) 0)

variable (O : CellTallies nD τ sig (HIx 1)) (W : Waits sig (HIx 1))

/-- The waits recorded so far are of the transfers' kind. -/
def waited : sProp 𝕄 := iprop(∃ W', ⌜∀ p ∈ W', p ∈ W ∨ p.2 = none⌝ ∗ owes (thr d i) O W')

theorem waited_intro {W' : Waits sig (HIx 1)} (h : ∀ p ∈ W', p ∈ W ∨ p.2 = none) : owes (thr d i) O W' ⊢ (waited (F := F) d i O W : sProp 𝕄) := by
  unfold waited
  iintro H
  iexists W'
  isplitr; · ipureintro; exact h
  iexact H

theorem insert_ok {W' : Waits sig (HIx 1)} {sm : SemLoc sig} (h : ∀ p ∈ W', p ∈ W ∨ p.2 = none) : ∀ p ∈ insert (sm, (default : HIx 1)) W', p ∈ W ∨ p.2 = none := by
  intro p hp
  rcases Finset.mem_insert.mp hp with hp | hp
  · exact .inr (hp ▸ rfl)
  · exact h p hp

/-- Before trip `t`. -/
def inv (t : ℕ) : sProp 𝕄 :=
  iprop(MayWaits (thr d i) (default : HIx 1) O ∗ ahead d i T X q t ∗ ticket d i T X q 2 ∗ ticket d i T X q 3
    ∗ semVal (thr d i, .dma gB) 0 ∗ semVal (thr d i, .dma wA) 0 ∗ semVal (thr d i, .dma wB) 0
    ∗ bigSep Finset.univ (line d i T X f₀ t) ∗ waited d i O W)

variable {d i T X q f₀ O W} [FloatOps F]

theorem trip_ok (hX : AllRows X) (t : Fin k0_t1_loop.trips) :
    inv d i T X q f₀ O W t.val ⊢ wp frame (wpE (defs₀ (F := F)) 𝒱₀ (thr d i) none) Set.univ (trip i t) fun _ => inv d i T X q f₀ O W (t.val + 1) := by
  have ht := trip_lt t
  unfold inv
  rw [lines_split t.val ht (line d i T X f₀ t.val), lines_split t.val ht (line d i T X f₀ (t.val + 1)), line_other]
  simp only [line_todo, line_done]
  unfold trip waited
  iintro ⟨#Hmw, Ha, Ht2, Ht3, HgB, HwA, HwB, ⟨Hc0, Hc1, Hc2, Hc3, Hrest⟩, %W₁, %hW₁, HO⟩
  ihave Ha := (Entails.of_eq (show ahead d i T X q t.val = _ from dif_pos ht)) $$ Ha
  -- start the gathers into buffers 2 and 3
  iapply (wp_gathers hX 2 3 _ _ (off2_0 t) (off2_1 t)) $$ [Ht2 Ht3 HgB]
  · isplitl [Ht2]; · iexact Ht2
    isplitl [Ht3]; · iexact Ht3
    iexact HgB
  iintro HfB
  -- wait for buffers 0 and 1
  iapply (wp_rowsWait 0 1) $$ [Ha HO]
  · isplitl [Ha]; · iexact Ha
    isplitl [HO]; · iexact HO
    iexact Hmw
  iintro ⟨Hab, HgA, HO⟩
  -- start their copies out
  iapply (wp_copies 0 1 _ _ (off4_0 i t) (off4_1 i t)) $$ [Hab Hc0 Hc1 HwA]
  · isplitl [Hab]; · iexact Hab
    isplitl [Hc0]; · iexact Hc0
    isplitl [Hc1]; · iexact Hc1
    iexact HwA
  iintro HfA
  -- wait for buffers 2 and 3
  iapply (wp_rowsWait 2 3) $$ [HfB HO]
  · isplitl [HfB]; · iexact HfB
    isplitl [HO]; · iexact HO
    iexact Hmw
  iintro ⟨Hab, HgB, HO⟩
  iapply (wp_copies 2 3 _ _ (off5_0 i t) (off5_1 i t)) $$ [Hab Hc2 Hc3 HwB]
  · isplitl [Hab]; · iexact Hab
    isplitl [Hc2]; · iexact Hc2
    isplitl [Hc3]; · iexact Hc3
    iexact HwB
  iintro HfW
  -- the copies of buffers 0 and 1 are done
  iapply (wp_outWait 0 1) $$ [HfA HO]
  · isplitl [HfA]; · iexact HfA
    isplitl [HO]; · iexact HO
    iexact Hmw
  iintro ⟨⟨⟨Ht0, Hc0⟩, ⟨Ht1, Hc1⟩⟩, HwA, HO⟩
  unfold tripEnd
  by_cases hc : k0_cond1 t = 1#1
  · have hn : t.val + 1 < 16 := by have := (cond_iff t).1 hc; omega
    simp only [dif_pos hc, bind_assoc, pure_bind]
    iapply (wp_gathers hX 0 1 _ _ (off6_0 t hn) (off6_1 t hn)) $$ [Ht0 Ht1 HgA]
    · isplitl [Ht0]; · iexact Ht0
      isplitl [Ht1]; · iexact Ht1
      iexact HgA
    iintro Ha
    iapply (wp_outWait 2 3) $$ [HfW HO]
    · isplitl [HfW]; · iexact HfW
      isplitl [HO]; · iexact HO
      iexact Hmw
    iintro ⟨⟨⟨Ht2, Hc2⟩, ⟨Ht3, Hc3⟩⟩, HwB, HO⟩
    rw [wp_pure]
    imodintro
    isplitr; · iexact Hmw
    isplitl [Ha]; · iapply (Entails.of_eq (show ahead d i T X q (t.val + 1) = _ from dif_pos hn).symm); iexact Ha
    isplitl [Ht2]; · iexact Ht2
    isplitl [Ht3]; · iexact Ht3
    isplitl [HgB]; · iexact HgB
    isplitl [HwA]; · iexact HwA
    isplitl [HwB]; · iexact HwB
    isplitl [Hc0 Hc1 Hc2 Hc3 Hrest]
    · isplitl [Hc0]; · iexact Hc0
      isplitl [Hc1]; · iexact Hc1
      isplitl [Hc2]; · iexact Hc2
      isplitl [Hc3]; · iexact Hc3
      iexact Hrest
    iexists _
    isplitr; swap; · iexact HO
    ipureintro; exact insert_ok W (insert_ok W (insert_ok W (insert_ok W hW₁)))
  · have hn : ¬ t.val + 1 < 16 := by have := mt (cond_iff t).2 hc; omega
    simp only [dif_neg hc, pure_bind]
    iapply (wp_outWait 2 3) $$ [HfW HO]
    · isplitl [HfW]; · iexact HfW
      isplitl [HO]; · iexact HO
      iexact Hmw
    iintro ⟨⟨⟨Ht2, Hc2⟩, ⟨Ht3, Hc3⟩⟩, HwB, HO⟩
    rw [wp_pure]
    imodintro
    isplitr; · iexact Hmw
    isplitl [Ht0 Ht1 HgA]
    · iapply (Entails.of_eq (show ahead d i T X q (t.val + 1) = _ from dif_neg hn).symm)
      isplitl [Ht0]; · iexact Ht0
      isplitl [Ht1]; · iexact Ht1
      iexact HgA
    isplitl [Ht2]; · iexact Ht2
    isplitl [Ht3]; · iexact Ht3
    isplitl [HgB]; · iexact HgB
    isplitl [HwA]; · iexact HwA
    isplitl [HwB]; · iexact HwB
    isplitl [Hc0 Hc1 Hc2 Hc3 Hrest]
    · isplitl [Hc0]; · iexact Hc0
      isplitl [Hc1]; · iexact Hc1
      isplitl [Hc2]; · iexact Hc2
      isplitl [Hc3]; · iexact Hc3
      iexact Hrest
    iexists _
    isplitr; swap; · iexact HO
    ipureintro; exact insert_ok W (insert_ok W (insert_ok W (insert_ok W hW₁)))

end Cert.UnsortIdeal.Tile

end
-- ==== Proof.UnsortIdealWhole.lean ====
/-
  The gathering kernel's whole tile program: its list fetched, the loop, and what the tile brings back.
-/
module

public import proofs.«01_k».proof.Proof.UnsortIdealTile

@[expose] public section

noncomputable section

namespace Cert.UnsortIdeal.Tile

open Cert.UnsortIdeal Cert.UnsortIdeal.Gen Cert.Streams
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

local notation "𝕄" => MT nD τ sig (HIx 1) (Elt F) ℕ UU ℕ

theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

/-! ## The four row buffers of the one buffer -/

theorem mem_bufV (b : Fin 4) (x : S4x128x128.Idx) : x ∈ (bufV b).view.set ↔ (x 0).val = b.val := by
  have e : (bufV b).view.set = ((View.whole (cc0_scratch1 : Ref sig .scVector)).slice (Rect.unit (s := S4x128x128) ![b.val, 0, 0] S1x128x128.size (inb_buf b))).set :=
    View.set_reshape _ _
  rw [e]
  refine ValueKit.mem_set_slice_whole_iff cc0_scratch1 _ x ?_
  rw [Rect.mem_set_unit]
  show (∀ a : Fin 3, _) ↔ _
  rw [Fin.forall_fin_succ, Fin.forall_fin_two]
  have h1 : (x 1).val < 128 := (x 1).isLt
  have h2 : (x 2).val < 128 := (x 2).isLt
  show ((b.val ≤ (x 0).val ∧ (x 0).val < b.val + 1) ∧ (0 ≤ (x 1).val ∧ (x 1).val < 0 + 128) ∧ (0 ≤ (x 2).val ∧ (x 2).val < 0 + 128)) ↔ _
  omega

/-- The elements of buffer `b`. -/
def bufSet (b : Fin 4) : Finset S4x128x128.Idx := (bufV b).view.set

theorem bufs_disjoint : ∀ b ∈ (Finset.univ : Finset (Fin 4)), ∀ b' ∈ (Finset.univ : Finset (Fin 4)), b ≠ b' → Disjoint (bufSet b) (bufSet b') :=
  fun b _ b' _ h => Finset.disjoint_left.mpr fun x hx hx' => h (Fin.ext (((mem_bufV b x).1 hx).symm.trans ((mem_bufV b' x).1 hx')))

theorem bufs_cover : (Finset.univ : Finset (Fin 4)).biUnion bufSet = Finset.univ := by
  ext x
  simp only [Finset.mem_biUnion, Finset.mem_univ, true_and, iff_true]
  exact ⟨x 0, (mem_bufV _ x).2 rfl⟩

theorem tabV_set : (tabV).view.set = Finset.univ :=
  Finset.eq_univ_of_forall fun x => by rw [← tabV_emb x]; exact View.emb_mem_set _ x

variable (d : Dev nD) (i : grid0.Coords)
variable (T : S262144x128.Idx → Elt F .f32) (X : S2048x128.Idx → BitVec 32) (q : PosShare TreeShare)
variable (f₀ : S262144x128.Idx → Elt F .f32)

theorem bufs_split (f : Buf (Elt F) ((thr d i).loc cc0_scratch1)) :
    ((thr d i).loc cc0_scratch1 ↦{fullShare} f : sProp 𝕄)
      = bigSep Finset.univ fun b : Fin 4 => (bufV b).view.loc (thr d i) ↦[(bufV b).view.set]{fullShare} f := by
  refine Eq.trans ?_ (pointsTo_biUnion Finset.univ (ℓ := (thr d i).loc cc0_scratch1) bufSet bufs_disjoint)
  rw [bufs_cover]

theorem bufs_join [FloatOps F] : (bigSep Finset.univ fun b : Fin 4 => iprop(∃ g, (bufV b).view.loc (thr d i) ↦[(bufV b).view.set]{fullShare} g))
    ⊢ (iprop(∃ f, (thr d i).loc cc0_scratch1 ↦{fullShare} f) : sProp 𝕄) := by
  refine (bigSep_exists_pi Finset.univ (fun (b : Fin 4) (f : Buf (Elt F) ((thr d i).loc cc0_scratch1)) =>
    ((thr d i).loc cc0_scratch1 ↦[bufSet b]{fullShare} f : sProp 𝕄))).trans ?_
  iintro ⟨%fs, H⟩
  ihave H' := (pointsTo_biUnion_join (ℓ := (thr d i).loc cc0_scratch1) (q := fullShare) (Val := Elt F) Finset.univ
    bufSet fs (fs 0) bufs_disjoint) $$ H
  icases H' with ⟨%g, -, Hg⟩
  rw [bufs_cover]
  iexists g; iexact Hg

/-- The tile's shares of the table and of its list, in four. -/
theorem shares_eq : (bigSep Finset.univ fun b : Fin 4 => shares d i T X q b)
    = (iprop((tabLoc d ↦{q} (T : Buf (Elt F) (tabLoc d))) ∗ ((listW).view.loc (thr d i) ↦{fullShare} (theList X i : Buf (Elt F) ((listW).view.loc (thr d i))))) : sProp 𝕄) := by
  unfold shares
  rw [bigSep_sep', ← pointsTo_piecesOf, ← pointsTo_piecesOf, tabV_set]

/-- The four idle buffers. -/
theorem tickets_eq : iprop(ticket d i T X q 0 ∗ ticket d i T X q 1 ∗ ticket d i T X q 2 ∗ ticket d i T X q 3)
    = (iprop((bigSep Finset.univ fun b : Fin 4 => iprop(∃ g, (bufV b).view.loc (thr d i) ↦[(bufV b).view.set]{fullShare} g))
        ∗ (tabLoc d ↦{q} (T : Buf (Elt F) (tabLoc d))) ∗ ((listW).view.loc (thr d i) ↦{fullShare} (theList X i : Buf (Elt F) ((listW).view.loc (thr d i))))) : sProp 𝕄) := by
  rw [← shares_eq, ← bigSep_sep', ← bigSep_four (fun b => ticket d i T X q b)]
  rfl

/-! ## The tile's rows of the result -/

/-- The tile's 8192 rows of the result. -/
def tileSet : Finset S262144x128.Idx := Finset.univ.filter fun x => (x 0).val / 8192 = tileNo i

theorem chunks_disjoint : ∀ k ∈ (Finset.univ : Finset (Fin 64)), ∀ k' ∈ (Finset.univ : Finset (Fin 64)), k ≠ k' → Disjoint (chunkSet i k) (chunkSet i k') :=
  fun k _ k' _ h => Finset.disjoint_left.mpr fun x hx hx' => h (Fin.ext (by
    simp only [chunkSet, Finset.mem_filter] at hx hx'
    omega))

theorem chunks_cover : (Finset.univ : Finset (Fin 64)).biUnion (chunkSet i) = tileSet i := by
  ext x
  simp only [Finset.mem_biUnion, chunkSet, tileSet, Finset.mem_filter, Finset.mem_univ, true_and]
  constructor
  · rintro ⟨k, hk⟩
    have := k.isLt
    omega
  · intro h
    exact ⟨⟨(x 0).val / 128 % 64, Nat.mod_lt _ (by decide)⟩, by
      show (x 0).val / 128 = 64 * tileNo i + (x 0).val / 128 % 64
      omega⟩

theorem chunks_split (f : S262144x128.Idx → Elt F .f32) :
    (outLoc d ↦[tileSet i]{fullShare} (f : Buf (Elt F) (outLoc d)) : sProp 𝕄) = bigSep Finset.univ fun k : Fin 64 => chunkAt d i k f := by
  rw [← chunks_cover]
  exact pointsTo_biUnion Finset.univ (ℓ := outLoc d) (chunkSet i) (chunks_disjoint i)

theorem lines_start : bigSep Finset.univ (line d i T X f₀ 0) = (outLoc d ↦[tileSet i]{fullShare} (f₀ : Buf (Elt F) (outLoc d)) : sProp 𝕄) := by
  rw [chunks_split]
  exact bigSep_congr fun k _ => by unfold line; rw [if_neg (by omega)]

theorem lines_end : bigSep Finset.univ (line d i T X f₀ 16) = (outLoc d ↦[tileSet i]{fullShare} (gathered T X : Buf (Elt F) (outLoc d)) : sProp 𝕄) := by
  rw [chunks_split]
  exact bigSep_congr fun k _ => by unfold line; rw [if_pos (by have := k.isLt; omega)]

/-! ## The tile program -/

/-- What the tile takes: its shares of the table and of the lists, its rows of the result. -/
def given (q q' : PosShare TreeShare) (f : S262144x128.Idx → Elt F .f32) : sProp 𝕄 :=
  iprop((tabLoc d ↦{q} (T : Buf (Elt F) (tabLoc d))) ∗ (idxLoc d ↦{q'} (X : Buf (Elt F) (idxLoc d))) ∗ outLoc d ↦[tileSet i]{fullShare} (f : Buf (Elt F) (outLoc d)))

instance given_storable (q q' : PosShare TreeShare) (f : S262144x128.Idx → Elt F .f32) :
    Storable (upEmb : UEmb _ 𝕄) (given d i T X q q' f : sProp 𝕄) := by unfold given; infer_instance

abbrev semCell (s : DmaSem sig) : GSem nD τ sig := (thr d i, .dma s)

theorem ownSems0_V :
    (ownSems0 (thr d i) : sProp 𝕄)
      = iprop(semVal (semCell d i gA) 0 ∗ semVal (semCell d i gB) 0 ∗ semVal (semCell d i wA) 0 ∗ semVal (semCell d i wB) 0 ∗ semVal (semCell d i lS) 0
          ∗ bigSep ((((((ownCells (thr d i)).erase (semCell d i gA)).erase (semCell d i gB)).erase (semCell d i wA)).erase (semCell d i wB)).erase (semCell d i lS)) fun g => semVal g 0) := by
  have hm : ∀ s : DmaSem sig, (SemLoc.dma s : SemLoc sig).isScoped .scVector = true → semCell d i s ∈ ownCells (thr d i) := fun s h => mem_ownCells.mpr ⟨rfl, h⟩
  have hne : ∀ {s s' : DmaSem sig}, s ≠ s' → semCell d i s ≠ semCell d i s' := fun h e => h (by injection e with _ e; injection e)
  unfold SparseCore.Cfg.ownSems0
  rw [SparseCore.bigSep_erase' (hm gA (by decide)),
    SparseCore.bigSep_erase' (Finset.mem_erase.mpr ⟨hne (by decide), hm gB (by decide)⟩),
    SparseCore.bigSep_erase' (Finset.mem_erase.mpr ⟨hne (by decide), Finset.mem_erase.mpr ⟨hne (by decide), hm wA (by decide)⟩⟩),
    SparseCore.bigSep_erase' (Finset.mem_erase.mpr ⟨hne (by decide), Finset.mem_erase.mpr ⟨hne (by decide), Finset.mem_erase.mpr ⟨hne (by decide), hm wB (by decide)⟩⟩⟩),
    SparseCore.bigSep_erase' (Finset.mem_erase.mpr ⟨hne (by decide), Finset.mem_erase.mpr ⟨hne (by decide), Finset.mem_erase.mpr ⟨hne (by decide),
      Finset.mem_erase.mpr ⟨hne (by decide), hm lS (by decide)⟩⟩⟩⟩)]

theorem ownBufs_V :
    (ownBufs (thr d i) : sProp 𝕄)
      = iprop((∃ f, (thr d i).loc cc0_scratch0 ↦{fullShare} f) ∗ (∃ f, (thr d i).loc cc0_scratch1 ↦{fullShare} f)
          ∗ bigSep (((ownRefs (τ := τ) (.scVector (cV i) (jV i))).erase ((Proc.scVector (cV i) (jV i)).devRef cc0_scratch0)).erase
              ((Proc.scVector (cV i) (jV i)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV i) (jV i))
    (b := (Proc.scVector (cV i) (jV i)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV i) (jV i)) (b := (Proc.scVector (cV i) (jV i)).devRef cc0_scratch1) rfl⟩)]

theorem listCredit : (listW).view.amount (.dma lS) = 64 * 4096 := by decide +kernel

theorem listDue : (listW).view.dmaCredit = 64 * 4096 := by decide +kernel

variable {d i T X q f₀} [FloatOps F]
variable {O : CellTallies nD τ sig (HIx 1)} {W : Waits sig (HIx 1)}

/-- The tile program from its scratch and semaphores taken apart. -/
theorem prog_ok (hX : AllRows X) (q' : PosShare TreeShare) (fs : Buf (Elt F) ((thr d i).loc cc0_scratch0)) (fr : Buf (Elt F) ((thr d i).loc cc0_scratch1)) :
    iprop(MayWaits (thr d i) (default : HIx 1) O ∗ given d i T X q q' f₀
        ∗ ((thr d i).loc cc0_scratch0 ↦{fullShare} fs) ∗ ((thr d i).loc cc0_scratch1 ↦{fullShare} fr)
        ∗ semVal (semCell d i gA) 0 ∗ semVal (semCell d i gB) 0 ∗ semVal (semCell d i wA) 0 ∗ semVal (semCell d i wB) 0 ∗ semVal (semCell d i lS) 0
        ∗ owes (thr d i) O W)
      ⊢ wp frame (wpE (defs₀ (F := F)) 𝒱₀ (thr d i) none) Set.univ (tileProg i) fun _ =>
          iprop(given d i T X q q' (gathered T X)
            ∗ (∃ f, (thr d i).loc cc0_scratch0 ↦{fullShare} f) ∗ (∃ f, (thr d i).loc cc0_scratch1 ↦{fullShare} f)
            ∗ semVal (semCell d i gA) 0 ∗ semVal (semCell d i gB) 0 ∗ semVal (semCell d i wA) 0 ∗ semVal (semCell d i wB) 0 ∗ semVal (semCell d i lS) 0
            ∗ waited d i O W) := by
  unfold given tileProg
  iintro ⟨#Hmw, ⟨Ht, Hx, Ho⟩, Hs, Hr, HgA, HgB, HwA, HwB, HlS, HO⟩
  -- the list's fetch
  ihave Hx := (pointsTo_split_subset (ℓ := idxLoc d) (S := Finset.univ) (q := q') (f := (X : Buf (Elt F) (idxLoc d))) (Finset.subset_univ (blockV i).view.set)).1 $$ Hx
  icases Hx with ⟨Hx, Hxr⟩
  iapply (wp_dmaLocal countersEmb 𝒱₀ (thr d i) none (src := blockV i) (dst := listW) (Sd := Finset.univ) (default : HIx 1) (64 * 4096) listCredit (by decide)
    (Finset.subset_univ _)) $$ [Hx Hs HlS]
  · isplitl [Hx]; · iexact Hx
    isplitl [Hs]; · iexact Hs
    iexact HlS
  iintro Hf
  iapply (wp_waitLocalO countersEmb 𝒱₀ (thr d i) none (default : HIx 1) listDue) $$ [Hf HO]
  · isplitl [Hf]; · iexact Hf
    isplitl [HO]; · iexact HO
    iapply (MayWaits.elim (SemLoc.dma lS)) $$ Hmw
  iintro ⟨⟨Hs, Hx⟩, HlS, HO⟩
  ihave Hx := (pointsTo_split_subset (ℓ := idxLoc d) (S := Finset.univ) (q := q') (f := (X : Buf (Elt F) (idxLoc d))) (Finset.subset_univ (blockV i).view.set)).2 $$ [Hx Hxr]
  · isplitl [Hx]; · iexact Hx
    iexact Hxr
  ihave Hs := (Entails.of_eq (show _ = ((listW).view.loc (thr d i) ↦{fullShare} (theList X i : Buf (Elt F) ((listW).view.loc (thr d i))) : sProp 𝕄) from
    congrArg (fun f => ((listW).view.loc (thr d i) ↦{fullShare} (f : Buf (Elt F) ((listW).view.loc (thr d i))) : sProp 𝕄))
      ((View.write_whole_univ _ _ _).trans (blockV_read (F := F) X i)))) $$ Hs
  -- the four idle buffers
  ihave Hb := (Entails.of_eq (bufs_split d i fr)) $$ Hr
  ihave Hb := (show _ ⊢ (bigSep Finset.univ fun b : Fin 4 => iprop(∃ g, (bufV b).view.loc (thr d i) ↦[(bufV b).view.set]{fullShare} g) : sProp 𝕄) from
    bigSep_mono fun b _ => (show ((bufV b).view.loc (thr d i) ↦[(bufV b).view.set]{fullShare} fr : sProp 𝕄)
      ⊢ iprop(∃ g, (bufV b).view.loc (thr d i) ↦[(bufV b).view.set]{fullShare} g) by iintro H; iexists _; iexact H)) $$ Hb
  ihave Hts := (Entails.of_eq (tickets_eq d i T X q).symm) $$ [Hb Ht Hs]
  · isplitl [Hb]; · iexact Hb
    isplitl [Ht]; · iexact Ht
    iexact Hs
  icases Hts with ⟨Ht0, Ht1, Ht2, Ht3⟩
  -- the first gathers
  iapply (wp_gathers hX 0 1 (lineNo 0 (by decide) 0) (lineNo 0 (by decide) 1) rfl rfl) $$ [Ht0 Ht1 HgA]
  · isplitl [Ht0]; · iexact Ht0
    isplitl [Ht1]; · iexact Ht1
    iexact HgA
  iintro Ha
  -- the loop
  iapply (Scf.wp_for_bind frame (wpE (defs₀ (F := F)) 𝒱₀ (thr d i) none) Set.univ _ _ _ k0_t1_ok _ _ (fun t _ => inv d i T X q f₀ O W t)
    (fun t _ => trip_ok hX t)) $$ [Ha Ht2 Ht3 HgB HwA HwB Ho HO]
  · unfold inv waited
    isplitr; · iexact Hmw
    isplitl [Ha]; · iapply (Entails.of_eq (show ahead d i T X q 0 = _ from dif_pos (by decide)).symm); iexact Ha
    isplitl [Ht2]; · iexact Ht2
    isplitl [Ht3]; · iexact Ht3
    isplitl [HgB]; · iexact HgB
    isplitl [HwA]; · iexact HwA
    isplitl [HwB]; · iexact HwB
    isplitl [Ho]; · iapply (Entails.of_eq (lines_start d i T X f₀).symm); iexact Ho
    iexists _
    isplitr; swap; · iexact HO
    ipureintro; exact insert_ok W (fun p hp => .inl hp)
  iintro %a HI
  ihave HI := (Entails.of_eq (show inv d i T X q f₀ O W (Scf.trips _ _ _) = inv d i T X q f₀ O W 16 from congrArg (inv d i T X q f₀ O W) trips_eq)) $$ HI
  unfold inv
  icases HI with ⟨-, Ha, Ht2, Ht3, HgB, HwA, HwB, Ho, HO⟩
  ihave Ha := (Entails.of_eq (show ahead d i T X q 16 = _ from dif_neg (by decide))) $$ Ha
  icases Ha with ⟨Ht0, Ht1, HgA⟩
  ihave Hts := (Entails.of_eq (tickets_eq d i T X q)) $$ [Ht0 Ht1 Ht2 Ht3]
  · isplitl [Ht0]; · iexact Ht0
    isplitl [Ht1]; · iexact Ht1
    isplitl [Ht2]; · iexact Ht2
    iexact Ht3
  icases Hts with ⟨Hb, Ht, Hs⟩
  rw [wp_pure]
  imodintro
  isplitl [Ht Hx Ho]
  · isplitl [Ht]; · iexact Ht
    isplitl [Hx]; · iexact Hx
    iapply (Entails.of_eq (lines_end d i T X f₀)); iexact Ho
  isplitl [Hs]; · iexists _; iexact Hs
  isplitl [Hb]; · iapply (bufs_join d i); iexact Hb
  isplitl [HgA]; · iexact HgA
  isplitl [HgB]; · iexact HgB
  isplitl [HwA]; · iexact HwA
  isplitl [HwB]; · iexact HwB
  isplitl [HlS]; · iexact HlS
  iexact HO

end Cert.UnsortIdeal.Tile

end
-- ==== Proof.UnsortIdealLaunch.lean ====
/-
  The gathering call as a whole: the operands dealt to the thirty-two tiles, the call run, and the program's run
  concluded: the arguments unchanged, and the result's row `r` the table's row that word `r` of the lists names.
-/
module

public import proofs.«01_k».proof.Proof.UnsortIdealWhole
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.UnsortIdeal.Launch

open Cert.UnsortIdeal Cert.UnsortIdeal.Gen Cert.UnsortIdeal.Tile
open Idealize.ShloMosaic
open Idealize.ShloMosaic.SparseCore (S V T)
open Idealize.ShloMosaic.SparseCore.Cfg (HIx Pay ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch's vocabulary -/

abbrev Lbl : Labels := Pipeline.Sig Λ₀ (Fin 0) fun p => (pcfgs (F := F) p).Adm
abbrev K : SparseCore.Cfg τ sig (Lbl (F := F)) 1 := sc (F := F)
abbrev D [FloatOps F] : Defs nD τ sig (Elt F) (Lbl (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

abbrev EH : Emb UH (MT nD τ sig (HIx 1) (Elt F) ℕ UU ℕ) := embL

variable (m : (ℓ : Loc nD τ sig) → Buf (Elt F) ℓ) (ρ : Dev nD → PrngReg)

/-! ## The tiles -/

/-- The coordinates of SparseCore `c`'s tile `s`. -/
def tileAt (c : Fin (grid0.bound 0)) (s : Fin (grid0.bound 1)) : grid0.Coords :=
  fun | 0 => c | 1 => s | ⟨_ + 2, h⟩ => absurd h (Nat.not_lt.2 (Nat.le_add_left _ _))

theorem tileNo_tileAt (c : Fin 2) (s : Fin 16) : tileNo (tileAt c s) = 2 * s.val + c.val := rfl

/-- A tile's share of the table and of the lists. -/
def part (c : Fin 2) (s : Fin 16) : PosShare TreeShare := pieceOf (pieceOf fullShare 2 (by decide) c) 16 (by decide) s

/-- What a tile takes and brings back, at contents `f` of the result. -/
def piece (d : Dev nD) (T : S262144x128.Idx → Elt F .f32) (X : S2048x128.Idx → BitVec 32) (f : S262144x128.Idx → Elt F .f32) (c : Fin 2) (s : Fin 16) : sProp 𝕄 :=
  given d (tileAt c s) T X (part c s) (part c s) f

instance piece_storable (d : Dev nD) (T : S262144x128.Idx → Elt F .f32) (X : S2048x128.Idx → BitVec 32) (f : S262144x128.Idx → Elt F .f32) (c : Fin 2) (s : Fin 16) :
    Storable (upEmb : UEmb _ 𝕄) (piece d T X f c s : sProp 𝕄) := by unfold piece; infer_instance

/-- The rows of the result that SparseCore `c`'s tiles write. -/
def coreSet (c : Fin 2) : Finset S262144x128.Idx := Finset.univ.filter fun x => (x 0).val / 8192 % 2 = c.val

theorem row_lt (x : S262144x128.Idx) : (x 0).val < 262144 := (x 0).isLt

theorem core_disjoint : ∀ c ∈ (Finset.univ : Finset (Fin 2)), ∀ c' ∈ (Finset.univ : Finset (Fin 2)), c ≠ c' → Disjoint (coreSet c) (coreSet c') :=
  fun c _ c' _ h => Finset.disjoint_left.mpr fun x hx hx' => h (Fin.ext (by
    simp only [coreSet, Finset.mem_filter] at hx hx'
    omega))

theorem core_cover : (Finset.univ : Finset (Fin 2)).biUnion coreSet = Finset.univ := by
  ext x
  simp only [Finset.mem_biUnion, coreSet, Finset.mem_filter, Finset.mem_univ, true_and, iff_true]
  exact ⟨⟨(x 0).val / 8192 % 2, Nat.mod_lt _ (by decide)⟩, rfl⟩

theorem tile_disjoint (c : Fin 2) : ∀ s ∈ (Finset.univ : Finset (Fin 16)), ∀ s' ∈ (Finset.univ : Finset (Fin 16)), s ≠ s' →
    Disjoint (tileSet (tileAt c s)) (tileSet (tileAt c s')) :=
  fun s _ s' _ h => Finset.disjoint_left.mpr fun x hx hx' => h (Fin.ext (by
    have h1 := tileNo_tileAt c s
    have h2 := tileNo_tileAt c s'
    simp only [tileSet, Finset.mem_filter] at hx hx'
    omega))

theorem tile_cover (c : Fin 2) : (Finset.univ : Finset (Fin 16)).biUnion (fun s => tileSet (tileAt c s)) = coreSet c := by
  ext x
  simp only [Finset.mem_biUnion, tileSet, coreSet, Finset.mem_filter, Finset.mem_univ, true_and]
  have hx := row_lt x
  have hc := c.isLt
  constructor
  · rintro ⟨s, hs⟩
    have h1 := tileNo_tileAt c s
    omega
  · intro h
    refine ⟨⟨(x 0).val / 8192 / 2, by omega⟩, Eq.trans ?_ (tileNo_tileAt c _).symm⟩
    show (x 0).val / 8192 = 2 * ((x 0).val / 8192 / 2) + c.val
    omega

/-- The operands whole are the tiles' pieces. -/
theorem pieces_eq (d : Dev nD) (T : S262144x128.Idx → Elt F .f32) (X : S2048x128.Idx → BitVec 32) (f : S262144x128.Idx → Elt F .f32) :
    (bigSep Finset.univ fun c : Fin 2 => bigSep Finset.univ fun s : Fin 16 => piece d T X f c s)
      = (iprop((tabLoc d ↦{fullShare} (T : Buf (Elt F) (tabLoc d))) ∗ (idxLoc d ↦{fullShare} (X : Buf (Elt F) (idxLoc d)))
          ∗ outLoc d ↦{fullShare} (f : Buf (Elt F) (outLoc d))) : sProp 𝕄) := by
  have hsh : ∀ {ℓ : Loc nD τ sig} (g : Buf (Elt F) ℓ),
      (bigSep Finset.univ fun c : Fin 2 => bigSep Finset.univ fun s : Fin 16 => (ℓ ↦{part c s} g : sProp 𝕄)) = ℓ ↦{fullShare} g := by
    intro ℓ g
    rw [pointsTo_piecesOf (q := fullShare) (o := 2) Finset.univ g (by decide)]
    exact bigSep_congr fun c _ => (pointsTo_piecesOf (q := pieceOf fullShare 2 (by decide) c) (o := 16) Finset.univ g (by decide)).symm
  have hout : (bigSep Finset.univ fun c : Fin 2 => bigSep Finset.univ fun s : Fin 16 => (outLoc d ↦[tileSet (tileAt c s)]{fullShare} (f : Buf (Elt F) (outLoc d)) : sProp 𝕄))
      = outLoc d ↦{fullShare} (f : Buf (Elt F) (outLoc d)) := by
    refine Eq.trans (bigSep_congr fun c _ => ?_) (Eq.trans (pointsTo_biUnion Finset.univ (ℓ := outLoc d) coreSet core_disjoint).symm (by rw [core_cover]))
    rw [← tile_cover]
    exact (pointsTo_biUnion Finset.univ (ℓ := outLoc d) (fun s => tileSet (tileAt c s)) (tile_disjoint c)).symm
  unfold piece given
  simp only [bigSep_sep']
  rw [hsh, hsh, hout]

/-- The launch memory's table and lists. -/
abbrev tab (d : Dev nD) : S262144x128.Idx → Elt F .f32 := m (tabLoc d)
abbrev lists (d : Dev nD) : S2048x128.Idx → BitVec 32 := m (idxLoc d)
/-- The result the program leaves. -/
abbrev left (d : Dev nD) : S262144x128.Idx → Elt F .f32 := gathered (tab m d) (lists m d)

/-- What the proof asks of the launch memory: every word of the lists names a row. -/
def PreOK : Prop := ∀ d : Dev nD, AllRows (lists m d)

variable [FloatOps F]

/-- What the call's messages carry. -/
def P : (K (F := F)).Pay (nD := nD) (Val := Elt F) (Name := ℕ) (U := UU) where
  st := fun q d c => match q with | 0 => bigSep Finset.univ fun s : Fin 16 => piece d (tab m d) (lists m d) (m (outLoc d)) c s
  dn := fun q d c => match q with | 0 => bigSep Finset.univ fun s : Fin 16 => piece d (tab m d) (lists m d) (left m d) c s
  go := fun q d c s => match q with | 0 => piece d (tab m d) (lists m d) (m (outLoc d)) c s
  td := fun q d c s => match q with | 0 => piece d (tab m d) (lists m d) (left m d) c s
  x := fun _ _ => iprop(emp)

instance P_storable : (P (F := F) m).IsStorable where
  st q d c := match q with
    | 0 => (inferInstance : BI.Storable (upEmb : UEmb _ 𝕄) (bigSep Finset.univ fun s : Fin 16 => piece d (tab m d) (lists m d) (m (outLoc d)) c s))
  dn q d c := match q with
    | 0 => (inferInstance : BI.Storable (upEmb : UEmb _ 𝕄) (bigSep Finset.univ fun s : Fin 16 => piece d (tab m d) (lists m d) (left m d) c s))
  go q d c s := match q with
    | 0 => (inferInstance : BI.Storable (upEmb : UEmb _ 𝕄) (piece d (tab m d) (lists m d) (m (outLoc d)) c s))
  td q d c s := match q with
    | 0 => (inferInstance : BI.Storable (upEmb : UEmb _ 𝕄) (piece d (tab m d) (lists m d) (left m d) c s))

/-! ## A tile's task -/

theorem task (d : Dev nD) (i : grid0.Coords) (hF : (K (F := F)).Facts) {T : S262144x128.Idx → Elt F .f32} {X : S2048x128.Idx → BitVec 32} (hX : AllRows X)
    (f₀ : S262144x128.Idx → Elt F .f32) (q : PosShare TreeShare) (O : CellTallies nD τ sig (HIx 1)) (W : Waits sig (HIx 1)) (hO : ∀ g, O g none = 0) :
    iprop(levAts (K (F := F)).L (K (F := F)).lev ∗ emp ∗ given d i T X q q f₀
        ∗ scopedBufs (thr d i) ∗ scopedSems0 (thr d i) ∗ owes (thr d i) O W)
      ⊢ wp frame (wpE (defs₀ (F := F)) 𝒱₀ (thr d i) none) Set.univ (tileProg i) fun _ =>
          iprop(given d i T X q q (gathered T X) ∗ scopedBufs (thr d i) ∗ scopedSems0 (thr d i)
            ∗ ∃ W', ⌜∀ p ∈ W', p ∈ W ∨ p.2 = none ∨ p.2 = some (0 : Fin 1)⌝ ∗ owes (thr d i) O W') := by
  rw [(K (F := F)).scopedBufs_V hF d (cV i) (jV i), SparseCore.Cfg.scopedSems0_V (Val := Elt F) d (cV i) (jV i), ownSems0_V, ownBufs_V]
  iintro ⟨#Hlv, -, Hg, ⟨⟨%fs, Hs⟩, ⟨%fr, Hr⟩, Hbufs⟩, ⟨HgA, HgB, HwA, HwB, HlS, Hsems⟩, HO⟩
  ihave Hmw := (show levAts (K (F := F)).L (K (F := F)).lev ⊢ Transfers.MayWaits (thr d i) (default : HIx 1) O from
    (K (F := F)).mayWaits_none (thr := thr d i) hO) $$ Hlv
  ihave Hwp := (prog_ok (T := T) (f₀ := f₀) (q := q) (W := W) hX q fs fr) $$ [Hmw Hg Hs Hr HgA HgB HwA HwB HlS HO]
  · isplitl [Hmw]; · iexact Hmw
    isplitl [Hg]; · iexact Hg
    isplitl [Hs]; · iexact Hs
    isplitl [Hr]; · iexact Hr
    isplitl [HgA]; · iexact HgA
    isplitl [HgB]; · iexact HgB
    isplitl [HwA]; · iexact HwA
    isplitl [HwB]; · iexact HwB
    isplitl [HlS]; · iexact HlS
    iexact HO
  iapply wp_wand_r
  isplitl [Hwp]; · iexact Hwp
  iintro %a ⟨Hg, Hs, Hr, HgA, HgB, HwA, HwB, HlS, HO⟩
  isplitl [Hg]; · iexact Hg
  isplitl [Hs Hr Hbufs]
  · isplitl [Hs]; · iexact Hs
    isplitl [Hr]; · iexact Hr
    iexact Hbufs
  isplitl [HgA HgB HwA HwB HlS Hsems]
  · isplitl [HgA]; · iexact HgA
    isplitl [HgB]; · iexact HgB
    isplitl [HwA]; · iexact HwA
    isplitl [HwB]; · iexact HwB
    isplitl [HlS]; · iexact HlS
    iexact Hsems
  unfold waited
  icases HO with ⟨%W', %hW', HO⟩
  iexists W'
  isplitr; · ipureintro; exact fun p hp => (hW' p hp).imp_right Or.inl
  iexact HO

theorem defs₀_tile (c : Fin τ.nSC) (s : Fin τ.nSub) :
    defs₀ (F := F) (.scVector c s) 0 () = SparseCore.onTile hcore0 hsub0 (fun c s => tileProg (tileAt c s)) ⟨⟩ c s := by
  rw [show (fun c s => tileProg (F := F) (tileAt c s)) = fun c s => _ from funext fun c => funext fun s => (kernel_eq (F := F) (tileAt c s)).symm]
  rfl

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact task d (tileAt ⟨_, hci.1⟩ ⟨_, hci.2⟩) hF (hpre d) _ _ O W hO

theorem vecSplit : (K (F := F)).VecSplit' (P m) 0 := by
  intro d c
  show (bigSep Finset.univ fun s : Fin 16 => piece d (tab m d) (lists m d) (m (outLoc d)) c s) ⊢ |={Set.univ}=> iprop(
      (bigSep Finset.univ fun s : Fin 16 => piece d (tab m d) (lists m d) (m (outLoc d)) c s)
      ∗ ((bigSep Finset.univ fun s : Fin 16 => piece d (tab m d) (lists m d) (left m d) c s)
        -∗ bigSep Finset.univ fun s : Fin 16 => piece d (tab m d) (lists m d) (left m d) c s))
  iintro H; imodintro
  isplitl [H]; · iexact H
  iintro H; iexact H

/-! ## The program -/

omit [FloatOps F] in
theorem emps {I : Type} (s : Finset I) : (bigSep s fun _ => iprop(emp)) = (iprop(emp) : sProp 𝕄) := bigSep_emp_const s

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro

omit [FloatOps F] in
theorem unscopedBufs_eq (d : Dev nD) (W : (b : Ref sig .tc) → Buf (Elt F) ((d.tc : Thread nD τ).loc b)) :
    (unscopedBufs d W : sProp 𝕄) = iprop((tabLoc d ↦{fullShare} W main_arg0) ∗ (idxLoc d ↦{fullShare} W main_arg1) ∗ outLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What the program ends with. -/
def FIN (d : Dev nD) : sProp 𝕄 :=
  iprop((tabLoc d ↦{fullShare} m (tabLoc d)) ∗ (idxLoc d ↦{fullShare} m (idxLoc d)) ∗ outLoc d ↦{fullShare} (left m d : Buf (Elt F) (outLoc d)))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, H, Hts, -⟩, -⟩
  iapply ((K (F := F)).wp_run (D (F := F)) 𝒱 (EH := EH) (P := P m) κ d 0) $$ [Hst H Hb Hts]
  isplitr; · iexact Hctx
  isplitl [Hst]; · iexact Hst
  isplitl [H]
  · iapply (Entails.of_eq (pieces_eq d (tab m d) (lists m d) (m (outLoc d))).symm); iexact H
  iintro ⟨Hst, Hdn⟩
  ihave H := (show (bigSep Finset.univ fun c : Fin ((K (F := F)).nCore 0) => (P m).dn 0 d c) ⊢ _ from
    Entails.of_eq (pieces_eq d (tab m d) (lists m d) (left m d))) $$ Hdn
  imodintro
  isplitl [Hst]; · iexact Hst
  isplitl [H]; · unfold FIN; iexact H
  isplitl [Hb] <;> iassumption

def fq (d : Dev nD) (s' : Phys nD τ sig (Elt F)) : Prop :=
  s'.mem.mem (tabLoc d) = m (tabLoc d) ∧ s'.mem.mem (idxLoc d) = m (idxLoc d) ∧ s'.mem.mem (outLoc d) = left m d

theorem hfin (d : Dev nD) (s' : Phys nD τ sig (Elt F)) : iprop(FIN m d ∗ SI s') ⊢ (⌜fq m d s'⌝ : sProp 𝕄) := by
  unfold FIN
  iintro ⟨⟨Ht, Hx, Ho⟩, HSI⟩
  ihave H := (persistent_entails_right (SI_pointsTo_agree (st := s') (ℓ := tabLoc d) (I := Finset.univ) (q := fullShare) (f := m (tabLoc d)))) $$ [HSI Ht]
  · isplitl [HSI] <;> iassumption
  icases H with ⟨%h1, HSI, -⟩
  ihave H := (persistent_entails_right (SI_pointsTo_agree (st := s') (ℓ := idxLoc d) (I := Finset.univ) (q := fullShare) (f := m (idxLoc d)))) $$ [HSI Hx]
  · isplitl [HSI] <;> iassumption
  icases H with ⟨%h2, HSI, -⟩
  ihave H := (SI_pointsTo_agree (st := s') (ℓ := outLoc d) (I := Finset.univ) (q := fullShare) (f := (left m d : Buf (Elt F) (outLoc d)))) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-- What a run leaves. -/
def QC : PUnit × MemSt nD τ sig (Elt F) → Prop := fun r =>
  (∀ d : Dev nD, r.2.mem (tabLoc d) = m (tabLoc d) ∧ r.2.mem (idxLoc d) = m (idxLoc d) ∧ r.2.mem (outLoc d) = left m d) ∧ r.2.sem = fun _ => 0

theorem run_main [∀ e, Nonempty (Elt F e)] (hpre : PreOK m) :
    θ_run (Cert.UnsortIdeal.defs (F := F)) (Cert.UnsortIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.UnsortIdeal.Launch

end
-- ==== Proof.UnsortRef.lean ====
/-
  What the gathering call's reference computes: where every word of the lists names a row, its `jnp.take` neither wraps
  nor fills, so row `r` of its result is the table's row that word `r` names: the kernel's result.
-/
module

public import proofs.«01_k».proof.Proof.UnsortIdealRows
public import proofs.«01_k».proof.Proof.Gen.UnsortRefIdeal.Run
public import proofs.«01_k».proof.Proof.Gen.Pre_in_range
public import Idealize.ShloMosaic.Lib.Pipeline.Value
public import Idealize.ShloMosaic.Lib.Routing.Ops
public import Idealize.ShloMosaic.Lib.ReduceAll
public import Idealize.ShloMosaic.Lib.Affine

@[expose] public section

noncomputable section

namespace Cert.UnsortRefIdeal.Take

open Cert.UnsortRefIdeal Cert.UnsortRefIdeal.Gen
open Idealize.ShloMosaic Idealize.ShloMosaic.ValueIdx
open Cert.UnsortIdeal.Tile (AllRows gathered rowOf rowAt wordAt)

variable {F : FTy → Type} [FloatOps F]

/-- The lists' words in one column, as the reference lays them out. -/
def flat (X : S2048x128.Idx → BitVec 32) : IVec S262144 32 := shapeCast S262144 X shapeCasts_S2048x128_S262144

/-- Word `r` of the lists. -/
def word (X : S2048x128.Idx → BitVec 32) (r : Fin 262144) : BitVec 32 :=
  X (wordAt (⟨r.val / 128, by omega⟩ : Fin 2048) (⟨r.val % 128, by omega⟩ : Fin 128))

theorem flat_apply (X : S2048x128.Idx → BitVec 32) (j : S262144.Idx) : flat X j = word X (j 0) := by
  refine shapeCast_apply X _ j _ ?_
  rw [Shape.rowMajor_val_two, Shape.rowMajor_val_one]
  show (j 0).val / 128 * 128 + (j 0).val % 128 = (j 0).val
  omega

/-- A word naming a row is the row's number, read either way. -/
theorem toInt_row {v : BitVec 32} (h : v.toNat < 262144) : v.toInt = (v.toNat : Int) := by
  rw [BitVec.toInt_eq_toNat_cond]
  omega

/-- The start indices: no word is negative, so none is wrapped. -/
theorem starts_apply {X : S2048x128.Idx → BitVec 32} (hX : AllRows X) (r : Fin 262144) :
    broadcastInDim S262144x1 ![0] bcast_S262144_S262144x1_0
      (select (cmpi .slt (flat X) (broadcastInDim S262144 ![] bcast_S_S262144 (constantI S_ 32 0#32)))
        (addi (flat X) (broadcastInDim S262144 ![] bcast_S_S262144 (constantI S_ 32 262144#32))) (flat X)) (ix2 r (0 : Fin 1)) = word X r := by
  unfold broadcastInDim Idealize.ShloMosaic.select Scalar.select
  rw [if_neg]
  · rw [flat_apply]; rfl
  · show ¬ IntOp.cmpi .slt (flat X _) 0#32 = 1#1
    rw [IntOp.cmpi_slt, flat_apply]
    unfold word
    rw [toInt_row (hX _)]
    simp

theorem take_eq (T : S262144x128.Idx → Elt F .f32) {X : S2048x128.Idx → BitVec 32} (hX : AllRows X) (i : S262144x1.Idx → BitVec 32)
    (hi : ∀ r : Fin 262144, i (ix2 r (0 : Fin 1)) = word X r) (fill : S262144x128.Idx → Elt F .f32) :
    select (broadcastInDim S262144x128 ![0] bcast_S262144_S262144x128_0 (Host.reduce IntOp.andi
        (andi (cmpi .sge i (broadcastInDim S262144x1 ![] bcast_S_S262144x1 (constantI S_ 32 0#32)))
          (cmpi .sle i (broadcastInDim S262144x1 ![0, 1] bcast_S1x1_S262144x1_0_1 (broadcastInDim S1x1 ![1] bcast_S1_S1x1_1 (constantI S1 32 262143#32)))))
        (constantI S_ 1 1#1) reducesTo_S262144x1_S262144_d1 h_S_))
      (Host.gather gather_S262144x128_S262144x1_S262144x128_1_0_n_n_0_1_1128 T i) fill = gathered T X := by
  funext x
  obtain ⟨a, b, rfl⟩ : ∃ (a : Fin 262144) (b : Fin 128), x = ix2 a b := ⟨x 0, x 1, eq_ix2 x⟩
  have hw : ∀ r, (word X r).toNat < 262144 := fun r => hX _
  unfold Idealize.ShloMosaic.select Scalar.select
  rw [if_pos]
  · refine (Routing.gather_row gather_S262144x128_S262144x1_S262144x128_1_0_n_n_0_1_1128 rfl rfl rfl rfl rfl T i a b (rowOf (word X a)) ?_ (by norm_num)).trans ?_
    swap
    · refine congrArg T (funext fun e => ?_)
      match e with
      | ⟨0, _⟩ => rfl
      | ⟨1, _⟩ => rfl
    rw [hi]
    apply BitVec.eq_of_toNat_eq
    have := hw a
    simp only [rowOf, Nat.mod_eq_of_lt this, BitVec.toNat_ofNat]
    omega
  · refine Host.reduce_andi_one _ _ _ _ _ rfl fun k => ?_
    obtain ⟨r, z, rfl⟩ : ∃ (r : Fin 262144) (z : Fin 1), k = ix2 r z := ⟨k 0, k 1, eq_ix2 k⟩
    obtain rfl : z = 0 := Subsingleton.elim _ _
    show IntOp.andi (IntOp.cmpi .sge (i (ix2 r (0 : Fin 1))) 0#32) (IntOp.cmpi .sle (i (ix2 r (0 : Fin 1))) 262143#32) = 1#1
    have h1 : IntOp.cmpi .sge (i (ix2 r (0 : Fin 1))) 0#32 = 1#1 := by
      rw [IntOp.cmpi_sge, hi, toInt_row (hw _)]; simp
    have h2 : IntOp.cmpi .sle (i (ix2 r (0 : Fin 1))) 262143#32 = 1#1 := by
      rw [IntOp.cmpi_sle, hi, toInt_row (hw _)]
      have := hw r
      show (((word X r).toNat : Nat) : Int) ≤ 262143
      omega
    rw [h1, h2]; rfl

/-- The precondition: every word names a row. -/
theorem rows_of_pre (T : S262144x128.Idx → Elt F .f32) (X : S2048x128.Idx → BitVec 32)
    (h : Cert.Pre_in_range.fn (F := F) T X = fun _ => 1#1) : AllRows X := by
  intro j
  have e := congrFun h (fun a => a.elim0)
  dsimp only [Cert.Pre_in_range.fn] at e
  haveI : Subsingleton Cert.Pre_in_range.S_.Idx := ⟨fun a b => funext fun k => k.elim0⟩
  have ej := Host.reduce_andi_all _ _ _ _ _ e j
  have ej' : IntOp.andi (IntOp.cmpi .sge (X j) 0#32) (IntOp.cmpi .slt (X j) 262144#32) = 1#1 := ej
  have and_one : ∀ p q : BitVec 1, IntOp.andi p q = 1#1 → p = 1#1 ∧ q = 1#1 := by decide
  obtain ⟨h1, h2⟩ := and_one _ _ ej'
  rw [IntOp.cmpi_sge] at h1
  rw [IntOp.cmpi_slt] at h2
  have e1 : (0#32 : BitVec 32).toInt = 0 := by decide
  have e2 : (262144#32 : BitVec 32).toInt = 262144 := by decide
  rw [e1] at h1
  rw [e2] at h2
  rw [BitVec.toInt_eq_toNat_cond] at h1 h2
  have := (X j).isLt
  split at h1 <;> split at h2 <;> omega

end Cert.UnsortRefIdeal.Take

end
-- ==== Proof.UnsortClaims.lean ====
/-
  The gathering call's claims: the three frames, the idealization and the equality with `jnp.take`.
-/
module

public import proofs.«01_k».proof.Defs
public import proofs.«01_k».proof.Proof.UnsortLaunch
public import proofs.«01_k».proof.Proof.UnsortIdealLaunch
public import proofs.«01_k».proof.Proof.UnsortRef
public import Idealize.ShloMosaic.Lib.Quiescent
public import Idealize.ShloMosaic.Adequacy
public import Idealize.ShloMosaic.Init

@[expose] public section

noncomputable section

namespace Cert.Proof.Unsort

open Idealize.ShloMosaic Idealize.SL.Sem

/-- The kernel as printed: it runs, its arguments and its counters end as they were. -/
theorem frame_p : Cert.quiescent_Unsort := by
  intro m g hpre
  refine (θ_run _ _ _).mono (fun r h => ⟨fun c => ⟨(h.1 c).1, (h.1 c).2.1⟩, h.2⟩) (Cert.Unsort.Launch.run_main (F := Bits) m g ?_)
  exact fun d j => Cert.UnsortRefIdeal.Take.rows_of_pre (F := Bits) _ _ (hpre d) j

/-- The precondition, of the idealized kernel's lists. -/
theorem ideal_ok {m : (ℓ : Loc Cert.UnsortIdeal.nD Cert.UnsortIdeal.τ Cert.UnsortIdeal.sig) → Buf (Elt Ideal) ℓ} (hpre : Cert.Pre_UnsortIdeal m) :
    Cert.UnsortIdeal.Launch.PreOK m :=
  fun d => Cert.UnsortRefIdeal.Take.rows_of_pre (F := Ideal) _ _ (hpre d)

/-- The same of the idealized kernel. -/
theorem frame_pi : Cert.quiescent_UnsortIdeal := by
  intro m g hpre
  exact (θ_run _ _ _).mono (fun r h => ⟨fun c => ⟨(h.1 c).1, (h.1 c).2.1⟩, h.2⟩) (Cert.UnsortIdeal.Launch.run_main (F := Ideal) m g (ideal_ok hpre))

/-- The same of the reference, which has no counter. -/
theorem frame_ri : Cert.quiescent_UnsortRefIdeal := by
  intro m g _
  exact (θ_run _ _ _).mono (fun r h => ⟨fun c => (h c).2, Idealize.ShloMosaic.sem_eq_zero_of_no_sems (by decide) r.2⟩)
    (Cert.UnsortRefIdeal.Value.run (F := Ideal) m g)

/-- Kernel and reference end with the same result: the table's rows the lists name. -/
theorem algebraic : Cert.algebraic_UnsortIdeal_UnsortRefIdeal := by
  intro m g m' g' hpre hagree
  refine ⟨fun c => Cert.UnsortIdeal.Launch.left m c, ?_, ?_⟩
  · exact (θ_run _ _ _).mono (fun r h c => ⟨(h.1 c).2.2, (h.1 c).1, (h.1 c).2.1⟩)
      (Cert.UnsortIdeal.Launch.run_main (F := Ideal) m g (ideal_ok hpre))
  · refine (θ_run _ _ _).mono (fun r h c => ⟨(h c).1.trans ?_, (h c).2⟩) (Cert.UnsortRefIdeal.Value.run (F := Ideal) m' g')
    rw [(hagree c).1, (hagree c).2]
    exact Cert.UnsortRefIdeal.Take.take_eq _ (ideal_ok hpre c) _ (Cert.UnsortRefIdeal.Take.starts_apply (ideal_ok hpre c)) _

end Cert.Proof.Unsort

end
-- ==== Proof.PermuteIdealBody.lean ====
/-
  The scattering kernel's tile program with its parts put together: one trip of its loop as the plain sequence of its
  transfers and waits, over names for the few views they use.
-/
module

public import proofs.«01_k».proof.Defs
public import proofs.«01_k».proof.Proof.Pairs
public import proofs.«01_k».proof.Proof.Gen.PermuteIdeal
public import proofs.«01_k».proof.Proof.Gen.PermuteIdeal.Skeleton

@[expose] public section

noncomputable section

namespace Cert.PermuteIdeal.Tile

open Cert.PermuteIdeal Cert.PermuteIdeal.Gen
open Idealize.ShloMosaic Idealize.ShloMosaic.SparseCore
open Idealize.SL.Sem

variable {F : FTy → Type}

/-- The table, the lists of row numbers, the result, the tile's own list and its four row buffers, each whole. -/
abbrev tabW : Memref sig .scVector .hbm S262144x128 .f32 := Memref.whole main_arg0_scv
abbrev idxW : Memref sig .scVector .hbm S2048x128 .i32 := Memref.whole main_arg1_scv
abbrev outW : Memref sig .scVector .hbm S262144x128 .f32 := Memref.whole main_v0_scv
abbrev listW : Memref sig .scVector .vmem S64x128 .i32 := Memref.whole cc0_scratch0
abbrev bufW : Memref sig .scVector .vmem S4x128x128 .f32 := Memref.whole cc0_scratch1

theorem inb_buf : ∀ b : Fin 4, ∀ a, (![b.val, 0, 0] : Fin 3 → Nat) a + S1x128x128.size a ≤ S4x128x128.size a := by decide

/-- The result as a scatter names it. -/
abbrev outV : Memref sig .scVector .hbm S262144x128 .f32 :=
  outW.slice (Rect.unit (s := S262144x128) ![0, 0] S262144x128.size inb_S262144x128_S262144x128_0_0) (fun _ => rfl)
/-- Row buffer `b`. -/
abbrev bufV (b : Fin 4) : Memref sig .scVector .vmem S128x128 .f32 :=
  (bufW.slice (Rect.unit (s := S4x128x128) ![b.val, 0, 0] S1x128x128.size (inb_buf b)) (fun _ => rfl)).squeeze S128x128 squeezes_S1x128x128_S128x128
/-- One row of the tile's list: 128 row numbers. -/
abbrev listV (off : Fin 2 → Nat) (h : ∀ a, off a + S1x128.size a ≤ S64x128.size a) : Memref sig .scVector .vmem S128 .i32 :=
  (listW.slice (Rect.unit (s := S64x128) off S1x128.size h) (fun _ => rfl)).squeeze S128 squeezes_S1x128_S128
/-- 128 rows of the table. -/
abbrev chunkV (off : Fin 2 → Nat) (h : ∀ a, off a + S128x128.size a ≤ S262144x128.size a) : Memref sig .scVector .hbm S128x128 .f32 :=
  tabW.slice (Rect.unit (s := S262144x128) off S128x128.size h) (fun _ => rfl)
/-- The tile's 64 rows of the lists. -/
abbrev blockV (i : grid0.Coords) : Memref sig .scVector .hbm S64x128 .i32 :=
  idxW.slice (Rect.unit (s := S2048x128) (k0_off1 i) S64x128.size (k0_off1_inb i)) (fun _ => rfl)

abbrev cV (i : grid0.Coords) : Fin τ.nSC := (i 0).castLE hcore0
abbrev jV (i : grid0.Coords) : Fin τ.nSub := (i 1).castLE hsub0

abbrev TileProg (F : FTy → Type) (i : grid0.Coords) (α : Type) := Prog (TpuEff nD τ sig (Elt F) Λ₀ (.scVector (cV i) (jV i))) α

variable {i : grid0.Coords}

/-- Start the load of 128 rows of the table into buffer `b`. -/
abbrev load (sem : DmaSem sig) (b : Fin 4) (off : Fin 2 → Nat) (h : ∀ a, off a + S128x128.size a ≤ S262144x128.size a)
    (k : PUnit → TileProg F i Unit) : TileProg F i Unit :=
  .op (.enqueueDma (chunkV off h) (.here (bufV b)) (.dma sem) (View.wordExact_bits rfl) ((View.wordExact_bits rfl).reshape _ _) ⟨Or.inl rfl, trivial⟩) k
/-- Wait for one load into buffer `b`. -/
abbrev waitLoad (sem : DmaSem sig) (b : Fin 4) (off : Fin 2 → Nat) (h : ∀ a, off a + S128x128.size a ≤ S262144x128.size a)
    (k : PUnit → TileProg F i Unit) : TileProg F i Unit :=
  .op (.waitDma2 sem (chunkV off h) (bufV b) (View.wordExact_bits rfl) ((View.wordExact_bits rfl).reshape _ _)) k
/-- Start the scatter of buffer `b` to the rows of the result that a list row names. -/
abbrev scatterFrom (sem : DmaSem sig) (b : Fin 4) (off : Fin 2 → Nat) (h : ∀ a, off a + S1x128.size a ≤ S64x128.size a) : TileProg F i PUnit :=
  SparseCore.enqueueIndirectScatter rfl (bufV b) outV gathers_S262144x128_S128x128 (listV off h) rfl sem rfl (Or.inl rfl)
/-- Wait for the rows of one scatter from buffer `b`. -/
abbrev waitRows (sem : DmaSem sig) (b : Fin 4) (k : PUnit → TileProg F i Unit) : TileProg F i Unit :=
  .op (.waitDma2 sem outV (bufV b) (View.wordExact_bits rfl) ((View.wordExact_bits rfl).reshape _ _)) k

/-- The semaphores: loads into buffers 0 and 1, into 2 and 3; scatters from 0 and 1, from 2 and 3; the list. -/
abbrev gA : DmaSem sig := cc0_scratch2.sem
abbrev gB : DmaSem sig := cc0_scratch3.sem
abbrev wA : DmaSem sig := cc0_scratch4.sem
abbrev wB : DmaSem sig := cc0_scratch5.sem
abbrev lS : DmaSem sig := cc0_scoped0.sem

/-- The last steps of a trip: the next loads into buffers 0 and 1, but in the last trip, and the wait for the scatters from 2 and 3. -/
def tripEnd (i : grid0.Coords) (t : Fin k0_t1_loop.trips) : TileProg F i Unit :=
  (if h : k0_cond1 t = 1#1 then
      load gA 0 (k0_off7 i t 0#32) (k0_off7_inb i t h 0) fun _ => load gA 1 (k0_off7 i t 1#32) (k0_off7_inb i t h 1) fun _ => pure ⟨⟩
    else pure ⟨⟩) >>= fun _ : PUnit =>
  waitRows wB 2 fun _ => waitRows wB 3 fun _ => pure ⟨⟩

/-- One trip of the loop: four chunks of the table, loaded into the four buffers and scattered. -/
def trip (i : grid0.Coords) (t : Fin k0_t1_loop.trips) : TileProg F i Unit :=
  load gB 2 (k0_off3 i t 0#32) (k0_off3_inb i t 0) fun _ => load gB 3 (k0_off3 i t 1#32) (k0_off3_inb i t 1) fun _ =>
  waitLoad gA 0 (k0_off4 i t 0#32) (k0_off4_inb i t 0) fun _ => waitLoad gA 1 (k0_off4 i t 1#32) (k0_off4_inb i t 1) fun _ =>
  scatterFrom wA 0 (k0_off5 t 0#32) (k0_off5_inb t 0) >>= fun _ => scatterFrom wA 1 (k0_off5 t 1#32) (k0_off5_inb t 1) >>= fun _ =>
  waitLoad gB 2 (k0_off3 i t 0#32) (k0_off3_inb i t 0) fun _ => waitLoad gB 3 (k0_off3 i t 1#32) (k0_off3_inb i t 1) fun _ =>
  scatterFrom wB 2 (k0_off6 t 0#32) (k0_off6_inb t 0) >>= fun _ => scatterFrom wB 3 (k0_off6 t 1#32) (k0_off6_inb t 1) >>= fun _ =>
  waitRows wA 0 fun _ => waitRows wA 1 fun _ =>
  tripEnd i t

variable [FloatOps F]

set_option maxRecDepth 65536 in
theorem body_eq_trip (i : grid0.Coords) (v : BitVec 32) (t : Fin k0_t1_loop.trips) (a : Unit) :
    k0_t1_body (F := F) i tabW (Memref.isWhole_whole _) idxW (Memref.isWhole_whole _) outW (Memref.isWhole_whole _) listW (Memref.isWhole_whole _)
      bufW (Memref.isWhole_whole _) cc0_scratch2 cc0_scratch3 cc0_scratch4 cc0_scratch5 cc0_scoped0 v t a = trip i t := by
  unfold k0_t1_body trip tripEnd
  rw [k0_part1_eq_skeleton, k0_part2_eq_skeleton, k0_part3_eq_skeleton, k0_part4_eq_skeleton]
  unfold k0_part1_skel k0_part2_skel k0_part3_skel k0_part4_skel
  by_cases h : k0_cond1 t = 1#1
  · simp only [dif_pos h, bind_assoc, pure_bind, Prog.bind_lift, Prog.bind_op, SparseCore.waitIndirectScatter_bind]
    rfl
  · simp only [dif_neg h, bind_assoc, pure_bind, Prog.bind_lift, Prog.bind_op, SparseCore.waitIndirectScatter_bind]
    rfl

/-- The whole tile program: fetch the list, wait for it, start the first two loads, the loop. -/
def tileProg (i : grid0.Coords) : TileProg F i PUnit :=
  .op (.enqueueDma (blockV i) (.here listW) (.dma lS) (View.wordExact_bits rfl) (Memref.isWhole_whole _).wordExact ⟨Or.inl rfl, trivial⟩) fun _ =>
  .op (.waitDma2 lS (blockV i) listW (View.wordExact_bits rfl) (Memref.isWhole_whole _).wordExact) fun _ =>
  load gA 0 (k0_off2 i 0#32) (k0_off2_inb i 0) fun _ => load gA 1 (k0_off2 i 128#32) (k0_off2_inb i 1) fun _ =>
  (Scf.Loop.for k0_t1_loop k0_t1_ok ⟨⟩ fun t _ => trip i t) >>= fun _ => pure ⟨⟩

set_option maxRecDepth 65536 in
theorem kernel_eq (i : grid0.Coords) :
    cc0_k (F := F) i tabW (Memref.isWhole_whole _) idxW (Memref.isWhole_whole _) outW (Memref.isWhole_whole _) listW (Memref.isWhole_whole _)
      bufW (Memref.isWhole_whole _) cc0_scratch2 cc0_scratch3 cc0_scratch4 cc0_scratch5 cc0_scoped0 = tileProg i := by
  rw [cc0_k_eq_skeleton]
  unfold cc0_k_skel tileProg
  rw [k0_part5_eq_skeleton]; unfold k0_part5_skel
  simp only [bind_assoc, pure_bind, Prog.bind_lift, Prog.bind_op]
  rw [show k0_t1_body (F := F) i tabW (Memref.isWhole_whole _) idxW (Memref.isWhole_whole _) outW (Memref.isWhole_whole _) listW (Memref.isWhole_whole _)
      bufW (Memref.isWhole_whole _) cc0_scratch2 cc0_scratch3 cc0_scratch4 cc0_scratch5 cc0_scoped0
        (Scalar.addi (Scalar.muli (BitVec.ofNat 32 (i 1).val) 2#32) (BitVec.ofNat 32 (i 0).val)) = fun t _ => trip i t from
    funext fun t => funext fun a => body_eq_trip i _ t a]
  rfl

end Cert.PermuteIdeal.Tile

end
-- ==== Proof.PermuteIdealRows.lean ====
/-
  What the scattering kernel's tiles move, as plain functions of the table and the lists, and what its views read and
  write in those terms.
-/
module

public import proofs.«01_k».proof.Proof.PermuteIdealBody
public import Idealize.ShloMosaic.Lib.Pipeline.ValueKit.Geometry

@[expose] public section

noncomputable section

namespace Cert.PermuteIdeal.Tile

open Cert.PermuteIdeal Cert.PermuteIdeal.Gen
open Idealize.ShloMosaic Idealize.ShloMosaic.SparseCore
open Idealize.SL.Sem

variable {F : FTy → Type}

/-- The tile at core `i 0`, subcore `i 1` is tile `2 * i 1 + i 0` of the 32. -/
def tileNo (i : grid0.Coords) : Nat := 2 * (i 1).val + (i 0).val

theorem tileNo_lt (i : grid0.Coords) : tileNo i < 32 := by
  have h0 : (i 0).val < 2 := (i 0).isLt
  have h1 : (i 1).val < 16 := (i 1).isLt
  unfold tileNo; omega

/-- The table's row a word names. -/
def rowOf (v : BitVec 32) : Fin 262144 := ⟨v.toNat % 262144, Nat.mod_lt _ (by decide)⟩

/-- Entry `(r, c)` of the table or the result, of the lists, of a tile's list. -/
abbrev rowAt (r : Fin 262144) (c : Fin 128) : S262144x128.Idx := Shape.pair r c
abbrev wordAt (r : Fin 2048) (c : Fin 128) : S2048x128.Idx := Shape.pair r c
abbrev listAt (r : Fin 64) (c : Fin 128) : S64x128.Idx := Shape.pair r c

/-- The list row of the tile's list that entry `(r, x)` is at in the lists. -/
def listRow (i : grid0.Coords) (k : Fin 64) : Fin 2048 := ⟨64 * tileNo i + k.val, by have := tileNo_lt i; omega⟩

/-- The tile's own list. -/
def theList (X : S2048x128.Idx → BitVec 32) (i : grid0.Coords) : S64x128.Idx → BitVec 32 :=
  fun x => X (wordAt (listRow i (x 0)) (x 1))

/-- Word `r` of the lists, read row by row. -/
def word (X : S2048x128.Idx → BitVec 32) (r : Fin 262144) : BitVec 32 :=
  X (wordAt (⟨r.val / 128, by omega⟩ : Fin 2048) (⟨r.val % 128, by omega⟩ : Fin 128))

/-- Where row `r` of the table goes. -/
def place (X : S2048x128.Idx → BitVec 32) (r : Fin 262144) : Fin 262144 := rowOf (word X r)

/-- Every word of the lists names a row, and no row is named twice. -/
structure OnePlace (X : S2048x128.Idx → BitVec 32) : Prop where
  rows : ∀ j, (X j).toNat < 262144
  inj : Function.Injective (place X)

/-- The row of the table that goes to row `r` of the result. -/
def from_ (X : S2048x128.Idx → BitVec 32) (r : Fin 262144) : Fin 262144 := Function.invFun (place X) r

theorem from_place {X : S2048x128.Idx → BitVec 32} (hX : OnePlace X) (r : Fin 262144) : from_ X (place X r) = r :=
  Function.leftInverse_invFun hX.inj r

theorem place_from {X : S2048x128.Idx → BitVec 32} (hX : OnePlace X) (r : Fin 262144) : place X (from_ X r) = r :=
  Function.rightInverse_invFun (Finite.injective_iff_surjective.1 hX.inj) r

/-- Row `y` of the tile's chunk `k`, in the whole table. -/
def chunkRow (i : grid0.Coords) (k : Fin 64) (y : Fin 128) : Fin 262144 :=
  ⟨8192 * tileNo i + 128 * k.val + y.val, by have := tileNo_lt i; omega⟩

/-- The tile's chunk `k` of the table. -/
def pay (T : S262144x128.Idx → Elt F .f32) (i : grid0.Coords) (k : Fin 64) : S128x128.Idx → Elt F .f32 :=
  fun y => T (rowAt (chunkRow i k (y 0)) (y 1))

/-- The result: row `r` of the table at the row that word `r` of the lists names. -/
def placed (T : S262144x128.Idx → Elt F .f32) (X : S2048x128.Idx → BitVec 32) : S262144x128.Idx → Elt F .f32 :=
  fun x => T (rowAt (from_ X (x 0)) (x 1))

/-! ## The views' elements -/

theorem blockV_emb (i : grid0.Coords) (x : S64x128.Idx) : (blockV i).view.emb x = wordAt (listRow i (x 0)) (x 1) := by
  funext a
  refine Fin.ext ?_
  show k0_off1 i a + 1 * (x a).val = _
  rw [k0_off1_eq]
  match a with
  | 0 => show 128 * (i 1).val + 64 * (i 0).val + 1 * (x 0).val = 64 * tileNo i + (x 0).val; unfold tileNo; omega
  | 1 => show 0 + 1 * (x 1).val = (x 1).val; omega

theorem blockV_read (X : Buf (Elt F) ((V (0 : Dev nD) (0 : Fin τ.nSC) (0 : Fin τ.nSub)).loc main_arg1_scv)) (i : grid0.Coords) :
    (blockV i).view.read (Elt F) X = theList X i :=
  funext fun x => ((View.read_apply _ _).trans (cast_eq _ _)).trans (congrArg X (blockV_emb i x))

theorem outV_emb (x : S262144x128.Idx) : (outV).view.emb x = x := by
  funext a
  refine Fin.ext ?_
  show (![0, 0] : Fin 2 → Nat) a + 1 * (x a).val = _
  match a with
  | 0 => show 0 + 1 * (x 0).val = _; omega
  | 1 => show 0 + 1 * (x 1).val = _; omega

theorem listV_emb (k : Fin 64) {off : Fin 2 → Nat} (h) (hoff : off = ![k.val, 0]) (x : S128.Idx) :
    (listV off h).view.emb x = listAt k (x 0) := by
  subst hoff
  funext a
  refine Fin.ext ?_
  show (![k.val, 0] : Fin 2 → Nat) a + 1 * ((Shape.reshapeEquiv squeezes_S1x128_S128.numel_eq x) a).val = _
  rw [Shape.reshapeEquiv_cons_one]
  match a with
  | 0 => show k.val + 1 * 0 = _; rfl
  | 1 => show 0 + 1 * (x 0).val = (x 0).val; omega

theorem chunkV_emb (i : grid0.Coords) (k : Fin 64) {off : Fin 2 → Nat} (h) (hoff : off = ![8192 * tileNo i + 128 * k.val, 0]) (x : S128x128.Idx) :
    (chunkV off h).view.emb x = rowAt (chunkRow i k (x 0)) (x 1) := by
  subst hoff
  funext a
  refine Fin.ext ?_
  show (![8192 * tileNo i + 128 * k.val, 0] : Fin 2 → Nat) a + 1 * (x a).val = _
  match a with
  | 0 => show 8192 * tileNo i + 128 * k.val + 1 * (x 0).val = 8192 * tileNo i + 128 * k.val + (x 0).val; omega
  | 1 => show 0 + 1 * (x 1).val = (x 1).val; omega

/-! ## What a load brings, and what a scatter leaves -/

theorem chunkV_read (T : S262144x128.Idx → Elt F .f32) (i : grid0.Coords) (k : Fin 64) {off : Fin 2 → Nat} (h)
    (hoff : off = ![8192 * tileNo i + 128 * k.val, 0]) : (chunkV off h).view.read (Elt F) T = pay T i k :=
  funext fun x => ((View.read_apply _ _).trans (cast_eq _ _)).trans (congrArg T (chunkV_emb i k h hoff x))

theorem listV_read (L : S64x128.Idx → BitVec 32) (k : Fin 64) {off : Fin 2 → Nat} (h) (hoff : off = ![k.val, 0]) (x : S128.Idx) :
    (listV off h).view.read (Elt F) L x = L (listAt k (x 0)) :=
  ((View.read_apply _ _).trans (cast_eq _ _)).trans (congrArg L (listV_emb k h hoff x))

theorem list_inb {X : S2048x128.Idx → BitVec 32} (hX : OnePlace X) (i : grid0.Coords) (k : Fin 64) {off : Fin 2 → Nat} (h) (hoff : off = ![k.val, 0]) :
    ∀ x, ((listV off h).view.read (Elt F) (theList X i) x).toNat < S262144x128.size gathers_S262144x128_S128x128.axis := fun x => by
  rw [listV_read _ k h hoff]; exact hX.rows _

theorem list_word (X : S2048x128.Idx → BitVec 32) (i : grid0.Coords) (k : Fin 64) (y : Fin 128) : theList X i (listAt k y) = word X (chunkRow i k y) := by
  unfold theList word
  have hy := y.isLt
  congr 1
  congr 1
  · refine Fin.ext ?_
    show 64 * tileNo i + k.val = (8192 * tileNo i + 128 * k.val + y.val) / 128
    omega
  · refine Fin.ext ?_
    show y.val = (8192 * tileNo i + 128 * k.val + y.val) % 128
    omega

/-- Entry `y` of list row `k` names the place of row `y` of chunk `k`. -/
theorem rows_eq {X : S2048x128.Idx → BitVec 32} (hX : OnePlace X) (i : grid0.Coords) (k : Fin 64) {off : Fin 2 → Nat} (h)
    (hoff : off = ![k.val, 0]) (hn : S128.numel = S128x128.size gathers_S262144x128_S128x128.axis') (hin) (y : Fin 128) :
    rows ((listV off h).view.read (Elt F) (theList X i)) hn hin y = place X (chunkRow i k y) := by
  refine Fin.ext ?_
  have hx : ∀ x : S128.Idx, x = S128.rowMajor.symm (Fin.cast hn.symm y) → (x 0).val = y.val := fun x e => by
    rw [← Shape.rowMajor_val_one x, e, Equiv.apply_symm_apply]; rfl
  show ((listV off h).view.read (Elt F) (theList X i) (S128.rowMajor.symm (Fin.cast hn.symm y))).toNat = _
  rw [listV_read _ k h hoff]
  have e0 : (S128.rowMajor.symm (Fin.cast hn.symm y)) 0 = y := Fin.ext (hx _ rfl)
  rw [e0, list_word]
  exact (Nat.mod_eq_of_lt (hX.rows _)).symm

theorem chunkRow_inj (i : grid0.Coords) (k : Fin 64) : Function.Injective (chunkRow i k) := fun y y' e => by
  have := congrArg Fin.val e
  simp only [chunkRow] at this
  exact Fin.ext (by omega)

theorem rows_inj {X : S2048x128.Idx → BitVec 32} (hX : OnePlace X) (i : grid0.Coords) (k : Fin 64) {off : Fin 2 → Nat} (h)
    (hoff : off = ![k.val, 0]) (hn : S128.numel = S128x128.size gathers_S262144x128_S128x128.axis') :
    Function.Injective (rows ((listV off h).view.read (Elt F) (theList X i)) hn (list_inb (F := F) hX i k h hoff)) := fun y y' e =>
  chunkRow_inj i k (hX.inj (((rows_eq hX i k h hoff hn _ y).symm.trans e).trans (rows_eq hX i k h hoff hn _ y')))

/-- The rows of the result where the tile's chunk `k` goes. -/
def scatSet (X : S2048x128.Idx → BitVec 32) (i : grid0.Coords) (k : Fin 64) : Finset S262144x128.Idx :=
  Finset.univ.filter fun x => (from_ X (x 0)).val / 128 = 64 * tileNo i + k.val

/-- An element of row `r` of the result. -/
theorem mem_row (r : Fin 262144) (x : S262144x128.Idx) :
    x ∈ ((outV).view.slice (S262144x128.rowRect gathers_S262144x128_S128x128.axis r)).set ↔ x 0 = r := by
  constructor
  · intro hx
    obtain ⟨j, -, rfl⟩ := Finset.mem_map.1 hx
    show (outV).view.emb ((S262144x128.rowRect gathers_S262144x128_S128x128.axis r).emb j) 0 = r
    rw [outV_emb]
    exact Shape.rowRect_emb_axis _ _ _
  · rintro rfl
    refine Finset.mem_map.2 ⟨S262144x128.rowProj gathers_S262144x128_S128x128.axis x, Finset.mem_univ _, ?_⟩
    show (outV).view.emb ((S262144x128.rowRect gathers_S262144x128_S128x128.axis (x 0)).emb _) = x
    rw [outV_emb]
    exact Shape.rowRect_emb_rowProj _ _

theorem mem_scatSet {X : S2048x128.Idx → BitVec 32} (hX : OnePlace X) (i : grid0.Coords) (k : Fin 64) (x : S262144x128.Idx) :
    x ∈ scatSet X i k ↔ ∃ y : Fin 128, x 0 = place X (chunkRow i k y) := by
  simp only [scatSet, Finset.mem_filter, Finset.mem_univ, true_and]
  constructor
  · intro h
    refine ⟨⟨(from_ X (x 0)).val % 128, Nat.mod_lt _ (by decide)⟩, ((place_from hX (x 0)).symm.trans (congrArg (place X) (Fin.ext ?_)))⟩
    show (from_ X (x 0)).val = 8192 * tileNo i + 128 * k.val + (from_ X (x 0)).val % 128
    omega
  · rintro ⟨y, e⟩
    rw [e, from_place hX]
    have hy := y.isLt
    show (8192 * tileNo i + 128 * k.val + y.val) / 128 = _
    omega

variable (d : Dev nD) (i : grid0.Coords)

/-- The tile's thread. -/
abbrev thr : Thread nD τ := V d (cV i) (jV i)

/-- The rows that list row `k` names are the ones where chunk `k` goes. -/
theorem named_eq {X : S2048x128.Idx → BitVec 32} (hX : OnePlace X) (k : Fin 64) {off : Fin 2 → Nat} (h)
    (hoff : off = ![k.val, 0]) (hn : S128.numel = S128x128.size gathers_S262144x128_S128x128.axis') :
    namedRows (thr d i) (outV).view gathers_S262144x128_S128x128.axis
      (rows ((listV off h).view.read (Elt F) (theList X i)) hn (list_inb (F := F) hX i k h hoff)) = scatSet X i k := by
  ext x
  refine Iff.trans ?_ (mem_scatSet hX i k x).symm
  unfold namedRows
  rw [Finset.mem_biUnion]
  constructor
  · rintro ⟨y, -, hy⟩
    exact ⟨y, ((mem_row _ x).1 hy).trans (rows_eq hX i k h hoff hn _ y)⟩
  · rintro ⟨y, hy⟩
    exact ⟨y, Finset.mem_univ _, (mem_row _ x).2 (hy.trans (rows_eq hX i k h hoff hn _ y).symm)⟩

/-- What a scatter from a buffer holding chunk `k` leaves in the rows it names. -/
theorem scatter_eq (T : S262144x128.Idx → Elt F .f32) {X : S2048x128.Idx → BitVec 32} (hX : OnePlace X) (k : Fin 64) {off : Fin 2 → Nat} (h)
    (hoff : off = ![k.val, 0]) (hn : S128.numel = S128x128.size gathers_S262144x128_S128x128.axis') (b : Fin 4) (f : S4x128x128.Idx → Elt F .f32)
    (g : S262144x128.Idx → Elt F .f32) :
    ∀ x ∈ scatSet X i k,
      scatterBuf (thr d i) (outV).view gathers_S262144x128_S128x128.axis
        (rows ((listV off h).view.read (Elt F) (theList X i)) hn (list_inb (F := F) hX i k h hoff))
        (scatterRowPayload (thr d i) (bufV b) gathers_S262144x128_S128x128 ((bufV b).view.write (Elt F) f (pay T i k) Finset.univ)) g x
        = placed T X x := by
  intro x hx
  obtain ⟨y, hy⟩ := (mem_scatSet hX i k x).1 hx
  have hmem := (mem_row _ x).2 (hy.trans (rows_eq hX i k h hoff hn (list_inb (F := F) hX i k h hoff) y).symm)
  rw [scatterBuf_of_mem (thr d i) (outV).view gathers_S262144x128_S128x128.axis _ (rows_inj hX i k h hoff hn) _ _ hmem]
  obtain ⟨j, -, ej⟩ := Finset.mem_map.1 hmem
  have e1 : (x 1).val = (j 1).val := by
    rw [← ej]
    show ((outV).view.emb ((S262144x128.rowRect gathers_S262144x128_S128x128.axis _).emb j) 1).val = _
    rw [outV_emb]
    exact Shape.rowRect_emb_of_ne _ _ _ (by decide)
  refine (congrArg _ ej.symm).trans ?_
  refine (View.write_emb_of_mem _ _ (Finset.mem_univ j)).trans ((cast_eq _ _).trans ?_)
  refine ((View.read_apply _ _).trans (cast_eq _ _)).trans ?_
  refine (View.write_emb_of_mem (v := (bufV b).view) f (pay T i k)
    (x := (S128x128.rowRect gathers_S262144x128_S128x128.axis' y).emb ((Shape.idxEquiv gathers_S262144x128_S128x128.rowShape_eq).symm j))
    (Finset.mem_univ _)).trans ((cast_eq _ _).trans ?_)
  unfold pay placed
  rw [hy, from_place hX]
  congr 1
  congr 1
  · exact congrArg (chunkRow i k) (Shape.rowRect_emb_axis _ _ _)
  · refine Fin.ext (Eq.trans ?_ e1.symm)
    refine (Shape.rowRect_emb_of_ne _ _ _ (by decide)).trans ?_
    exact Shape.idxEquiv_symm_apply_val _ _ _

end Cert.PermuteIdeal.Tile

end
-- ==== Proof.PermuteIdealSteps.lean ====
/-
  The scattering kernel's steps on one tile: what is held of a row buffer that is idle, or that holds rows of the table, and
  the kinds of step a trip is made of.
-/
module

public import proofs.«01_k».proof.Proof.PermuteIdealRows
public import Idealize.ShloMosaic.Lib.SparseCore.Quiescent
public import Idealize.ShloMosaic.Lib.StableHlo.Run
public import Idealize.ShloMosaic.Lib.Pipeline.Kit
public import Idealize.ShloMosaic.Lib.Scf
public import Idealize.ShloMosaic.Lib.Tactic

@[expose] public section

noncomputable section

namespace Cert.PermuteIdeal.Tile

open Cert.PermuteIdeal Cert.PermuteIdeal.Gen Cert.Streams
open Idealize.ShloMosaic
open Idealize.ShloMosaic.SparseCore (S V T rows namedRows scatterBuf scatterRowPayload)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

/-- The ghost state: the handshakes' rounds and the transfers' counters. -/
abbrev UH : Type := URounds (GSem nD τ sig) ℕ
abbrev UU : Type := UH × Counters

local notation "𝕄" => MT nD τ sig (HIx 1) (Elt F) ℕ UU ℕ

abbrev 𝒱₀ : Variants := Variants.none

variable (d : Dev nD) (i : grid0.Coords)

/-- The table's, the lists' and the result's buffers on device `d`. -/
abbrev tabLoc : Loc nD τ sig := (SparseCore.T d).loc main_arg0
abbrev idxLoc : Loc nD τ sig := (SparseCore.T d).loc main_arg1
abbrev outLoc : Loc nD τ sig := (SparseCore.T d).loc main_v0

variable (T : S262144x128.Idx → Elt F .f32) (X : S2048x128.Idx → BitVec 32) (q : PosShare TreeShare)

/-- Buffer `b`'s quarter of the tile's shares of the table and of its list. -/
def shares (b : Fin 4) : sProp 𝕄 :=
  iprop((tabLoc d ↦{pieceOf q 4 (by decide) b} (T : Buf (Elt F) (tabLoc d)))
    ∗ ((listW).view.loc (thr d i) ↦{pieceOf fullShare 4 (by decide) b} (theList X i : Buf (Elt F) ((listW).view.loc (thr d i)))))

/-- Row buffer `b`, idle. -/
def ticket (b : Fin 4) : sProp 𝕄 :=
  iprop((∃ g, (bufV b).view.loc (thr d i) ↦[(bufV b).view.set]{fullShare} g) ∗ shares d i T X q b)

/-- Row buffer `b` holding chunk `k` of the table. -/
def filled (b : Fin 4) (k : Fin 64) : sProp 𝕄 :=
  iprop((∃ g, (bufV b).view.loc (thr d i) ↦[(bufV b).view.set]{fullShare} (bufV b).view.write (Elt F) g (pay T i k) Finset.univ)
    ∗ shares d i T X q b)

/-- The rows of the result where chunk `k` goes, at contents `f`. -/
def scatAt (k : Fin 64) (f : S262144x128.Idx → Elt F .f32) : sProp 𝕄 := outLoc d ↦[scatSet X i k]{fullShare} f

/-- What a transfer of one row of the result and of a row buffer count on their semaphores. -/
theorem rowCredit (r) : ((outV).slice (S262144x128.rowRect gathers_S262144x128_S128x128.axis r)
    (S262144x128.stride_rowRect gathers_S262144x128_S128x128.axis r)).view.dmaCredit = 4096 :=
  View.dmaCredit_closed _ (S262144x128.rowShape gathers_S262144x128_S128x128.axis) rfl main_v0_scv.idx rfl 4096 (by decide +kernel)
theorem bufCredit (b : Fin 4) : (bufV b).view.dmaCredit = 128 * 4096 := by decide +revert +kernel

variable {d i T X q} [FloatOps F]

/-- A finished load: the buffer holds the chunk. -/
theorem loaded_done (b : Fin 4) (k : Fin 64) {off : Fin 2 → Nat} {h} (e : off = ![8192 * tileNo i + 128 * k.val, 0])
    (g : S4x128x128.Idx → Elt F .f32) :
    iprop(copied (thr d i) (chunkV off h) (bufV b) (pieceOf q 4 (by decide) b) T g
        ∗ (tabLoc d ↦[Finset.univ \ (chunkV off h).view.set]{pieceOf q 4 (by decide) b} (T : Buf (Elt F) (tabLoc d)))
        ∗ ((listW).view.loc (thr d i) ↦{pieceOf fullShare 4 (by decide) b} (theList X i : Buf (Elt F) ((listW).view.loc (thr d i)))))
      ⊢ (filled d i T X q b k : sProp 𝕄) := by
  unfold copied filled shares
  iintro ⟨⟨Hd, Hs⟩, Hr, Hl⟩
  isplitl [Hd]
  · iexists g
    iapply (Entails.of_eq (show _ = ((bufV b).view.loc (thr d i) ↦[(bufV b).view.set]{fullShare} (bufV b).view.write (Elt F) g (pay T i k) Finset.univ : sProp 𝕄) from
      congrArg (fun p => ((bufV b).view.loc (thr d i) ↦[(bufV b).view.set]{fullShare} (bufV b).view.write (Elt F) g p Finset.univ : sProp 𝕄))
        (chunkV_read T i k h e)))
    iexact Hd
  isplitl [Hs Hr]
  · iapply (pointsTo_split_subset (ℓ := tabLoc d) (S := Finset.univ) (Finset.subset_univ (chunkV off h).view.set)).2
    isplitl [Hs]; · iexact Hs
    iexact Hr
  iexact Hl

/-- Starting the loads of chunks `k₁` and `k₂` into two idle buffers. -/
theorem wp_loads {sem : DmaSem sig} (b₁ b₂ : Fin 4) (k₁ k₂ : Fin 64) {off₁ off₂ : Fin 2 → Nat} {h₁ h₂}
    (e₁ : off₁ = ![8192 * tileNo i + 128 * k₁.val, 0]) (e₂ : off₂ = ![8192 * tileNo i + 128 * k₂.val, 0])
    {k : PUnit → TileProg F i Unit} {Q : Unit → sProp 𝕄} :
    iprop(ticket d i T X q b₁ ∗ ticket d i T X q b₂ ∗ semVal (thr d i, .dma sem) 0)
      ⊢ iprop((InFlight countersEmb (thr d i) sem (default : HIx 1) (128 * 4096) 2 iprop(filled d i T X q b₁ k₁ ∗ filled d i T X q b₂ k₂)
            -∗ wp frame (wpE (defs₀ (F := F)) 𝒱₀ (thr d i) none) Set.univ (k ⟨⟩) Q)
          -∗ wp frame (wpE (defs₀ (F := F)) 𝒱₀ (thr d i) none) Set.univ
              (load sem b₁ off₁ h₁ fun _ => load sem b₂ off₂ h₂ k) Q) := by
  unfold ticket shares
  iintro ⟨⟨⟨%g1, Hb1⟩, Ht1, Hl1⟩, ⟨⟨%g2, Hb2⟩, Ht2, Hl2⟩, Hs⟩ Hk
  ihave Hx1 := (pointsTo_split_subset (ℓ := tabLoc d) (S := Finset.univ) (Finset.subset_univ (chunkV off₁ h₁).view.set)).1 $$ Ht1
  icases Hx1 with ⟨Ht1, Hr1⟩
  ihave Hx2 := (pointsTo_split_subset (ℓ := tabLoc d) (S := Finset.univ) (Finset.subset_univ (chunkV off₂ h₂).view.set)).1 $$ Ht2
  icases Hx2 with ⟨Ht2, Hr2⟩
  iapply (wp_copy_both countersEmb 𝒱₀ (thr d i) none (sem := sem) (src₁ := chunkV off₁ h₁) (dst₁ := bufV b₁) (src₂ := chunkV off₂ h₂) (dst₂ := bufV b₂) (k := k)
      (default : HIx 1) (128 * 4096) (bufCredit b₁) (bufCredit b₂)) $$ [Ht1 Hb1 Ht2 Hb2 Hs]
  · isplitl [Ht1]; · iexact Ht1
    isplitl [Hb1]; · iexact Hb1
    isplitl [Ht2]; · iexact Ht2
    isplitl [Hb2]; · iexact Hb2
    iexact Hs
  iintro Hf
  iapply Hk
  iapply (InFlight.mono countersEmb (thr d i))
  isplitl [Hf]; · iexact Hf
  iintro ⟨H1, H2⟩
  isplitl [H1 Hr1 Hl1]
  · iapply (loaded_done b₁ k₁ e₁ g1)
    isplitl [H1]; · iexact H1
    isplitl [Hr1]; · iexact Hr1
    iexact Hl1
  · iapply (loaded_done b₂ k₂ e₂ g2)
    isplitl [H2]; · iexact H2
    isplitl [Hr2]; · iexact Hr2
    iexact Hl2

/-- A finished scatter from a filled buffer: the buffer is idle, the rows of the result are what they should be. -/
theorem scattered_done (hX : OnePlace X) (b : Fin 4) (k : Fin 64) {off : Fin 2 → Nat} {h} (e : off = ![k.val, 0])
    (f : S4x128x128.Idx → Elt F .f32) (g : S262144x128.Idx → Elt F .f32) :
    iprop((((outV).view.loc (thr d i) ↦[namedRows (thr d i) (outV).view gathers_S262144x128_S128x128.axis
            (rows ((listV off h).view.read (Elt F) (theList X i)) rfl (list_inb (F := F) hX i k h e))]{fullShare}
          (scatterBuf (thr d i) (outV).view gathers_S262144x128_S128x128.axis
            (rows ((listV off h).view.read (Elt F) (theList X i)) rfl (list_inb (F := F) hX i k h e))
            (scatterRowPayload (thr d i) (bufV b) gathers_S262144x128_S128x128 ((bufV b).view.write (Elt F) f (pay T i k) Finset.univ)) g))
          ∗ ((bufV b).view.loc (thr d i) ↦[(bufV b).view.set]{fullShare} (bufV b).view.write (Elt F) f (pay T i k) Finset.univ)
          ∗ ((listV off h).view.loc (thr d i) ↦[(listV off h).view.set]{pieceOf fullShare 4 (by decide) b} (theList X i : Buf (Elt F) ((listW).view.loc (thr d i)))))
        ∗ (tabLoc d ↦{pieceOf q 4 (by decide) b} (T : Buf (Elt F) (tabLoc d)))
        ∗ ((listW).view.loc (thr d i) ↦[Finset.univ \ (listV off h).view.set]{pieceOf fullShare 4 (by decide) b} (theList X i : Buf (Elt F) ((listW).view.loc (thr d i)))))
      ⊢ (iprop(ticket d i T X q b ∗ scatAt d i X k (placed T X)) : sProp 𝕄) := by
  unfold ticket scatAt shares
  iintro ⟨⟨Ho, Hb, Hl⟩, Ht, Hr⟩
  isplitl [Hb Hl Ht Hr]
  · isplitl [Hb]; · iexists _; iexact Hb
    isplitl [Ht]; · iexact Ht
    iapply (pointsTo_split_subset (S := Finset.univ) (Finset.subset_univ (listV off h).view.set)).2
    isplitl [Hl]; · iexact Hl
    iexact Hr
  · iapply (Entails.of_eq ((congrArg (fun S => (outLoc d ↦[S]{fullShare} _ : sProp 𝕄)) (named_eq (F := F) d i hX k h e rfl)).trans
      (pointsTo_congr (scatter_eq d i T hX k h e rfl b f g))))
    iexact Ho

/-- Starting the scatters from two filled buffers. -/
theorem wp_scatters (hX : OnePlace X) {sem : DmaSem sig} (b₁ b₂ : Fin 4) (k₁ k₂ : Fin 64) {off₁ off₂ : Fin 2 → Nat} {h₁ h₂}
    (e₁ : off₁ = ![k₁.val, 0]) (e₂ : off₂ = ![k₂.val, 0]) {k : PUnit → TileProg F i Unit}
    {Q : Unit → sProp 𝕄} {f : S262144x128.Idx → Elt F .f32} :
    iprop((filled d i T X q b₁ k₁ ∗ filled d i T X q b₂ k₂) ∗ scatAt d i X k₁ f ∗ scatAt d i X k₂ f ∗ semVal (thr d i, .dma sem) 0)
      ⊢ iprop((InFlight countersEmb (thr d i) sem (default : HIx 1) 4096 (128 + 128)
              iprop((ticket d i T X q b₁ ∗ scatAt d i X k₁ (placed T X)) ∗ (ticket d i T X q b₂ ∗ scatAt d i X k₂ (placed T X)))
            -∗ wp frame (wpE (defs₀ (F := F)) 𝒱₀ (thr d i) none) Set.univ (k ⟨⟩) Q)
          -∗ wp frame (wpE (defs₀ (F := F)) 𝒱₀ (thr d i) none) Set.univ
              (scatterFrom sem b₁ off₁ h₁ >>= fun _ => scatterFrom sem b₂ off₂ h₂ >>= k) Q) := by
  unfold filled shares
  iintro ⟨⟨⟨⟨%g1, Hb1⟩, Ht1, Hl1⟩, ⟨⟨%g2, Hb2⟩, Ht2, Hl2⟩⟩, Hc1, Hc2, Hv⟩ Hk
  ihave Hx1 := (pointsTo_split_subset (S := Finset.univ) (Finset.subset_univ (listV off₁ h₁).view.set)).1 $$ Hl1
  icases Hx1 with ⟨Hl1, Hr1⟩
  ihave Hx2 := (pointsTo_split_subset (S := Finset.univ) (Finset.subset_univ (listV off₂ h₂).view.set)).1 $$ Hl2
  icases Hx2 with ⟨Hl2, Hr2⟩
  unfold scatAt
  ihave Hc1 := (Entails.of_eq (congrArg (fun S => (outLoc d ↦[S]{fullShare} f : sProp 𝕄)) (named_eq (F := F) d i hX k₁ h₁ e₁ rfl).symm)) $$ Hc1
  ihave Hc2 := (Entails.of_eq (congrArg (fun S => (outLoc d ↦[S]{fullShare} f : sProp 𝕄)) (named_eq (F := F) d i hX k₂ h₂ e₂ rfl).symm)) $$ Hc2
  iapply (wp_scatter_both countersEmb 𝒱₀ (thr d i) none (sem := sem) (src₁ := bufV b₁) (dst₁ := outV) (hg₁ := gathers_S262144x128_S128x128) (offs₁ := listV off₁ h₁)
      (src₂ := bufV b₂) (dst₂ := outV) (hg₂ := gathers_S262144x128_S128x128) (offs₂ := listV off₂ h₂) (k := k)
      (default : HIx 1) 4096 (list_inb hX i k₁ h₁ e₁) (list_inb hX i k₂ h₂ e₂) (rows_inj hX i k₁ h₁ e₁ rfl) (rows_inj hX i k₂ h₂ e₂ rfl)
      rowCredit rowCredit) $$ [Hb1 Hc1 Hl1 Hb2 Hc2 Hl2 Hv]
  · isplitl [Hb1 Hc1 Hl1]
    · isplitl [Hb1]; · iexact Hb1
      isplitl [Hc1]; · iexact Hc1
      iexact Hl1
    isplitl [Hb2 Hc2 Hl2]
    · isplitl [Hb2]; · iexact Hb2
      isplitl [Hc2]; · iexact Hc2
      iexact Hl2
    iexact Hv
  iintro Hf
  iapply Hk
  iapply (InFlight.mono countersEmb (thr d i))
  isplitl [Hf]; · iexact Hf
  iintro ⟨H1, H2⟩
  isplitl [H1 Ht1 Hr1]
  · iapply (scattered_done hX b₁ k₁ e₁ g1 f)
    isplitl [H1]; · iexact H1
    isplitl [Ht1]; · iexact Ht1
    iexact Hr1
  · iapply (scattered_done hX b₂ k₂ e₂ g2 f)
    isplitl [H2]; · iexact H2
    isplitl [Ht2]; · iexact Ht2
    iexact Hr2

variable {O : CellTallies nD τ sig (HIx 1)} {W : Waits sig (HIx 1)}

/-- Waiting for two loads. -/
theorem wp_loadsWait {sem : DmaSem sig} (b₁ b₂ : Fin 4) {off₁ off₂ : Fin 2 → Nat} {h₁ h₂} {P : sProp 𝕄} {k : PUnit → TileProg F i Unit} {Q : Unit → sProp 𝕄} :
    iprop(InFlight countersEmb (thr d i) sem (default : HIx 1) (128 * 4096) 2 P ∗ owes (thr d i) O W ∗ MayWaits (thr d i) (default : HIx 1) O)
      ⊢ iprop((iprop(P ∗ semVal (thr d i, .dma sem) 0 ∗ owes (thr d i) O (insert (SemLoc.dma sem, (default : HIx 1)) W))
            -∗ wp frame (wpE (defs₀ (F := F)) 𝒱₀ (thr d i) none) Set.univ (k ⟨⟩) Q)
          -∗ wp frame (wpE (defs₀ (F := F)) 𝒱₀ (thr d i) none) Set.univ (waitLoad sem b₁ off₁ h₁ fun _ => waitLoad sem b₂ off₂ h₂ k) Q) :=
  wp_wait_both countersEmb 𝒱₀ (thr d i) none (src₁ := chunkV off₁ h₁) (dst₁ := bufV b₁) (src₂ := chunkV off₂ h₂) (dst₂ := bufV b₂) (default : HIx 1) (o := 1)
    (by decide) rfl ((bufCredit b₁).trans (Nat.one_mul _).symm) ((bufCredit b₂).trans (Nat.one_mul _).symm)

/-- Waiting for two scatters. -/
theorem wp_rowsWait {sem : DmaSem sig} (b₁ b₂ : Fin 4) {P : sProp 𝕄} {k : PUnit → TileProg F i Unit} {Q : Unit → sProp 𝕄} :
    iprop(InFlight countersEmb (thr d i) sem (default : HIx 1) 4096 (128 + 128) P ∗ owes (thr d i) O W ∗ MayWaits (thr d i) (default : HIx 1) O)
      ⊢ iprop((iprop(P ∗ semVal (thr d i, .dma sem) 0 ∗ owes (thr d i) O (insert (SemLoc.dma sem, (default : HIx 1)) W))
            -∗ wp frame (wpE (defs₀ (F := F)) 𝒱₀ (thr d i) none) Set.univ (k ⟨⟩) Q)
          -∗ wp frame (wpE (defs₀ (F := F)) 𝒱₀ (thr d i) none) Set.univ (waitRows sem b₁ fun _ => waitRows sem b₂ k) Q) :=
  wp_wait_both countersEmb 𝒱₀ (thr d i) none (src₁ := outV) (dst₁ := bufV b₁) (src₂ := outV) (dst₂ := bufV b₂) (default : HIx 1) (o := 128) (by decide) rfl
    (bufCredit b₁) (bufCredit b₂)

end Cert.PermuteIdeal.Tile

end
-- ==== Proof.PermuteIdealTile.lean ====
/-
  The scattering kernel's loop on one tile, and its whole tile program: from the tile's shares of the table and the lists and
  the rows of the result its chunks go to, to the same with the result's rows written.
-/
module

public import proofs.«01_k».proof.Proof.PermuteIdealSteps

@[expose] public section

noncomputable section

namespace Cert.PermuteIdeal.Tile

open Cert.PermuteIdeal Cert.PermuteIdeal.Gen Cert.Streams
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

local notation "𝕄" => MT nD τ sig (HIx 1) (Elt F) ℕ UU ℕ

/-! ## Where a trip's transfers go -/

theorem trips_eq : k0_t1_loop.trips = 16 := by decide +kernel
theorem trip_lt (t : Fin k0_t1_loop.trips) : t.val < 16 := lt_of_lt_of_eq t.isLt trips_eq
theorem cond_iff : ∀ t : Fin k0_t1_loop.trips, k0_cond1 t = 1#1 ↔ t.val < 15 := by decide +kernel

/-- List row `4 * t + r`. -/
def lineNo (t : ℕ) (ht : t < 16) (r : Fin 4) : Fin 64 := ⟨4 * t + r.val, by omega⟩

theorem vec_eq {a b : ℕ} (h : a = b) : (![a, 0] : Fin 2 → ℕ) = ![b, 0] := h ▸ rfl

section Offsets
variable (i : grid0.Coords) (t : Fin k0_t1_loop.trips)
theorem off3_0 : k0_off3 i t 0#32 = ![8192 * tileNo i + 128 * (lineNo t (trip_lt t) 2).val, 0] :=
  (k0_off3_eq i t 0).trans (vec_eq (by
    show 16384 * (i 1).val + 8192 * (i 0).val + 512 * t.val + 128 * 0 + 256 = 8192 * (2 * (i 1).val + (i 0).val) + 128 * (4 * t.val + 2); omega))
theorem off3_1 : k0_off3 i t 1#32 = ![8192 * tileNo i + 128 * (lineNo t (trip_lt t) 3).val, 0] :=
  (k0_off3_eq i t 1).trans (vec_eq (by
    show 16384 * (i 1).val + 8192 * (i 0).val + 512 * t.val + 128 * 1 + 256 = 8192 * (2 * (i 1).val + (i 0).val) + 128 * (4 * t.val + 3); omega))
theorem off4_0 : k0_off4 i t 0#32 = ![8192 * tileNo i + 128 * (lineNo t (trip_lt t) 0).val, 0] :=
  (k0_off4_eq i t 0).trans (vec_eq (by
    show 16384 * (i 1).val + 8192 * (i 0).val + 512 * t.val + 128 * 0 = 8192 * (2 * (i 1).val + (i 0).val) + 128 * (4 * t.val + 0); omega))
theorem off4_1 : k0_off4 i t 1#32 = ![8192 * tileNo i + 128 * (lineNo t (trip_lt t) 1).val, 0] :=
  (k0_off4_eq i t 1).trans (vec_eq (by
    show 16384 * (i 1).val + 8192 * (i 0).val + 512 * t.val + 128 * 1 = 8192 * (2 * (i 1).val + (i 0).val) + 128 * (4 * t.val + 1); omega))
theorem off5_0 : k0_off5 t 0#32 = ![(lineNo t (trip_lt t) 0).val, 0] := (k0_off5_eq t 0).trans (vec_eq rfl)
theorem off5_1 : k0_off5 t 1#32 = ![(lineNo t (trip_lt t) 1).val, 0] := (k0_off5_eq t 1).trans (vec_eq rfl)
theorem off6_0 : k0_off6 t 0#32 = ![(lineNo t (trip_lt t) 2).val, 0] := (k0_off6_eq t 0).trans (vec_eq rfl)
theorem off6_1 : k0_off6 t 1#32 = ![(lineNo t (trip_lt t) 3).val, 0] := (k0_off6_eq t 1).trans (vec_eq rfl)
theorem off7_0 (h : t.val + 1 < 16) : k0_off7 i t 0#32 = ![8192 * tileNo i + 128 * (lineNo (t.val + 1) h 0).val, 0] :=
  (k0_off7_eq i t 0).trans (vec_eq (by
    show 16384 * (i 1).val + 8192 * (i 0).val + 512 * t.val + 128 * 0 + 512 = 8192 * (2 * (i 1).val + (i 0).val) + 128 * (4 * (t.val + 1) + 0); omega))
theorem off7_1 (h : t.val + 1 < 16) : k0_off7 i t 1#32 = ![8192 * tileNo i + 128 * (lineNo (t.val + 1) h 1).val, 0] :=
  (k0_off7_eq i t 1).trans (vec_eq (by
    show 16384 * (i 1).val + 8192 * (i 0).val + 512 * t.val + 128 * 1 + 512 = 8192 * (2 * (i 1).val + (i 0).val) + 128 * (4 * (t.val + 1) + 1); omega))
end Offsets

/-! ## The rows of the result as the trips go -/

variable (d : Dev nD) (i : grid0.Coords)
variable (T : S262144x128.Idx → Elt F .f32) (X : S2048x128.Idx → BitVec 32) (q : PosShare TreeShare)
variable (f₀ : S262144x128.Idx → Elt F .f32)

/-- The rows where chunk `k` goes, before trip `t`: written if an earlier trip wrote them. -/
def line (t : ℕ) (k : Fin 64) : sProp 𝕄 := scatAt d i X k (if k.val < 4 * t then placed T X else f₀)

/-- All but the four list rows of trip `t`. -/
def others (t : ℕ) (ht : t < 16) : Finset (Fin 64) :=
  (((Finset.univ.erase (lineNo t ht 0)).erase (lineNo t ht 1)).erase (lineNo t ht 2)).erase (lineNo t ht 3)

theorem lineNo_ne (t : ℕ) (ht : t < 16) {r r' : Fin 4} (h : r ≠ r') : lineNo t ht r ≠ lineNo t ht r' := fun e =>
  h (Fin.ext (by have := congrArg Fin.val e; simp only [lineNo] at this; omega))

theorem lines_split (t : ℕ) (ht : t < 16) (Φ : Fin 64 → sProp 𝕄) :
    bigSep Finset.univ Φ = iprop(Φ (lineNo t ht 0) ∗ Φ (lineNo t ht 1) ∗ Φ (lineNo t ht 2) ∗ Φ (lineNo t ht 3) ∗ bigSep (others t ht) Φ) := by
  unfold others
  rw [SparseCore.bigSep_erase' (Finset.mem_univ (lineNo t ht 0)),
    SparseCore.bigSep_erase' (s := Finset.univ.erase (lineNo t ht 0)) (i := lineNo t ht 1) (Finset.mem_erase.mpr ⟨lineNo_ne t ht (by decide), Finset.mem_univ _⟩),
    SparseCore.bigSep_erase' (s := (Finset.univ.erase (lineNo t ht 0)).erase (lineNo t ht 1)) (i := lineNo t ht 2)
      (Finset.mem_erase.mpr ⟨lineNo_ne t ht (by decide), Finset.mem_erase.mpr ⟨lineNo_ne t ht (by decide), Finset.mem_univ _⟩⟩),
    SparseCore.bigSep_erase' (s := ((Finset.univ.erase (lineNo t ht 0)).erase (lineNo t ht 1)).erase (lineNo t ht 2)) (i := lineNo t ht 3)
      (Finset.mem_erase.mpr ⟨lineNo_ne t ht (by decide), Finset.mem_erase.mpr ⟨lineNo_ne t ht (by decide), Finset.mem_erase.mpr ⟨lineNo_ne t ht (by decide), Finset.mem_univ _⟩⟩⟩)]

theorem line_todo (t : ℕ) (ht : t < 16) (r : Fin 4) : line d i T X f₀ t (lineNo t ht r) = scatAt d i X (lineNo t ht r) f₀ := by
  unfold line; rw [if_neg (by simp only [lineNo]; omega)]
theorem line_done (t : ℕ) (ht : t < 16) (r : Fin 4) : line d i T X f₀ (t + 1) (lineNo t ht r) = scatAt d i X (lineNo t ht r) (placed T X) := by
  unfold line; rw [if_pos (by simp only [lineNo]; omega)]
theorem line_other (t : ℕ) (ht : t < 16) : bigSep (others t ht) (line d i T X f₀ t) = bigSep (others t ht) (line d i T X f₀ (t + 1)) :=
  bigSep_congr fun k hk => by
    simp only [others, Finset.mem_erase, ne_eq, Fin.ext_iff, lineNo] at hk
    have h : k.val < 4 * t ↔ k.val < 4 * (t + 1) := by
      obtain ⟨h3, h2, h1, h0, -⟩ := hk
      constructor
      · omega
      · intro hlt
        by_contra hge
        have e0 : ((0 : Fin 4) : Fin 4).val = 0 := rfl
        have e1 : ((1 : Fin 4) : Fin 4).val = 1 := rfl
        have e2 : ((2 : Fin 4) : Fin 4).val = 2 := rfl
        have e3 : ((3 : Fin 4) : Fin 4).val = 3 := rfl
        omega
    unfold line
    simp only [h]

/-- What is in flight on the first semaphore before trip `t`: the loads of its first two chunks, or nothing after the last. -/
def ahead (t : ℕ) : sProp 𝕄 :=
  if h : t < 16 then
    InFlight countersEmb (thr d i) gA (default : HIx 1) (128 * 4096) 2 iprop(filled d i T X q 0 (lineNo t h 0) ∗ filled d i T X q 1 (lineNo t h 1))
  else iprop(ticket d i T X q 0 ∗ ticket d i T X q 1 ∗ semVal (thr d i, .dma gA) 0)

variable (O : CellTallies nD τ sig (HIx 1)) (W : Waits sig (HIx 1))

/-- The waits recorded so far are of the transfers' kind. -/
def waited : sProp 𝕄 := iprop(∃ W', ⌜∀ p ∈ W', p ∈ W ∨ p.2 = none⌝ ∗ owes (thr d i) O W')

theorem waited_intro {W' : Waits sig (HIx 1)} (h : ∀ p ∈ W', p ∈ W ∨ p.2 = none) : owes (thr d i) O W' ⊢ (waited (F := F) d i O W : sProp 𝕄) := by
  unfold waited
  iintro H
  iexists W'
  isplitr; · ipureintro; exact h
  iexact H

theorem insert_ok {W' : Waits sig (HIx 1)} {sm : SemLoc sig} (h : ∀ p ∈ W', p ∈ W ∨ p.2 = none) : ∀ p ∈ insert (sm, (default : HIx 1)) W', p ∈ W ∨ p.2 = none := by
  intro p hp
  rcases Finset.mem_insert.mp hp with hp | hp
  · exact .inr (hp ▸ rfl)
  · exact h p hp

/-- Before trip `t`. -/
def inv (t : ℕ) : sProp 𝕄 :=
  iprop(MayWaits (thr d i) (default : HIx 1) O ∗ ahead d i T X q t ∗ ticket d i T X q 2 ∗ ticket d i T X q 3
    ∗ semVal (thr d i, .dma gB) 0 ∗ semVal (thr d i, .dma wA) 0 ∗ semVal (thr d i, .dma wB) 0
    ∗ bigSep Finset.univ (line d i T X f₀ t) ∗ waited d i O W)

variable {d i T X q f₀ O W} [FloatOps F]

theorem trip_ok (hX : OnePlace X) (t : Fin k0_t1_loop.trips) :
    inv d i T X q f₀ O W t.val ⊢ wp frame (wpE (defs₀ (F := F)) 𝒱₀ (thr d i) none) Set.univ (trip i t) fun _ => inv d i T X q f₀ O W (t.val + 1) := by
  have ht := trip_lt t
  unfold inv
  rw [lines_split t.val ht (line d i T X f₀ t.val), lines_split t.val ht (line d i T X f₀ (t.val + 1)), line_other]
  simp only [line_todo, line_done]
  unfold trip waited
  iintro ⟨#Hmw, Ha, Ht2, Ht3, HgB, HwA, HwB, ⟨Hc0, Hc1, Hc2, Hc3, Hrest⟩, %W₁, %hW₁, HO⟩
  ihave Ha := (Entails.of_eq (show ahead d i T X q t.val = _ from dif_pos ht)) $$ Ha
  -- start the loads into buffers 2 and 3
  iapply (wp_loads 2 3 _ _ (off3_0 i t) (off3_1 i t)) $$ [Ht2 Ht3 HgB]
  · isplitl [Ht2]; · iexact Ht2
    isplitl [Ht3]; · iexact Ht3
    iexact HgB
  iintro HfB
  -- wait for buffers 0 and 1
  iapply (wp_loadsWait 0 1) $$ [Ha HO]
  · isplitl [Ha]; · iexact Ha
    isplitl [HO]; · iexact HO
    iexact Hmw
  iintro ⟨Hab, HgA, HO⟩
  -- start their scatters
  iapply (wp_scatters hX 0 1 _ _ (off5_0 t) (off5_1 t)) $$ [Hab Hc0 Hc1 HwA]
  · isplitl [Hab]; · iexact Hab
    isplitl [Hc0]; · iexact Hc0
    isplitl [Hc1]; · iexact Hc1
    iexact HwA
  iintro HfA
  -- wait for buffers 2 and 3
  iapply (wp_loadsWait 2 3) $$ [HfB HO]
  · isplitl [HfB]; · iexact HfB
    isplitl [HO]; · iexact HO
    iexact Hmw
  iintro ⟨Hab, HgB, HO⟩
  iapply (wp_scatters hX 2 3 _ _ (off6_0 t) (off6_1 t)) $$ [Hab Hc2 Hc3 HwB]
  · isplitl [Hab]; · iexact Hab
    isplitl [Hc2]; · iexact Hc2
    isplitl [Hc3]; · iexact Hc3
    iexact HwB
  iintro HfW
  -- the scatters of buffers 0 and 1 are done
  iapply (wp_rowsWait 0 1) $$ [HfA HO]
  · isplitl [HfA]; · iexact HfA
    isplitl [HO]; · iexact HO
    iexact Hmw
  iintro ⟨⟨⟨Ht0, Hc0⟩, ⟨Ht1, Hc1⟩⟩, HwA, HO⟩
  unfold tripEnd
  by_cases hc : k0_cond1 t = 1#1
  · have hn : t.val + 1 < 16 := by have := (cond_iff t).1 hc; omega
    simp only [dif_pos hc, bind_assoc, pure_bind]
    iapply (wp_loads 0 1 _ _ (off7_0 i t hn) (off7_1 i t hn)) $$ [Ht0 Ht1 HgA]
    · isplitl [Ht0]; · iexact Ht0
      isplitl [Ht1]; · iexact Ht1
      iexact HgA
    iintro Ha
    iapply (wp_rowsWait 2 3) $$ [HfW HO]
    · isplitl [HfW]; · iexact HfW
      isplitl [HO]; · iexact HO
      iexact Hmw
    iintro ⟨⟨⟨Ht2, Hc2⟩, ⟨Ht3, Hc3⟩⟩, HwB, HO⟩
    rw [wp_pure]
    imodintro
    isplitr; · iexact Hmw
    isplitl [Ha]; · iapply (Entails.of_eq (show ahead d i T X q (t.val + 1) = _ from dif_pos hn).symm); iexact Ha
    isplitl [Ht2]; · iexact Ht2
    isplitl [Ht3]; · iexact Ht3
    isplitl [HgB]; · iexact HgB
    isplitl [HwA]; · iexact HwA
    isplitl [HwB]; · iexact HwB
    isplitl [Hc0 Hc1 Hc2 Hc3 Hrest]
    · isplitl [Hc0]; · iexact Hc0
      isplitl [Hc1]; · iexact Hc1
      isplitl [Hc2]; · iexact Hc2
      isplitl [Hc3]; · iexact Hc3
      iexact Hrest
    iexists _
    isplitr; swap; · iexact HO
    ipureintro; exact insert_ok W (insert_ok W (insert_ok W (insert_ok W hW₁)))
  · have hn : ¬ t.val + 1 < 16 := by have := mt (cond_iff t).2 hc; omega
    simp only [dif_neg hc, pure_bind]
    iapply (wp_rowsWait 2 3) $$ [HfW HO]
    · isplitl [HfW]; · iexact HfW
      isplitl [HO]; · iexact HO
      iexact Hmw
    iintro ⟨⟨⟨Ht2, Hc2⟩, ⟨Ht3, Hc3⟩⟩, HwB, HO⟩
    rw [wp_pure]
    imodintro
    isplitr; · iexact Hmw
    isplitl [Ht0 Ht1 HgA]
    · iapply (Entails.of_eq (show ahead d i T X q (t.val + 1) = _ from dif_neg hn).symm)
      isplitl [Ht0]; · iexact Ht0
      isplitl [Ht1]; · iexact Ht1
      iexact HgA
    isplitl [Ht2]; · iexact Ht2
    isplitl [Ht3]; · iexact Ht3
    isplitl [HgB]; · iexact HgB
    isplitl [HwA]; · iexact HwA
    isplitl [HwB]; · iexact HwB
    isplitl [Hc0 Hc1 Hc2 Hc3 Hrest]
    · isplitl [Hc0]; · iexact Hc0
      isplitl [Hc1]; · iexact Hc1
      isplitl [Hc2]; · iexact Hc2
      isplitl [Hc3]; · iexact Hc3
      iexact Hrest
    iexists _
    isplitr; swap; · iexact HO
    ipureintro; exact insert_ok W (insert_ok W (insert_ok W (insert_ok W hW₁)))

end Cert.PermuteIdeal.Tile

end
-- ==== Proof.PermuteIdealWhole.lean ====
/-
  The scattering kernel's whole tile program: its list fetched, the loop, and what the tile brings back.
-/
module

public import proofs.«01_k».proof.Proof.PermuteIdealTile

@[expose] public section

noncomputable section

namespace Cert.PermuteIdeal.Tile

open Cert.PermuteIdeal Cert.PermuteIdeal.Gen Cert.Streams
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

local notation "𝕄" => MT nD τ sig (HIx 1) (Elt F) ℕ UU ℕ

theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

/-! ## The four row buffers of the one buffer -/

theorem mem_bufV (b : Fin 4) (x : S4x128x128.Idx) : x ∈ (bufV b).view.set ↔ (x 0).val = b.val := by
  have e : (bufV b).view.set = ((View.whole (cc0_scratch1 : Ref sig .scVector)).slice (Rect.unit (s := S4x128x128) ![b.val, 0, 0] S1x128x128.size (inb_buf b))).set :=
    View.set_reshape _ _
  rw [e]
  refine ValueKit.mem_set_slice_whole_iff cc0_scratch1 _ x ?_
  rw [Rect.mem_set_unit]
  show (∀ a : Fin 3, _) ↔ _
  rw [Fin.forall_fin_succ, Fin.forall_fin_two]
  have h1 : (x 1).val < 128 := (x 1).isLt
  have h2 : (x 2).val < 128 := (x 2).isLt
  show ((b.val ≤ (x 0).val ∧ (x 0).val < b.val + 1) ∧ (0 ≤ (x 1).val ∧ (x 1).val < 0 + 128) ∧ (0 ≤ (x 2).val ∧ (x 2).val < 0 + 128)) ↔ _
  omega

/-- The elements of buffer `b`. -/
def bufSet (b : Fin 4) : Finset S4x128x128.Idx := (bufV b).view.set

theorem bufs_disjoint : ∀ b ∈ (Finset.univ : Finset (Fin 4)), ∀ b' ∈ (Finset.univ : Finset (Fin 4)), b ≠ b' → Disjoint (bufSet b) (bufSet b') :=
  fun b _ b' _ h => Finset.disjoint_left.mpr fun x hx hx' => h (Fin.ext (((mem_bufV b x).1 hx).symm.trans ((mem_bufV b' x).1 hx')))

theorem bufs_cover : (Finset.univ : Finset (Fin 4)).biUnion bufSet = Finset.univ := by
  ext x
  simp only [Finset.mem_biUnion, Finset.mem_univ, true_and, iff_true]
  exact ⟨x 0, (mem_bufV _ x).2 rfl⟩

variable (d : Dev nD) (i : grid0.Coords)
variable (T : S262144x128.Idx → Elt F .f32) (X : S2048x128.Idx → BitVec 32) (q : PosShare TreeShare)
variable (f₀ : S262144x128.Idx → Elt F .f32)

theorem bufs_split (f : Buf (Elt F) ((thr d i).loc cc0_scratch1)) :
    ((thr d i).loc cc0_scratch1 ↦{fullShare} f : sProp 𝕄)
      = bigSep Finset.univ fun b : Fin 4 => (bufV b).view.loc (thr d i) ↦[(bufV b).view.set]{fullShare} f := by
  refine Eq.trans ?_ (pointsTo_biUnion Finset.univ (ℓ := (thr d i).loc cc0_scratch1) bufSet bufs_disjoint)
  rw [bufs_cover]

theorem bufs_join [FloatOps F] : (bigSep Finset.univ fun b : Fin 4 => iprop(∃ g, (bufV b).view.loc (thr d i) ↦[(bufV b).view.set]{fullShare} g))
    ⊢ (iprop(∃ f, (thr d i).loc cc0_scratch1 ↦{fullShare} f) : sProp 𝕄) := by
  refine (bigSep_exists_pi Finset.univ (fun (b : Fin 4) (f : Buf (Elt F) ((thr d i).loc cc0_scratch1)) =>
    ((thr d i).loc cc0_scratch1 ↦[bufSet b]{fullShare} f : sProp 𝕄))).trans ?_
  iintro ⟨%fs, H⟩
  ihave H' := (pointsTo_biUnion_join (ℓ := (thr d i).loc cc0_scratch1) (q := fullShare) (Val := Elt F) Finset.univ
    bufSet fs (fs 0) bufs_disjoint) $$ H
  icases H' with ⟨%g, -, Hg⟩
  rw [bufs_cover]
  iexists g; iexact Hg

/-- The tile's shares of the table and of its list, in four. -/
theorem shares_eq : (bigSep Finset.univ fun b : Fin 4 => shares d i T X q b)
    = (iprop((tabLoc d ↦{q} (T : Buf (Elt F) (tabLoc d))) ∗ ((listW).view.loc (thr d i) ↦{fullShare} (theList X i : Buf (Elt F) ((listW).view.loc (thr d i))))) : sProp 𝕄) := by
  unfold shares
  rw [bigSep_sep', ← pointsTo_piecesOf, ← pointsTo_piecesOf]

/-- The four idle buffers. -/
theorem tickets_eq : iprop(ticket d i T X q 0 ∗ ticket d i T X q 1 ∗ ticket d i T X q 2 ∗ ticket d i T X q 3)
    = (iprop((bigSep Finset.univ fun b : Fin 4 => iprop(∃ g, (bufV b).view.loc (thr d i) ↦[(bufV b).view.set]{fullShare} g))
        ∗ (tabLoc d ↦{q} (T : Buf (Elt F) (tabLoc d))) ∗ ((listW).view.loc (thr d i) ↦{fullShare} (theList X i : Buf (Elt F) ((listW).view.loc (thr d i))))) : sProp 𝕄) := by
  rw [← shares_eq, ← bigSep_sep', ← bigSep_four (fun b => ticket d i T X q b)]
  rfl

/-! ## The rows of the result the tile's chunks go to -/

/-- The rows of the result the tile's chunks go to. -/
def tileSet : Finset S262144x128.Idx := Finset.univ.filter fun x => (from_ X (x 0)).val / 8192 = tileNo i

theorem chunks_disjoint : ∀ k ∈ (Finset.univ : Finset (Fin 64)), ∀ k' ∈ (Finset.univ : Finset (Fin 64)), k ≠ k' → Disjoint (scatSet X i k) (scatSet X i k') :=
  fun k _ k' _ h => Finset.disjoint_left.mpr fun x hx hx' => h (Fin.ext (by
    simp only [scatSet, Finset.mem_filter] at hx hx'
    omega))

theorem chunks_cover : (Finset.univ : Finset (Fin 64)).biUnion (scatSet X i) = tileSet i X := by
  ext x
  simp only [Finset.mem_biUnion, scatSet, tileSet, Finset.mem_filter, Finset.mem_univ, true_and]
  constructor
  · rintro ⟨k, hk⟩
    have := k.isLt
    omega
  · intro h
    exact ⟨⟨(from_ X (x 0)).val / 128 % 64, Nat.mod_lt _ (by decide)⟩, by
      show (from_ X (x 0)).val / 128 = 64 * tileNo i + (from_ X (x 0)).val / 128 % 64
      omega⟩

theorem chunks_split (f : S262144x128.Idx → Elt F .f32) :
    (outLoc d ↦[tileSet i X]{fullShare} (f : Buf (Elt F) (outLoc d)) : sProp 𝕄) = bigSep Finset.univ fun k : Fin 64 => scatAt d i X k f := by
  rw [← chunks_cover]
  exact pointsTo_biUnion Finset.univ (ℓ := outLoc d) (scatSet X i) (chunks_disjoint i X)

theorem lines_start : bigSep Finset.univ (line d i T X f₀ 0) = (outLoc d ↦[tileSet i X]{fullShare} (f₀ : Buf (Elt F) (outLoc d)) : sProp 𝕄) := by
  rw [chunks_split]
  exact bigSep_congr fun k _ => by unfold line; rw [if_neg (by omega)]

theorem lines_end : bigSep Finset.univ (line d i T X f₀ 16) = (outLoc d ↦[tileSet i X]{fullShare} (placed T X : Buf (Elt F) (outLoc d)) : sProp 𝕄) := by
  rw [chunks_split]
  exact bigSep_congr fun k _ => by unfold line; rw [if_pos (by have := k.isLt; omega)]

/-! ## The tile program -/

/-- What the tile takes: its shares of the table and of the lists, the rows of the result its chunks go to. -/
def given (q q' : PosShare TreeShare) (f : S262144x128.Idx → Elt F .f32) : sProp 𝕄 :=
  iprop((tabLoc d ↦{q} (T : Buf (Elt F) (tabLoc d))) ∗ (idxLoc d ↦{q'} (X : Buf (Elt F) (idxLoc d))) ∗ outLoc d ↦[tileSet i X]{fullShare} (f : Buf (Elt F) (outLoc d)))

instance given_storable (q q' : PosShare TreeShare) (f : S262144x128.Idx → Elt F .f32) :
    Storable (upEmb : UEmb _ 𝕄) (given d i T X q q' f : sProp 𝕄) := by unfold given; infer_instance

abbrev semCell (s : DmaSem sig) : GSem nD τ sig := (thr d i, .dma s)

theorem ownSems0_V :
    (ownSems0 (thr d i) : sProp 𝕄)
      = iprop(semVal (semCell d i gA) 0 ∗ semVal (semCell d i gB) 0 ∗ semVal (semCell d i wA) 0 ∗ semVal (semCell d i wB) 0 ∗ semVal (semCell d i lS) 0
          ∗ bigSep ((((((ownCells (thr d i)).erase (semCell d i gA)).erase (semCell d i gB)).erase (semCell d i wA)).erase (semCell d i wB)).erase (semCell d i lS)) fun g => semVal g 0) := by
  have hm : ∀ s : DmaSem sig, (SemLoc.dma s : SemLoc sig).isScoped .scVector = true → semCell d i s ∈ ownCells (thr d i) := fun s h => mem_ownCells.mpr ⟨rfl, h⟩
  have hne : ∀ {s s' : DmaSem sig}, s ≠ s' → semCell d i s ≠ semCell d i s' := fun h e => h (by injection e with _ e; injection e)
  unfold SparseCore.Cfg.ownSems0
  rw [SparseCore.bigSep_erase' (hm gA (by decide)),
    SparseCore.bigSep_erase' (Finset.mem_erase.mpr ⟨hne (by decide), hm gB (by decide)⟩),
    SparseCore.bigSep_erase' (Finset.mem_erase.mpr ⟨hne (by decide), Finset.mem_erase.mpr ⟨hne (by decide), hm wA (by decide)⟩⟩),
    SparseCore.bigSep_erase' (Finset.mem_erase.mpr ⟨hne (by decide), Finset.mem_erase.mpr ⟨hne (by decide), Finset.mem_erase.mpr ⟨hne (by decide), hm wB (by decide)⟩⟩⟩),
    SparseCore.bigSep_erase' (Finset.mem_erase.mpr ⟨hne (by decide), Finset.mem_erase.mpr ⟨hne (by decide), Finset.mem_erase.mpr ⟨hne (by decide),
      Finset.mem_erase.mpr ⟨hne (by decide), hm lS (by decide)⟩⟩⟩⟩)]

theorem ownBufs_V :
    (ownBufs (thr d i) : sProp 𝕄)
      = iprop((∃ f, (thr d i).loc cc0_scratch0 ↦{fullShare} f) ∗ (∃ f, (thr d i).loc cc0_scratch1 ↦{fullShare} f)
          ∗ bigSep (((ownRefs (τ := τ) (.scVector (cV i) (jV i))).erase ((Proc.scVector (cV i) (jV i)).devRef cc0_scratch0)).erase
              ((Proc.scVector (cV i) (jV i)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV i) (jV i))
    (b := (Proc.scVector (cV i) (jV i)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV i) (jV i)) (b := (Proc.scVector (cV i) (jV i)).devRef cc0_scratch1) rfl⟩)]

theorem first_0 : k0_off2 i 0#32 = ![8192 * tileNo i + 128 * (lineNo 0 (by decide) 0).val, 0] :=
  (k0_off2_eq i 0).trans (vec_eq (by
    show 16384 * (i 1).val + 8192 * (i 0).val + 128 * 0 = 8192 * (2 * (i 1).val + (i 0).val) + 128 * (4 * 0 + 0); omega))
theorem first_1 : k0_off2 i 128#32 = ![8192 * tileNo i + 128 * (lineNo 0 (by decide) 1).val, 0] :=
  (k0_off2_eq i 1).trans (vec_eq (by
    show 16384 * (i 1).val + 8192 * (i 0).val + 128 * 1 = 8192 * (2 * (i 1).val + (i 0).val) + 128 * (4 * 0 + 1); omega))

theorem listCredit : (listW).view.amount (.dma lS) = 64 * 4096 := by decide +kernel

theorem listDue : (listW).view.dmaCredit = 64 * 4096 := by decide +kernel

variable {d i T X q f₀} [FloatOps F]
variable {O : CellTallies nD τ sig (HIx 1)} {W : Waits sig (HIx 1)}

/-- The tile program from its scratch and semaphores taken apart. -/
theorem prog_ok (hX : OnePlace X) (q' : PosShare TreeShare) (fs : Buf (Elt F) ((thr d i).loc cc0_scratch0)) (fr : Buf (Elt F) ((thr d i).loc cc0_scratch1)) :
    iprop(MayWaits (thr d i) (default : HIx 1) O ∗ given d i T X q q' f₀
        ∗ ((thr d i).loc cc0_scratch0 ↦{fullShare} fs) ∗ ((thr d i).loc cc0_scratch1 ↦{fullShare} fr)
        ∗ semVal (semCell d i gA) 0 ∗ semVal (semCell d i gB) 0 ∗ semVal (semCell d i wA) 0 ∗ semVal (semCell d i wB) 0 ∗ semVal (semCell d i lS) 0
        ∗ owes (thr d i) O W)
      ⊢ wp frame (wpE (defs₀ (F := F)) 𝒱₀ (thr d i) none) Set.univ (tileProg i) fun _ =>
          iprop(given d i T X q q' (placed T X)
            ∗ (∃ f, (thr d i).loc cc0_scratch0 ↦{fullShare} f) ∗ (∃ f, (thr d i).loc cc0_scratch1 ↦{fullShare} f)
            ∗ semVal (semCell d i gA) 0 ∗ semVal (semCell d i gB) 0 ∗ semVal (semCell d i wA) 0 ∗ semVal (semCell d i wB) 0 ∗ semVal (semCell d i lS) 0
            ∗ waited d i O W) := by
  unfold given tileProg
  iintro ⟨#Hmw, ⟨Ht, Hx, Ho⟩, Hs, Hr, HgA, HgB, HwA, HwB, HlS, HO⟩
  -- the list's fetch
  ihave Hx := (pointsTo_split_subset (ℓ := idxLoc d) (S := Finset.univ) (q := q') (f := (X : Buf (Elt F) (idxLoc d))) (Finset.subset_univ (blockV i).view.set)).1 $$ Hx
  icases Hx with ⟨Hx, Hxr⟩
  iapply (wp_dmaLocal countersEmb 𝒱₀ (thr d i) none (src := blockV i) (dst := listW) (Sd := Finset.univ) (default : HIx 1) (64 * 4096) listCredit (by decide)
    (Finset.subset_univ _)) $$ [Hx Hs HlS]
  · isplitl [Hx]; · iexact Hx
    isplitl [Hs]; · iexact Hs
    iexact HlS
  iintro Hf
  iapply (wp_waitLocalO countersEmb 𝒱₀ (thr d i) none (default : HIx 1) listDue) $$ [Hf HO]
  · isplitl [Hf]; · iexact Hf
    isplitl [HO]; · iexact HO
    iapply (MayWaits.elim (SemLoc.dma lS)) $$ Hmw
  iintro ⟨⟨Hs, Hx⟩, HlS, HO⟩
  ihave Hx := (pointsTo_split_subset (ℓ := idxLoc d) (S := Finset.univ) (q := q') (f := (X : Buf (Elt F) (idxLoc d))) (Finset.subset_univ (blockV i).view.set)).2 $$ [Hx Hxr]
  · isplitl [Hx]; · iexact Hx
    iexact Hxr
  ihave Hs := (Entails.of_eq (show _ = ((listW).view.loc (thr d i) ↦{fullShare} (theList X i : Buf (Elt F) ((listW).view.loc (thr d i))) : sProp 𝕄) from
    congrArg (fun f => ((listW).view.loc (thr d i) ↦{fullShare} (f : Buf (Elt F) ((listW).view.loc (thr d i))) : sProp 𝕄))
      ((View.write_whole_univ _ _ _).trans (blockV_read (F := F) X i)))) $$ Hs
  -- the four idle buffers
  ihave Hb := (Entails.of_eq (bufs_split d i fr)) $$ Hr
  ihave Hb := (show _ ⊢ (bigSep Finset.univ fun b : Fin 4 => iprop(∃ g, (bufV b).view.loc (thr d i) ↦[(bufV b).view.set]{fullShare} g) : sProp 𝕄) from
    bigSep_mono fun b _ => (show ((bufV b).view.loc (thr d i) ↦[(bufV b).view.set]{fullShare} fr : sProp 𝕄)
      ⊢ iprop(∃ g, (bufV b).view.loc (thr d i) ↦[(bufV b).view.set]{fullShare} g) by iintro H; iexists _; iexact H)) $$ Hb
  ihave Hts := (Entails.of_eq (tickets_eq d i T X q).symm) $$ [Hb Ht Hs]
  · isplitl [Hb]; · iexact Hb
    isplitl [Ht]; · iexact Ht
    iexact Hs
  icases Hts with ⟨Ht0, Ht1, Ht2, Ht3⟩
  -- the first loads
  iapply (wp_loads 0 1 (lineNo 0 (by decide) 0) (lineNo 0 (by decide) 1) (first_0 i) (first_1 i)) $$ [Ht0 Ht1 HgA]
  · isplitl [Ht0]; · iexact Ht0
    isplitl [Ht1]; · iexact Ht1
    iexact HgA
  iintro Ha
  -- the loop
  iapply (Scf.wp_for_bind frame (wpE (defs₀ (F := F)) 𝒱₀ (thr d i) none) Set.univ _ _ _ k0_t1_ok _ _ (fun t _ => inv d i T X q f₀ O W t)
    (fun t _ => trip_ok hX t)) $$ [Ha Ht2 Ht3 HgB HwA HwB Ho HO]
  · unfold inv waited
    isplitr; · iexact Hmw
    isplitl [Ha]; · iapply (Entails.of_eq (show ahead d i T X q 0 = _ from dif_pos (by decide)).symm); iexact Ha
    isplitl [Ht2]; · iexact Ht2
    isplitl [Ht3]; · iexact Ht3
    isplitl [HgB]; · iexact HgB
    isplitl [HwA]; · iexact HwA
    isplitl [HwB]; · iexact HwB
    isplitl [Ho]; · iapply (Entails.of_eq (lines_start d i T X f₀).symm); iexact Ho
    iexists _
    isplitr; swap; · iexact HO
    ipureintro; exact insert_ok W (fun p hp => .inl hp)
  iintro %a HI
  ihave HI := (Entails.of_eq (show inv d i T X q f₀ O W (Scf.trips _ _ _) = inv d i T X q f₀ O W 16 from congrArg (inv d i T X q f₀ O W) trips_eq)) $$ HI
  unfold inv
  icases HI with ⟨-, Ha, Ht2, Ht3, HgB, HwA, HwB, Ho, HO⟩
  ihave Ha := (Entails.of_eq (show ahead d i T X q 16 = _ from dif_neg (by decide))) $$ Ha
  icases Ha with ⟨Ht0, Ht1, HgA⟩
  ihave Hts := (Entails.of_eq (tickets_eq d i T X q)) $$ [Ht0 Ht1 Ht2 Ht3]
  · isplitl [Ht0]; · iexact Ht0
    isplitl [Ht1]; · iexact Ht1
    isplitl [Ht2]; · iexact Ht2
    iexact Ht3
  icases Hts with ⟨Hb, Ht, Hs⟩
  rw [wp_pure]
  imodintro
  isplitl [Ht Hx Ho]
  · isplitl [Ht]; · iexact Ht
    isplitl [Hx]; · iexact Hx
    iapply (Entails.of_eq (lines_end d i T X f₀)); iexact Ho
  isplitl [Hs]; · iexists _; iexact Hs
  isplitl [Hb]; · iapply (bufs_join d i); iexact Hb
  isplitl [HgA]; · iexact HgA
  isplitl [HgB]; · iexact HgB
  isplitl [HwA]; · iexact HwA
  isplitl [HwB]; · iexact HwB
  isplitl [HlS]; · iexact HlS
  iexact HO

end Cert.PermuteIdeal.Tile

end
-- ==== Proof.PermuteIdealLaunch.lean ====
/-
  The scattering call as a whole: the operands dealt to the thirty-two tiles, the call run, and the program's run
  concluded: the arguments unchanged, and row `r` of the table at the result's row that word `r` of the lists names.
-/
module

public import proofs.«01_k».proof.Proof.PermuteIdealWhole
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.PermuteIdeal.Launch

open Cert.PermuteIdeal Cert.PermuteIdeal.Gen Cert.PermuteIdeal.Tile
open Idealize.ShloMosaic
open Idealize.ShloMosaic.SparseCore (S V T)
open Idealize.ShloMosaic.SparseCore.Cfg (HIx Pay ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch's vocabulary -/

abbrev Lbl : Labels := Pipeline.Sig Λ₀ (Fin 0) fun p => (pcfgs (F := F) p).Adm
abbrev K : SparseCore.Cfg τ sig (Lbl (F := F)) 1 := sc (F := F)
abbrev D [FloatOps F] : Defs nD τ sig (Elt F) (Lbl (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

abbrev EH : Emb UH (MT nD τ sig (HIx 1) (Elt F) ℕ UU ℕ) := embL

variable (m : (ℓ : Loc nD τ sig) → Buf (Elt F) ℓ) (ρ : Dev nD → PrngReg)

/-! ## The tiles -/

/-- The coordinates of SparseCore `c`'s tile `s`. -/
def tileAt (c : Fin (grid0.bound 0)) (s : Fin (grid0.bound 1)) : grid0.Coords :=
  fun | 0 => c | 1 => s | ⟨_ + 2, h⟩ => absurd h (Nat.not_lt.2 (Nat.le_add_left _ _))

theorem tileNo_tileAt (c : Fin 2) (s : Fin 16) : tileNo (tileAt c s) = 2 * s.val + c.val := rfl

/-- A tile's share of the table and of the lists. -/
def part (c : Fin 2) (s : Fin 16) : PosShare TreeShare := pieceOf (pieceOf fullShare 2 (by decide) c) 16 (by decide) s

/-- What a tile takes and brings back, at contents `f` of the result. -/
def piece (d : Dev nD) (T : S262144x128.Idx → Elt F .f32) (X : S2048x128.Idx → BitVec 32) (f : S262144x128.Idx → Elt F .f32) (c : Fin 2) (s : Fin 16) : sProp 𝕄 :=
  given d (tileAt c s) T X (part c s) (part c s) f

instance piece_storable (d : Dev nD) (T : S262144x128.Idx → Elt F .f32) (X : S2048x128.Idx → BitVec 32) (f : S262144x128.Idx → Elt F .f32) (c : Fin 2) (s : Fin 16) :
    Storable (upEmb : UEmb _ 𝕄) (piece d T X f c s : sProp 𝕄) := by unfold piece; infer_instance

section Deal
variable (X : S2048x128.Idx → BitVec 32)

/-- The rows of the result that SparseCore `c`'s tiles write. -/
def coreSet (c : Fin 2) : Finset S262144x128.Idx := Finset.univ.filter fun x => (from_ X (x 0)).val / 8192 % 2 = c.val

theorem core_disjoint : ∀ c ∈ (Finset.univ : Finset (Fin 2)), ∀ c' ∈ (Finset.univ : Finset (Fin 2)), c ≠ c' → Disjoint (coreSet X c) (coreSet X c') :=
  fun c _ c' _ h => Finset.disjoint_left.mpr fun x hx hx' => h (Fin.ext (by
    simp only [coreSet, Finset.mem_filter] at hx hx'
    omega))

theorem core_cover : (Finset.univ : Finset (Fin 2)).biUnion (coreSet X) = Finset.univ := by
  ext x
  simp only [Finset.mem_biUnion, coreSet, Finset.mem_filter, Finset.mem_univ, true_and, iff_true]
  exact ⟨⟨(from_ X (x 0)).val / 8192 % 2, Nat.mod_lt _ (by decide)⟩, rfl⟩

theorem tile_disjoint (c : Fin 2) : ∀ s ∈ (Finset.univ : Finset (Fin 16)), ∀ s' ∈ (Finset.univ : Finset (Fin 16)), s ≠ s' →
    Disjoint (tileSet (tileAt c s) X) (tileSet (tileAt c s') X) :=
  fun s _ s' _ h => Finset.disjoint_left.mpr fun x hx hx' => h (Fin.ext (by
    have h1 := tileNo_tileAt c s
    have h2 := tileNo_tileAt c s'
    simp only [tileSet, Finset.mem_filter] at hx hx'
    omega))

theorem tile_cover (c : Fin 2) : (Finset.univ : Finset (Fin 16)).biUnion (fun s => tileSet (tileAt c s) X) = coreSet X c := by
  ext x
  simp only [Finset.mem_biUnion, tileSet, coreSet, Finset.mem_filter, Finset.mem_univ, true_and]
  have hx := (from_ X (x 0)).isLt
  have hc := c.isLt
  constructor
  · rintro ⟨s, hs⟩
    have h1 := tileNo_tileAt c s
    omega
  · intro h
    refine ⟨⟨(from_ X (x 0)).val / 8192 / 2, by omega⟩, Eq.trans ?_ (tileNo_tileAt c _).symm⟩
    show (from_ X (x 0)).val / 8192 = 2 * ((from_ X (x 0)).val / 8192 / 2) + c.val
    omega

end Deal

/-- The operands whole are the tiles' pieces. -/
theorem pieces_eq (d : Dev nD) (T : S262144x128.Idx → Elt F .f32) (X : S2048x128.Idx → BitVec 32) (f : S262144x128.Idx → Elt F .f32) :
    (bigSep Finset.univ fun c : Fin 2 => bigSep Finset.univ fun s : Fin 16 => piece d T X f c s)
      = (iprop((tabLoc d ↦{fullShare} (T : Buf (Elt F) (tabLoc d))) ∗ (idxLoc d ↦{fullShare} (X : Buf (Elt F) (idxLoc d)))
          ∗ outLoc d ↦{fullShare} (f : Buf (Elt F) (outLoc d))) : sProp 𝕄) := by
  have hsh : ∀ {ℓ : Loc nD τ sig} (g : Buf (Elt F) ℓ),
      (bigSep Finset.univ fun c : Fin 2 => bigSep Finset.univ fun s : Fin 16 => (ℓ ↦{part c s} g : sProp 𝕄)) = ℓ ↦{fullShare} g := by
    intro ℓ g
    rw [pointsTo_piecesOf (q := fullShare) (o := 2) Finset.univ g (by decide)]
    exact bigSep_congr fun c _ => (pointsTo_piecesOf (q := pieceOf fullShare 2 (by decide) c) (o := 16) Finset.univ g (by decide)).symm
  have hout : (bigSep Finset.univ fun c : Fin 2 => bigSep Finset.univ fun s : Fin 16 => (outLoc d ↦[tileSet (tileAt c s) X]{fullShare} (f : Buf (Elt F) (outLoc d)) : sProp 𝕄))
      = outLoc d ↦{fullShare} (f : Buf (Elt F) (outLoc d)) := by
    refine Eq.trans (bigSep_congr fun c _ => ?_) (Eq.trans (pointsTo_biUnion Finset.univ (ℓ := outLoc d) (coreSet X) (core_disjoint X)).symm (by rw [core_cover]))
    rw [← tile_cover]
    exact (pointsTo_biUnion Finset.univ (ℓ := outLoc d) (fun s => tileSet (tileAt c s) X) (tile_disjoint X c)).symm
  unfold piece given
  simp only [bigSep_sep']
  rw [hsh, hsh, hout]

/-- The launch memory's table and lists. -/
abbrev tab (d : Dev nD) : S262144x128.Idx → Elt F .f32 := m (tabLoc d)
abbrev lists (d : Dev nD) : S2048x128.Idx → BitVec 32 := m (idxLoc d)
/-- The result the program leaves. -/
abbrev left (d : Dev nD) : S262144x128.Idx → Elt F .f32 := placed (tab m d) (lists m d)

/-- What the proof asks of the launch memory: every word of the lists names a row, no row twice. -/
def PreOK : Prop := ∀ d : Dev nD, OnePlace (lists m d)

variable [FloatOps F]

/-- What the call's messages carry. -/
def P : (K (F := F)).Pay (nD := nD) (Val := Elt F) (Name := ℕ) (U := UU) where
  st := fun q d c => match q with | 0 => bigSep Finset.univ fun s : Fin 16 => piece d (tab m d) (lists m d) (m (outLoc d)) c s
  dn := fun q d c => match q with | 0 => bigSep Finset.univ fun s : Fin 16 => piece d (tab m d) (lists m d) (left m d) c s
  go := fun q d c s => match q with | 0 => piece d (tab m d) (lists m d) (m (outLoc d)) c s
  td := fun q d c s => match q with | 0 => piece d (tab m d) (lists m d) (left m d) c s
  x := fun _ _ => iprop(emp)

instance P_storable : (P (F := F) m).IsStorable where
  st q d c := match q with
    | 0 => (inferInstance : BI.Storable (upEmb : UEmb _ 𝕄) (bigSep Finset.univ fun s : Fin 16 => piece d (tab m d) (lists m d) (m (outLoc d)) c s))
  dn q d c := match q with
    | 0 => (inferInstance : BI.Storable (upEmb : UEmb _ 𝕄) (bigSep Finset.univ fun s : Fin 16 => piece d (tab m d) (lists m d) (left m d) c s))
  go q d c s := match q with
    | 0 => (inferInstance : BI.Storable (upEmb : UEmb _ 𝕄) (piece d (tab m d) (lists m d) (m (outLoc d)) c s))
  td q d c s := match q with
    | 0 => (inferInstance : BI.Storable (upEmb : UEmb _ 𝕄) (piece d (tab m d) (lists m d) (left m d) c s))

/-! ## A tile's task -/

theorem task (d : Dev nD) (i : grid0.Coords) (hF : (K (F := F)).Facts) {T : S262144x128.Idx → Elt F .f32} {X : S2048x128.Idx → BitVec 32} (hX : OnePlace X)
    (f₀ : S262144x128.Idx → Elt F .f32) (q : PosShare TreeShare) (O : CellTallies nD τ sig (HIx 1)) (W : Waits sig (HIx 1)) (hO : ∀ g, O g none = 0) :
    iprop(levAts (K (F := F)).L (K (F := F)).lev ∗ emp ∗ given d i T X q q f₀
        ∗ scopedBufs (thr d i) ∗ scopedSems0 (thr d i) ∗ owes (thr d i) O W)
      ⊢ wp frame (wpE (defs₀ (F := F)) 𝒱₀ (thr d i) none) Set.univ (tileProg i) fun _ =>
          iprop(given d i T X q q (placed T X) ∗ scopedBufs (thr d i) ∗ scopedSems0 (thr d i)
            ∗ ∃ W', ⌜∀ p ∈ W', p ∈ W ∨ p.2 = none ∨ p.2 = some (0 : Fin 1)⌝ ∗ owes (thr d i) O W') := by
  rw [(K (F := F)).scopedBufs_V hF d (cV i) (jV i), SparseCore.Cfg.scopedSems0_V (Val := Elt F) d (cV i) (jV i), ownSems0_V, ownBufs_V]
  iintro ⟨#Hlv, -, Hg, ⟨⟨%fs, Hs⟩, ⟨%fr, Hr⟩, Hbufs⟩, ⟨HgA, HgB, HwA, HwB, HlS, Hsems⟩, HO⟩
  ihave Hmw := (show levAts (K (F := F)).L (K (F := F)).lev ⊢ Transfers.MayWaits (thr d i) (default : HIx 1) O from
    (K (F := F)).mayWaits_none (thr := thr d i) hO) $$ Hlv
  ihave Hwp := (prog_ok (T := T) (f₀ := f₀) (q := q) (W := W) hX q fs fr) $$ [Hmw Hg Hs Hr HgA HgB HwA HwB HlS HO]
  · isplitl [Hmw]; · iexact Hmw
    isplitl [Hg]; · iexact Hg
    isplitl [Hs]; · iexact Hs
    isplitl [Hr]; · iexact Hr
    isplitl [HgA]; · iexact HgA
    isplitl [HgB]; · iexact HgB
    isplitl [HwA]; · iexact HwA
    isplitl [HwB]; · iexact HwB
    isplitl [HlS]; · iexact HlS
    iexact HO
  iapply wp_wand_r
  isplitl [Hwp]; · iexact Hwp
  iintro %a ⟨Hg, Hs, Hr, HgA, HgB, HwA, HwB, HlS, HO⟩
  isplitl [Hg]; · iexact Hg
  isplitl [Hs Hr Hbufs]
  · isplitl [Hs]; · iexact Hs
    isplitl [Hr]; · iexact Hr
    iexact Hbufs
  isplitl [HgA HgB HwA HwB HlS Hsems]
  · isplitl [HgA]; · iexact HgA
    isplitl [HgB]; · iexact HgB
    isplitl [HwA]; · iexact HwA
    isplitl [HwB]; · iexact HwB
    isplitl [HlS]; · iexact HlS
    iexact Hsems
  unfold waited
  icases HO with ⟨%W', %hW', HO⟩
  iexists W'
  isplitr; · ipureintro; exact fun p hp => (hW' p hp).imp_right Or.inl
  iexact HO

theorem defs₀_tile (c : Fin τ.nSC) (s : Fin τ.nSub) :
    defs₀ (F := F) (.scVector c s) 0 () = SparseCore.onTile hcore0 hsub0 (fun c s => tileProg (tileAt c s)) ⟨⟩ c s := by
  rw [show (fun c s => tileProg (F := F) (tileAt c s)) = fun c s => _ from funext fun c => funext fun s => (kernel_eq (F := F) (tileAt c s)).symm]
  rfl

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact task d (tileAt ⟨_, hci.1⟩ ⟨_, hci.2⟩) hF (hpre d) _ _ O W hO

theorem vecSplit : (K (F := F)).VecSplit' (P m) 0 := by
  intro d c
  show (bigSep Finset.univ fun s : Fin 16 => piece d (tab m d) (lists m d) (m (outLoc d)) c s) ⊢ |={Set.univ}=> iprop(
      (bigSep Finset.univ fun s : Fin 16 => piece d (tab m d) (lists m d) (m (outLoc d)) c s)
      ∗ ((bigSep Finset.univ fun s : Fin 16 => piece d (tab m d) (lists m d) (left m d) c s)
        -∗ bigSep Finset.univ fun s : Fin 16 => piece d (tab m d) (lists m d) (left m d) c s))
  iintro H; imodintro
  isplitl [H]; · iexact H
  iintro H; iexact H

/-! ## The program -/

omit [FloatOps F] in
theorem emps {I : Type} (s : Finset I) : (bigSep s fun _ => iprop(emp)) = (iprop(emp) : sProp 𝕄) := bigSep_emp_const s

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro

omit [FloatOps F] in
theorem unscopedBufs_eq (d : Dev nD) (W : (b : Ref sig .tc) → Buf (Elt F) ((d.tc : Thread nD τ).loc b)) :
    (unscopedBufs d W : sProp 𝕄) = iprop((tabLoc d ↦{fullShare} W main_arg0) ∗ (idxLoc d ↦{fullShare} W main_arg1) ∗ outLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What the program ends with. -/
def FIN (d : Dev nD) : sProp 𝕄 :=
  iprop((tabLoc d ↦{fullShare} m (tabLoc d)) ∗ (idxLoc d ↦{fullShare} m (idxLoc d)) ∗ outLoc d ↦{fullShare} (left m d : Buf (Elt F) (outLoc d)))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, H, Hts, -⟩, -⟩
  iapply ((K (F := F)).wp_run (D (F := F)) 𝒱 (EH := EH) (P := P m) κ d 0) $$ [Hst H Hb Hts]
  isplitr; · iexact Hctx
  isplitl [Hst]; · iexact Hst
  isplitl [H]
  · iapply (Entails.of_eq (pieces_eq d (tab m d) (lists m d) (m (outLoc d))).symm); iexact H
  iintro ⟨Hst, Hdn⟩
  ihave H := (show (bigSep Finset.univ fun c : Fin ((K (F := F)).nCore 0) => (P m).dn 0 d c) ⊢ _ from
    Entails.of_eq (pieces_eq d (tab m d) (lists m d) (left m d))) $$ Hdn
  imodintro
  isplitl [Hst]; · iexact Hst
  isplitl [H]; · unfold FIN; iexact H
  isplitl [Hb] <;> iassumption

def fq (d : Dev nD) (s' : Phys nD τ sig (Elt F)) : Prop :=
  s'.mem.mem (tabLoc d) = m (tabLoc d) ∧ s'.mem.mem (idxLoc d) = m (idxLoc d) ∧ s'.mem.mem (outLoc d) = left m d

theorem hfin (d : Dev nD) (s' : Phys nD τ sig (Elt F)) : iprop(FIN m d ∗ SI s') ⊢ (⌜fq m d s'⌝ : sProp 𝕄) := by
  unfold FIN
  iintro ⟨⟨Ht, Hx, Ho⟩, HSI⟩
  ihave H := (persistent_entails_right (SI_pointsTo_agree (st := s') (ℓ := tabLoc d) (I := Finset.univ) (q := fullShare) (f := m (tabLoc d)))) $$ [HSI Ht]
  · isplitl [HSI] <;> iassumption
  icases H with ⟨%h1, HSI, -⟩
  ihave H := (persistent_entails_right (SI_pointsTo_agree (st := s') (ℓ := idxLoc d) (I := Finset.univ) (q := fullShare) (f := m (idxLoc d)))) $$ [HSI Hx]
  · isplitl [HSI] <;> iassumption
  icases H with ⟨%h2, HSI, -⟩
  ihave H := (SI_pointsTo_agree (st := s') (ℓ := outLoc d) (I := Finset.univ) (q := fullShare) (f := (left m d : Buf (Elt F) (outLoc d)))) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-- What a run leaves. -/
def QC : PUnit × MemSt nD τ sig (Elt F) → Prop := fun r =>
  (∀ d : Dev nD, r.2.mem (tabLoc d) = m (tabLoc d) ∧ r.2.mem (idxLoc d) = m (idxLoc d) ∧ r.2.mem (outLoc d) = left m d) ∧ r.2.sem = fun _ => 0

theorem run_main [∀ e, Nonempty (Elt F e)] (hpre : PreOK m) :
    θ_run (Cert.PermuteIdeal.defs (F := F)) (Cert.PermuteIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.PermuteIdeal.Launch

end
-- ==== Proof.PermuteRef.lean ====
/-
  What the scattering call's reference computes: where every head's row numbers are the head's own rows, each once, the
  reference's sort puts the head's words in order, so row `r` of its result is the table's row whose word is `r`: the
  kernel's result.
-/
module

public import proofs.«01_k».proof.Proof.PermuteIdealRows
public import proofs.«01_k».proof.Proof.Gen.PermuteRefIdeal.Run
public import proofs.«01_k».proof.Proof.Gen.Pre_positions
public import Idealize.ShloMosaic.Lib.Pipeline.Value
public import Idealize.ShloMosaic.Lib.ReduceAll
public import Idealize.ShloMosaic.Lib.Routing.Ops
public import Idealize.ShloMosaic.Lib.SortFacts
public import Idealize.ShloMosaic.Lib.Affine

@[expose] public section

noncomputable section

namespace Cert.PermuteRefIdeal.Take

open Cert.PermuteRefIdeal Cert.PermuteRefIdeal.Gen
open Idealize.ShloMosaic Idealize.ShloMosaic.ValueIdx
open Cert.PermuteIdeal.Tile (OnePlace placed place from_ from_place word rowOf rowAt wordAt)

variable {F : FTy → Type} [FloatOps F]

/-- Row `n` of head `b`, among all heads' rows. -/
def headRow (b : Fin 128) (n : Fin 2048) : Fin 262144 := ⟨2048 * b.val + n.val, by omega⟩

theorem eq_headRow (r : Fin 262144) : ∃ b n, r = headRow b n :=
  ⟨⟨r.val / 2048, by omega⟩, ⟨r.val % 2048, by omega⟩, Fin.ext (by show r.val = 2048 * (r.val / 2048) + r.val % 2048; omega)⟩

/-- The lists' words, one row per head. -/
def keys (X : S2048x128.Idx → BitVec 32) : IVec S128x2048 32 := shapeCast S128x2048 X shapeCasts_S2048x128_S128x2048

theorem keys_apply (X : S2048x128.Idx → BitVec 32) (b : Fin 128) (n : Fin 2048) : keys X (ix2 b n) = word X (headRow b n) := by
  refine shapeCast_apply X _ _ _ ?_
  rw [Shape.rowMajor_val_two, Shape.rowMajor_val_two]
  show (2048 * b.val + n.val) / 128 * 128 + (2048 * b.val + n.val) % 128 = b.val * 2048 + n.val
  omega

/-- The place, within head `b`, of the word that a sort of the head's words puts at `n`. -/
def sorted (X : S2048x128.Idx → BitVec 32) (b : Fin 128) : Fin 2048 → Fin 2048 :=
  sortedFrom fun k k' => IntOp.cmpi .slt (keys X (ix2 b k)) (keys X (ix2 b k')) == 1#1

section Rows
variable {m n : ℕ} {α β : Type}

theorem along_row (b : Fin m) (k k' : Fin n) :
    Shape.Idx.along (s := ⟨2, ![m, n]⟩) (ix2 b k) (1 : Fin 2) k' = ix2 b k' := by
  funext e
  unfold Shape.Idx.along
  match e with
  | ⟨0, _⟩ => rfl
  | ⟨1, _⟩ => rfl

theorem sort_row (cmp : α → α → BitVec 1) (x : (⟨2, ![m, n]⟩ : Shape).Idx → α) (b : Fin m) (k : Fin n) :
    Host.sort ⟨2, ![m, n]⟩ 1 cmp x (ix2 b k) = x (ix2 b (sortedFrom (fun k k' => cmp (x (ix2 b k)) (x (ix2 b k')) == 1#1) k)) := by
  unfold Host.sort
  rw [dif_pos (show 1 < 2 by decide)]
  exact (congrArg x (along_row b k _)).trans (congrArg (fun f => x (ix2 b (sortedFrom f k)))
    (funext fun c => funext fun c' => by rw [← along_row b k c, ← along_row b k c']; rfl))

theorem sort2_row (cmp : α × β → α × β → BitVec 1) (x : (⟨2, ![m, n]⟩ : Shape).Idx → α) (y : (⟨2, ![m, n]⟩ : Shape).Idx → β) (b : Fin m) (k : Fin n) :
    (Host.sort2 ⟨2, ![m, n]⟩ 1 cmp x y).2 (ix2 b k)
      = y (ix2 b (sortedFrom (fun k k' => cmp (x (ix2 b k), y (ix2 b k)) (x (ix2 b k'), y (ix2 b k')) == 1#1) k)) := by
  unfold Host.sort2
  rw [dif_pos (show 1 < 2 by decide)]
  exact (congrArg y (along_row b k _)).trans (congrArg (fun f => y (ix2 b (sortedFrom f k)))
    (funext fun c => funext fun c' => by rw [← along_row b k c, ← along_row b k c']; rfl))

end Rows

theorem sort_apply (X : S2048x128.Idx → BitVec 32) (b : Fin 128) (n : Fin 2048) :
    Host.sort S128x2048 1 Cert.Pre_positions.comparator_i32_d1 (keys X) (ix2 b n) = keys X (ix2 b (sorted X b n)) :=
  sort_row Cert.Pre_positions.comparator_i32_d1 (keys X) b n

/-- What the reference sorts along with the words: the places. -/
theorem order_apply (X : S2048x128.Idx → BitVec 32) (b : Fin 128) (n : Fin 2048) :
    (Host.sort2 S128x2048 1 comparator_i32_i32_d1 (keys X) (iotaInDim S128x2048 32 1)).2 (ix2 b n) = BitVec.ofNat 32 (sorted X b n).val :=
  sort2_row comparator_i32_i32_d1 (keys X) (iotaInDim S128x2048 32 1) b n

/-! ## The precondition -/

/-- Sorted, head `b`'s words are the head's rows in order. -/
theorem sorted_word (T : S262144x128.Idx → Elt F .f32) (X : S2048x128.Idx → BitVec 32)
    (h : Cert.Pre_positions.fn (F := F) T X = fun _ => 1#1) (b : Fin 128) (n : Fin 2048) :
    word X (headRow b (sorted X b n)) = BitVec.ofNat 32 (headRow b n).val := by
  have e := congrFun h (fun a => a.elim0)
  dsimp only [Cert.Pre_positions.fn] at e
  haveI : Subsingleton Cert.Pre_positions.S_.Idx := ⟨fun a b => funext fun k => k.elim0⟩
  have ej := Host.reduce_andi_all _ _ _ _ _ e (ix2 b n)
  have ej' : IntOp.cmpi .eq (Host.sort S128x2048 1 Cert.Pre_positions.comparator_i32_d1 (keys X) (ix2 b n))
      (shapeCast S128x2048 (iotaInDim Cert.Pre_positions.S262144 32 0) Cert.Pre_positions.Facts.shapeCasts_S262144_S128x2048 (ix2 b n)) = 1#1 := ej
  rw [sort_apply, keys_apply] at ej'
  have e2 : shapeCast S128x2048 (iotaInDim Cert.Pre_positions.S262144 32 0) Cert.Pre_positions.Facts.shapeCasts_S262144_S128x2048 (ix2 b n)
      = BitVec.ofNat 32 (headRow b n).val := by
    refine shapeCast_apply (iotaInDim Cert.Pre_positions.S262144 32 0) _ (ix2 b n) (fun | 0 => headRow b n) ?_
    rw [Shape.rowMajor_val_two, Shape.rowMajor_val_one]
    show 2048 * b.val + n.val = b.val * 2048 + n.val
    omega
  rw [e2] at ej'
  rwa [IntOp.cmpi_eq] at ej'

/-- So a sort's place is where a row of the result comes from. -/
theorem place_sorted (T : S262144x128.Idx → Elt F .f32) (X : S2048x128.Idx → BitVec 32)
    (h : Cert.Pre_positions.fn (F := F) T X = fun _ => 1#1) (b : Fin 128) (n : Fin 2048) :
    place X (headRow b (sorted X b n)) = headRow b n := by
  refine Fin.ext ?_
  have := (headRow b n).isLt
  show (word X _).toNat % 262144 = _
  rw [sorted_word T X h, BitVec.toNat_ofNat]
  omega

theorem onePlace_of_pre (T : S262144x128.Idx → Elt F .f32) (X : S2048x128.Idx → BitVec 32)
    (h : Cert.Pre_positions.fn (F := F) T X = fun _ => 1#1) : OnePlace X where
  rows j := by
    have hj0 : (j 0).val < 2048 := (j 0).isLt
    have hj1 : (j 1).val < 128 := (j 1).isLt
    obtain ⟨b, n, e⟩ := eq_headRow ⟨128 * (j 0).val + (j 1).val, by omega⟩
    obtain ⟨n', rfl⟩ := sortedFrom_surjective (fun k k' => IntOp.cmpi .slt (keys X (ix2 b k)) (keys X (ix2 b k')) == 1#1) n
    have hw := sorted_word T X h b n'
    have ew : word X ⟨128 * (j 0).val + (j 1).val, by omega⟩ = X j := by
      refine congrArg X (funext fun a => Fin.ext ?_)
      match a with
      | ⟨0, _⟩ => show (128 * (j 0).val + (j 1).val) / 128 = (j 0).val; omega
      | ⟨1, _⟩ => show (128 * (j 0).val + (j 1).val) % 128 = (j 1).val; omega
    rw [← ew, e]
    refine lt_of_eq_of_lt (congrArg BitVec.toNat hw) ?_
    have := (headRow b n').isLt
    rw [BitVec.toNat_ofNat]
    omega
  inj := Finite.injective_iff_surjective.2 fun r => by
    obtain ⟨b, n, rfl⟩ := eq_headRow r
    exact ⟨_, place_sorted T X h b n⟩

theorem from_headRow (T : S262144x128.Idx → Elt F .f32) (X : S2048x128.Idx → BitVec 32)
    (h : Cert.Pre_positions.fn (F := F) T X = fun _ => 1#1) (b : Fin 128) (n : Fin 2048) :
    from_ X (headRow b n) = headRow b (sorted X b n) :=
  (congrArg (from_ X) (place_sorted T X h b n).symm).trans (from_place (onePlace_of_pre T X h) _)

/-! ## The gather within the heads -/

abbrev perHead := gather_S128x2048x128_S128x2048x1_S128x2048x128_2_1_0_0_1_2_11128

/-- Where the index at `(b, n)` is `k`, the gather's row `n` of head `b` is the head's row `k`. -/
theorem gather_head (x : S128x2048x128.Idx → Elt F .f32) (idx : S128x2048x1.Idx → BitVec 32) (b : Fin 128) (n : Fin 2048) (c : Fin 128)
    (k : Fin 2048) (hk : idx (ix3 b n (0 : Fin 1)) = BitVec.ofNat 32 k.val) :
    Host.gather perHead x idx (ix3 b n c) = x (ix3 b k c) := by
  unfold Host.gather
  refine congrArg x (funext fun a => Fin.ext ?_)
  show perHead.start (ix3 b n c) idx a + perHead.batchCoord (ix3 b n c) a + perHead.offCoord (ix3 b n c) a = _
  match a with
  | ⟨0, _⟩ =>
    rw [show perHead.start (ix3 b n c) idx ⟨0, by decide⟩ = 0 from rfl, show perHead.offCoord (ix3 b n c) ⟨0, by decide⟩ = 0 from rfl,
      show perHead.batchCoord (ix3 b n c) ⟨0, by decide⟩ = b.val from rfl]
    show 0 + b.val + 0 = b.val
    omega
  | ⟨1, _⟩ =>
    rw [show perHead.batchCoord (ix3 b n c) ⟨1, by decide⟩ = 0 from rfl, show perHead.offCoord (ix3 b n c) ⟨1, by decide⟩ = 0 from rfl]
    have hsi : perHead.siIdx (ix3 b n c) ⟨0, by decide⟩ = ix3 b n (0 : Fin 1) := by
      funext e
      refine Fin.ext ?_
      match e with
      | ⟨0, _⟩ => rfl
      | ⟨1, _⟩ => rfl
      | ⟨2, _⟩ => rfl
    have hst : perHead.start (ix3 b n c) idx ⟨1, by decide⟩ = min (idx (perHead.siIdx (ix3 b n c) ⟨0, by decide⟩)).toInt.toNat (2048 - 1) := rfl
    rw [hst, hsi, hk]
    have := k.isLt
    have ek : (BitVec.ofNat 32 k.val).toInt = (k.val : Int) := by
      rw [BitVec.toInt_eq_toNat_cond, BitVec.toNat_ofNat]
      omega
    rw [ek]
    show min ((k.val : Int).toNat) (2048 - 1) + 0 + 0 = k.val
    omega
  | ⟨2, _⟩ =>
    rw [show perHead.start (ix3 b n c) idx ⟨2, by decide⟩ = 0 from rfl, show perHead.batchCoord (ix3 b n c) ⟨2, by decide⟩ = 0 from rfl,
      show perHead.offCoord (ix3 b n c) ⟨2, by decide⟩ = c.val from rfl]
    show 0 + 0 + c.val = c.val
    omega

/-- The start indices: no place is negative, so none is wrapped. -/
theorem starts_apply (O : S128x2048.Idx → BitVec 32) (b : Fin 128) (n k : Fin 2048) (hO : O (ix2 b n) = BitVec.ofNat 32 k.val) :
    select (cmpi .slt (broadcastInDim S128x2048x1 ![0, 1] bcast_S128x2048_S128x2048x1_0_1 O) (broadcastInDim S128x2048x1 ![] bcast_S_S128x2048x1 (constantI S_ 32 0#32)))
      (addi (broadcastInDim S128x2048x1 ![0, 1] bcast_S128x2048_S128x2048x1_0_1 O) (broadcastInDim S128x2048x1 ![] bcast_S_S128x2048x1 (constantI S_ 32 2048#32)))
      (broadcastInDim S128x2048x1 ![0, 1] bcast_S128x2048_S128x2048x1_0_1 O) (ix3 b n (0 : Fin 1)) = BitVec.ofNat 32 k.val := by
  have hb : broadcastInDim S128x2048x1 ![0, 1] bcast_S128x2048_S128x2048x1_0_1 O (ix3 b n (0 : Fin 1)) = BitVec.ofNat 32 k.val := by
    refine Eq.trans ?_ hO
    unfold broadcastInDim
    refine congrArg O (funext fun e => ?_)
    match e with
    | ⟨0, _⟩ => rfl
    | ⟨1, _⟩ => rfl
  unfold Idealize.ShloMosaic.select Scalar.select
  rw [if_neg]
  · exact hb
  · show ¬ IntOp.cmpi .slt (broadcastInDim S128x2048x1 ![0, 1] bcast_S128x2048_S128x2048x1_0_1 O (ix3 b n (0 : Fin 1))) 0#32 = 1#1
    rw [hb, IntOp.cmpi_slt]
    have := k.isLt
    rw [BitVec.toInt_eq_toNat_cond, BitVec.toNat_ofNat]
    simp
    omega

theorem take_eq (T : S262144x128.Idx → Elt F .f32) {X : S2048x128.Idx → BitVec 32} (h : Cert.Pre_positions.fn (F := F) T X = fun _ => 1#1)
    (i : S128x2048x1.Idx → BitVec 32) (hi : ∀ b n, i (ix3 b n (0 : Fin 1)) = BitVec.ofNat 32 (sorted X b n).val) (fill : S128x2048x128.Idx → Elt F .f32) :
    shapeCast S262144x128 (select (broadcastInDim S128x2048x128 ![0, 1] bcast_S128x2048_S128x2048x128_0_1 (Host.reduce IntOp.andi
        (andi (cmpi .sge i (broadcastInDim S128x2048x1 ![] bcast_S_S128x2048x1 (constantI S_ 32 0#32)))
          (cmpi .sle i (broadcastInDim S128x2048x1 ![0, 1, 2] bcast_S1x1x1_S128x2048x1_0_1_2 (broadcastInDim S1x1x1 ![2] bcast_S1_S1x1x1_2 (constantI S1 32 2047#32)))))
        (constantI S_ 1 1#1) reducesTo_S128x2048x1_S128x2048_d2 h_S_))
      (Host.gather perHead (shapeCast S128x2048x128 T shapeCasts_S262144x128_S128x2048x128) i) fill) shapeCasts_S128x2048x128_S262144x128
      = placed T X := by
  funext x
  obtain ⟨r, c, rfl⟩ : ∃ (r : Fin 262144) (c : Fin 128), x = ix2 r c := ⟨x 0, x 1, eq_ix2 x⟩
  obtain ⟨b, n, rfl⟩ := eq_headRow r
  refine (shapeCast_apply _ _ _ (ix3 b n c) ?_).trans ?_
  · rw [Shape.rowMajor_val_two, Shape.rowMajor_val_three]
    show (b.val * 2048 + n.val) * 128 + c.val = (2048 * b.val + n.val) * 128 + c.val
    omega
  unfold Idealize.ShloMosaic.select Scalar.select
  rw [if_pos]
  · refine (gather_head _ i b n c (sorted X b n) (hi b n)).trans ?_
    refine (shapeCast_apply T _ _ (rowAt (headRow b (sorted X b n)) c) ?_).trans ?_
    · rw [Shape.rowMajor_val_two, Shape.rowMajor_val_three]
      show (2048 * b.val + (sorted X b n).val) * 128 + c.val = (b.val * 2048 + (sorted X b n).val) * 128 + c.val
      omega
    · exact congrArg (fun r => T (rowAt r c)) (from_headRow T X h b n).symm
  · refine Host.reduce_andi_one _ _ _ _ _ rfl fun k => ?_
    obtain ⟨b', n', z, rfl⟩ : ∃ (b' : Fin 128) (n' : Fin 2048) (z : Fin 1), k = ix3 b' n' z := ⟨k 0, k 1, k 2, eq_ix3 k⟩
    obtain rfl : z = 0 := Subsingleton.elim _ _
    show IntOp.andi (IntOp.cmpi .sge (i (ix3 b' n' (0 : Fin 1))) 0#32) (IntOp.cmpi .sle (i (ix3 b' n' (0 : Fin 1))) 2047#32) = 1#1
    have hlt := (sorted X b' n').isLt
    have ek : (BitVec.ofNat 32 (sorted X b' n').val).toInt = ((sorted X b' n').val : Int) := by
      rw [BitVec.toInt_eq_toNat_cond, BitVec.toNat_ofNat]
      omega
    have h1 : IntOp.cmpi .sge (i (ix3 b' n' (0 : Fin 1))) 0#32 = 1#1 := by
      rw [IntOp.cmpi_sge, hi, ek]; show (0 : Int) ≤ ((sorted X b' n').val : Int); omega
    have h2 : IntOp.cmpi .sle (i (ix3 b' n' (0 : Fin 1))) 2047#32 = 1#1 := by
      rw [IntOp.cmpi_sle, hi, ek]
      show ((sorted X b' n').val : Int) ≤ 2047
      omega
    rw [h1, h2]; rfl

end Cert.PermuteRefIdeal.Take

end
-- ==== Proof.PermuteClaims.lean ====
/-
  The scattering call's claims: the three frames, the idealization and the equality with the reference's `argsort` and `take_along_axis`.
-/
module

public import proofs.«01_k».proof.Defs
public import proofs.«01_k».proof.Proof.PermuteLaunch
public import proofs.«01_k».proof.Proof.PermuteIdealLaunch
public import proofs.«01_k».proof.Proof.PermuteRef
public import Idealize.ShloMosaic.Lib.Quiescent
public import Idealize.ShloMosaic.Adequacy
public import Idealize.ShloMosaic.Init

@[expose] public section

noncomputable section

namespace Cert.Proof.Permute

open Idealize.ShloMosaic Idealize.SL.Sem

/-- The kernel as printed: it runs, its arguments and its counters end as they were. -/
theorem frame_p : Cert.quiescent_Permute := by
  intro m g hpre
  refine (θ_run _ _ _).mono (fun r h => ⟨fun c => ⟨(h.1 c).1, (h.1 c).2.1⟩, h.2⟩) (Cert.Permute.Launch.run_main (F := Bits) m g ?_)
  intro d
  have h := Cert.PermuteRefIdeal.Take.onePlace_of_pre (F := Bits) _ _ (hpre d)
  exact ⟨h.rows, h.inj⟩

/-- The precondition, of the idealized kernel's lists. -/
theorem ideal_ok {m : (ℓ : Loc Cert.PermuteIdeal.nD Cert.PermuteIdeal.τ Cert.PermuteIdeal.sig) → Buf (Elt Ideal) ℓ} (hpre : Cert.Pre_PermuteIdeal m) :
    Cert.PermuteIdeal.Launch.PreOK m :=
  fun d => Cert.PermuteRefIdeal.Take.onePlace_of_pre (F := Ideal) _ _ (hpre d)

/-- The same of the idealized kernel. -/
theorem frame_pi : Cert.quiescent_PermuteIdeal := by
  intro m g hpre
  exact (θ_run _ _ _).mono (fun r h => ⟨fun c => ⟨(h.1 c).1, (h.1 c).2.1⟩, h.2⟩) (Cert.PermuteIdeal.Launch.run_main (F := Ideal) m g (ideal_ok hpre))

/-- The same of the reference, which has no counter. -/
theorem frame_ri : Cert.quiescent_PermuteRefIdeal := by
  intro m g _
  exact (θ_run _ _ _).mono (fun r h => ⟨fun c => (h c).2, Idealize.ShloMosaic.sem_eq_zero_of_no_sems (by decide) r.2⟩)
    (Cert.PermuteRefIdeal.Value.run (F := Ideal) m g)

/-- Kernel and reference end with the same result: every row of the table at the place the lists name. -/
theorem algebraic : Cert.algebraic_PermuteIdeal_PermuteRefIdeal := by
  intro m g m' g' hpre hagree
  refine ⟨fun c => Cert.PermuteIdeal.Launch.left m c, ?_, ?_⟩
  · exact (θ_run _ _ _).mono (fun r h c => ⟨(h.1 c).2.2, (h.1 c).1, (h.1 c).2.1⟩)
      (Cert.PermuteIdeal.Launch.run_main (F := Ideal) m g (ideal_ok hpre))
  · refine (θ_run _ _ _).mono (fun r h c => ⟨(h c).1.trans ?_, (h c).2⟩) (Cert.PermuteRefIdeal.Value.run (F := Ideal) m' g')
    rw [(hagree c).1, (hagree c).2]
    exact Cert.PermuteRefIdeal.Take.take_eq _ (hpre c) _
      (fun b n => Cert.PermuteRefIdeal.Take.starts_apply _ b n _ (Cert.PermuteRefIdeal.Take.order_apply _ b n)) _

end Cert.Proof.Permute

end
-- ==== Proof.TailRow.lean ====
/-
  One row of the block's end: the heads' numbers side by side, projected and added to the row that came in; the sum
  normalised; the gated feed-forward; and its product added again. Over the extended reals, as the problem states it.
-/
module

public import Idealize.ShloMosaic.PureOps.Ideal
public import Idealize.ShloMosaic.PureOps.Ideal.Laws
public import Idealize.ShloMosaic.Lib.IdealHost

@[expose] public section

noncomputable section

namespace Cert.Row

open Idealize.ShloMosaic
open scoped BigOperators

/-- A row times a matrix, plus a row. -/
def affine {K N : ℕ} (a : Fin K → EReal) (W : Fin K → Fin N → EReal) (b : Fin N → EReal) (j : Fin N) : EReal :=
  ∑ k, a k * W k j + b j

/-- A row less its mean. -/
def centred (y : Fin 1024 → EReal) (j : Fin 1024) : EReal :=
  y j - Ideal.div (∑ k, y k) (Ideal.ofBits .f32 0x44800000#32)

/-- The sum of a centred row's squares. -/
def squares (y : Fin 1024 → EReal) : EReal := ∑ k, centred y k * centred y k

/-- A row normalised: centred, over the root of its variance (by 1023) plus a little; then scaled and shifted. -/
def normed (y s b : Fin 1024 → EReal) (j : Fin 1024) : EReal :=
  Ideal.div (centred y j) (Ideal.sqrt (Ideal.div (squares y) (Ideal.ofBits .f32 0x447FC000#32) + Ideal.ofBits .f32 0x358637BD#32)) * s j + b j

theorem word_1023 : Ideal.ofBits .f32 0x447FC000#32 = ((1023 : ℝ) : EReal) := by
  simp [Ideal.ofBits, Ideal.ieee, -EReal.coe_mul]; norm_num

theorem eps_pos : ∃ e : ℝ, 0 < e ∧ Ideal.ofBits .f32 0x358637BD#32 = (e : EReal) := by
  refine ⟨((8796093 : ℝ) * 2 ^ (-43 : ℤ)), by positivity, ?_⟩
  simp [Ideal.ofBits, Ideal.ieee, -EReal.coe_mul]

theorem mul_self_nonneg (x : EReal) : 0 ≤ x * x := by
  rcases le_total 0 x with h | h
  · exact mul_nonneg h h
  · have h' : 0 ≤ -x := by simpa using EReal.neg_le_neg_iff.mpr h
    simpa using mul_nonneg h' h'

theorem squares_nonneg (y : Fin 1024 → EReal) : 0 ≤ squares y := Finset.sum_nonneg fun k _ => mul_self_nonneg _

/-- Times the reciprocal root is over the root, of a positive number. -/
theorem mul_rsqrt {v : EReal} (hv : 0 < v) (x : EReal) : x * Ideal.rsqrt v = Ideal.div x (Ideal.sqrt v) := by
  induction v with
  | bot => exact absurd hv (by simp)
  | top => simp [Ideal.div]
  | coe r =>
    have hr : 0 < r := by exact_mod_cast hv
    have hs : Real.sqrt r ≠ 0 := (Real.sqrt_pos.mpr hr).ne'
    rw [Ideal.rsqrt_coe, Ideal.sqrt_coe, if_neg hr.le.not_gt, if_neg hr.ne', if_neg hr.le.not_gt, Ideal.div_coe hs, one_div]

/-- The same row as the kernel has it: times 1/1023, times the reciprocal root. -/
theorem normed_eq (y s b : Fin 1024 → EReal) (j : Fin 1024) :
    centred y j * Ideal.rsqrt (squares y * ((1023⁻¹ : ℝ) : EReal) + Ideal.ofBits .f32 0x358637BD#32) * s j + b j = normed y s b j := by
  unfold normed
  have e : squares y * ((1023⁻¹ : ℝ) : EReal) = Ideal.div (squares y) (Ideal.ofBits .f32 0x447FC000#32) := by
    rw [word_1023, Ideal.div_coe (by norm_num), one_div]
  obtain ⟨r, hr, he⟩ := eps_pos
  rw [mul_rsqrt, e]
  rw [he]
  have h0 : 0 ≤ squares y * ((1023⁻¹ : ℝ) : EReal) := mul_nonneg (squares_nonneg y) (by exact_mod_cast (by norm_num : (0 : ℝ) ≤ 1023⁻¹))
  exact lt_of_lt_of_le (by exact_mod_cast hr) (le_add_of_nonneg_left h0)

/-- The row that came in plus the heads' projection. -/
def joined (ao x : Fin 1024 → EReal) (Wo : Fin 1024 → Fin 1024 → EReal) (bo : Fin 1024 → EReal) (j : Fin 1024) : EReal :=
  x j + affine ao Wo bo j

/-- The gated hidden row. -/
def gated (n : Fin 1024 → EReal) (Wa : Fin 1024 → Fin 3072 → EReal) (ba : Fin 3072 → EReal) (Wb : Fin 1024 → Fin 3072 → EReal)
    (bb : Fin 3072 → EReal) (k : Fin 3072) : EReal :=
  affine n Wa ba k * max (affine n Wb bb k) 0

/-- One row of the result. -/
def ending (ao x : Fin 1024 → EReal) (Wo : Fin 1024 → Fin 1024 → EReal) (bo s b : Fin 1024 → EReal) (Wa : Fin 1024 → Fin 3072 → EReal)
    (ba : Fin 3072 → EReal) (Wb : Fin 1024 → Fin 3072 → EReal) (bb : Fin 3072 → EReal) (Wc : Fin 3072 → Fin 1024 → EReal)
    (bc : Fin 1024 → EReal) (j : Fin 1024) : EReal :=
  joined ao x Wo bo j + affine (gated (normed (joined ao x Wo bo) s b) Wa ba Wb bb) Wc bc j

end Cert.Row

end
-- ==== Proof.TailBlock.lean ====
/-
  What the block's end writes at one grid point, number by number: row `r`, column `j` of its block is the row's ending
  (TailRow) of the loaded blocks' rows.
-/
module

public import proofs.«01_k».proof.Proof.Gen.TailIdeal.Frame
public import proofs.«01_k».proof.Proof.TailRow
public import Idealize.ShloMosaic.Lib.Pointwise
public import Idealize.ShloMosaic.Lib.Pipeline.Value
public import Idealize.ShloMosaic.Lib.Pipeline.ValueKit

@[expose] public section

noncomputable section

namespace Cert.TailIdeal.Block

open Cert.TailIdeal Cert.TailIdeal.Gen Idealize.ShloMosaic
open scoped BigOperators

/-- Head `p`'s numbers, as a matrix. -/
def head (x0 : FVec Ideal S32x256x128 .f32) (p : Fin 32) : FVec Ideal S256x32 .f32 :=
  fun i => x0 (ix3 p (i 0) ⟨(i 1).val, by have : (i 1).val < 32 := (i 1).isLt; omega⟩)

/-- Reading a head's lanes and dropping the unit axis gives the head's matrix. -/
theorem head_eq (x0 : FVec Ideal S32x256x128 .f32) (p : Fin 32) (off : Fin 3 → ℕ) (ho : off = ![p.val, 0, 0])
    (inb : ∀ a, off a + S1x256x32.size a ≤ S32x256x128.size a) (h : S1x256x32.ShapeCasts S256x32) :
    shapeCast (s := S1x256x32) S256x32 (View.ld (Val := Elt Ideal) (e' := .f32) x0 (Rect.unit (s := S32x256x128) off S1x256x32.size inb)) h = head x0 p := by
  subst ho
  funext i
  rw [show i = ix2 (i 0) (i 1) from (ix2_eta i).symm]
  refine (shapeCast_dropUnit_apply ![256, 32] _ h (ix2 (i 0) (i 1))).trans ?_
  refine View.ld_unit_apply_of _ _ _ _ _ _ fun a => ?_
  fin_cases a
  · simp [Fin.cons]
  all_goals
    simp [Fin.cons]
    rfl

/-- The heads side by side. -/
def heads (x0 : FVec Ideal S32x256x128 .f32) (r : Fin 256) (k : Fin 1024) : EReal :=
  x0 (ix3 ⟨k.val / 32, by omega⟩ r ⟨k.val % 32, by omega⟩)

theorem heads_eq (x0 : FVec Ideal S32x256x128 .f32)
    (h : Shape.Concatenates ((List.ofFn fun n : Fin 32 => (⟨S256x32, head x0 n⟩ : (s : Shape) × (s.Idx → EReal))).map (·.1)) S256x1024 1)
    (r : Fin 256) (k : Fin 1024) :
    concatenate S256x1024 1 (List.ofFn fun n : Fin 32 => (⟨S256x32, head x0 n⟩ : (s : Shape) × (s.Idx → EReal))) h (ix2 r k) = heads x0 r k := by
  rw [concatenate_ofFn_apply (s₁ := S256x32) 1 (head x0) h rfl 32 rfl (ix2 r k) ⟨k.val / 32, by omega⟩ rfl
    (ix2 r ⟨k.val % 32, by omega⟩) rfl (fun b hb => by
      fin_cases b
      · rfl
      · exact absurd rfl hb)]
  rfl

/-- Head `p`'s lanes, as the kernel loads them. -/
def loaded (x0 : FVec Ideal S32x256x128 .f32) (p : Fin 32) : FVec Ideal S256x32 .f32 :=
  shapeCast (s := S1x256x32) S256x32 (View.ld (Val := Elt Ideal) (e' := .f32) x0
    (Rect.unit (s := S32x256x128) ![p.val, 0, 0] S1x256x32.size (by
      intro a
      have := p.isLt
      fin_cases a <;> simp <;> omega))) shapeCasts_S1x256x32_S256x32

theorem loaded_eq (x0 : FVec Ideal S32x256x128 .f32) : loaded x0 = head x0 := funext fun p => head_eq x0 p _ rfl _ _

/-- A matrix through the output projection. -/
def paste (A : FVec Ideal S256x1024 .f32) (w : Vec Ideal S1024x1024 .bf16) (b : Vec Ideal S1x1024 .f32) : FVec Ideal S256x1024 .f32 :=
  addf (matmul (φ₂ := .bf16) dot_S256x1024_S1024x1024_S256x1024_1_0_0_1_n_n none (truncf .bf16 A bitsLt_bf16_f32)
      (shapeCast S1024x1024 w shapeCasts_S1024x1024_S1024x1024) (constant S256x1024 .f32 0x00000000#32))
    (broadcastTo S256x1024 (shapeCast (α := Ideal .f32) S1x1024 b shapeCasts_S1x1024_S1x1024) broadcasts_S1x1024_S256x1024)

theorem paste_apply (A : FVec Ideal S256x1024 .f32) (w : Vec Ideal S1024x1024 .bf16) (b : Vec Ideal S1x1024 .f32) (r : Fin 256) (j : Fin 1024) :
    paste A w b (ix2 r j) = Row.affine (fun k => A (ix2 r k)) (fun k j => w (ix2 k j)) (fun j => b (ix2 0 j)) j := by
  unfold paste Row.affine
  simp only [pointwise, show ¬ (256 : ℕ) = 1 by decide, show ¬ (1024 : ℕ) = 1 by decide, show ¬ (3072 : ℕ) = 1 by decide, reduceDIte, zero_add]

theorem fits : Shape.Concatenates ((List.replicate 32 S256x32)) S256x1024 1 := by decide

/-- The kernel's projection is of the loaded heads side by side. -/
theorem attn_eq (x0 : Vec Ideal S32x256x128 .f32) (x1 : Vec Ideal S1x256x1024 .f32) (x2 : Vec Ideal S1024x1024 .bf16) (x3 x4 x5 : Vec Ideal S1x1024 .f32)
    (x6 : Vec Ideal S1024x3072 .bf16) (x7 : Vec Ideal S1x3072 .f32) (x8 : Vec Ideal S1024x3072 .bf16) (x9 : Vec Ideal S1x3072 .f32)
    (x10 : Vec Ideal S3072x1024 .bf16) (x11 : Vec Ideal S1x1024 .f32) :
    k0_pay30 x0 x1 x2 x3 x4 x5 x6 x7 x8 x9 x10 x11
      = paste (concatenate S256x1024 1 (List.ofFn fun n : Fin 32 => (⟨S256x32, loaded x0 n⟩ : (s : Shape) × (s.Idx → EReal))) fits)
          (View.ld x2 r0_32) (View.ld x3 r0_33) := rfl

theorem attn_apply (x0 : Vec Ideal S32x256x128 .f32) (x1 : Vec Ideal S1x256x1024 .f32) (x2 : Vec Ideal S1024x1024 .bf16) (x3 x4 x5 : Vec Ideal S1x1024 .f32)
    (x6 : Vec Ideal S1024x3072 .bf16) (x7 : Vec Ideal S1x3072 .f32) (x8 : Vec Ideal S1024x3072 .bf16) (x9 : Vec Ideal S1x3072 .f32)
    (x10 : Vec Ideal S3072x1024 .bf16) (x11 : Vec Ideal S1x1024 .f32) (r : Fin 256) (j : Fin 1024) :
    k0_pay30 x0 x1 x2 x3 x4 x5 x6 x7 x8 x9 x10 x11 (ix2 r j)
      = Row.affine (heads x0 r) (fun k j => x2 (ix2 k j)) (fun j => x3 (ix2 0 j)) j := by
  rw [attn_eq, paste_apply, View.ld_unit_zero (by funext a; fin_cases a <;> rfl), View.ld_unit_zero (by funext a; fin_cases a <;> rfl), loaded_eq]
  exact congrArg (fun f => Row.affine f (fun k j => x2 (ix2 k j)) (fun j => x3 (ix2 0 j)) j) (funext fun k => heads_eq x0 fits r k)

theorem joined_apply (v72 : FVec Ideal S256x1024 .f32) (v73 : Vec Ideal S1x256x1024 .f32) (r : Fin 256) (j : Fin 1024) :
    k0_pay26 v72 v73 (ix2 r j) = v73 (ix3 0 r j) + v72 (ix2 r j) := by
  unfold k0_pay26
  simp only [pointwise, show ¬ (256 : ℕ) = 1 by decide, show ¬ (1024 : ℕ) = 1 by decide, show ¬ (3072 : ℕ) = 1 by decide, reduceDIte, zero_add]

/-- The named constant is one part in 1023. -/
theorem named_c : (Named.named (F := Ideal) (φ := .f32) κ "c" 0x3A802008#32 : EReal) = ((1023⁻¹ : ℝ) : EReal) := rfl

theorem normed_apply (v72 : FVec Ideal S256x1024 .f32) (v73 : Vec Ideal S1x256x1024 .f32) (v76 v78 : Vec Ideal S1x1024 .f32) (r : Fin 256) (j : Fin 1024) :
    k0_pay27 v72 v73 v76 v78 (ix2 r j)
      = Row.normed (fun k => k0_pay26 v72 v73 (ix2 r k)) (fun j => v76 (ix2 0 j)) (fun j => v78 (ix2 0 j)) j := by
  unfold k0_pay27
  generalize k0_pay26 v72 v73 = h
  rw [← Row.normed_eq, ← named_c]
  unfold Row.squares Row.centred
  simp only [pointwise, show ¬ (256 : ℕ) = 1 by decide, show ¬ (1024 : ℕ) = 1 by decide, show ¬ (3072 : ℕ) = 1 by decide, reduceDIte, zero_add]

theorem left_apply (v72 : FVec Ideal S256x1024 .f32) (v73 : Vec Ideal S1x256x1024 .f32) (v76 v78 : Vec Ideal S1x1024 .f32)
    (w : Vec Ideal S1024x3072 .bf16) (b : Vec Ideal S1x3072 .f32) (r : Fin 256) (j : Fin 3072) :
    k0_pay28 v72 v73 v76 v78 w b (ix2 r j)
      = Row.affine (fun k => k0_pay27 v72 v73 v76 v78 (ix2 r k)) (fun k j => w (ix2 k j)) (fun j => b (ix2 0 j)) j := by
  unfold k0_pay28 Row.affine
  generalize k0_pay27 v72 v73 v76 v78 = n
  simp only [pointwise, show ¬ (256 : ℕ) = 1 by decide, show ¬ (1024 : ℕ) = 1 by decide, show ¬ (3072 : ℕ) = 1 by decide, reduceDIte, zero_add]

theorem right_apply (v72 : FVec Ideal S256x1024 .f32) (v73 : Vec Ideal S1x256x1024 .f32) (v76 v78 : Vec Ideal S1x1024 .f32)
    (w : Vec Ideal S1024x3072 .bf16) (b : Vec Ideal S1x3072 .f32) (r : Fin 256) (j : Fin 3072) :
    k0_pay29 v72 v73 v76 v78 w b (ix2 r j)
      = Row.affine (fun k => k0_pay27 v72 v73 v76 v78 (ix2 r k)) (fun k j => w (ix2 k j)) (fun j => b (ix2 0 j)) j := by
  unfold k0_pay29 Row.affine
  generalize k0_pay27 v72 v73 v76 v78 = n
  simp only [pointwise, show ¬ (256 : ℕ) = 1 by decide, show ¬ (1024 : ℕ) = 1 by decide, show ¬ (3072 : ℕ) = 1 by decide, reduceDIte, zero_add]

theorem last_apply (h : FVec Ideal S256x1024 .f32) (a g : FVec Ideal S256x3072 .f32) (w : Vec Ideal S3072x1024 .bf16)
    (b : Vec Ideal S1x1024 .f32) (r : Fin 256) (j : Fin 1024) :
    k0_pay1 h a g w b (ix3 0 r j)
      = h (ix2 r j) + Row.affine (fun k => a (ix2 r k) * max (g (ix2 r k)) 0) (fun k j => w (ix2 k j)) (fun j => b (ix2 0 j)) j := by
  unfold k0_pay1 Row.affine
  simp only [pointwise, show ¬ (256 : ℕ) = 1 by decide, show ¬ (1024 : ℕ) = 1 by decide, show ¬ (3072 : ℕ) = 1 by decide, reduceDIte, zero_add]
  exact add_assoc _ _ _

/-- WHAT ONE GRID POINT WRITES, at row `r` and column `j`. -/
theorem out_apply (x0 : Vec Ideal S32x256x128 .f32) (x1 : Vec Ideal S1x256x1024 .f32) (x2 : Vec Ideal S1024x1024 .bf16) (x3 x4 x5 : Vec Ideal S1x1024 .f32)
    (x6 : Vec Ideal S1024x3072 .bf16) (x7 : Vec Ideal S1x3072 .f32) (x8 : Vec Ideal S1024x3072 .bf16) (x9 : Vec Ideal S1x3072 .f32)
    (x10 : Vec Ideal S3072x1024 .bf16) (x11 : Vec Ideal S1x1024 .f32) (r : Fin 256) (j : Fin 1024) :
    out0_12 x0 x1 x2 x3 x4 x5 x6 x7 x8 x9 x10 x11 (ix3 0 r j)
      = Row.ending (heads x0 r) (fun k => x1 (ix3 0 r k)) (fun k j => x2 (ix2 k j)) (fun j => x3 (ix2 0 j)) (fun j => x4 (ix2 0 j))
          (fun j => x5 (ix2 0 j)) (fun k j => x6 (ix2 k j)) (fun j => x7 (ix2 0 j)) (fun k j => x8 (ix2 k j)) (fun j => x9 (ix2 0 j))
          (fun k j => x10 (ix2 k j)) (fun j => x11 (ix2 0 j)) j := by
  have z2 : (![0, 0] : Fin 2 → ℕ) = fun _ => 0 := by funext a; fin_cases a <;> rfl
  have z3 : (![0, 0, 0] : Fin 3 → ℕ) = fun _ => 0 := by funext a; fin_cases a <;> rfl
  unfold out0_12
  rw [View.canon_unit_zero z3, last_apply]
  simp only [left_apply, right_apply, normed_apply, joined_apply, attn_apply]
  rw [View.ld_unit_zero z3, View.ld_unit_zero z2, View.ld_unit_zero z2, View.ld_unit_zero z2, View.ld_unit_zero z2, View.ld_unit_zero z2,
    View.ld_unit_zero z2, View.ld_unit_zero z2, View.ld_unit_zero z2]
  rfl

end Cert.TailIdeal.Block

end
-- ==== Proof.TailValue.lean ====
/-
  The array the block's end leaves: every row the ending (TailRow) of the arguments' rows. Each grid point writes its own
  block, and the blocks tile the array.
-/
module

public import proofs.«01_k».proof.Proof.Gen.TailIdeal.Value
public import proofs.«01_k».proof.Proof.TailBlock
public import Idealize.ShloMosaic.Lib.Pipeline.ValueKit

@[expose] public section

noncomputable section

namespace Cert.TailIdeal.Array

open Cert.TailIdeal Cert.TailIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- The windows' block indices at a grid point, all points at once. -/
theorem idx : ∀ t : Fin cfg0.N, win0_0.index t = ![t.val / 8, t.val % 8, 0] ∧ win0_1.index t = ![t.val / 8, t.val % 8, 0]
    ∧ win0_2.index t = ![0, 0] ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] ∧ win0_11.index t = ![0, 0]
    ∧ win0_12.index t = ![t.val / 8, t.val % 8, 0] ∧ t.val / 8 < 4 :=
  (by decide +kernel : ∀ t : Fin grid0.N, _)

/-- The whole result, from the argument arrays. -/
def result (ao : FVec Ideal S128x2048x128 .f32) (x : FVec Ideal S4x2048x1024 .f32) (Wo : FVec Ideal S1024x1024 .f32) (bo : FVec Ideal S1024 .f32)
    (s t : FVec Ideal S1x1x1024 .f32) (Wa : FVec Ideal S1024x3072 .f32) (ba : FVec Ideal S3072 .f32) (Wb : FVec Ideal S1024x3072 .f32)
    (bb : FVec Ideal S3072 .f32) (Wc : FVec Ideal S3072x1024 .f32) (bc : FVec Ideal S1024 .f32) : FVec Ideal S4x2048x1024 .f32 := fun i =>
  Row.ending (fun k => ao (ix3 ⟨(i 0).val * 32 + k.val / 32, by have : (i 0).val < 4 := (i 0).isLt; omega⟩ (i 1) ⟨k.val % 32, by omega⟩))
    (fun k => x (ix3 (i 0) (i 1) k)) (fun k j => Wo (ix2 k j)) (fun j => bo (ix1 j)) (fun j => s (ix3 0 0 j)) (fun j => t (ix3 0 0 j))
    (fun k j => Wa (ix2 k j)) (fun j => ba (ix1 j)) (fun k j => Wb (ix2 k j)) (fun j => bb (ix1 j)) (fun k j => Wc (ix2 k j)) (fun j => bc (ix1 j)) (i 2)

/-- The array row and head a block's row and head sit at. -/
theorem read_heads (c : Dev nD) (t : Fin cfg0.N) (p : Fin 32) (r : Fin 256) (l : Fin 128) (h0 : t.val / 8 * 32 + p.val < 128) (h1 : t.val % 8 * 256 + r.val < 2048) :
    (iblk m c 0 t : FVec Ideal S32x256x128 .f32) (ix3 p r l) = (m ((c : Thread nD τ).loc main_arg0) : FVec Ideal S128x2048x128 .f32) (ix3 ⟨t.val / 8 * 32 + p.val, h0⟩ ⟨t.val % 8 * 256 + r.val, h1⟩ l) := by
  blk_ext [iblk, V, idx t]

theorem read_rows (c : Dev nD) (t : Fin cfg0.N) (r : Fin 256) (k : Fin 1024) (h0 : t.val / 8 < 4) (h1 : t.val % 8 * 256 + r.val < 2048) :
    (iblk m c 1 t : FVec Ideal S1x256x1024 .f32) (ix3 0 r k) = (m ((c : Thread nD τ).loc main_arg1) : FVec Ideal S4x2048x1024 .f32) (ix3 ⟨t.val / 8, h0⟩ ⟨t.val % 8 * 256 + r.val, h1⟩ k) := by
  blk_ext [iblk, V, idx t]

theorem read_2 (c : Dev nD) (t : Fin cfg0.N) (k : Fin 1024) (j : Fin 1024) :
    (iblk m c 2 t : FVec Ideal S1024x1024 .bf16) (ix2 k j) = (m ((c : Thread nD τ).loc main_arg2) : FVec Ideal S1024x1024 .f32) (ix2 k j) := by
  blk_simp [iblk]; entry_read; (try pointwise); first | done | blk_ext [idx t]

theorem read_6 (c : Dev nD) (t : Fin cfg0.N) (k : Fin 1024) (j : Fin 3072) :
    (iblk m c 6 t : FVec Ideal S1024x3072 .bf16) (ix2 k j) = (m ((c : Thread nD τ).loc main_arg6) : FVec Ideal S1024x3072 .f32) (ix2 k j) := by
  blk_simp [iblk]; entry_read; (try pointwise); first | done | blk_ext [idx t]

theorem read_8 (c : Dev nD) (t : Fin cfg0.N) (k : Fin 1024) (j : Fin 3072) :
    (iblk m c 8 t : FVec Ideal S1024x3072 .bf16) (ix2 k j) = (m ((c : Thread nD τ).loc main_arg8) : FVec Ideal S1024x3072 .f32) (ix2 k j) := by
  blk_simp [iblk]; entry_read; (try pointwise); first | done | blk_ext [idx t]

theorem read_10 (c : Dev nD) (t : Fin cfg0.N) (k : Fin 3072) (j : Fin 1024) :
    (iblk m c 10 t : FVec Ideal S3072x1024 .bf16) (ix2 k j) = (m ((c : Thread nD τ).loc main_arg10) : FVec Ideal S3072x1024 .f32) (ix2 k j) := by
  blk_simp [iblk]; entry_read; (try pointwise); first | done | blk_ext [idx t]

theorem read_3 (c : Dev nD) (t : Fin cfg0.N) (j : Fin 1024) :
    (iblk m c 3 t : FVec Ideal S1x1024 .f32) (ix2 0 j) = (m ((c : Thread nD τ).loc main_arg3) : FVec Ideal S1024 .f32) (ix1 j) := by
  blk_simp [iblk]; entry_read; (try pointwise); first | done | blk_ext [idx t]

theorem read_7 (c : Dev nD) (t : Fin cfg0.N) (j : Fin 3072) :
    (iblk m c 7 t : FVec Ideal S1x3072 .f32) (ix2 0 j) = (m ((c : Thread nD τ).loc main_arg7) : FVec Ideal S3072 .f32) (ix1 j) := by
  blk_simp [iblk]; entry_read; (try pointwise); first | done | blk_ext [idx t]

theorem read_9 (c : Dev nD) (t : Fin cfg0.N) (j : Fin 3072) :
    (iblk m c 9 t : FVec Ideal S1x3072 .f32) (ix2 0 j) = (m ((c : Thread nD τ).loc main_arg9) : FVec Ideal S3072 .f32) (ix1 j) := by
  blk_simp [iblk]; entry_read; (try pointwise); first | done | blk_ext [idx t]

theorem read_11 (c : Dev nD) (t : Fin cfg0.N) (j : Fin 1024) :
    (iblk m c 11 t : FVec Ideal S1x1024 .f32) (ix2 0 j) = (m ((c : Thread nD τ).loc main_arg11) : FVec Ideal S1024 .f32) (ix1 j) := by
  blk_simp [iblk]; entry_read; (try pointwise); first | done | blk_ext [idx t]

theorem read_4 (c : Dev nD) (t : Fin cfg0.N) (j : Fin 1024) :
    (iblk m c 4 t : FVec Ideal S1x1024 .f32) (ix2 0 j) = (m ((c : Thread nD τ).loc main_arg4) : FVec Ideal S1x1x1024 .f32) (ix3 0 0 j) := by
  blk_simp [iblk]; entry_read; (try pointwise); first | done | blk_ext [idx t]

theorem read_5 (c : Dev nD) (t : Fin cfg0.N) (j : Fin 1024) :
    (iblk m c 5 t : FVec Ideal S1x1024 .f32) (ix2 0 j) = (m ((c : Thread nD τ).loc main_arg5) : FVec Ideal S1x1x1024 .f32) (ix3 0 0 j) := by
  blk_simp [iblk]; entry_read; (try pointwise); first | done | blk_ext [idx t]

/-- THE ARRAY AFTER THE RUN. -/
theorem final (c : Dev nD) : (dats m 0 c).arrAt 12 cfg0.N = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 12 _ (by decide +kernel) fun t _ y => ?_
  blk_simp
  rw [after0_12]
  have h0 : t.val / 8 < 4 := (idx t).2.2.2.2.2.2.2.2.2.2.2.2.2
  obtain ⟨r, j, rfl⟩ : ∃ (r : Fin 256) (j : Fin 1024), y = ix3 (n0 := 1) 0 r j :=
    ⟨y 1, y 2, (eq_ix3 (n0 := 1) (n1 := 256) (n2 := 1024) y).trans (congrArg (fun z : Fin 1 => ix3 z (y 1) (y 2)) (Subsingleton.elim _ _))⟩
  have h1 : t.val % 8 * 256 + r.val < 2048 := by have := r.isLt; omega
  have he : ((cfg0.win 12).blk t).view.emb (ix3 (n0 := 1) (n1 := 256) (n2 := 1024) 0 r j)
      = ix3 (n0 := 4) (n1 := 2048) (n2 := 1024) ⟨t.val / 8, h0⟩ ⟨t.val % 8 * 256 + r.val, h1⟩ j := by
    blk_ext [idx t]
  refine (Block.out_apply (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) r j).trans ?_
  refine Eq.trans ?_ (congrArg (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) he).symm
  unfold result
  have e0 : Block.heads (iblk m c 0 t) r = fun k => (m ((c : Thread nD τ).loc main_arg0) : FVec Ideal S128x2048x128 .f32)
      (ix3 ⟨t.val / 8 * 32 + k.val / 32, by omega⟩ ⟨t.val % 8 * 256 + r.val, h1⟩ ⟨k.val % 32, by omega⟩) :=
    funext fun k => read_heads m c t _ r _ (by show t.val / 8 * 32 + k.val / 32 < 128; omega) h1
  rw [e0]
  congr 1
  · exact funext fun k => read_rows m c t r k h0 h1
  · exact funext fun k => funext fun j => read_2 m c t k j
  · exact funext fun j => read_3 m c t j
  · exact funext fun j => read_4 m c t j
  · exact funext fun j => read_5 m c t j
  · exact funext fun k => funext fun j => read_6 m c t k j
  · exact funext fun j => read_7 m c t j
  · exact funext fun k => funext fun j => read_8 m c t k j
  · exact funext fun j => read_9 m c t j
  · exact funext fun k => funext fun j => read_10 m c t k j
  · exact funext fun j => read_11 m c t j

end Cert.TailIdeal.Array

end
-- ==== Proof.TailWhole.lean ====
/-
  The plain program of the block's end, stage by stage, each stage's numbers read off; and its result, row by row, as the
  row's ending (TailRow).
-/
module

public import proofs.«01_k».proof.Proof.Gen.TailRefIdeal.Run
public import proofs.«01_k».proof.Proof.TailRow
public import Idealize.ShloMosaic.Lib.Pointwise
public import Idealize.ShloMosaic.Lib.Pipeline.Value

@[expose] public section

noncomputable section

namespace Cert.TailRefIdeal.Whole

open Cert.TailRefIdeal Cert.TailRefIdeal.Gen Cert.TailRefIdeal.Value Idealize.ShloMosaic Idealize.ShloMosaic.TcCoe Idealize.SL.Sem
open scoped BigOperators

/-- The heads' numbers side by side: column `k` of row `(b, i)` is lane `k % 32` of that row in head `32 b + k / 32`. -/
def beside (ao : FVec Ideal S128x2048x128 .f32) : FVec Ideal S4x2048x1024 .f32 :=
  shapeCast _ (transpose S4x2048x32x32 [0, 2, 1, 3] (shapeCast _ (extractStridedSlice S128x2048x32 ![0, 0, 0] ao slices_S128x2048x128_S128x2048x32_0_0_0) shapeCasts_S128x2048x32_S4x32x2048x32) transposes_S4x32x2048x32_S4x2048x32x32_0_2_1_3) shapeCasts_S4x2048x32x32_S4x2048x1024

/-- The output projection and the residual. -/
def sum1 (ao : FVec Ideal S128x2048x128 .f32) (x : FVec Ideal S4x2048x1024 .f32) (Wo : FVec Ideal S1024x1024 .f32) (bo : FVec Ideal S1024 .f32) :
    FVec Ideal S4x2048x1024 .f32 :=
  addf x (addf (Host.dotGeneral dot_S4x2048x1024_S1024x1024_S4x2048x1024_2_0_01_1_n_n none (beside ao) Wo)
    (broadcastInDim S4x2048x1024 ![0, 1, 2] bcast_S1x1x1024_S4x2048x1024_0_1_2 (broadcastInDim S1x1x1024 ![2] bcast_S1024_S1x1x1024_2 bo)))

/-- Less the mean. -/
def centre (h : FVec Ideal S4x2048x1024 .f32) : FVec Ideal S4x2048x1024 .f32 :=
  subf h (broadcastInDim S4x2048x1024 ![0, 1, 2] bcast_S4x2048x1_S4x2048x1024_0_1_2 (Host.divf (broadcastInDim S4x2048x1 ![0, 1] bcast_S4x2048_S4x2048x1_0_1
    (Host.reduceAdd h (constant S_ .f32 0x00000000#32) reducesTo_S4x2048x1024_S4x2048_d2 h_S_)) (broadcastInDim S4x2048x1 ![] bcast_S_S4x2048x1 (constant S_ .f32 0x44800000#32))))

/-- A row's standard deviation. -/
def spread (y : FVec Ideal S4x2048x1024 .f32) : FVec Ideal S4x2048x1 .f32 :=
  Host.sqrt (addf (Host.divf (broadcastInDim S4x2048x1 ![0, 1] bcast_S4x2048_S4x2048x1_0_1
    (Host.reduceAdd (mulf y y) (constant S_ .f32 0x00000000#32) reducesTo_S4x2048x1024_S4x2048_d2 h_S_)) (broadcastInDim S4x2048x1 ![] bcast_S_S4x2048x1 (constant S_ .f32 0x447FC000#32)))
    (broadcastInDim S4x2048x1 ![] bcast_S_S4x2048x1 (constant S_ .f32 0x358637BD#32)))

/-- The normalised rows. -/
def norm (h : FVec Ideal S4x2048x1024 .f32) (s b : FVec Ideal S1x1x1024 .f32) : FVec Ideal S4x2048x1024 .f32 :=
  addf (mulf (Host.divf (centre h) (broadcastInDim S4x2048x1024 ![0, 1, 2] bcast_S4x2048x1_S4x2048x1024_0_1_2 (spread (centre h))))
    (broadcastInDim S4x2048x1024 ![0, 1, 2] bcast_S1x1x1024_S4x2048x1024_0_1_2 s)) (broadcastInDim S4x2048x1024 ![0, 1, 2] bcast_S1x1x1024_S4x2048x1024_0_1_2 b)

/-- Rows through one of the two widening maps. -/
def widen (n : FVec Ideal S4x2048x1024 .f32) (W : FVec Ideal S1024x3072 .f32) (b : FVec Ideal S3072 .f32) : FVec Ideal S4x2048x3072 .f32 :=
  addf (Host.dotGeneral dot_S4x2048x1024_S1024x3072_S4x2048x3072_2_0_01_1_n_n none n W)
    (broadcastInDim S4x2048x3072 ![0, 1, 2] bcast_S1x1x3072_S4x2048x3072_0_1_2 (broadcastInDim S1x1x3072 ![2] bcast_S3072_S1x1x3072_2 b))

/-- The gated rows, narrowed again and added. -/
def finish (h : FVec Ideal S4x2048x1024 .f32) (a g : FVec Ideal S4x2048x3072 .f32) (W : FVec Ideal S3072x1024 .f32) (b : FVec Ideal S1024 .f32) :
    FVec Ideal S4x2048x1024 .f32 :=
  addf h (addf (Host.dotGeneral dot_S4x2048x3072_S3072x1024_S4x2048x1024_2_0_01_1_n_n none
      (mulf a (maximumf g (broadcastInDim S4x2048x3072 ![] bcast_S_S4x2048x3072 (constant S_ .f32 0x00000000#32)))) W)
    (broadcastInDim S4x2048x1024 ![0, 1, 2] bcast_S1x1x1024_S4x2048x1024_0_1_2 (broadcastInDim S1x1x1024 ![2] bcast_S1024_S1x1x1024_2 b)))

/-- The whole program. -/
def whole (ao : FVec Ideal S128x2048x128 .f32) (x : FVec Ideal S4x2048x1024 .f32) (Wo : FVec Ideal S1024x1024 .f32) (bo : FVec Ideal S1024 .f32)
    (s b : FVec Ideal S1x1x1024 .f32) (Wa : FVec Ideal S1024x3072 .f32) (ba : FVec Ideal S3072 .f32) (Wb : FVec Ideal S1024x3072 .f32)
    (bb : FVec Ideal S3072 .f32) (Wc : FVec Ideal S3072x1024 .f32) (bc : FVec Ideal S1024 .f32) : FVec Ideal S4x2048x1024 .f32 :=
  finish (sum1 ao x Wo bo) (widen (norm (sum1 ao x Wo bo) s b) Wa ba) (widen (norm (sum1 ao x Wo bo) s b) Wb bb) Wc bc

theorem res_eq (m : (ℓ : Loc nD τ sig) → Buf (Elt Ideal) ℓ) (c : Dev nD) :
    res_main_v44 m c = whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11)) := rfl

theorem beside_apply (ao : FVec Ideal S128x2048x128 .f32) (b : Fin 4) (i : Fin 2048) (k : Fin 1024) :
    beside ao (ix3 b i k) = ao (ix3 ⟨b.val * 32 + k.val / 32, by omega⟩ i ⟨k.val % 32, by omega⟩) := by
  unfold beside
  simp only [pointwise]
  refine congrArg ao (funext fun a => Fin.ext ?_)
  fin_cases a <;> simp [ix3]

theorem sum1_apply (ao : FVec Ideal S128x2048x128 .f32) (x : FVec Ideal S4x2048x1024 .f32) (Wo : FVec Ideal S1024x1024 .f32) (bo : FVec Ideal S1024 .f32)
    (b : Fin 4) (i : Fin 2048) (j : Fin 1024) :
    sum1 ao x Wo bo (ix3 b i j) = Row.joined (fun k => beside ao (ix3 b i k)) (fun k => x (ix3 b i k)) (fun k j => Wo (ix2 k j)) (fun j => bo (ix1 j)) j := by
  unfold sum1 Row.joined Row.affine
  generalize beside ao = o
  simp only [pointwise, show ¬ (4 : ℕ) = 1 by decide, show ¬ (2048 : ℕ) = 1 by decide, show ¬ (1024 : ℕ) = 1 by decide, show ¬ (3072 : ℕ) = 1 by decide, reduceDIte, zero_add]

theorem centre_apply (h : FVec Ideal S4x2048x1024 .f32) (b : Fin 4) (i : Fin 2048) (j : Fin 1024) :
    centre h (ix3 b i j) = Row.centred (fun k => h (ix3 b i k)) j := by
  unfold centre Row.centred
  simp only [pointwise, show ¬ (4 : ℕ) = 1 by decide, show ¬ (2048 : ℕ) = 1 by decide, show ¬ (1024 : ℕ) = 1 by decide, show ¬ (3072 : ℕ) = 1 by decide, reduceDIte, zero_add]

theorem spread_apply (y : FVec Ideal S4x2048x1024 .f32) (b : Fin 4) (i : Fin 2048) :
    spread y (ix3 b i 0) = Ideal.sqrt (Ideal.div (∑ k, y (ix3 b i k) * y (ix3 b i k)) (Ideal.ofBits .f32 0x447FC000#32) + Ideal.ofBits .f32 0x358637BD#32) := by
  unfold spread
  simp only [pointwise, show ¬ (4 : ℕ) = 1 by decide, show ¬ (2048 : ℕ) = 1 by decide, show ¬ (1024 : ℕ) = 1 by decide, show ¬ (3072 : ℕ) = 1 by decide, reduceDIte, zero_add]

theorem norm_apply (h : FVec Ideal S4x2048x1024 .f32) (s t : FVec Ideal S1x1x1024 .f32) (b : Fin 4) (i : Fin 2048) (j : Fin 1024) :
    norm h s t (ix3 b i j) = Row.normed (fun k => h (ix3 b i k)) (fun j => s (ix3 0 0 j)) (fun j => t (ix3 0 0 j)) j := by
  unfold norm Row.normed Row.squares
  simp only [← centre_apply]
  rw [← spread_apply]
  generalize spread (centre h) = e
  generalize centre h = y
  simp only [pointwise, show ¬ (4 : ℕ) = 1 by decide, show ¬ (2048 : ℕ) = 1 by decide, show ¬ (1024 : ℕ) = 1 by decide, show ¬ (3072 : ℕ) = 1 by decide, reduceDIte, zero_add]

theorem widen_apply (n : FVec Ideal S4x2048x1024 .f32) (W : FVec Ideal S1024x3072 .f32) (c : FVec Ideal S3072 .f32) (b : Fin 4) (i : Fin 2048) (j : Fin 3072) :
    widen n W c (ix3 b i j) = Row.affine (fun k => n (ix3 b i k)) (fun k j => W (ix2 k j)) (fun j => c (ix1 j)) j := by
  unfold widen Row.affine
  simp only [pointwise, show ¬ (4 : ℕ) = 1 by decide, show ¬ (2048 : ℕ) = 1 by decide, show ¬ (1024 : ℕ) = 1 by decide, show ¬ (3072 : ℕ) = 1 by decide, reduceDIte, zero_add]

theorem finish_apply (h : FVec Ideal S4x2048x1024 .f32) (a g : FVec Ideal S4x2048x3072 .f32) (W : FVec Ideal S3072x1024 .f32) (c : FVec Ideal S1024 .f32)
    (b : Fin 4) (i : Fin 2048) (j : Fin 1024) :
    finish h a g W c (ix3 b i j)
      = h (ix3 b i j) + Row.affine (fun k => a (ix3 b i k) * max (g (ix3 b i k)) 0) (fun k j => W (ix2 k j)) (fun j => c (ix1 j)) j := by
  unfold finish Row.affine
  simp only [pointwise, show ¬ (4 : ℕ) = 1 by decide, show ¬ (2048 : ℕ) = 1 by decide, show ¬ (1024 : ℕ) = 1 by decide, show ¬ (3072 : ℕ) = 1 by decide, reduceDIte, zero_add]

/-- THE PROGRAM'S RESULT, row `(b, i)`, column `j`. -/
theorem whole_apply (ao : FVec Ideal S128x2048x128 .f32) (x : FVec Ideal S4x2048x1024 .f32) (Wo : FVec Ideal S1024x1024 .f32) (bo : FVec Ideal S1024 .f32)
    (s t : FVec Ideal S1x1x1024 .f32) (Wa : FVec Ideal S1024x3072 .f32) (ba : FVec Ideal S3072 .f32) (Wb : FVec Ideal S1024x3072 .f32)
    (bb : FVec Ideal S3072 .f32) (Wc : FVec Ideal S3072x1024 .f32) (bc : FVec Ideal S1024 .f32) (b : Fin 4) (i : Fin 2048) (j : Fin 1024) :
    whole ao x Wo bo s t Wa ba Wb bb Wc bc (ix3 b i j)
      = Row.ending (fun k => ao (ix3 ⟨b.val * 32 + k.val / 32, by omega⟩ i ⟨k.val % 32, by omega⟩)) (fun k => x (ix3 b i k)) (fun k j => Wo (ix2 k j))
          (fun j => bo (ix1 j)) (fun j => s (ix3 0 0 j)) (fun j => t (ix3 0 0 j)) (fun k j => Wa (ix2 k j)) (fun j => ba (ix1 j)) (fun k j => Wb (ix2 k j))
          (fun j => bb (ix1 j)) (fun k j => Wc (ix2 k j)) (fun j => bc (ix1 j)) j := by
  unfold whole
  simp only [finish_apply, widen_apply, norm_apply, sum1_apply, beside_apply]
  rfl

end Cert.TailRefIdeal.Whole

end
-- ==== Proof.TailClaims.lean ====
/-
  The block's end: the three frames, the idealization and the equality with the plain program.
-/
module

public import proofs.«01_k».proof.Defs
public import proofs.«01_k».proof.Proof.Gen.Tail.Frame
public import proofs.«01_k».proof.Proof.TailValue
public import proofs.«01_k».proof.Proof.TailWhole
public import Idealize.ShloMosaic.Lib.Quiescent

@[expose] public section

noncomputable section

namespace Cert.Proof.Tail

open Idealize.ShloMosaic Idealize.SL.Sem

/-- The kernel as printed: it runs, its arguments and its counters end as they were. -/
theorem frame_p : Cert.quiescent_Tail := fun m g _ => Cert.Tail.Gen.frame m g

/-- The same of the idealized kernel. -/
theorem frame_pi : Cert.quiescent_TailIdeal := fun m g _ => Cert.TailIdeal.Gen.frame m g

/-- The same of the plain program, which has no counter. -/
theorem frame_ri : Cert.quiescent_TailRefIdeal := by
  intro m g _
  exact (θ_run _ _ _).mono (fun r h => ⟨fun c => (h c).2, Idealize.ShloMosaic.sem_eq_zero_of_no_sems (by decide) r.2⟩)
    (Cert.TailRefIdeal.Value.run (F := Ideal) m g)

/-- The idealization names one literal, one part in 1023. -/
theorem preserves : Cert.preserves_Tail_TailIdeal :=
  IdealRules.named_const.statement _ _ _ _ _ (by simp [Cert.TailIdeal.κ])

/-- The plain program's result is the array the kernel leaves, of the same arguments. -/
theorem whole_eq (ao : FVec Ideal Cert.TailIdeal.S128x2048x128 .f32) (x : FVec Ideal Cert.TailIdeal.S4x2048x1024 .f32)
    (Wo : FVec Ideal Cert.TailIdeal.S1024x1024 .f32) (bo : FVec Ideal Cert.TailIdeal.S1024 .f32) (s t : FVec Ideal Cert.TailIdeal.S1x1x1024 .f32)
    (Wa : FVec Ideal Cert.TailIdeal.S1024x3072 .f32) (ba : FVec Ideal Cert.TailIdeal.S3072 .f32) (Wb : FVec Ideal Cert.TailIdeal.S1024x3072 .f32)
    (bb : FVec Ideal Cert.TailIdeal.S3072 .f32) (Wc : FVec Ideal Cert.TailIdeal.S3072x1024 .f32) (bc : FVec Ideal Cert.TailIdeal.S1024 .f32) :
    Cert.TailRefIdeal.Whole.whole ao x Wo bo s t Wa ba Wb bb Wc bc = Cert.TailIdeal.Array.result ao x Wo bo s t Wa ba Wb bb Wc bc := by
  funext i
  refine (congrArg _ (eq_ix3 (n0 := 4) (n1 := 2048) (n2 := 1024) i)).trans ?_
  exact Cert.TailRefIdeal.Whole.whole_apply ao x Wo bo s t Wa ba Wb bb Wc bc (i 0) (i 1) (i 2)

/-- Kernel and plain program end with the same result. -/
theorem algebraic : Cert.algebraic_TailIdeal_TailRefIdeal := by
  intro m g m' g' _ hagree
  refine ⟨fun c => (Cert.TailIdeal.Gen.dats m 0 c).arrAt 12 Cert.TailIdeal.cfg0.N, ?_, ?_⟩
  · exact Cert.TailIdeal.Value.run_blocks m g
  · refine (θ_run _ _ _).mono (fun r h c => ⟨(h c).1.trans ?_, (h c).2⟩) (Cert.TailRefIdeal.Value.run (F := Ideal) m' g')
    obtain ⟨a0, a1, a2, a3, a4, a5, a6, a7, a8, a9, a10, a11⟩ := hagree c
    refine Eq.trans ?_ (Cert.TailIdeal.Array.final m c).symm
    rw [Cert.TailRefIdeal.Whole.res_eq, a0, a1, a2, a3, a4, a5, a6, a7, a8, a9, a10, a11]
    exact whole_eq _ _ _ _ _ _ _ _ _ _ _ _

end Cert.Proof.Tail

end
-- ==== Proof.AttendIdealBody.lean ====
/-
  THE ATTENTION'S BODY, RUN. At one point the body reads the rows' first two groups of 32 lanes and stores, band of 256 rows
  after band, the first 32 lanes of the output's block: eight stores that leave the other 96 lanes as they were found. So
  the proof data hold the output's block to a predicate — its first 32 lanes are what the eight stores put there — and say
  nothing of the rest; the run and the unchanged argument follow.
-/
module

public import proofs.«01_k».proof.Proof.Gen.AttendIdeal.Frame
public import proofs.«01_k».proof.Proof.Gen.AttendIdeal.Skeleton
public import proofs.«01_k».proof.Proof.Gen.AttendIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.DatRel
public import Idealize.ShloMosaic.Lib.Pipeline.ArrRel

@[expose] public section

noncomputable section

namespace Cert.AttendIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel)
open Cert.AttendIdeal.Gen

variable {F : FTy → Type} [FloatOps F] [Named F]

local notation "𝕄" => MT nD τ sig Unit (Elt F) ℕ (UR sig nD τ) ℕ

/-- The lanes of the keys (and queries), a block's first 32. -/
abbrev rK : Rect S1x2048x128 := Rect.unit (s := S1x2048x128) ![0, 0, 0] S1x2048x32.size inb_S1x2048x128_S1x2048x32_0_0_0
/-- The lanes of the values, a block's second 32. -/
abbrev rV : Rect S1x2048x128 := Rect.unit (s := S1x2048x128) ![0, 0, 32] S1x2048x32.size inb_S1x2048x128_S1x2048x32_0_0_32

/-- A band's payload as a function of the block's first and second group of lanes. -/
abbrev banded {β : Type} (p : FVec F S2048x32 .bf16 → FVec F S2048x32 .bf16 → FVec F S2048x32 .bf16 → F .f32 → IVec S256x256 1 → β)
    (k v : Vec F S1x2048x32 .f32) : β :=
  p (k0_pay3 v) (k0_pay4 k) (k0_pay5 k) (k0_pay6 (F := F)) k0_pay7

/-- The eight stores of the body, the last first, over the two groups of lanes it reads. -/
def pieces (k v : Vec F S1x2048x32 .f32) : List (View.Piece (Elt F) S1x2048x128 .f32) :=
  [⟨Rect.unit (s := S1x2048x128) ![0, 1792, 0] S1x256x32.size inb_S1x2048x128_S1x256x32_0_1792_0, banded k0_pay1 k v⟩,
   ⟨Rect.unit (s := S1x2048x128) ![0, 1536, 0] S1x256x32.size inb_S1x2048x128_S1x256x32_0_1536_0, banded k0_pay17 k v⟩,
   ⟨Rect.unit (s := S1x2048x128) ![0, 1280, 0] S1x256x32.size inb_S1x2048x128_S1x256x32_0_1280_0, banded k0_pay16 k v⟩,
   ⟨Rect.unit (s := S1x2048x128) ![0, 1024, 0] S1x256x32.size inb_S1x2048x128_S1x256x32_0_1024_0, k0_pay15 (banded k0_pay14 k v)⟩,
   ⟨Rect.unit (s := S1x2048x128) ![0, 768, 0] S1x256x32.size inb_S1x2048x128_S1x256x32_0_768_0, banded k0_pay13 k v⟩,
   ⟨Rect.unit (s := S1x2048x128) ![0, 512, 0] S1x256x32.size inb_S1x2048x128_S1x256x32_0_512_0, k0_pay12 (banded k0_pay11 k v)⟩,
   ⟨Rect.unit (s := S1x2048x128) ![0, 256, 0] S1x256x32.size inb_S1x2048x128_S1x256x32_0_256_0, banded k0_pay10 k v⟩,
   ⟨Rect.unit (s := S1x2048x128) ![0, 0, 0] S1x256x32.size inb_S1x2048x128_S1x256x32_0_0_0, k0_pay9 (k0_pay8 k v)⟩]

/-- The stores reach every row of the block's first 32 lanes. -/
theorem reached (k v : Vec F S1x2048x32 .f32) (y : S1x2048x128.Idx) (h : (y 2).val < 32) : ∃ p ∈ pieces k v, y ∈ p.1.set := by
  have h0 : (y 0).val < 1 := (y 0).isLt
  have h1 : (y 1).val < 2048 := (y 1).isLt
  simp only [pieces, List.mem_cons, List.not_mem_nil, or_false, exists_eq_or_imp, exists_eq_left, Rect.mem_set_unit,
    Fin.forall_fin_succ, Fin.forall_fin_zero_pi]
  simp
  omega

set_option maxHeartbeats 1000000 in
/-- The body's triple: over an input block `x` it leaves the output's block with its first 32 lanes at the stores' values. -/
theorem sound_kernel (c : Dev nD) (E : Set ℕ) (i : grid0.Coords) (arg1 : Memref sig .tc .vmem S1x2048x128 .f32) (harg1 : arg1.IsWhole)
    (arg2 : Memref sig .tc .vmem S1x2048x128 .f32) (harg2 : arg2.IsWhole) (x : Vec F S1x2048x128 .f32) (Q : Unit → sProp 𝕄) :
    iprop(owns (c : Thread nD τ) arg1 fullShare x ∗ (∃ Y, owns (c : Thread nD τ) arg2 fullShare Y)
        ∗ (iprop(owns (c : Thread nD τ) arg1 fullShare x
            ∗ ∃ X, ⌜∀ y : S1x2048x128.Idx, (y 2).val < 32 → X y = View.canon (pieces (View.ld x rK) (View.ld x rV)) y⌝
              ∗ owns (c : Thread nD τ) arg2 fullShare X) -∗ Q ()))
      ⊢ wp frame (wpE (defs₀ (F := F)) Variants.none c none) E (cc0__k3_body i arg1 harg1 arg2 harg2) Q := by
  simp only [cc0__k3_body_eq_skeleton]; unfold cc0__k3_body_skel
  simp only [k0_part1_eq_skeleton, k0_part2_eq_skeleton, k0_part3_eq_skeleton, k0_part4_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap
  · iexists _; isplitr
    swap; · iexact H1
    ipureintro; rfl
  ipureintro
  intro y hy
  exact (View.read_writes_apply_eq_canon _ _ y _ (reached _ _ y hy))

variable (m : (ℓ : Loc nD τ sig) → Buf (Elt F) ℓ) (ρ : Dev nD → PrngReg)

/-- The input's block at point `t`, as the region finds it. -/
abbrev block (c : Dev nD) (t : Fin cfg0.N) : Vec F S1x2048x128 .f32 := iblk m c 0 t

/-- What the first 32 lanes of the output's block hold after point `t`. -/
abbrev attended (c : Dev nD) (t : Fin cfg0.N) : Vec F S1x2048x128 .f32 :=
  View.canon (pieces (View.ld (block m c t) rK) (View.ld (block m c t) rV))

/-- Exact proof data, of which only the input's part is used: the array as found, its block left in place. -/
def dats (c : Dev nD) : Dat τ (Elt F) Unit ℕ (UR sig nD τ) ℕ cfg0 c where
  A w := V m c (Pipeline.arrRef spec0 w)
  after w t := match w with
    | ⟨0, _⟩ => block m c t
    | ⟨1, _⟩ => attended m c t
  Φ _ := Pipeline.ΦA spec0 c
  q _ := fullShare
  owed _ := 0

theorem dats_A (c : Dev nD) (w : Fin cfg0.W) : (dats m c).A w = V m c (Pipeline.arrRef spec0 w) := by dsimp only [dats]
theorem dats_after_in (c : Dev nD) (t : Fin cfg0.N) : (dats m c).after 0 t = block m c t := by dsimp only [dats]
theorem dats_before_in (c : Dev nD) (t : Fin cfg0.N) (d) : (dats m c).before 0 t d = block m c t :=
  before0_0_of m (dats m c) (dats_A m c 0) (dats_after_in m c) t d

/-- The output's window, the one held to a predicate. -/
def part (w : Fin cfg0.W) : Bool := match w with
  | ⟨0, _⟩ => false
  | ⟨1, _⟩ => true

/-- The predicate: the block's first 32 lanes are what the stores put there. -/
def leaves (c : Dev nD) (w : Fin cfg0.W) (t : Fin cfg0.N) (X : (cfg0.win w).block.Idx → Elt F (cfg0.win w).elt) : Prop := match w with
  | ⟨0, _⟩ => True
  | ⟨1, _⟩ => ∀ y : S1x2048x128.Idx, (y 2).val < 32 → X y = attended m c t y

/-- The proof data: exact of the input, relational of the output. -/
abbrev rdat (c : Dev nD) : RDat τ (Elt F) Unit ℕ (UR sig nD τ) ℕ cfg0 c := (dats m c).toRRel part (leaves m c)

/-- What the body is called with at point `t`, -/
def bodyPre (c : Dev nD) (t : Fin cfg0.N) : sProp 𝕄 :=
  iprop((dats m c).Φ t.castSucc ∗ (dats m c).owesAt () t.castSucc
    ∗ (∃ d, owns (c : Thread nD τ) (st0_0 t) fullShare ((dats m c).before 0 t d))
    ∗ (∃ Y, ⌜(rdat m c).Finds 1 t Y⌝ ∗ owns (c : Thread nD τ) (st0_1 t) fullShare Y))

/-- and what it returns. -/
def bodyPost (c : Dev nD) (t : Fin cfg0.N) : sProp 𝕄 :=
  iprop((dats m c).Φ t.succ ∗ (dats m c).owesAt () t.succ
    ∗ owns (c : Thread nD τ) (st0_0 t) fullShare ((dats m c).after 0 t)
    ∗ (∃ X, ⌜leaves m c 1 t X⌝ ∗ owns (c : Thread nD τ) (st0_1 t) fullShare X))

/-- The body at any point, by its triple over the input's block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [dats_before_in]
  rw [show (dats m c).Φ t.succ = (dats m c).Φ t.castSucc from rfl,
    show (dats m c).owesAt () t.succ = (dats m c).owesAt () t.castSucc from rfl, dats_after_in]
  iintro ⟨HΦ, Ho, ⟨%d0, H0⟩, ⟨%Y, -, H1⟩⟩
  iapply (sound_kernel c Set.univ (grid0.coords t) _ _ _ _ (block m c t) _)
  isplitl [H0]; · iexact H0
  isplitl [H1]; · iexists Y; iexact H1
  iintro ⟨H0, ⟨%X, %hX, H1⟩⟩
  isplitl [HΦ]; · iexact HΦ
  isplitl [Ho]; · iexact Ho
  isplitl [H0]; · iexact H0
  iexists X; isplitr
  · ipureintro; exact hX
  iexact H1

/-- The body table's row at point `t`. -/
theorem defs₀_row (t : Fin cfg0.N) : defs₀ (F := F) .tc cfg0.body (cfg0.bodyArgs t (cfg0.slots t)) = bodyAt0 t := by
  unfold defs₀; rw [Defs.onTc_tc]

/-- The body obligation of the relational data. -/
theorem obligation (c : Dev nD) : BodyObligationRel (dats (F := F) m c) (defs₀ (F := F)) Variants.none () Set.univ part (leaves m c) := fun t => by
  rw [bigSep_W0, bigSep_W0, defs₀_row]
  exact triple_restated (sound_body m c t) rfl .rfl fun _ => .rfl

set_option backward.isDefEq.respectTransparency.types false in
set_option maxHeartbeats 800000 in
/-- The run: the arrays as the relational data say, and every counter at zero. -/
theorem run : θ_run defs (onTc (τ := τ) (main (F := F))) (s₀ m ρ)
    (fun r => Pipeline.RDat.FramePost cfg0 (rdat m) (V m) r ∧ r.2.sem = fun _ => 0) :=
  Pipeline.RDat.θ_run_frame (Q' := _) cfgs (0 : Fin 1) launch0 defs₀ Variants.none (rdat m) m ρ main
    (hbody := fun c => (obligation m c).toRRel) (hshare := fun c => (dats m c).share_full fun _ => rfl)
    (howed := fun _ _ => rfl) (V := V m) (hmain := hmain m Variants.none) (hA := fun c w => dats_A m c w) (hΦ := fun _ _ => rfl)

/-- The frame claim at any values: the argument ends as it was. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun _ h => ⟨fun c => (h.1.arr_in c 0 rfl).trans (dats_A m c 0), h.2⟩) (run m ρ)

end Cert.AttendIdeal.Body

end
-- ==== Proof.AttendRow.lean ====
/-
  One row of the attention within a block of 64 rows, over the extended reals. A key is a query over its length (and a
  little); a score is a query's product with a key over the root of 32; the weights are the softmax of the block's 64
  scores. The kernel takes the 256 rows of a band together, sets the scores outside the row's own block to minus infinity,
  takes no maximum out and divides once; of finite queries that is the same row.
-/
module

public import Idealize.ShloMosaic.PureOps.Ideal
public import Idealize.ShloMosaic.PureOps.Ideal.Laws
public import Idealize.ShloMosaic.Lib.IdealHost

@[expose] public section

noncomputable section

namespace Cert.Att

open Idealize.ShloMosaic
open scoped BigOperators

/-- A query's length plus a little. -/
def len (q : Fin 32 → EReal) : EReal := Ideal.sqrt (∑ d, q d * q d) + Ideal.ofBits .f32 0x358637BD#32

/-- A query's product with the key of a query. -/
def dot (q k : Fin 32 → EReal) : EReal := ∑ d, q d * Ideal.div (k d) (len k)

/-- The root of 32. -/
def root : EReal := Ideal.sqrt (Ideal.ofBits .f32 0x42000000#32)

/-- The softmax of 64 scores, weighing 64 numbers. -/
def soft (s v : Fin 64 → EReal) (M : EReal) : EReal :=
  ∑ j, Ideal.div (Ideal.exp (s j - M)) (∑ i, Ideal.exp (s i - M)) * v j

/-- Row `j` of the block of 64 rows that row `r` lies in. -/
def mate (r : Fin 2048) (j : Fin 64) : Fin 2048 := ⟨r.val / 64 * 64 + j.val, by omega⟩

/-- The scores of row `r` with its block. -/
def scores (q : Fin 2048 → Fin 32 → EReal) (r : Fin 2048) (j : Fin 64) : EReal := Ideal.div (dot (q r) (q (mate r j))) root

/-- The maximum of 64 scores, from minus infinity. -/
def peak (s : Fin 64 → EReal) : EReal := Finset.univ.fold max ⊥ s

/-- One number of the attention: row `r`, lane `d`. -/
def att (q v : Fin 2048 → Fin 32 → EReal) (r : Fin 2048) (d : Fin 32) : EReal :=
  soft (scores q r) (fun j => v (mate r j) d) (peak (scores q r))

theorem word_root : root = ((Real.sqrt 32 : ℝ) : EReal) := by
  have : Ideal.ofBits .f32 0x42000000#32 = ((32 : ℝ) : EReal) := by
    simp [Ideal.ofBits, Ideal.ieee, -EReal.coe_mul]; norm_num
  unfold root
  rw [this, Ideal.sqrt_coe, if_neg (by norm_num)]

theorem root_ne : Real.sqrt 32 ≠ 0 := (Real.sqrt_pos.mpr (by norm_num)).ne'

theorem eps_pos : ∃ e : ℝ, 0 < e ∧ Ideal.ofBits .f32 0x358637BD#32 = (e : EReal) := by
  refine ⟨((8796093 : ℝ) * 2 ^ (-43 : ℤ)), by positivity, ?_⟩
  simp [Ideal.ofBits, Ideal.ieee, -EReal.coe_mul]

/-- A number is real. -/
def IsReal (x : EReal) : Prop := ∃ r : ℝ, x = (r : EReal)

theorem isReal_sum {ι : Type} (s : Finset ι) {f : ι → EReal} (h : ∀ i, IsReal (f i)) : IsReal (∑ i ∈ s, f i) := by
  choose g hg using h
  refine ⟨∑ i ∈ s, g i, ?_⟩
  simp only [hg]
  induction s using Finset.cons_induction with
  | empty => simp
  | cons a s ha ih => rw [Finset.sum_cons, Finset.sum_cons, ih, EReal.coe_add]

theorem coe_sum {ι : Type} (s : Finset ι) (g : ι → ℝ) : ∑ i ∈ s, ((g i : ℝ) : EReal) = ((∑ i ∈ s, g i : ℝ) : EReal) := by
  induction s using Finset.cons_induction with
  | empty => simp
  | cons a s ha ih => rw [Finset.sum_cons, Finset.sum_cons, ih, EReal.coe_add]

theorem isReal_mul {x y : EReal} : IsReal x → IsReal y → IsReal (x * y) := by
  rintro ⟨a, rfl⟩ ⟨b, rfl⟩; exact ⟨a * b, (EReal.coe_mul a b).symm⟩

/-- Of a finite query the length is a positive real. -/
theorem len_real {q : Fin 32 → EReal} (h : ∀ d, IsReal (q d)) : ∃ r : ℝ, 0 < r ∧ len q = (r : EReal) := by
  choose g hg using h
  obtain ⟨e, he, hee⟩ := eps_pos
  have hs : (0 : ℝ) ≤ ∑ d, g d * g d := Finset.sum_nonneg fun d _ => mul_self_nonneg _
  refine ⟨Real.sqrt (∑ d, g d * g d) + e, add_pos_of_nonneg_of_pos (Real.sqrt_nonneg _) he, ?_⟩
  unfold len
  simp only [hg, ← EReal.coe_mul]
  rw [coe_sum, Ideal.sqrt_coe, if_neg (not_lt.mpr hs), hee, EReal.coe_add]

/-- So is its score with another. -/
theorem dot_real {q k : Fin 32 → EReal} (hq : ∀ d, IsReal (q d)) (hk : ∀ d, IsReal (k d)) : IsReal (dot q k) := by
  obtain ⟨r, hr, hl⟩ := len_real hk
  refine isReal_sum _ fun d => isReal_mul (hq d) ?_
  rw [hl, Ideal.div_coe hr.ne']
  exact isReal_mul (hk d) ⟨1 / r, rfl⟩

theorem scores_real {q : Fin 2048 → Fin 32 → EReal} (h : ∀ r d, IsReal (q r d)) (r : Fin 2048) (j : Fin 64) : IsReal (scores q r j) := by
  unfold scores
  rw [word_root, Ideal.div_coe root_ne]
  exact isReal_mul (dot_real (h _) (h _)) ⟨1 / Real.sqrt 32, rfl⟩

/-- The largest of real scores is real. -/
theorem peak_real {s : Fin 64 → EReal} (h : ∀ j, IsReal (s j)) : IsReal (peak s) := by
  choose g hg using h
  have h1 : s 0 ≤ peak s := Finset.le_fold_max _ |>.mpr (Or.inr ⟨0, Finset.mem_univ _, le_rfl⟩)
  have h2 : peak s < ⊤ := Finset.fold_max_lt _ |>.mpr ⟨bot_lt_top, fun j _ => by rw [hg]; exact EReal.coe_lt_top _⟩
  have h3 : peak s ≠ ⊥ := fun e => by rw [e, hg] at h1; exact absurd h1 (by simp)
  exact ⟨(peak s).toReal, (EReal.coe_toReal h2.ne h3).symm⟩

/-- The kernel's weight is the softmax's, of real scores, whatever real number is taken out. -/
theorem weight_eq {s : Fin 64 → EReal} (h : ∀ j, IsReal (s j)) {M : EReal} (hM : IsReal M) (j : Fin 64) :
    Ideal.exp (s j) * Ideal.div 1 (∑ i, Ideal.exp (s i)) = Ideal.div (Ideal.exp (s j - M)) (∑ i, Ideal.exp (s i - M)) := by
  choose g hg using h
  obtain ⟨M, rfl⟩ := hM
  have e1 : ∀ i, Ideal.exp (s i) = ((Real.exp (g i) : ℝ) : EReal) := fun i => by rw [hg]; rfl
  have e2 : ∀ i, Ideal.exp (s i - (M : EReal)) = ((Real.exp (g i - M) : ℝ) : EReal) := fun i => by rw [hg, ← EReal.coe_sub]; rfl
  have p1 : (0 : ℝ) < ∑ i, Real.exp (g i) := Finset.sum_pos (fun i _ => Real.exp_pos _) ⟨0, Finset.mem_univ _⟩
  have p2 : (0 : ℝ) < ∑ i, Real.exp (g i - M) := Finset.sum_pos (fun i _ => Real.exp_pos _) ⟨0, Finset.mem_univ _⟩
  simp only [e1, e2]
  rw [coe_sum, coe_sum, Ideal.div_coe p1.ne', Ideal.div_coe p2.ne', one_mul, ← EReal.coe_mul, ← EReal.coe_mul]
  congr 1
  have : ∑ i, Real.exp (g i - M) = (∑ i, Real.exp (g i)) * Real.exp (-M) := by
    rw [Finset.sum_mul]; exact Finset.sum_congr rfl fun i _ => by rw [sub_eq_add_neg, Real.exp_add]
  rw [this, sub_eq_add_neg, Real.exp_add]
  have := (Real.exp_pos (-M)).ne'
  field_simp

/-- The row of a band that lies at place `i` of row `r`'s block. -/
def place (r : Fin 256) (i : Fin 64) : Fin 256 := ⟨r.val / 64 * 64 + i.val, by omega⟩

/-- A sum over a band of which only the row's own block counts. -/
theorem sum_band (r : Fin 256) (f : Fin 256 → EReal) (h : ∀ j : Fin 256, j.val / 64 ≠ r.val / 64 → f j = 0) :
    ∑ j, f j = ∑ i, f (place r i) := by
  refine (Finset.sum_of_injOn (place r) (fun a _ b _ e => ?_) (fun _ _ => Finset.mem_univ _) (fun j _ hj => ?_) fun _ _ => rfl).symm
  · have := congrArg Fin.val e
    exact Fin.ext (by simpa [place] using this)
  · refine h j fun e => hj ⟨⟨j.val % 64, by omega⟩, Finset.mem_coe.mpr (Finset.mem_univ _), Fin.ext ?_⟩
    show r.val / 64 * 64 + j.val % 64 = j.val
    omega

/-- What the kernel computes of a band's 256 scores: those of other blocks at minus infinity, no maximum taken out. -/
def banded (s v : Fin 256 → EReal) (r : Fin 256) : EReal :=
  ∑ j : Fin 256, Ideal.exp (if j.val / 64 = r.val / 64 then s j else ⊥)
    * Ideal.div 1 (∑ i : Fin 256, Ideal.exp (if i.val / 64 = r.val / 64 then s i else ⊥)) * v j

/-- Of real scores it is the softmax of the block's own, whatever real number is taken out. -/
theorem banded_eq (s v : Fin 256 → EReal) (r : Fin 256) (h : ∀ i, IsReal (s (place r i))) {M : EReal} (hM : IsReal M) :
    banded s v r = soft (fun i => s (place r i)) (fun i => v (place r i)) M := by
  have hp : ∀ i : Fin 64, (place r i).val / 64 = r.val / 64 := fun i => by show (r.val / 64 * 64 + i.val) / 64 = _; omega
  unfold banded soft
  rw [sum_band r (fun i => Ideal.exp (if i.val / 64 = r.val / 64 then s i else ⊥)) fun j hj => by rw [if_neg hj]; rfl,
    sum_band r _ fun j hj => by
      rw [if_neg hj, show Ideal.exp ⊥ = 0 from rfl, zero_mul, zero_mul]]
  refine Finset.sum_congr rfl fun j _ => ?_
  simp only [hp, if_true]
  rw [weight_eq h hM]

end Cert.Att

end
-- ==== Proof.AttendBlock.lean ====
/-
  What the attention writes at one grid point, number by number: row `r`, lane `d` of its block is the row of attention
  (AttendRow) of the loaded lanes. The eight bands are one function at eight offsets.
-/
module

public import proofs.«01_k».proof.Proof.AttendIdealBody
public import proofs.«01_k».proof.Proof.AttendRow
public import Idealize.ShloMosaic.Lib.Pointwise
public import Idealize.ShloMosaic.Lib.Routing.Words
public import Idealize.ShloMosaic.Lib.Pipeline.Value
public import Idealize.ShloMosaic.Lib.Pipeline.ValueKit

@[expose] public section

noncomputable section

namespace Cert.AttendIdeal.Block

open Cert.AttendIdeal Cert.AttendIdeal.Gen Cert.AttendIdeal.Body Idealize.ShloMosaic
open scoped BigOperators

/-- A band's rows of a matrix of 2048. -/
def rows (o : ℕ) (h : S2048x32.Slices ![o, 0] S256x32) (x : FVec Ideal S2048x32 .bf16) : FVec Ideal S256x32 .bf16 :=
  extractStridedSlice S256x32 ![o, 0] x h

/-- A band's masked scores, from its queries and keys. -/
def masked (q k : FVec Ideal S256x32 .bf16) : FVec Ideal S256x256 .f32 :=
  select k0_pay7 (broadcast S256x256 (Named.named (F := Ideal) (φ := .f32) κ "mask" 0xF149F2CA#32))
    (mulf (matmul dot_S256x32_S256x32_S256x256_1_1_0_0_n_n none q k (constant S256x256 .f32 0x00000000#32)) (broadcast S256x256 (k0_pay6 (F := Ideal))))

/-- The weights of a band. -/
def weights (s : FVec Ideal S256x256 .f32) : FVec Ideal S256x256 .f32 :=
  mulf (exp s) (broadcastTo S256x256 (divf (broadcast S256x1 (Scalar.ofBits (F := Ideal) .f32 0x3F800000#32))
    (shapeCast (α := Ideal .f32) S256x1 (multiReduction .add [1] S256 (exp s) 0x00000000#32 reduces_S256x256_S256 (.inl rfl) rfl) shapeCasts_S256_S256x1)) broadcasts_S256x1_S256x256)

/-- A band: the weights times the values. -/
def band (q k v : FVec Ideal S256x32 .bf16) : FVec Ideal S1x256x32 .f32 :=
  shapeCast (α := Ideal .f32) S1x256x32 (matmul (φ₂ := .bf16) dot_S256x256_S256x32_S256x32_1_0_0_1_n_n none
    (truncf .bf16 (weights (masked q k)) bitsLt_bf16_f32) v (constant S256x32 .f32 0x00000000#32)) shapeCasts_S256x32_S1x256x32

/-- The band at row offset `o` of a block. -/
def bandAt (o : ℕ) (h : S2048x32.Slices ![o, 0] S256x32) (k v : Vec Ideal S1x2048x32 .f32) : FVec Ideal S1x256x32 .f32 :=
  band (rows o h (k0_pay4 k)) (rows o h (k0_pay5 k)) (rows o h (k0_pay3 v))

theorem query_apply (k : Vec Ideal S1x2048x32 .f32) (r : Fin 2048) (d : Fin 32) : k0_pay4 k (ix2 r d) = k (ix3 0 r d) := by
  unfold k0_pay4 k0_pay2
  simp only [pointwise]

theorem value_apply (v : Vec Ideal S1x2048x32 .f32) (r : Fin 2048) (d : Fin 32) : k0_pay3 v (ix2 r d) = v (ix3 0 r d) := by
  unfold k0_pay3
  simp only [pointwise]

theorem key_apply (k : Vec Ideal S1x2048x32 .f32) (r : Fin 2048) (d : Fin 32) :
    k0_pay5 k (ix2 r d) = Ideal.div (k (ix3 0 r d)) (Att.len fun d => k (ix3 0 r d)) := by
  unfold k0_pay5 k0_pay2 Att.len
  simp only [pointwise, show ¬ (2048 : ℕ) = 1 by decide, reduceDIte, zero_add]

theorem scale_eq : k0_pay6 (F := Ideal) = Ideal.div 1 Att.root := by
  unfold k0_pay6 Att.root
  simp only [pointwise]
  rfl

theorem mask_apply (r j : Fin 256) : k0_pay7 (ix2 r j) = if j.val / 64 = r.val / 64 then 0#1 else 1#1 := by
  unfold k0_pay7
  simp only [pointwise]
  have hr := r.isLt
  have hj := j.isLt
  rw [show List.foldl (fun n a => n * ![256, 256] a + ((ix2 (n0 := 256) (n1 := 256) r j a).val)) 0 [0] = r.val from Nat.zero_add _,
    show List.foldl (fun n a => n * ![256, 256] a + ((ix2 (n0 := 256) (n1 := 256) r j a).val)) 0 [1] = j.val from Nat.zero_add _,
    show (64#32 : BitVec 32) = BitVec.ofNat 32 64 from rfl,
    Routing.divsi_word _ (by omega) (by omega) (by omega), Routing.divsi_word _ (by omega) (by omega) (by omega)]
  have key : BitVec.ofNat 32 (r.val / 64) = BitVec.ofNat 32 (j.val / 64) ↔ j.val / 64 = r.val / 64 := by
    constructor
    · intro h
      have := congrArg BitVec.toNat h
      simp only [BitVec.toNat_ofNat] at this
      omega
    · intro h; rw [h]
  unfold IntOp.cmpi
  by_cases h : j.val / 64 = r.val / 64
  · rw [if_pos h]; simp [h]
  · rw [if_neg h]
    show BitVec.ofBool (_ != _) = 1#1
    rw [bne_iff_ne.mpr fun e => h (key.mp e)]
    rfl

theorem weights_apply (s : FVec Ideal S256x256 .f32) (r j : Fin 256) :
    weights s (ix2 r j) = Ideal.exp (s (ix2 r j)) * Ideal.div 1 (∑ i : Fin 256, Ideal.exp (s (ix2 r i))) := by
  unfold weights
  simp only [pointwise, show ¬ (256 : ℕ) = 1 by decide, reduceDIte, zero_add]

theorem masked_apply (q k : FVec Ideal S256x32 .bf16) (r j : Fin 256) :
    masked q k (ix2 r j) = if j.val / 64 = r.val / 64 then (∑ d : Fin 32, q (ix2 r d) * k (ix2 j d)) * Ideal.div 1 Att.root else ⊥ := by
  unfold masked
  simp only [pointwise, scale_eq, mask_apply, zero_add]
  by_cases h : j.val / 64 = r.val / 64
  · rw [if_pos h, if_pos h]; rfl
  · rw [if_neg h, if_neg h]; rfl

theorem band_apply (q k v : FVec Ideal S256x32 .bf16) (r : Fin 256) (d : Fin 32) :
    band q k v (ix3 0 r d) = Att.banded (fun j => (∑ d : Fin 32, q (ix2 r d) * k (ix2 j d)) * Ideal.div 1 Att.root) (fun j => v (ix2 j d)) r := by
  unfold band Att.banded
  simp only [pointwise, zero_add, weights_apply, masked_apply]

/-- The queries, row by row. -/
def lanes (k : Vec Ideal S1x2048x32 .f32) (r : Fin 2048) (d : Fin 32) : EReal := k (ix3 0 r d)

/-- The band's rows sit at its offset. -/
theorem rows_apply (o : ℕ) (h : S2048x32.Slices ![o, 0] S256x32) (x : FVec Ideal S2048x32 .bf16) (r : Fin 256) (d : Fin 32) (hr : o + r.val < 2048) :
    rows o h x (ix2 r d) = x (ix2 ⟨o + r.val, hr⟩ d) := by
  unfold rows
  simp only [pointwise]
  refine congrArg x (funext fun a => Fin.ext ?_)
  fin_cases a <;> simp [ix2]

/-- ONE BAND OF FINITE QUERIES, at row `r` and lane `d`: the attention of the block's row. -/
theorem bandAt_apply (o : ℕ) (h : S2048x32.Slices ![o, 0] S256x32) (ho : o % 256 = 0) (ho' : o + 256 ≤ 2048) (k v : Vec Ideal S1x2048x32 .f32)
    (hk : ∀ r d, Att.IsReal (lanes k r d)) (r : Fin 256) (d : Fin 32) (hr : o + r.val < 2048) :
    bandAt o h k v (ix3 0 r d) = Att.att (lanes k) (lanes v) ⟨o + r.val, hr⟩ d := by
  have hs : ∀ j : Fin 256, o + j.val < 2048 := fun j => by omega
  have hm : ∀ i : Fin 64, (⟨o + (Att.place r i).val, hs _⟩ : Fin 2048) = Att.mate ⟨o + r.val, hr⟩ i := fun i =>
    Fin.ext (by show o + (r.val / 64 * 64 + i.val) = (o + r.val) / 64 * 64 + i.val; omega)
  have hb : (fun i : Fin 64 => (∑ d : Fin 32, rows o h (k0_pay4 k) (ix2 r d) * rows o h (k0_pay5 k) (ix2 (Att.place r i) d)) * Ideal.div 1 Att.root)
      = Att.scores (lanes k) ⟨o + r.val, hr⟩ := funext fun i => by
    rw [Att.scores, ← hm i, Ideal.mul_one_div (by rw [Att.word_root]; exact_mod_cast Att.root_ne)]
    refine congrArg (fun z => Ideal.div z Att.root) (Finset.sum_congr rfl fun d _ => ?_)
    rw [rows_apply _ _ _ _ _ hr, rows_apply _ _ _ _ _ (hs _), query_apply, key_apply]
    rfl
  unfold bandAt
  rw [band_apply, Att.banded_eq _ _ _ (fun i => ?_) (Att.peak_real (Att.scores_real hk ⟨o + r.val, hr⟩))]
  · rw [hb]
    unfold Att.att
    refine congrArg (fun z => Att.soft _ z _) (funext fun i => ?_)
    rw [rows_apply _ _ _ _ _ (hs _), value_apply, hm]
    rfl
  · have := congrFun hb i
    exact this ▸ Att.scores_real hk _ i

/-- Every store of the body is a band. -/
theorem stores (k v : Vec Ideal S1x2048x32 .f32) (p : View.Piece (Elt Ideal) S1x2048x128 .f32) (hp : p ∈ pieces k v) :
    ∃ (o : ℕ) (h : S2048x32.Slices ![o, 0] S256x32) (inb : ∀ a, ![0, o, 0] a + S1x256x32.size a ≤ S1x2048x128.size a),
      o % 256 = 0 ∧ o + 256 ≤ 2048 ∧ p = ⟨Rect.unit (s := S1x2048x128) ![0, o, 0] S1x256x32.size inb, bandAt o h k v⟩ := by
  simp only [pieces, List.mem_cons, List.not_mem_nil, or_false] at hp
  rcases hp with rfl | rfl | rfl | rfl | rfl | rfl | rfl | rfl
  all_goals exact ⟨_, _, _, by decide, by decide, rfl⟩

/-- WHAT ONE GRID POINT WRITES, at row `r` and lane `d` of the first 32. -/
theorem out_apply (k v : Vec Ideal S1x2048x32 .f32) (hk : ∀ r d, Att.IsReal (lanes k r d)) (r : Fin 2048) (d : Fin 32) :
    View.canon (pieces k v) (ix3 0 r ⟨d.val, by omega⟩ : S1x2048x128.Idx) = Att.att (lanes k) (lanes v) r d := by
  refine View.canon_eq_of_allAt _ _ _ (reached k v _ d.isLt) fun p hp => ?_
  obtain ⟨o, h, inb, h1, h2, rfl⟩ := stores k v p hp
  intro x hx
  obtain ⟨a, b, rfl⟩ : ∃ (a : Fin 256) (b : Fin 32), x = ix3 (n0 := 1) 0 a b :=
    ⟨x 1, x 2, (eq_ix3 (n0 := 1) (n1 := 256) (n2 := 32) x).trans (congrArg (fun z : Fin 1 => ix3 z (x 1) (x 2)) (Subsingleton.elim _ _))⟩
  have e1 : o + a.val = r.val := by
    have := congrArg (fun z : S1x2048x128.Idx => (z 1).val) hx
    simpa [Rect.emb_apply] using this
  have e2 : b.val = d.val := by
    have := congrArg (fun z : S1x2048x128.Idx => (z 2).val) hx
    simpa [Rect.emb_apply] using this
  obtain rfl : b = d := Fin.ext e2
  have hr : o + a.val < 2048 := e1 ▸ r.isLt
  rw [show r = ⟨o + a.val, hr⟩ from Fin.ext e1.symm]
  exact bandAt_apply o h h1 h2 k v hk a b hr

end Cert.AttendIdeal.Block

end
-- ==== Proof.AttendValue.lean ====
/-
  The first 32 lanes of the array the attention leaves: every row the row of attention (AttendRow) of its head's lanes.
  Each grid point writes one head's block, and the blocks tile the array.
-/
module

public import proofs.«01_k».proof.Proof.AttendBlock
public import Idealize.ShloMosaic.Lib.Pipeline.ValueKit

@[expose] public section

noncomputable section

namespace Cert.AttendIdeal.Array

open Cert.AttendIdeal Cert.AttendIdeal.Gen Cert.AttendIdeal.Body Idealize.ShloMosaic Idealize.ShloMosaic.TcCoe Idealize.SL.Sem
open Idealize.ShloMosaic.Pipeline (Dat RDat)
open scoped BigOperators

variable (m : (ℓ : Loc nD τ sig) → Buf (Elt Ideal) ℓ)

/-- The windows' block indices at a grid point, all points at once. -/
theorem idx : ∀ t : Fin cfg0.N, win0_0.index t = ![t.val, 0, 0] ∧ win0_1.index t = ![t.val, 0, 0] ∧ t.val < 128 :=
  (by decide +kernel : ∀ t : Fin grid0.N, _)

/-- The queries of a head. -/
def queries (x : FVec Ideal S128x2048x128 .f32) (h : Fin 128) (r : Fin 2048) (d : Fin 32) : EReal := x (ix3 h r ⟨d.val, by omega⟩)

/-- The values of a head. -/
def values (x : FVec Ideal S128x2048x128 .f32) (h : Fin 128) (r : Fin 2048) (d : Fin 32) : EReal := x (ix3 h r ⟨d.val + 32, by omega⟩)

/-- One number of the result's first 32 lanes. -/
def result (x : FVec Ideal S128x2048x128 .f32) (h : Fin 128) (r : Fin 2048) (d : Fin 32) : EReal := Att.att (queries x h) (values x h) r d

theorem block_apply (c : Dev nD) (t : Fin cfg0.N) (r : Fin 2048) (l : Fin 128) (ht : t.val < 128) :
    block m c t (ix3 0 r l) = (m ((c : Thread nD τ).loc main_arg0) : FVec Ideal S128x2048x128 .f32) (ix3 ⟨t.val, ht⟩ r l) := by
  blk_ext [block, iblk, V, idx t]

theorem lanes_query (c : Dev nD) (t : Fin cfg0.N) (ht : t.val < 128) :
    Block.lanes (View.ld (Val := Elt Ideal) (e' := .f32) (block m c t) rK) = queries (m ((c : Thread nD τ).loc main_arg0)) ⟨t.val, ht⟩ := by
  funext r d
  refine Eq.trans ?_ (block_apply m c t r ⟨d.val, by omega⟩ ht)
  refine View.ld_unit_apply_of _ _ _ _ _ _ fun a => ?_
  fin_cases a <;> simp

theorem lanes_value (c : Dev nD) (t : Fin cfg0.N) (ht : t.val < 128) :
    Block.lanes (View.ld (Val := Elt Ideal) (e' := .f32) (block m c t) rV) = values (m ((c : Thread nD τ).loc main_arg0)) ⟨t.val, ht⟩ := by
  funext r d
  refine Eq.trans ?_ (block_apply m c t r ⟨d.val + 32, by omega⟩ ht)
  refine View.ld_unit_apply_of _ _ _ _ _ _ fun a => ?_
  fin_cases a <;> simp [Nat.add_comm]

/-- THE ARRAY AFTER THE RUN, on the first 32 lanes, of finite queries. -/
theorem final {r : PUnit × MemSt nD τ sig (Elt Ideal)} (hr : RDat.FramePost cfg0 (rdat m) (V m) r) (c : Dev nD)
    (hq : ∀ h n d, Att.IsReal (queries (m ((c : Thread nD τ).loc main_arg0)) h n d)) (h : Fin 128) (n : Fin 2048) (d : Fin 32) :
    (r.2.mem ((c : Thread nD τ).loc main_v0) : FVec Ideal S128x2048x128 .f32) (ix3 h n ⟨d.val, by omega⟩)
      = result (m ((c : Thread nD τ).loc main_arg0)) h n d := by
  obtain ⟨after, ha, hm⟩ := hr.exists_exact c
  rw [show r.2.mem ((c : Thread nD τ).loc main_v0) = ((rdat m c).withAfter after).arrAt 1 cfg0.N from hm 1]
  have key := Dat.arrAt_forall_of_covers (dat := (rdat m c).withAfter after) 1
    (fun (i : S128x2048x128.Idx) (v : EReal) => ∀ hl : (i 2).val < 32, v = result (m ((c : Thread nD τ).loc main_arg0)) (i 0) (i 1) ⟨(i 2).val, hl⟩)
    (by decide +kernel) (fun t hf y => ?_) (ix3 h n ⟨d.val, by omega⟩)
  · exact key d.isLt
  obtain ⟨a, l, rfl⟩ : ∃ (a : Fin 2048) (l : Fin 128), y = ix3 (n0 := 1) 0 a l :=
    ⟨y 1, y 2, (eq_ix3 (n0 := 1) (n1 := 2048) (n2 := 128) y).trans (congrArg (fun z : Fin 1 => ix3 z (y 1) (y 2)) (Subsingleton.elim _ _))⟩
  have ht : t.val < 128 := (idx t).2.2
  have he : ((cfg0.win 1).blk t).view.emb (ix3 (n0 := 1) (n1 := 2048) (n2 := 128) 0 a l)
      = ix3 (n0 := 128) (n1 := 2048) (n2 := 128) ⟨t.val, ht⟩ a l := by
    blk_ext [idx t]
  rw [he]
  intro hl
  have hl : l.val < 32 := hl
  have hw := Dat.toRRel_leaves (dats m c) (fgt := part) (Rl := leaves m c) (w := 1) rfl (ha 1 t hf)
  blk_simp
  refine (hw (ix3 0 a l) hl).trans ?_
  have hk : ∀ r d, Att.IsReal (Block.lanes (View.ld (Val := Elt Ideal) (e' := .f32) (block m c t) rK) r d) := by
    rw [lanes_query m c t ht]; exact hq _
  refine (Block.out_apply _ _ hk a ⟨l.val, hl⟩).trans ?_
  rw [lanes_query m c t ht, lanes_value m c t ht]
  rfl

end Cert.AttendIdeal.Array

end
-- ==== Proof.AttendWhole.lean ====
/-
  The plain program of the attention, stage by stage over the blocks of 64 rows, each stage's numbers read off; and the
  first 32 lanes of its result as the rows of attention (AttendRow).
-/
module

public import proofs.«01_k».proof.Proof.Gen.AttendRefIdeal.Run
public import proofs.«01_k».proof.Proof.AttendRow
public import Idealize.ShloMosaic.Lib.Pointwise
public import Idealize.ShloMosaic.Lib.Pipeline.Value

@[expose] public section

noncomputable section

namespace Cert.AttendRefIdeal.Whole

open Cert.AttendRefIdeal Cert.AttendRefIdeal.Gen Cert.AttendRefIdeal.Value Idealize.ShloMosaic Idealize.ShloMosaic.TcCoe Idealize.SL.Sem
open scoped BigOperators

/-- The queries in blocks of 64 rows. -/
def queries (x : FVec Ideal S128x2048x128 .f32) : FVec Ideal S4x32x32x64x32 .f32 :=
  shapeCast _ (extractStridedSlice S128x2048x32 ![0, 0, 0] x slices_S128x2048x128_S128x2048x32_0_0_0) shapeCasts_S128x2048x32_S4x32x32x64x32

/-- The values in blocks of 64 rows. -/
def values (x : FVec Ideal S128x2048x128 .f32) : FVec Ideal S4x32x32x64x32 .f32 :=
  shapeCast _ (extractStridedSlice S128x2048x32 ![0, 0, 32] x slices_S128x2048x128_S128x2048x32_0_0_32) shapeCasts_S128x2048x32_S4x32x32x64x32

/-- The keys: the queries over their lengths. -/
def keys (q : FVec Ideal S4x32x32x64x32 .f32) : FVec Ideal S4x32x32x64x32 .f32 :=
  Host.divf q (broadcastInDim S4x32x32x64x32 ![0, 1, 2, 3, 4] bcast_S4x32x32x64x1_S4x32x32x64x32_0_1_2_3_4
    (addf (Host.sqrt (broadcastInDim S4x32x32x64x1 ![0, 1, 2, 3] bcast_S4x32x32x64_S4x32x32x64x1_0_1_2_3
      (Host.reduceAdd (mulf q q) (constant S_ .f32 0x00000000#32) reducesTo_S4x32x32x64x32_S4x32x32x64_d4 h_S_)))
      (broadcastInDim S4x32x32x64x1 ![] bcast_S_S4x32x32x64x1 (constant S_ .f32 0x358637BD#32))))

/-- The scores within a block. -/
def scores (q k : FVec Ideal S4x32x32x64x32 .f32) : FVec Ideal S4x32x32x64x64 .f32 :=
  Host.divf (Host.dotGeneral dot_S4x32x32x64x32_S4x32x32x64x32_S4x32x32x64x64_4_4_3_3_012_012 none q k)
    (broadcastInDim S4x32x32x64x64 ![] bcast_S_S4x32x32x64x64 (id (Host.sqrt (constant S_ .f32 0x42000000#32))))

/-- A row's largest score. -/
def largest (s : FVec Ideal S4x32x32x64x64 .f32) : FVec Ideal S4x32x32x64 .f32 :=
  Host.reduce FloatOps.maximumf s (constant (F := Ideal) S_ .f32 0xFF800000#32) reducesTo_S4x32x32x64x64_S4x32x32x64_d4 h_S_

/-- That or minus infinity. -/
def least (p : FVec Ideal S4x32x32x64 .f32) : FVec Ideal S4x32x32x64 .f32 :=
  maximumf (broadcastInDim S4x32x32x64 ![] bcast_S_S4x32x32x64 (constant (F := Ideal) S_ .f32 0xFF800000#32)) p

/-- Less their maximum. -/
def lowered (s : FVec Ideal S4x32x32x64x64 .f32) : FVec Ideal S4x32x32x64x64 .f32 :=
  subf s (broadcastInDim S4x32x32x64x64 ![0, 1, 2, 3, 4] bcast_S4x32x32x64x1_S4x32x32x64x64_0_1_2_3_4
    (broadcastInDim S4x32x32x64x1 ![0, 1, 2, 3] bcast_S4x32x32x64_S4x32x32x64x1_0_1_2_3
      (least (largest s))))

/-- Their exponentials over the block's sum. -/
def weights (s : FVec Ideal S4x32x32x64x64 .f32) : FVec Ideal S4x32x32x64x64 .f32 :=
  Host.divf (Host.exp s) (broadcastInDim S4x32x32x64x64 ![0, 1, 2, 3, 4] bcast_S4x32x32x64x1_S4x32x32x64x64_0_1_2_3_4
    (broadcastInDim S4x32x32x64x1 ![0, 1, 2, 3] bcast_S4x32x32x64_S4x32x32x64x1_0_1_2_3
      (Host.reduceAdd (Host.exp s) (constant S_ .f32 0x00000000#32) reducesTo_S4x32x32x64x64_S4x32x32x64_d4 h_S_)))

/-- The weighted values. -/
def mixed (w : FVec Ideal S4x32x32x64x64 .f32) (v : FVec Ideal S4x32x32x64x32 .f32) : FVec Ideal S4x32x32x64x32 .f32 :=
  Host.dotGeneral dot_S4x32x32x64x64_S4x32x32x64x32_S4x32x32x64x32_4_3_3_4_012_012 none w v

/-- Laid out in rows of 128 lanes. -/
def laid (o : FVec Ideal S4x32x32x64x32 .f32) : FVec Ideal S128x2048x128 .f32 :=
  pad S128x2048x128 ![0, 0, 0] ![0, 0, 96] ![0, 0, 0] (shapeCast S128x2048x32 o shapeCasts_S4x32x32x64x32_S128x2048x32)
    (sitofp (F := Ideal) .f32 (constantI S_ 32 0#32)) pads_S128x2048x32_S128x2048x128_000_000_0960 h_S_

/-- The whole program. -/
def whole (x : FVec Ideal S128x2048x128 .f32) : FVec Ideal S128x2048x128 .f32 :=
  laid (mixed (weights (lowered (scores (queries x) (keys (queries x))))) (values x))

theorem res_eq (m : (ℓ : Loc nD τ sig) → Buf (Elt Ideal) ℓ) (c : Dev nD) :
    res_main_v27 m c = whole (m ((c.tc : Thread nD τ).loc main_arg0)) := rfl

theorem queries_apply (x : FVec Ideal S128x2048x128 .f32) (a : Fin 4) (b e : Fin 32) (i : Fin 64) (d : Fin 32) :
    queries x (ix5 a b e i d) = x (ix3 ⟨a.val * 32 + b.val, by omega⟩ ⟨e.val * 64 + i.val, by omega⟩ ⟨d.val, by omega⟩) := by
  unfold queries
  simp only [pointwise]
  refine congrArg x (funext fun z => Fin.ext ?_)
  fin_cases z <;> simp [ix3]

theorem values_apply (x : FVec Ideal S128x2048x128 .f32) (a : Fin 4) (b e : Fin 32) (i : Fin 64) (d : Fin 32) :
    values x (ix5 a b e i d) = x (ix3 ⟨a.val * 32 + b.val, by omega⟩ ⟨e.val * 64 + i.val, by omega⟩ ⟨d.val + 32, by omega⟩) := by
  unfold values
  simp only [pointwise]
  refine congrArg x (funext fun z => Fin.ext ?_)
  fin_cases z <;> simp [ix3, Nat.add_comm]

theorem keys_apply (q : FVec Ideal S4x32x32x64x32 .f32) (a : Fin 4) (b e : Fin 32) (i : Fin 64) (d : Fin 32) :
    keys q (ix5 a b e i d) = Ideal.div (q (ix5 a b e i d)) (Att.len fun d => q (ix5 a b e i d)) := by
  unfold keys Att.len
  simp only [pointwise, show ¬ (4 : ℕ) = 1 by decide, show ¬ (32 : ℕ) = 1 by decide, show ¬ (64 : ℕ) = 1 by decide, reduceDIte, zero_add]

theorem scores_apply (q k : FVec Ideal S4x32x32x64x32 .f32) (a : Fin 4) (b e : Fin 32) (i j : Fin 64) :
    scores q k (ix5 a b e i j) = Ideal.div (∑ d : Fin 32, q (ix5 a b e i d) * k (ix5 a b e j d)) Att.root := by
  unfold scores Att.root
  simp only [pointwise, id]
  rw [zero_add]

/-- The row of the reduced index with the last coordinate put back. -/
theorem lift_ix5 (h : S4x32x32x64x64.Reduces [4] S4x32x32x64) (a : Fin 4) (b e : Fin 32) (i j : Fin 64) :
    h.lift (ix4 (n0 := 4) (n1 := 32) (n2 := 32) (n3 := 64) a b e i) j = ix5 a b e i j := by
  funext z
  apply Fin.ext
  fin_cases z <;> rfl

theorem bottom : Ideal.ofBits .f32 0xFF800000#32 = ⊥ := by simp [Ideal.ofBits, Ideal.ieee]

theorem largest_apply (s : FVec Ideal S4x32x32x64x64 .f32) (a : Fin 4) (b e : Fin 32) (i : Fin 64) :
    largest s (ix4 a b e i) = Att.peak fun j => s (ix5 a b e i j) := by
  have h : S4x32x32x64x64.Reduces [4] S4x32x32x64 := by decide
  unfold largest
  rw [Host.reduce_eq_fold_single FloatOps.maximumf s _ _ h _]
  have hf : (s ∘ h.lift (ix4 (n0 := 4) (n1 := 32) (n2 := 32) (n3 := 64) a b e i)) = fun j : Fin 64 => s (ix5 a b e i j) :=
    funext fun j => congrArg s (lift_ix5 h a b e i j)
  refine (congrArg (fun f => Finset.fold max (Ideal.ofBits .f32 0xFF800000#32) f (Finset.univ : Finset (Fin 64))) hf).trans ?_
  rw [bottom]
  rfl

theorem least_eq (p : FVec Ideal S4x32x32x64 .f32) : least p = p := by
  funext i
  show max (Ideal.ofBits .f32 0xFF800000#32) (p i) = p i
  rw [bottom]
  exact max_eq_right bot_le

theorem lowered_apply (s : FVec Ideal S4x32x32x64x64 .f32) (a : Fin 4) (b e : Fin 32) (i j : Fin 64) :
    lowered s (ix5 a b e i j) = s (ix5 a b e i j) - Att.peak fun j => s (ix5 a b e i j) := by
  rw [← largest_apply]
  unfold lowered
  rw [least_eq]
  generalize largest s = p
  simp only [pointwise, show ¬ (4 : ℕ) = 1 by decide, show ¬ (32 : ℕ) = 1 by decide, show ¬ (64 : ℕ) = 1 by decide, reduceDIte, zero_add]

theorem weights_apply (s : FVec Ideal S4x32x32x64x64 .f32) (a : Fin 4) (b e : Fin 32) (i j : Fin 64) :
    weights s (ix5 a b e i j) = Ideal.div (Ideal.exp (s (ix5 a b e i j))) (∑ j, Ideal.exp (s (ix5 a b e i j))) := by
  unfold weights
  simp only [pointwise, show ¬ (4 : ℕ) = 1 by decide, show ¬ (32 : ℕ) = 1 by decide, show ¬ (64 : ℕ) = 1 by decide, reduceDIte, zero_add]

theorem mixed_apply (w : FVec Ideal S4x32x32x64x64 .f32) (v : FVec Ideal S4x32x32x64x32 .f32) (a : Fin 4) (b e : Fin 32) (i : Fin 64) (d : Fin 32) :
    mixed w v (ix5 a b e i d) = ∑ j : Fin 64, w (ix5 a b e i j) * v (ix5 a b e j d) := by
  unfold mixed
  simp only [pointwise]
  rw [zero_add]

theorem laid_apply (o : FVec Ideal S4x32x32x64x32 .f32) (h : Fin 128) (r : Fin 2048) (d : Fin 32) :
    laid o (ix3 h r ⟨d.val, by omega⟩) = o (ix5 ⟨h.val / 32, by omega⟩ ⟨h.val % 32, by omega⟩ ⟨r.val / 64, by omega⟩ ⟨r.val % 64, by omega⟩ d) := by
  unfold laid
  simp only [pointwise]
  rw [dif_pos fun z => ?_]
  · refine congrArg o (funext fun z => Fin.ext ?_)
    fin_cases z <;> simp [ix5]
  · have := h.isLt
    have := r.isLt
    have := d.isLt
    fin_cases z <;> simp [ix3, Nat.mod_one]

/-- The queries and values of a head, row by row. -/
def query (x : FVec Ideal S128x2048x128 .f32) (h : Fin 128) (r : Fin 2048) (d : Fin 32) : EReal := x (ix3 h r ⟨d.val, by omega⟩)
def value (x : FVec Ideal S128x2048x128 .f32) (h : Fin 128) (r : Fin 2048) (d : Fin 32) : EReal := x (ix3 h r ⟨d.val + 32, by omega⟩)

/-- THE PROGRAM'S RESULT at a row and one of the first 32 lanes. -/
theorem whole_apply (x : FVec Ideal S128x2048x128 .f32) (h : Fin 128) (r : Fin 2048) (d : Fin 32) :
    whole x (ix3 h r ⟨d.val, by omega⟩) = Att.att (query x h) (value x h) r d := by
  have e1 : ∀ (i : Fin 64) (l : Fin 32), queries x (ix5 ⟨h.val / 32, by omega⟩ ⟨h.val % 32, by omega⟩ ⟨r.val / 64, by omega⟩ i l) = query x h (Att.mate r i) l := fun i l => by
    rw [queries_apply]
    refine congrArg x (congrArg (fun z : Fin 128 => ix3 z (Att.mate r i) _) (Fin.ext ?_))
    show h.val / 32 * 32 + h.val % 32 = h.val
    omega
  have e2 : ∀ (i : Fin 64) (l : Fin 32), values x (ix5 ⟨h.val / 32, by omega⟩ ⟨h.val % 32, by omega⟩ ⟨r.val / 64, by omega⟩ i l) = value x h (Att.mate r i) l := fun i l => by
    rw [values_apply]
    refine congrArg x (congrArg (fun z : Fin 128 => ix3 z (Att.mate r i) _) (Fin.ext ?_))
    show h.val / 32 * 32 + h.val % 32 = h.val
    omega
  have e3 : Att.mate r ⟨r.val % 64, by omega⟩ = r := Fin.ext (by show r.val / 64 * 64 + r.val % 64 = r.val; omega)
  unfold whole
  rw [laid_apply, mixed_apply]
  simp only [weights_apply, lowered_apply, scores_apply, keys_apply, e1, e2, e3]
  rfl

end Cert.AttendRefIdeal.Whole

end
-- ==== Proof.AttendClaims.lean ====
/-
  The attention within blocks: the frames, the idealization and the equality with the plain program on the lanes the
  kernel writes, of finite queries.
-/
module

public import proofs.«01_k».proof.Defs
public import proofs.«01_k».proof.Proof.Gen.Pre_finite
public import proofs.«01_k».proof.Proof.Gen.On_attended_lanes
public import proofs.«01_k».proof.Proof.AttendBody
public import proofs.«01_k».proof.Proof.AttendValue
public import proofs.«01_k».proof.Proof.AttendWhole
public import Idealize.ShloMosaic.Lib.Quiescent
public import Idealize.ShloMosaic.Lib.ReduceAll
public import Idealize.ShloMosaic.Lib.StableHlo.Predicate

@[expose] public section

noncomputable section

namespace Cert.Proof.Attend

open Idealize.ShloMosaic Idealize.SL.Sem

/-- The kernel as printed: it runs, its argument and its counters end as they were. -/
theorem frame_p : Cert.quiescent_Attend := fun m g _ => Cert.Attend.Body.frame m g

/-- The same of the idealized kernel, -/
theorem frame_pi : Cert.quiescent_AttendIdeal := fun m g _ => Cert.AttendIdeal.Body.frame m g

/-- of finite queries too. -/
theorem frame_pi_finite : Cert.quiescent_AttendIdeal_pre_finite := fun m g _ => Cert.AttendIdeal.Body.frame m g

/-- The same of the plain program, which has no counter, -/
theorem frame_ri : Cert.quiescent_AttendRefIdeal := by
  intro m g _
  exact (θ_run _ _ _).mono (fun r h => ⟨fun c => (h c).2, Idealize.ShloMosaic.sem_eq_zero_of_no_sems (by decide) r.2⟩)
    (Cert.AttendRefIdeal.Value.run (F := Ideal) m g)

/-- of finite queries too. -/
theorem frame_ri_finite : Cert.quiescent_AttendRefIdeal_pre_finite := fun m g _ => frame_ri m g trivial

/-- The idealization names one literal, the mask. -/
theorem preserves : Cert.preserves_Attend_AttendIdeal :=
  IdealRules.named_const.statement _ _ _ _ _ (by simp [Cert.AttendIdeal.κ])

/-- A number whose absolute value lies below infinity is real. -/
theorem real_of_abs {x : EReal} (h : max x (-x) < ⊤) : Att.IsReal x := by
  have h1 : x ≠ ⊤ := fun e => by rw [e] at h; simp at h
  have h2 : x ≠ ⊥ := fun e => by rw [e] at h; simp at h
  exact ⟨x.toReal, (EReal.coe_toReal h1 h2).symm⟩

/-- The precondition, read: every query is real. -/
theorem real_of_pre (x : FVec Ideal Cert.AttendIdeal.S128x2048x128 .f32) (hx : Cert.Pre_finite.fn (F := Ideal) x = fun _ => 1#1)
    (h : Fin 128) (n : Fin 2048) (d : Fin 32) : Att.IsReal (Cert.AttendIdeal.Array.queries x h n d) := by
  have e := congrFun hx (fun a => a.elim0)
  dsimp only [Cert.Pre_finite.fn] at e
  haveI : Subsingleton Cert.Pre_finite.S_.Idx := ⟨fun a b => funext fun k => k.elim0⟩
  have ej := Host.reduce_andi_all _ _ _ _ _ e (ix3 (n0 := 128) (n1 := 2048) (n2 := 32) h n d)
  simp only [pointwise] at ej
  have key : Ideal.cmp .olt (max (Cert.AttendIdeal.Array.queries x h n d) (-Cert.AttendIdeal.Array.queries x h n d))
      (Ideal.ofBits .f32 0x7F800000#32) = 1#1 := by
    refine Eq.trans ?_ ej
    refine congrArg (fun v => Ideal.cmp .olt (max v (-v)) (Ideal.ofBits .f32 0x7F800000#32)) ?_
    refine congrArg x (funext fun k => Fin.ext ?_)
    match k with
    | 0 => exact (Nat.zero_add _).symm
    | 1 => exact (Nat.zero_add _).symm
    | 2 => exact (Nat.zero_add _).symm
  rw [show Ideal.ofBits .f32 0x7F800000#32 = ⊤ by simp [Ideal.ofBits, Ideal.ieee]] at key
  refine real_of_abs ?_
  by_contra hn
  simp [Ideal.cmp, hn] at key

/-- The mask, read: the first 32 lanes. -/
theorem lane_of_on (x : FVec Ideal Cert.AttendIdeal.S128x2048x128 .f32) (i : Cert.AttendIdeal.S128x2048x128.Idx)
    (hi : Cert.On_attended_lanes.fn (F := Ideal) x i = 1#1) : (i 2).val < 32 := by
  have h2 : (i 2).val < 128 := (i 2).isLt
  have e : IntOp.cmpi .slt (BitVec.ofNat 32 (i 2).val) 32#32 = 1#1 := hi
  have hn : (BitVec.ofNat 32 (i 2).val).toNat = (i 2).val := by rw [BitVec.toNat_ofNat]; omega
  have := (StableHlo.Predicate.slt_iff_toNat (by omega) (by decide)).mp e
  rw [hn] at this
  exact this

/-- Kernel and plain program end with the same numbers on the first 32 lanes. -/
theorem algebraic : Cert.algebraic_AttendIdeal_AttendRefIdeal_on_attended_lanes_pre_finite := by
  intro m g m' g' hpre hagree
  refine ⟨fun c => Cert.AttendRefIdeal.Whole.whole (m ((c.tc : Thread Cert.AttendIdeal.nD Cert.AttendIdeal.τ).loc Cert.AttendIdeal.main_arg0)), ?_, ?_⟩
  · refine (θ_run _ _ _).mono (fun r h c => ⟨fun i hi => ?_, (h.1.arr_in c 0 rfl).trans (Cert.AttendIdeal.Body.dats_A m c 0)⟩) (Cert.AttendIdeal.Body.run m g)
    have hl := lane_of_on _ i hi
    have hi' : i = ix3 (n0 := 128) (n1 := 2048) (n2 := 128) (i 0) (i 1) ⟨(⟨(i 2).val, hl⟩ : Fin 32).val, by omega⟩ := eq_ix3 (n0 := 128) (n1 := 2048) (n2 := 128) i
    rw [hi']
    refine (Cert.AttendIdeal.Array.final m h.1 c (real_of_pre _ (hpre c)) (i 0) (i 1) ⟨(i 2).val, hl⟩).trans ?_
    exact (Cert.AttendRefIdeal.Whole.whole_apply _ (i 0) (i 1) ⟨(i 2).val, hl⟩).symm
  · refine (θ_run _ _ _).mono (fun r h c => ⟨fun i _ => ?_, (h c).2⟩) (Cert.AttendRefIdeal.Value.run (F := Ideal) m' g')
    refine congrFun ((h c).1.trans ?_) i
    rw [Cert.AttendRefIdeal.Whole.res_eq, hagree c]

end Cert.Proof.Attend

end
-- ==== Proof.ProjectIdealBody.lean ====
/-
  THE PROJECTIONS' BODY, RUN. At one point the body normalises 256 rows, projects them twice, and stores, head after head,
  the head's 32 columns of both products side by side: 32 stores that leave the other 64 lanes of the output's block as they
  were found. So the proof data hold the output's block to a predicate — its first 64 lanes are what the stores put there —
  and say nothing of the rest; the run and the unchanged arguments follow.
-/
module

public import proofs.«01_k».proof.Proof.Gen.ProjectIdeal.Frame
public import proofs.«01_k».proof.Proof.Gen.ProjectIdeal.Skeleton
public import proofs.«01_k».proof.Proof.Gen.ProjectIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.Pipeline.DatRel
public import Idealize.ShloMosaic.Lib.Pipeline.ArrRel

@[expose] public section

noncomputable section

namespace Cert.ProjectIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel)
open Cert.ProjectIdeal.Gen

variable {F : FTy → Type} [FloatOps F] [Named F]

local notation "𝕄" => MT nD τ sig Unit (Elt F) ℕ (UR sig nD τ) ℕ

/-- The rectangles of the loads, each a whole block. -/
abbrev rX : Rect S1x256x1024 := Rect.unit (s := S1x256x1024) ![0, 0, 0] S1x256x1024.size inb_S1x256x1024_S1x256x1024_0_0_0
abbrev rW : Rect S1024x1024 := Rect.unit (s := S1024x1024) ![0, 0] S1024x1024.size inb_S1024x1024_S1024x1024_0_0
abbrev rB : Rect S1x1024 := Rect.unit (s := S1x1024) ![0, 0] S1x1024.size inb_S1x1024_S1x1024_0_0

/-- Head `p`'s columns of a product. -/
theorem fits (p : Fin 32) : S256x1024.Slices ![0, 32 * p.val] S256x32 := by
  revert p; decide

/-- Head `p`'s rectangle of the output's block. -/
theorem inside (p : Fin 32) (a : Fin 3) : (![p.val, 0, 0] : Fin 3 → ℕ) a + S1x256x64.size a ≤ S32x256x128.size a := by
  have := p.isLt
  fin_cases a <;> simp <;> omega

/-- What the body stores for head `p`: the head's columns of the two products, side by side. -/
def mix (p : Fin 32) (a b : FVec F S256x1024 .f32) : FVec F S1x256x64 .f32 :=
  shapeCast S1x256x64 (concatenate S256x64 1 [⟨S256x32, extractStridedSlice S256x32 ![0, 32 * p.val] a (fits p)⟩,
    ⟨S256x32, extractStridedSlice S256x32 ![0, 32 * p.val] b (fits p)⟩] concatenates_S256x32_S256x32_S256x64_d1) shapeCasts_S256x64_S1x256x64

/-- The store for head `p`. -/
def piece (a b : FVec F S256x1024 .f32) (p : Fin 32) : View.Piece (Elt F) S32x256x128 .f32 :=
  ⟨Rect.unit (s := S32x256x128) ![p.val, 0, 0] S1x256x64.size (inside p), mix p a b⟩

/-- The stores of the body, the last first. -/
def pieces (a b : FVec F S256x1024 .f32) : List (View.Piece (Elt F) S32x256x128 .f32) := List.ofFn fun n : Fin 32 => piece a b n.rev

/-- The first product, with its bias, -/
abbrev left (x : Vec F S1x256x1024 .f32) (w : Vec F S1024x1024 .f32) (b s t : Vec F S1x1024 .f32) : FVec F S256x1024 .f32 :=
  k0_pay5 (View.ld x rX) (View.ld s rB) (View.ld t rB) (View.ld w rW) (View.ld b rB)

/-- and the second. -/
abbrev right (x : Vec F S1x256x1024 .f32) (w : Vec F S1024x1024 .f32) (b s t : Vec F S1x1024 .f32) : FVec F S256x1024 .f32 :=
  k0_pay8 (k0_pay6 (View.ld x rX) (View.ld s rB) (View.ld t rB) (View.ld w rW)) (k0_pay7 (View.ld b rB))

/-- The stores reach every row of the block's first 64 lanes. -/
theorem reached (a b : FVec F S256x1024 .f32) (y : S32x256x128.Idx) (h : (y 2).val < 64) : ∃ p ∈ pieces a b, y ∈ p.1.set := by
  have h0 : (y 0).val < 32 := (y 0).isLt
  have h1 : (y 1).val < 256 := (y 1).isLt
  refine ⟨piece a b ⟨(y 0).val, h0⟩, List.mem_ofFn.mpr ⟨(⟨(y 0).val, h0⟩ : Fin 32).rev, by rw [Fin.rev_rev]⟩, ?_⟩
  simp only [piece, Rect.mem_set_unit, Fin.forall_fin_succ, Fin.forall_fin_zero_pi]
  simp
  omega

set_option maxHeartbeats 4000000 in
/-- The body's triple: over its input blocks it leaves the output's block with its first 64 lanes at the stores' values. -/
theorem sound_kernel (c : Dev nD) (E : Set ℕ) (i : grid0.Coords) (arg2 : Memref sig .tc .vmem S1x256x1024 .f32) (harg2 : arg2.IsWhole)
    (arg3 : Memref sig .tc .vmem S1024x1024 .f32) (harg3 : arg3.IsWhole) (arg4 : Memref sig .tc .vmem S1x1024 .f32) (harg4 : arg4.IsWhole)
    (arg5 : Memref sig .tc .vmem S1024x1024 .f32) (harg5 : arg5.IsWhole) (arg6 : Memref sig .tc .vmem S1x1024 .f32) (harg6 : arg6.IsWhole)
    (arg7 : Memref sig .tc .vmem S1x1024 .f32) (harg7 : arg7.IsWhole) (arg8 : Memref sig .tc .vmem S1x1024 .f32) (harg8 : arg8.IsWhole)
    (arg9 : Memref sig .tc .vmem S32x256x128 .f32) (harg9 : arg9.IsWhole)
    (x0 : Vec F S1x256x1024 .f32) (x1 : Vec F S1024x1024 .f32) (x2 : Vec F S1x1024 .f32) (x3 : Vec F S1024x1024 .f32) (x4 x5 x6 : Vec F S1x1024 .f32)
    (Q : Unit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ (∃ Y, owns (c : Thread nD τ) arg9 fullShare Y)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6
            ∗ ∃ X, ⌜∀ y : S32x256x128.Idx, (y 2).val < 64 → X y = View.canon (pieces (left x0 x1 x2 x5 x6) (right x0 x3 x4 x5 x6)) y⌝
              ∗ owns (c : Thread nD τ) arg9 fullShare X) -∗ Q ()))
      ⊢ wp frame (wpE (defs₀ (F := F)) Variants.none c none) E
          (cc0__k1_body i arg2 harg2 arg3 harg3 arg4 harg4 arg5 harg5 arg6 harg6 arg7 harg7 arg8 harg8 arg9 harg9) Q := by
  simp only [cc0__k1_body_eq_skeleton]; unfold cc0__k1_body_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap
  · iexists _; isplitr
    swap; · iexact H7
    ipureintro; rfl
  ipureintro
  intro y hy
  exact (View.read_writes_apply_eq_canon _ _ y _ (reached _ _ y hy))

variable (m : (ℓ : Loc nD τ sig) → Buf (Elt F) ℓ) (ρ : Dev nD → PrngReg)

/-- What the first 64 lanes of the output's block hold after point `t`. -/
abbrev projected (c : Dev nD) (t : Fin cfg0.N) : Vec F S32x256x128 .f32 :=
  View.canon (pieces (left (iblk m c 0 t) (iblk m c 1 t) (iblk m c 2 t) (iblk m c 5 t) (iblk m c 6 t))
    (right (iblk m c 0 t) (iblk m c 3 t) (iblk m c 4 t) (iblk m c 5 t) (iblk m c 6 t)))

/-- Exact proof data, of which only the inputs' part is used: the arrays as found, their blocks left in place. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => projected m c t
  Φ _ := Pipeline.ΦA spec0 c
  q _ := fullShare
  owed _ := 0

theorem dats_A (c : Dev nD) (w : Fin cfg0.W) : (dats m c).A w = V m c (Pipeline.arrRef spec0 w) := by dsimp only [dats]
theorem after_0 (c : Dev nD) (t : Fin cfg0.N) : (dats m c).after 0 t = iblk m c 0 t := by dsimp only [dats]
theorem after_1 (c : Dev nD) (t : Fin cfg0.N) : (dats m c).after 1 t = iblk m c 1 t := by dsimp only [dats]
theorem after_2 (c : Dev nD) (t : Fin cfg0.N) : (dats m c).after 2 t = iblk m c 2 t := by dsimp only [dats]
theorem after_3 (c : Dev nD) (t : Fin cfg0.N) : (dats m c).after 3 t = iblk m c 3 t := by dsimp only [dats]
theorem after_4 (c : Dev nD) (t : Fin cfg0.N) : (dats m c).after 4 t = iblk m c 4 t := by dsimp only [dats]
theorem after_5 (c : Dev nD) (t : Fin cfg0.N) : (dats m c).after 5 t = iblk m c 5 t := by dsimp only [dats]
theorem after_6 (c : Dev nD) (t : Fin cfg0.N) : (dats m c).after 6 t = iblk m c 6 t := by dsimp only [dats]

/-- The output's window, the one held to a predicate. -/
def part (w : Fin cfg0.W) : Bool := decide (w.val = 7)

/-- The predicate: the block's first 64 lanes are what the stores put there. -/
def leaves (c : Dev nD) (w : Fin cfg0.W) (t : Fin cfg0.N) (X : (cfg0.win w).block.Idx → Elt F (cfg0.win w).elt) : Prop := match w with
  | ⟨7, _⟩ => ∀ y : S32x256x128.Idx, (y 2).val < 64 → X y = projected m c t y
  | _ => True

/-- The proof data: exact of the inputs, relational of the output. -/
abbrev rdat (c : Dev nD) : RDat τ (Elt F) Unit ℕ (UR sig nD τ) ℕ cfg0 c := (dats m c).toRRel part (leaves m c)

/-- What the body is called with at point `t`, -/
def bodyPre (c : Dev nD) (t : Fin cfg0.N) : sProp 𝕄 :=
  iprop((dats m c).Φ t.castSucc ∗ (dats m c).owesAt () t.castSucc
    ∗ (∃ d, owns (c : Thread nD τ) (st0_0 t) fullShare ((dats m c).before 0 t d))
    ∗ (∃ d, owns (c : Thread nD τ) (st0_1 t) fullShare ((dats m c).before 1 t d))
    ∗ (∃ d, owns (c : Thread nD τ) (st0_2 t) fullShare ((dats m c).before 2 t d))
    ∗ (∃ d, owns (c : Thread nD τ) (st0_3 t) fullShare ((dats m c).before 3 t d))
    ∗ (∃ d, owns (c : Thread nD τ) (st0_4 t) fullShare ((dats m c).before 4 t d))
    ∗ (∃ d, owns (c : Thread nD τ) (st0_5 t) fullShare ((dats m c).before 5 t d))
    ∗ (∃ d, owns (c : Thread nD τ) (st0_6 t) fullShare ((dats m c).before 6 t d))
    ∗ (∃ Y, ⌜(rdat m c).Finds 7 t Y⌝ ∗ owns (c : Thread nD τ) (st0_7 t) fullShare Y))

/-- and what it returns. -/
def bodyPost (c : Dev nD) (t : Fin cfg0.N) : sProp 𝕄 :=
  iprop((dats m c).Φ t.succ ∗ (dats m c).owesAt () t.succ
    ∗ owns (c : Thread nD τ) (st0_0 t) fullShare ((dats m c).after 0 t)
    ∗ owns (c : Thread nD τ) (st0_1 t) fullShare ((dats m c).after 1 t)
    ∗ owns (c : Thread nD τ) (st0_2 t) fullShare ((dats m c).after 2 t)
    ∗ owns (c : Thread nD τ) (st0_3 t) fullShare ((dats m c).after 3 t)
    ∗ owns (c : Thread nD τ) (st0_4 t) fullShare ((dats m c).after 4 t)
    ∗ owns (c : Thread nD τ) (st0_5 t) fullShare ((dats m c).after 5 t)
    ∗ owns (c : Thread nD τ) (st0_6 t) fullShare ((dats m c).after 6 t)
    ∗ (∃ X, ⌜leaves m c 7 t X⌝ ∗ owns (c : Thread nD τ) (st0_7 t) fullShare X))

/-- The body at any point, by its triple over the inputs' blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m c) (dats_A m c 0) (after_0 m c), before0_1_of m (dats m c) (dats_A m c 1) (after_1 m c),
    before0_2_of m (dats m c) (dats_A m c 2) (after_2 m c), before0_3_of m (dats m c) (dats_A m c 3) (after_3 m c),
    before0_4_of m (dats m c) (dats_A m c 4) (after_4 m c), before0_5_of m (dats m c) (dats_A m c 5) (after_5 m c),
    before0_6_of m (dats m c) (dats_A m c 6) (after_6 m c)]
  rw [show (dats m c).Φ t.succ = (dats m c).Φ t.castSucc from rfl,
    show (dats m c).owesAt () t.succ = (dats m c).owesAt () t.castSucc from rfl, after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩, ⟨%Y, -, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists Y; iexact H7
  iintro ⟨H0, H1, H2, H3, H4, H5, H6, ⟨%X, %hX, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists X; isplitr
  · ipureintro; exact hX
  iexact H7

/-- The body table's row at point `t`. -/
theorem defs₀_row (t : Fin cfg0.N) : defs₀ (F := F) .tc cfg0.body (cfg0.bodyArgs t (cfg0.slots t)) = bodyAt0 t := by
  unfold defs₀; rw [Defs.onTc_tc]

/-- The body obligation of the relational data. -/
theorem obligation (c : Dev nD) : BodyObligationRel (dats (F := F) m c) (defs₀ (F := F)) Variants.none () Set.univ part (leaves m c) := fun t => by
  rw [bigSep_W0, bigSep_W0, defs₀_row]
  exact triple_restated (sound_body m c t) rfl .rfl fun _ => .rfl

set_option backward.isDefEq.respectTransparency.types false in
set_option maxHeartbeats 800000 in
/-- The run: the arrays as the relational data say, and every counter at zero. -/
theorem run : θ_run defs (onTc (τ := τ) (main (F := F))) (s₀ m ρ)
    (fun r => Pipeline.RDat.FramePost cfg0 (rdat m) (V m) r ∧ r.2.sem = fun _ => 0) :=
  Pipeline.RDat.θ_run_frame (Q' := _) cfgs (0 : Fin 1) launch0 defs₀ Variants.none (rdat m) m ρ main
    (hbody := fun c => (obligation m c).toRRel) (hshare := fun c => (dats m c).share_full fun _ => rfl)
    (howed := fun _ _ => rfl) (V := V m) (hmain := hmain m Variants.none) (hA := fun c w => dats_A m c w) (hΦ := fun _ _ => rfl)

/-- The arguments after the run: three staged, four only read by the host's reshapes. -/
theorem kept {r : PUnit × MemSt nD τ sig (Elt F)} (h : RDat.FramePost cfg0 (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  have free : ∀ b ∈ [main_arg2, main_arg4, main_arg5, main_arg6], r.2.mem ((c.tc : Thread nD τ).loc b) = V m c b := fun b hb =>
    (h c).2 b (Pipeline.mem_restRefs_of b (by revert b; decide) (by revert b; decide))
  refine ⟨((h.arr_in c 0 rfl).trans (dats_A m c 0)).trans (V_main_arg0 m c), ((h.arr_in c 1 rfl).trans (dats_A m c 1)).trans (V_main_arg1 m c),
    (free _ (by decide)).trans (V_main_arg2 m c), ((h.arr_in c 3 rfl).trans (dats_A m c 3)).trans (V_main_arg3 m c),
    (free _ (by decide)).trans (V_main_arg4 m c), (free _ (by decide)).trans (V_main_arg5 m c), (free _ (by decide)).trans (V_main_arg6 m c)⟩

/-- The frame claim at any values: the arguments end as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨fun c => kept m h.1 c, h.2⟩) (run m ρ)

end Cert.ProjectIdeal.Body

end
-- ==== Proof.ProjectRow.lean ====
/-
  One row of a head's projections: the row normalised (TailRow), and its 32 columns of the two products, side by side.
-/
module

public import proofs.«01_k».proof.Proof.TailRow

@[expose] public section

noncomputable section

namespace Cert.Row

open Idealize.ShloMosaic

/-- Head `p`'s columns of two rows, side by side. -/
def paired (a b : Fin 1024 → EReal) (p : Fin 32) (l : Fin 64) : EReal :=
  if h : l.val < 32 then a ⟨32 * p.val + l.val, by omega⟩ else b ⟨32 * p.val + (l.val - 32), by omega⟩

/-- Head `p`'s two projections of a row. -/
def projected (x s t : Fin 1024 → EReal) (W : Fin 1024 → Fin 1024 → EReal) (b : Fin 1024 → EReal) (W' : Fin 1024 → Fin 1024 → EReal)
    (b' : Fin 1024 → EReal) (p : Fin 32) (l : Fin 64) : EReal :=
  paired (affine (normed x s t) W b) (affine (normed x s t) W' b') p l

end Cert.Row

end
-- ==== Proof.ProjectBlock.lean ====
/-
  What the projections write at one grid point, number by number: head `p`, row `r`, lane `l` of the block is the row's
  projection (ProjectRow) of the loaded blocks' rows. The 32 stores are one function at 32 heads.
-/
module

public import proofs.«01_k».proof.Proof.ProjectIdealBody
public import proofs.«01_k».proof.Proof.ProjectRow
public import Idealize.ShloMosaic.Lib.Pointwise
public import Idealize.ShloMosaic.Lib.Pipeline.Value
public import Idealize.ShloMosaic.Lib.Pipeline.ValueKit

@[expose] public section

noncomputable section

namespace Cert.ProjectIdeal.Block

open Cert.ProjectIdeal Cert.ProjectIdeal.Gen Cert.ProjectIdeal.Body Idealize.ShloMosaic
open scoped BigOperators

/-- The named constant is one part in 1023. -/
theorem named_c : (Named.named (F := Ideal) (φ := .f32) κ "c" 0x3A802008#32 : EReal) = ((1023⁻¹ : ℝ) : EReal) := rfl

theorem normed_apply (x : Vec Ideal S1x256x1024 .f32) (s t : Vec Ideal S1x1024 .f32) (r : Fin 256) (j : Fin 1024) :
    k0_pay4 x s t (ix2 r j) = Row.normed (fun k => x (ix3 0 r k)) (fun j => s (ix2 0 j)) (fun j => t (ix2 0 j)) j := by
  unfold k0_pay4
  rw [← Row.normed_eq, ← named_c]
  unfold Row.squares Row.centred
  simp only [pointwise, show ¬ (256 : ℕ) = 1 by decide, show ¬ (1024 : ℕ) = 1 by decide, reduceDIte, zero_add]

theorem first_apply (x : Vec Ideal S1x256x1024 .f32) (s t : Vec Ideal S1x1024 .f32) (w : Vec Ideal S1024x1024 .f32) (b : Vec Ideal S1x1024 .f32)
    (r : Fin 256) (j : Fin 1024) :
    k0_pay5 x s t w b (ix2 r j) = Row.affine (fun k => k0_pay4 x s t (ix2 r k)) (fun k j => w (ix2 k j)) (fun j => b (ix2 0 j)) j := by
  unfold k0_pay5 Row.affine
  generalize k0_pay4 x s t = n
  simp only [pointwise, show ¬ (256 : ℕ) = 1 by decide, show ¬ (1024 : ℕ) = 1 by decide, reduceDIte, zero_add]

theorem second_apply (x : Vec Ideal S1x256x1024 .f32) (s t : Vec Ideal S1x1024 .f32) (w : Vec Ideal S1024x1024 .f32) (b : Vec Ideal S1x1024 .f32)
    (r : Fin 256) (j : Fin 1024) :
    k0_pay8 (k0_pay6 x s t w) (k0_pay7 b) (ix2 r j)
      = Row.affine (fun k => k0_pay4 x s t (ix2 r k)) (fun k j => w (ix2 k j)) (fun j => b (ix2 0 j)) j := by
  unfold k0_pay8 k0_pay6 k0_pay7 Row.affine
  generalize k0_pay4 x s t = n
  simp only [pointwise, show ¬ (256 : ℕ) = 1 by decide, show ¬ (1024 : ℕ) = 1 by decide, reduceDIte, zero_add]

theorem z2 : (![0, 0] : Fin 2 → ℕ) = fun _ => 0 := by funext a; fin_cases a <;> rfl
theorem z3 : (![0, 0, 0] : Fin 3 → ℕ) = fun _ => 0 := by funext a; fin_cases a <;> rfl

/-- A whole block loaded is the block. -/
theorem load_rows (x : Vec Ideal S1x256x1024 .f32) : View.ld (Val := Elt Ideal) (e' := .f32) x rX = x :=
  View.ld_unit_zero z3 _ _
theorem load_matrix (w : Vec Ideal S1024x1024 .f32) : View.ld (Val := Elt Ideal) (e' := .f32) w rW = w :=
  View.ld_unit_zero z2 _ _
theorem load_row (b : Vec Ideal S1x1024 .f32) : View.ld (Val := Elt Ideal) (e' := .f32) b rB = b :=
  View.ld_unit_zero z2 _ _

theorem left_apply (x : Vec Ideal S1x256x1024 .f32) (w : Vec Ideal S1024x1024 .f32) (b s t : Vec Ideal S1x1024 .f32) (r : Fin 256) (j : Fin 1024) :
    left x w b s t (ix2 r j) = Row.affine (Row.normed (fun k => x (ix3 0 r k)) (fun j => s (ix2 0 j)) (fun j => t (ix2 0 j)))
      (fun k j => w (ix2 k j)) (fun j => b (ix2 0 j)) j := by
  unfold left
  rw [load_rows, load_matrix, load_row, load_row, load_row, first_apply]
  simp only [normed_apply]

theorem right_apply (x : Vec Ideal S1x256x1024 .f32) (w : Vec Ideal S1024x1024 .f32) (b s t : Vec Ideal S1x1024 .f32) (r : Fin 256) (j : Fin 1024) :
    right x w b s t (ix2 r j) = Row.affine (Row.normed (fun k => x (ix3 0 r k)) (fun j => s (ix2 0 j)) (fun j => t (ix2 0 j)))
      (fun k j => w (ix2 k j)) (fun j => b (ix2 0 j)) j := by
  unfold right
  rw [load_rows, load_matrix, load_row, load_row, load_row, second_apply]
  simp only [normed_apply]

/-- What is stored for head `p`. -/
theorem mix_apply (p : Fin 32) (a b : FVec Ideal S256x1024 .f32) (r : Fin 256) (l : Fin 64) :
    mix p a b (ix3 0 r l) = Row.paired (fun j => a (ix2 r j)) (fun j => b (ix2 r j)) p l := by
  unfold mix Row.paired
  simp only [pointwise]
  split
  · refine congrArg a ?_
    funext z
    refine Fin.ext ?_
    fin_cases z <;> simp [ix2]
  · refine congrArg b ?_
    funext z
    refine Fin.ext ?_
    fin_cases z <;> simp [ix2]

/-- Where it goes. -/
theorem emb_piece (a b : FVec Ideal S256x1024 .f32) (p : Fin 32) (i : Fin 256) (j : Fin 64) :
    (Body.piece a b p).1.emb (ix3 (n0 := 1) (n1 := 256) (n2 := 64) 0 i j) = ix3 (n0 := 32) (n1 := 256) (n2 := 128) p i ⟨j.val, by omega⟩ := by
  funext k
  refine Fin.ext ((Rect.emb_apply _ _ k).trans ?_)
  fin_cases k <;> simp [Body.piece, Rect.unit, ix3]

/-- WHAT ONE GRID POINT WRITES, at head `p`, row `r` and lane `l` of the first 64. -/
theorem out_apply (a b : FVec Ideal S256x1024 .f32) (p : Fin 32) (r : Fin 256) (l : Fin 64) :
    View.canon (pieces a b) (ix3 p r ⟨l.val, by omega⟩ : S32x256x128.Idx) = Row.paired (fun j => a (ix2 r j)) (fun j => b (ix2 r j)) p l := by
  refine View.canon_eq_of_allAt _ _ _ (reached a b _ l.isLt) fun q hq => ?_
  obtain ⟨n, rfl⟩ := List.mem_ofFn.mp hq
  intro x hx
  obtain ⟨i, j, rfl⟩ : ∃ (i : Fin 256) (j : Fin 64), x = ix3 (n0 := 1) 0 i j :=
    ⟨x 1, x 2, (eq_ix3 (n0 := 1) (n1 := 256) (n2 := 64) x).trans (congrArg (fun z : Fin 1 => ix3 z (x 1) (x 2)) (Subsingleton.elim _ _))⟩
  rw [emb_piece] at hx
  have e0 : n.rev.val = p.val := congrArg (fun z : S32x256x128.Idx => (z 0).val) hx
  have e1 : i.val = r.val := congrArg (fun z : S32x256x128.Idx => (z 1).val) hx
  have e2 : j.val = l.val := congrArg (fun z : S32x256x128.Idx => (z 2).val) hx
  obtain rfl : i = r := Fin.ext e1
  obtain rfl : j = l := Fin.ext e2
  obtain rfl : n.rev = p := Fin.ext e0
  exact mix_apply _ a b i j

end Cert.ProjectIdeal.Block

end
-- ==== Proof.ProjectValue.lean ====
/-
  The first 64 lanes of the array the projections leave: every row the row's projection (ProjectRow) for its head. Each
  grid point writes 256 rows of one batch for its 32 heads, and the blocks tile the array.
-/
module

public import proofs.«01_k».proof.Proof.ProjectBlock
public import Idealize.ShloMosaic.Lib.Pipeline.ValueKit

@[expose] public section

noncomputable section

namespace Cert.ProjectIdeal.Array

open Cert.ProjectIdeal Cert.ProjectIdeal.Gen Cert.ProjectIdeal.Body Idealize.ShloMosaic Idealize.ShloMosaic.TcCoe Idealize.SL.Sem
open Idealize.ShloMosaic.Pipeline (Dat RDat)
open scoped BigOperators

variable (m : (ℓ : Loc nD τ sig) → Buf (Elt Ideal) ℓ)

/-- The windows' block indices at a grid point, all points at once. -/
theorem idx : ∀ t : Fin cfg0.N, win0_0.index t = ![t.val / 8, t.val % 8, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val / 8, t.val % 8, 0] ∧ t.val < 32 :=
  (by decide +kernel : ∀ t : Fin grid0.N, _)

/-- One number of the result's first 64 lanes. -/
def result (x : FVec Ideal S4x2048x1024 .f32) (Wq : FVec Ideal S1024x1024 .f32) (bq : FVec Ideal S1024 .f32) (Wv : FVec Ideal S1024x1024 .f32)
    (bv : FVec Ideal S1024 .f32) (s t : FVec Ideal S1x1x1024 .f32) (h : Fin 128) (r : Fin 2048) (l : Fin 64) : EReal :=
  Row.projected (fun k => x (ix3 ⟨h.val / 32, by omega⟩ r k)) (fun j => s (ix3 0 0 j)) (fun j => t (ix3 0 0 j)) (fun k j => Wq (ix2 k j))
    (fun j => bq (ix1 j)) (fun k j => Wv (ix2 k j)) (fun j => bv (ix1 j)) ⟨h.val % 32, by omega⟩ l

/-- The result of the arguments. -/
abbrev expected (c : Dev nD) : Fin 128 → Fin 2048 → Fin 64 → EReal :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

theorem read_rows (c : Dev nD) (t : Fin cfg0.N) (r : Fin 256) (k : Fin 1024) (ht : t.val < 32) :
    iblk m c 0 t (ix3 0 r k) = (m ((c : Thread nD τ).loc main_arg0) : FVec Ideal S4x2048x1024 .f32)
      (ix3 ⟨t.val / 8, by omega⟩ ⟨t.val % 8 * 256 + r.val, by omega⟩ k) := by
  blk_simp [iblk]; entry_read; (try pointwise); first | done | blk_ext [idx t]

theorem read_first (c : Dev nD) (t : Fin cfg0.N) (k j : Fin 1024) :
    iblk m c 1 t (ix2 k j) = (m ((c : Thread nD τ).loc main_arg1) : FVec Ideal S1024x1024 .f32) (ix2 k j) := by
  blk_simp [iblk]; entry_read; (try pointwise); first | done | blk_ext [idx t]

theorem read_first_bias (c : Dev nD) (t : Fin cfg0.N) (j : Fin 1024) :
    iblk m c 2 t (ix2 0 j) = (m ((c : Thread nD τ).loc main_arg2) : FVec Ideal S1024 .f32) (ix1 j) := by
  blk_simp [iblk]; entry_read; (try pointwise); first | done | blk_ext [idx t]

theorem read_second (c : Dev nD) (t : Fin cfg0.N) (k j : Fin 1024) :
    iblk m c 3 t (ix2 k j) = (m ((c : Thread nD τ).loc main_arg3) : FVec Ideal S1024x1024 .f32) (ix2 k j) := by
  blk_simp [iblk]; entry_read; (try pointwise); first | done | blk_ext [idx t]

theorem read_second_bias (c : Dev nD) (t : Fin cfg0.N) (j : Fin 1024) :
    iblk m c 4 t (ix2 0 j) = (m ((c : Thread nD τ).loc main_arg4) : FVec Ideal S1024 .f32) (ix1 j) := by
  blk_simp [iblk]; entry_read; (try pointwise); first | done | blk_ext [idx t]

theorem read_scale (c : Dev nD) (t : Fin cfg0.N) (j : Fin 1024) :
    iblk m c 5 t (ix2 0 j) = (m ((c : Thread nD τ).loc main_arg5) : FVec Ideal S1x1x1024 .f32) (ix3 0 0 j) := by
  blk_simp [iblk]; entry_read; (try pointwise); first | done | blk_ext [idx t]

theorem read_shift (c : Dev nD) (t : Fin cfg0.N) (j : Fin 1024) :
    iblk m c 6 t (ix2 0 j) = (m ((c : Thread nD τ).loc main_arg6) : FVec Ideal S1x1x1024 .f32) (ix3 0 0 j) := by
  blk_simp [iblk]; entry_read; (try pointwise); first | done | blk_ext [idx t]

/-- What a grid point writes, of the arguments. -/
theorem projected_apply (c : Dev nD) (t : Fin cfg0.N) (ht : t.val < 32) (p : Fin 32) (r : Fin 256) (l : Fin 64) :
    projected m c t (ix3 (n0 := 32) (n1 := 256) (n2 := 128) p r ⟨l.val, by omega⟩)
      = expected m c ⟨t.val / 8 * 32 + p.val, by omega⟩ ⟨t.val % 8 * 256 + r.val, by omega⟩ l := by
  refine (Block.out_apply _ _ p r l).trans ?_
  simp only [Block.left_apply, Block.right_apply, read_rows m c t _ _ ht, read_first, read_first_bias, read_second, read_second_bias, read_scale, read_shift]
  unfold expected result Row.projected
  have e1 : (t.val / 8 * 32 + p.val) / 32 = t.val / 8 := by omega
  have e2 : (t.val / 8 * 32 + p.val) % 32 = p.val := by omega
  simp only [e1, e2]

/-- THE ARRAY AFTER THE RUN, on the first 64 lanes. -/
theorem final {r : PUnit × MemSt nD τ sig (Elt Ideal)} (hr : RDat.FramePost cfg0 (rdat m) (V m) r) (c : Dev nD)
    (h : Fin 128) (n : Fin 2048) (l : Fin 64) :
    (r.2.mem ((c : Thread nD τ).loc main_v4) : FVec Ideal S128x2048x128 .f32) (ix3 h n ⟨l.val, by omega⟩) = expected m c h n l := by
  obtain ⟨after, ha, hm⟩ := hr.exists_exact c
  rw [show r.2.mem ((c : Thread nD τ).loc main_v4) = ((rdat m c).withAfter after).arrAt 7 cfg0.N from hm 7]
  have key := Dat.arrAt_forall_of_covers (dat := (rdat m c).withAfter after) 7
    (fun (i : S128x2048x128.Idx) (v : EReal) => ∀ hl : (i 2).val < 64, v = expected m c (i 0) (i 1) ⟨(i 2).val, hl⟩)
    (by decide +kernel) (fun t hf y => ?_) (ix3 h n ⟨l.val, by omega⟩)
  · exact key l.isLt
  obtain ⟨p, a, l, rfl⟩ : ∃ (p : Fin 32) (a : Fin 256) (l : Fin 128), y = ix3 p a l :=
    ⟨y 0, y 1, y 2, eq_ix3 (n0 := 32) (n1 := 256) (n2 := 128) y⟩
  have ht : t.val < 32 := (idx t).2.2.2.2.2.2.2.2
  have he : ((cfg0.win 7).blk t).view.emb (ix3 (n0 := 32) (n1 := 256) (n2 := 128) p a l)
      = ix3 (n0 := 128) (n1 := 2048) (n2 := 128) ⟨t.val / 8 * 32 + p.val, by omega⟩ ⟨t.val % 8 * 256 + a.val, by omega⟩ l := by
    blk_ext [idx t]
  rw [he]
  intro hl
  have hl : l.val < 64 := hl
  have hw := Dat.toRRel_leaves (dats m c) (fgt := part) (Rl := leaves m c) (w := 7) rfl (ha 7 t hf)
  blk_simp
  refine (hw (ix3 p a l) hl).trans ?_
  exact projected_apply m c t ht p a ⟨l.val, hl⟩

end Cert.ProjectIdeal.Array

end
-- ==== Proof.ProjectWhole.lean ====
/-
  The plain program of the projections, stage by stage, each stage's numbers read off; and its result on the first 64
  lanes, row by row, as the row's projection (ProjectRow). Its normalisation is the one of the block's end (TailWhole).
-/
module

public import proofs.«01_k».proof.Proof.Gen.ProjectRefIdeal.Run
public import proofs.«01_k».proof.Proof.TailWhole
public import proofs.«01_k».proof.Proof.ProjectRow
public import Idealize.ShloMosaic.Lib.Pointwise
public import Idealize.ShloMosaic.Lib.Pipeline.Value

@[expose] public section

noncomputable section

namespace Cert.ProjectRefIdeal.Whole

open Cert.ProjectRefIdeal Cert.ProjectRefIdeal.Gen Cert.ProjectRefIdeal.Value Idealize.ShloMosaic Idealize.ShloMosaic.TcCoe Idealize.SL.Sem
open scoped BigOperators

/-- Rows through a projection. -/
def project (n : FVec Ideal S4x2048x1024 .f32) (W : FVec Ideal S1024x1024 .f32) (b : FVec Ideal S1024 .f32) : FVec Ideal S4x2048x1024 .f32 :=
  addf (Host.dotGeneral dot_S4x2048x1024_S1024x1024_S4x2048x1024_2_0_01_1_n_n none n W)
    (broadcastInDim S4x2048x1024 ![0, 1, 2] bcast_S1x1x1024_S4x2048x1024_0_1_2 (broadcastInDim S1x1x1024 ![2] bcast_S1024_S1x1x1024_2 b))

/-- The rows' columns, by heads. -/
def byHead (y : FVec Ideal S4x2048x1024 .f32) : FVec Ideal S4x32x2048x32 .f32 :=
  transpose S4x32x2048x32 [0, 2, 1, 3] (shapeCast S4x2048x32x32 y shapeCasts_S4x2048x1024_S4x2048x32x32) transposes_S4x2048x32x32_S4x32x2048x32_0_2_1_3

/-- The two side by side. -/
def beside (q v : FVec Ideal S4x32x2048x32 .f32) : FVec Ideal S4x32x2048x64 .f32 :=
  concatenate S4x32x2048x64 3 [⟨S4x32x2048x32, q⟩, ⟨S4x32x2048x32, v⟩] concatenates_S4x32x2048x32_S4x32x2048x32_S4x32x2048x64_d3

/-- Laid out in rows of 128 lanes. -/
def laid (o : FVec Ideal S4x32x2048x64 .f32) : FVec Ideal S128x2048x128 .f32 :=
  pad S128x2048x128 ![0, 0, 0] ![0, 0, 64] ![0, 0, 0] (shapeCast S128x2048x64 o shapeCasts_S4x32x2048x64_S128x2048x64)
    (sitofp (F := Ideal) .f32 (constantI S_ 32 0#32)) pads_S128x2048x64_S128x2048x128_000_000_0640 h_S_

/-- The whole program. -/
def whole (x : FVec Ideal S4x2048x1024 .f32) (Wq : FVec Ideal S1024x1024 .f32) (bq : FVec Ideal S1024 .f32) (Wv : FVec Ideal S1024x1024 .f32)
    (bv : FVec Ideal S1024 .f32) (s t : FVec Ideal S1x1x1024 .f32) : FVec Ideal S128x2048x128 .f32 :=
  laid (beside (byHead (project (Cert.TailRefIdeal.Whole.norm x s t) Wq bq)) (byHead (project (Cert.TailRefIdeal.Whole.norm x s t) Wv bv)))

theorem res_eq (m : (ℓ : Loc nD τ sig) → Buf (Elt Ideal) ℓ) (c : Dev nD) :
    res_main_v34 m c = whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) := rfl

theorem project_apply (n : FVec Ideal S4x2048x1024 .f32) (W : FVec Ideal S1024x1024 .f32) (c : FVec Ideal S1024 .f32) (b : Fin 4) (i : Fin 2048) (j : Fin 1024) :
    project n W c (ix3 b i j) = Row.affine (fun k => n (ix3 b i k)) (fun k j => W (ix2 k j)) (fun j => c (ix1 j)) j := by
  unfold project Row.affine
  simp only [pointwise, show ¬ (4 : ℕ) = 1 by decide, show ¬ (2048 : ℕ) = 1 by decide, show ¬ (1024 : ℕ) = 1 by decide, reduceDIte, zero_add]

theorem byHead_apply (y : FVec Ideal S4x2048x1024 .f32) (b : Fin 4) (p : Fin 32) (i : Fin 2048) (d : Fin 32) :
    byHead y (ix4 b p i d) = y (ix3 b i ⟨32 * p.val + d.val, by omega⟩) := by
  unfold byHead
  simp only [pointwise]
  refine congrArg y (funext fun z => Fin.ext ?_)
  fin_cases z <;> simp [ix3, Nat.mul_comm]

theorem beside_apply (y y' : FVec Ideal S4x2048x1024 .f32) (b : Fin 4) (p : Fin 32) (i : Fin 2048) (l : Fin 64) :
    beside (byHead y) (byHead y') (ix4 b p i l) = Row.paired (fun j => y (ix3 b i j)) (fun j => y' (ix3 b i j)) p l := by
  unfold beside Row.paired
  simp only [pointwise]
  split
  · exact byHead_apply y b p i ⟨l.val, by assumption⟩
  · refine Eq.trans (congrArg (byHead y') ?_) (byHead_apply y' b p i ⟨l.val - 32, by omega⟩)
    funext z
    refine Fin.ext ?_
    fin_cases z <;> simp [ix4]

theorem laid_apply (o : FVec Ideal S4x32x2048x64 .f32) (h : Fin 128) (r : Fin 2048) (l : Fin 64) :
    laid o (ix3 h r ⟨l.val, by omega⟩) = o (ix4 ⟨h.val / 32, by omega⟩ ⟨h.val % 32, by omega⟩ r l) := by
  unfold laid
  simp only [pointwise]
  rw [dif_pos fun z => ?_]
  · refine congrArg o (funext fun z => Fin.ext ?_)
    fin_cases z <;> simp [ix4]
  · have := h.isLt
    have := r.isLt
    have := l.isLt
    fin_cases z <;> simp [ix3, Nat.mod_one]

/-- THE PROGRAM'S RESULT, head `h` of all, row `r`, lane `l` of the first 64. -/
theorem whole_apply (x : FVec Ideal S4x2048x1024 .f32) (Wq : FVec Ideal S1024x1024 .f32) (bq : FVec Ideal S1024 .f32) (Wv : FVec Ideal S1024x1024 .f32)
    (bv : FVec Ideal S1024 .f32) (s t : FVec Ideal S1x1x1024 .f32) (h : Fin 128) (r : Fin 2048) (l : Fin 64) :
    whole x Wq bq Wv bv s t (ix3 h r ⟨l.val, by omega⟩)
      = Row.projected (fun k => x (ix3 ⟨h.val / 32, by omega⟩ r k)) (fun j => s (ix3 0 0 j)) (fun j => t (ix3 0 0 j)) (fun k j => Wq (ix2 k j))
          (fun j => bq (ix1 j)) (fun k j => Wv (ix2 k j)) (fun j => bv (ix1 j)) ⟨h.val % 32, by omega⟩ l := by
  unfold whole
  rw [laid_apply, beside_apply]
  simp only [project_apply, Cert.TailRefIdeal.Whole.norm_apply]
  rfl

end Cert.ProjectRefIdeal.Whole

end
-- ==== Proof.ProjectClaims.lean ====
/-
  The normalisation and the projections: the frames, the idealization and the equality with the plain program on the
  lanes the kernel writes, of any numbers.
-/
module

public import proofs.«01_k».proof.Defs
public import proofs.«01_k».proof.Proof.Gen.On_projected_lanes
public import proofs.«01_k».proof.Proof.ProjectBody
public import proofs.«01_k».proof.Proof.ProjectValue
public import proofs.«01_k».proof.Proof.ProjectWhole
public import Idealize.ShloMosaic.Lib.Quiescent
public import Idealize.ShloMosaic.Lib.StableHlo.Predicate

@[expose] public section

noncomputable section

namespace Cert.Proof.Project

open Idealize.ShloMosaic Idealize.SL.Sem

/-- The kernel as printed: it runs, its arguments and its counters end as they were. -/
theorem frame_p : Cert.quiescent_Project := fun m g _ => Cert.Project.Body.frame m g

/-- The same of the idealized kernel, -/
theorem frame_pi : Cert.quiescent_ProjectIdeal := fun m g _ => Cert.ProjectIdeal.Body.frame m g

/-- and of the plain program, which has no counter. -/
theorem frame_ri : Cert.quiescent_ProjectRefIdeal := by
  intro m g _
  exact (θ_run _ _ _).mono (fun r h => ⟨fun c => (h c).2, Idealize.ShloMosaic.sem_eq_zero_of_no_sems (by decide) r.2⟩)
    (Cert.ProjectRefIdeal.Value.run (F := Ideal) m g)

/-- The idealization names one literal, one part in 1023. -/
theorem preserves : Cert.preserves_Project_ProjectIdeal :=
  IdealRules.named_const.statement _ _ _ _ _ (by simp [Cert.ProjectIdeal.κ])

/-- The mask, read: the first 64 lanes. -/
theorem lane_of_on {x : FVec Ideal Cert.ProjectIdeal.S4x2048x1024 .f32} {Wq Wv : FVec Ideal Cert.ProjectIdeal.S1024x1024 .f32}
    {bq bv : FVec Ideal Cert.ProjectIdeal.S1024 .f32} {s t : FVec Ideal Cert.ProjectIdeal.S1x1x1024 .f32} (i : Cert.ProjectIdeal.S128x2048x128.Idx)
    (hi : Cert.On_projected_lanes.fn (F := Ideal) x Wq bq Wv bv s t i = 1#1) : (i 2).val < 64 := by
  have h2 : (i 2).val < 128 := (i 2).isLt
  have e : IntOp.cmpi .slt (BitVec.ofNat 32 (i 2).val) 64#32 = 1#1 := hi
  have hn : (BitVec.ofNat 32 (i 2).val).toNat = (i 2).val := by rw [BitVec.toNat_ofNat]; omega
  have := (StableHlo.Predicate.slt_iff_toNat (by omega) (by decide)).mp e
  rw [hn] at this
  exact this

/-- Kernel and plain program end with the same numbers on the first 64 lanes. -/
theorem algebraic : Cert.algebraic_ProjectIdeal_ProjectRefIdeal_on_projected_lanes := by
  intro m g m' g' _ hagree
  refine ⟨fun c => Cert.ProjectRefIdeal.Whole.whole (m ((c.tc : Thread Cert.ProjectIdeal.nD Cert.ProjectIdeal.τ).loc Cert.ProjectIdeal.main_arg0))
    (m ((c.tc : Thread Cert.ProjectIdeal.nD Cert.ProjectIdeal.τ).loc Cert.ProjectIdeal.main_arg1)) (m ((c.tc : Thread Cert.ProjectIdeal.nD Cert.ProjectIdeal.τ).loc Cert.ProjectIdeal.main_arg2))
    (m ((c.tc : Thread Cert.ProjectIdeal.nD Cert.ProjectIdeal.τ).loc Cert.ProjectIdeal.main_arg3)) (m ((c.tc : Thread Cert.ProjectIdeal.nD Cert.ProjectIdeal.τ).loc Cert.ProjectIdeal.main_arg4))
    (m ((c.tc : Thread Cert.ProjectIdeal.nD Cert.ProjectIdeal.τ).loc Cert.ProjectIdeal.main_arg5)) (m ((c.tc : Thread Cert.ProjectIdeal.nD Cert.ProjectIdeal.τ).loc Cert.ProjectIdeal.main_arg6)), ?_, ?_⟩
  · refine (θ_run _ _ _).mono (fun r h c => ⟨fun i hi => ?_, Cert.ProjectIdeal.Body.kept m h.1 c⟩) (Cert.ProjectIdeal.Body.run m g)
    have hl := lane_of_on i hi
    have hi' : i = ix3 (n0 := 128) (n1 := 2048) (n2 := 128) (i 0) (i 1) ⟨(⟨(i 2).val, hl⟩ : Fin 64).val, by omega⟩ := eq_ix3 (n0 := 128) (n1 := 2048) (n2 := 128) i
    rw [hi']
    refine (Cert.ProjectIdeal.Array.final m h.1 c (i 0) (i 1) ⟨(i 2).val, hl⟩).trans ?_
    exact (Cert.ProjectRefIdeal.Whole.whole_apply _ _ _ _ _ _ _ (i 0) (i 1) ⟨(i 2).val, hl⟩).symm
  · refine (θ_run _ _ _).mono (fun r h c => ⟨fun i _ => ?_, (h c).2⟩) (Cert.ProjectRefIdeal.Value.run (F := Ideal) m' g')
    obtain ⟨h0, h1, h2, h3, h4, h5, h6⟩ := hagree c
    refine congrFun ((h c).1.trans ?_) i
    rw [Cert.ProjectRefIdeal.Whole.res_eq, h0, h1, h2, h3, h4, h5, h6]

end Cert.Proof.Project

end
-- ==== Proof.RankRow.lean ====
/-
  A row's bucket: the first of the greatest among a row's sixteen products and their negatives. The kernel finds it from
  the row's greatest and least product; the reference folds a comparison along all thirty-two.
-/
module

public import Idealize.ShloMosaic.PureOps.Ideal
public import Idealize.ShloMosaic.PureOps.Ideal.Laws

@[expose] public section

noncomputable section

namespace Cert.RankIdeal.Row

open scoped BigOperators

/-- `b` is the first place where `f` is greatest. -/
structure IsFirst {n : ℕ} (f : Fin n → EReal) (b : Fin n) : Prop where
  le : ∀ j, f j ≤ f b
  first : ∀ j, f j = f b → b ≤ j

theorem IsFirst.unique {n : ℕ} {f : Fin n → EReal} {b b' : Fin n} (h : IsFirst f b) (h' : IsFirst f b') : b = b' :=
  have e : f b = f b' := le_antisymm (h'.le b) (h.le b')
  le_antisymm (h.first b' e.symm) (h'.first b e)

theorem exists_first {n : ℕ} [NeZero n] (f : Fin n → EReal) : ∃ b, IsFirst f b := by
  obtain ⟨m, -, hm⟩ := Finset.exists_max_image Finset.univ f ⟨0, Finset.mem_univ 0⟩
  obtain ⟨b, hb, hl⟩ := Finset.exists_min_image (Finset.univ.filter fun j => f j = f m) id ⟨m, by simp⟩
  have e : f b = f m := (Finset.mem_filter.1 hb).2
  exact ⟨b, fun j => by rw [e]; exact hm j (Finset.mem_univ j), fun j hj => hl j (by simp [hj, e])⟩

/-- The first place where `f` is greatest. -/
def first {n : ℕ} [NeZero n] (f : Fin n → EReal) : Fin n := (exists_first f).choose

theorem first_spec {n : ℕ} [NeZero n] (f : Fin n → EReal) : IsFirst f (first f) := (exists_first f).choose_spec

/-- A row's products, then their negatives. -/
def both (p : Fin 16 → EReal) (k : Fin 32) : EReal :=
  if h : k.val < 16 then p ⟨k.val, h⟩ else -p ⟨k.val - 16, by omega⟩

/-- Where `p` is `m` first, as the least among the lanes' numbers there and 32 elsewhere. -/
theorem least_lane (p : Fin 16 → EReal) (m : EReal) (h : ∃ k, p k = m) :
    ∃ b : Fin 16, p b = m ∧ (∀ j, p j = m → b ≤ j)
      ∧ (Finset.univ : Finset (Fin 16)).fold min ⊤ (fun k => if p k = m then ((k.val : ℕ) : EReal) else 32) = ((b.val : ℕ) : EReal) := by
  obtain ⟨k, hk⟩ := h
  obtain ⟨b, hb, hl⟩ := Finset.exists_min_image (Finset.univ.filter fun j => p j = m) id ⟨k, by simp [hk]⟩
  have e : p b = m := (Finset.mem_filter.1 hb).2
  have hle : ∀ j, p j = m → b ≤ j := fun j hj => hl j (by simp [hj])
  refine ⟨b, e, hle, le_antisymm ?_ ?_⟩
  · exact Finset.fold_min_le _ |>.2 (Or.inr ⟨b, Finset.mem_univ b, by rw [if_pos e]⟩)
  · refine (Finset.le_fold_min _).2 ⟨le_top, fun j _ => ?_⟩
    split
    · next hj => exact_mod_cast (hle j hj : b.val ≤ j.val)
    · have := b.isLt
      exact_mod_cast (show b.val ≤ 32 by omega)

theorem greatest_mem (p : Fin 16 → EReal) :
    (∃ k, p k = (Finset.univ : Finset (Fin 16)).fold max ⊥ p) ∧ ∀ j, p j ≤ (Finset.univ : Finset (Fin 16)).fold max ⊥ p := by
  have hle : ∀ j, p j ≤ (Finset.univ : Finset (Fin 16)).fold max ⊥ p := fun j =>
    (Finset.le_fold_max _).2 (Or.inr ⟨j, Finset.mem_univ j, le_rfl⟩)
  obtain ⟨m, -, hm⟩ := Finset.exists_max_image Finset.univ p ⟨0, Finset.mem_univ 0⟩
  exact ⟨⟨m, le_antisymm (hle m) ((Finset.fold_max_le _).2 ⟨bot_le, hm⟩)⟩, hle⟩

theorem least_mem (p : Fin 16 → EReal) :
    (∃ k, p k = (Finset.univ : Finset (Fin 16)).fold min ⊤ p) ∧ ∀ j, (Finset.univ : Finset (Fin 16)).fold min ⊤ p ≤ p j := by
  have hle : ∀ j, (Finset.univ : Finset (Fin 16)).fold min ⊤ p ≤ p j := fun j =>
    (Finset.fold_min_le _).2 (Or.inr ⟨j, Finset.mem_univ j, le_rfl⟩)
  obtain ⟨m, -, hm⟩ := Finset.exists_min_image Finset.univ p ⟨0, Finset.mem_univ 0⟩
  exact ⟨⟨m, le_antisymm ((Finset.le_fold_min _).2 ⟨le_top, hm⟩) (hle m)⟩, hle⟩

/-- The kernel's bucket of a row. -/
def found (p : Fin 16 → EReal) : EReal :=
  if 0 - (Finset.univ : Finset (Fin 16)).fold min ⊤ p ≤ (Finset.univ : Finset (Fin 16)).fold max ⊥ p then
    (Finset.univ : Finset (Fin 16)).fold min ⊤ (fun k => if p k = (Finset.univ : Finset (Fin 16)).fold max ⊥ p then ((k.val : ℕ) : EReal) else 32)
  else
    (Finset.univ : Finset (Fin 16)).fold min ⊤ (fun k => if p k = (Finset.univ : Finset (Fin 16)).fold min ⊤ p then ((k.val : ℕ) : EReal) else 32) + 16

theorem found_eq (p : Fin 16 → EReal) : found p = (((first (both p)).val : ℕ) : EReal) := by
  obtain ⟨hx, hxle⟩ := greatest_mem p
  obtain ⟨hn, hnle⟩ := least_mem p
  unfold found
  generalize (Finset.univ : Finset (Fin 16)).fold max ⊥ p = mx at *
  generalize (Finset.univ : Finset (Fin 16)).fold min ⊤ p = mn at *
  rw [zero_sub]
  split
  · next h =>
    obtain ⟨b, e, hle, ef⟩ := least_lane p mx hx
    have hb : IsFirst (both p) ⟨b.val, by omega⟩ := by
      have eb : both p ⟨b.val, by omega⟩ = mx := by unfold both; rw [dif_pos b.isLt]; exact e
      refine ⟨fun j => ?_, fun j hj => ?_⟩
      · rw [eb]; unfold both
        split
        · exact hxle _
        · exact (EReal.neg_le_neg_iff.2 (hnle _)).trans h
      · rw [eb] at hj
        by_cases h' : j.val < 16
        · unfold both at hj; rw [dif_pos h'] at hj
          exact (hle _ hj : b.val ≤ j.val)
        · show b.val ≤ j.val
          omega
    rw [ef, (first_spec (both p)).unique hb]
  · next h =>
    obtain ⟨b, e, hle, ef⟩ := least_lane p mn hn
    have h := lt_of_not_ge h
    have hb : IsFirst (both p) ⟨b.val + 16, by omega⟩ := by
      have eb : both p ⟨b.val + 16, by omega⟩ = -mn := by
        unfold both; rw [dif_neg (by simp)]; rw [← e]; congr 2
      refine ⟨fun j => ?_, fun j hj => ?_⟩
      · rw [eb]; unfold both
        split
        · exact (hxle _).trans h.le
        · exact EReal.neg_le_neg_iff.2 (hnle _)
      · rw [eb] at hj
        by_cases h' : j.val < 16
        · unfold both at hj; rw [dif_pos h'] at hj
          exact absurd (hxle ⟨j.val, h'⟩) (by rw [hj]; exact not_le.2 h)
        · unfold both at hj; rw [dif_neg h'] at hj
          have := hle _ (neg_injective hj)
          have : b.val ≤ j.val - 16 := this
          show b.val + 16 ≤ j.val
          omega
    rw [ef, (first_spec (both p)).unique hb]
    push_cast
    rfl

end Cert.RankIdeal.Row

end
-- ==== Proof.RankCount.lean ====
/-
  Counting: how many rows come before a row, by bucket and then by place; and what sorting the keys, and sorting the
  order found, says of the same number.
-/
module

public import Idealize.ShloMosaic.Lib.SortFacts
public import Mathlib.Data.EReal.Operations

@[expose] public section

noncomputable section

namespace Cert.RankIdeal.Count

open scoped BigOperators
open Idealize.ShloMosaic

/-- How many rows come before row `n`: those of its bucket before it, and all of the buckets before its. -/
def rank (b : ℕ → ℕ) (n : ℕ) : ℕ :=
  (∑ i ∈ Finset.range n, if b i = b n then 1 else 0) + ∑ i ∈ Finset.range 2048, if b i < b n then 1 else 0

/-- A row's key: its bucket, then its place. -/
def key (b : ℕ → ℕ) (n : ℕ) : ℕ := b n * 2048 + n

theorem rank_eq (b : ℕ → ℕ) (n : ℕ) (hn : n < 2048) :
    rank b n = ((Finset.univ : Finset (Fin 2048)).filter fun i => key b i.val < key b n).card := by
  have e : (∑ i ∈ Finset.range n, if b i = b n then 1 else 0) = ∑ i ∈ Finset.range 2048, if b i = b n ∧ i < n then 1 else 0 := by
    rw [← Finset.sum_subset (Finset.range_subset_range.2 hn.le) (f := fun i => if b i = b n ∧ i < n then 1 else 0)]
    · refine Finset.sum_congr rfl fun i hi => ?_
      simp [Finset.mem_range.1 hi]
    · intro i _ hi
      simp at hi
      simp; omega
  rw [rank, e, ← Finset.sum_add_distrib, Finset.sum_range, Finset.card_filter]
  refine Finset.sum_congr rfl fun i _ => ?_
  have := i.isLt
  unfold key
  split_ifs <;> omega

theorem rank_lt (b : ℕ → ℕ) (n : ℕ) (hn : n < 2048) : rank b n < 2048 := by
  rw [rank_eq b n hn]
  refine lt_of_lt_of_eq (Finset.card_lt_card (t := (Finset.univ : Finset (Fin 2048))) ?_) (by simp)
  rw [Finset.ssubset_univ_iff]
  intro h
  have : (⟨n, hn⟩ : Fin 2048) ∈ (Finset.univ : Finset (Fin 2048)).filter fun i => key b i.val < key b n := by rw [h]; simp
  simp at this

section Sorting
variable {n : ℕ}

theorem sortedFrom_strictMono (κ : Fin n → ℕ) (hκ : Function.Injective κ) :
    StrictMono fun i => κ (sortedFrom (fun k k' => decide (κ k < κ k')) i) := by
  intro i j hij
  have h := sortedFrom_noInversion (fun k k' => decide (κ k < κ k')) (fun k k' => decide (κ k < κ k'))
    (by intro a b; simp; omega) (by intro a b h; exact h) (by intro a b c; simp; omega) i j hij
  simp only [decide_eq_false_iff_not, not_lt] at h
  refine lt_of_le_of_ne h fun e => ?_
  exact absurd (sortedFrom_injective _ (hκ e)) (ne_of_lt hij)

/-- A place in sorted order is how many come before what stands there. -/
theorem place_eq_card (κ : Fin n → ℕ) (π : Fin n → Fin n) (hπ : Function.Bijective π) (h : StrictMono fun i => κ (π i)) (p : Fin n) :
    p.val = ((Finset.univ : Finset (Fin n)).filter fun i => κ i < κ (π p)).card := by
  have : (Finset.univ : Finset (Fin n)).filter (fun i => κ i < κ (π p)) = (Finset.univ.filter fun q => q < p).map ⟨π, hπ.1⟩ := by
    ext i
    obtain ⟨q, rfl⟩ := hπ.2 i
    simp only [Finset.mem_filter, Finset.mem_univ, true_and, Finset.mem_map, Function.Embedding.coeFn_mk]
    constructor
    · exact fun hq => ⟨q, h.lt_iff_lt.1 hq, rfl⟩
    · rintro ⟨r, hr, e⟩
      rw [← hπ.1 e]; exact h hr
  rw [this, Finset.card_map, show (Finset.univ.filter fun q => q < p) = Finset.Iio p from by ext; simp, Fin.card_Iio]

/-- Sorting the order found by a sort: what stands at `p` is how many keys come before `p`'s. -/
theorem sort_sort (κ : Fin n → ℕ) (hκ : Function.Injective κ) (p : Fin n) :
    (sortedFrom (fun k k' => decide ((sortedFrom (fun l l' => decide (κ l < κ l')) k).val
        < (sortedFrom (fun l l' => decide (κ l < κ l')) k').val)) p).val
      = ((Finset.univ : Finset (Fin n)).filter fun i => κ i < κ p).card := by
  have hσ := sortedFrom_strictMono κ hκ
  have bσ : Function.Bijective (sortedFrom (fun l l' => decide (κ l < κ l'))) := ⟨sortedFrom_injective _, sortedFrom_surjective _⟩
  generalize sortedFrom (fun l l' => decide (κ l < κ l')) = σ at *
  have hτ := sortedFrom_strictMono (fun k => (σ k).val) (fun a b e => bσ.1 (Fin.ext e))
  have bτ : Function.Bijective (sortedFrom (fun k k' => decide ((σ k).val < (σ k').val))) := ⟨sortedFrom_injective _, sortedFrom_surjective _⟩
  generalize sortedFrom (fun k k' => decide ((σ k).val < (σ k').val)) = τ at *
  have e : σ (τ p) = p := by
    refine Fin.ext ?_
    have h1 := place_eq_card (fun k : Fin n => k.val) (fun i => σ (τ i)) (bσ.comp bτ) hτ p
    have h2 := place_eq_card (fun k : Fin n => k.val) id Function.bijective_id (fun i j h => h) (σ (τ p))
    exact h2.trans h1.symm
  rw [place_eq_card κ σ bσ hσ (τ p), e]

end Sorting

/-! ## As the kernel counts -/

/-- A truth's number. -/
def ind (p : Prop) [Decidable p] : EReal := ((if p then 1 else 0 : ℕ) : EReal)

theorem ind_mul (p q : Prop) [Decidable p] [Decidable q] : ind p * ind q = ind (p ∧ q) := by
  unfold ind
  rw [← EReal.natCast_mul]
  congr 1
  split_ifs <;> simp_all

theorem sum_ind {ι : Type} (s : Finset ι) (p : ι → Prop) [DecidablePred p] :
    ∑ i ∈ s, ind (p i) = ((∑ i ∈ s, if p i then 1 else 0 : ℕ) : EReal) := by
  unfold ind
  rw [Nat.cast_sum]

theorem sum_pick (f : Fin 32 → EReal) (c : Fin 32) : ∑ k : Fin 32, f k * ind (c = k) = f c := by
  rw [Finset.sum_eq_single c]
  · simp [ind]
  · intro k _ h; simp [ind, h.symm]
  · simp

/-- Bucket by bucket, those of the buckets below `c`. -/
theorem sum_smaller (b : ℕ → ℕ) (hb : ∀ n, b n < 32) (N c : ℕ) :
    ∑ k : Fin 32, (∑ i ∈ Finset.range N, if b i = k.val then 1 else 0) * (if k.val < c then 1 else 0)
      = ∑ i ∈ Finset.range N, if b i < c then 1 else 0 := by
  simp_rw [Finset.sum_mul]
  rw [Finset.sum_comm]
  refine Finset.sum_congr rfl fun i _ => ?_
  rw [Finset.sum_eq_single (⟨b i, hb i⟩ : Fin 32)]
  · simp
  · intro k _ hk
    rw [if_neg fun e => hk (Fin.ext e.symm), zero_mul]
  · simp

theorem sum_below (p : ℕ → Prop) [DecidablePred p] (n N : ℕ) (h : n ≤ N) :
    ∑ k : Fin N, (if k.val < n ∧ p k.val then 1 else 0) = ∑ i ∈ Finset.range n, if p i then 1 else 0 := by
  rw [← Finset.sum_range (f := fun k => if k < n ∧ p k then 1 else 0) (n := N),
    ← Finset.sum_subset (Finset.range_subset_range.2 h)]
  · refine Finset.sum_congr rfl fun i hi => ?_
    simp [Finset.mem_range.1 hi]
  · intro i _ hi
    simp at hi
    simp; omega

/-- The three counts of a row's rank: before it in its group, in the groups before, in smaller buckets. -/
theorem rank_split (b : ℕ → ℕ) (s j : ℕ) :
    rank b (s + j) = (∑ i ∈ Finset.range j, if b (s + i) = b (s + j) then 1 else 0) + (∑ i ∈ Finset.range s, if b i = b (s + j) then 1 else 0)
      + ∑ i ∈ Finset.range 2048, if b i < b (s + j) then 1 else 0 := by
  rw [rank, Finset.sum_range_add, add_comm (∑ i ∈ Finset.range j, _)]

end Cert.RankIdeal.Count

end
-- ==== Proof.RankBlock.lean ====
/-
  The ranking call's block: sixteen columns, one per group of 128 rows, each counting the group's rows by the one-hot
  matrix of the buckets: within the group by a triangle of ones, before it by the groups' running sums, and of the smaller
  buckets by a second triangle.
-/
module

public import proofs.«01_k».proof.Proof.Gen.RankIdeal.Value
public import proofs.«01_k».proof.Proof.RankRow
public import proofs.«01_k».proof.Proof.RankCount
public import Idealize.ShloMosaic.Lib.Pointwise
public import Idealize.ShloMosaic.Lib.Pipeline.Value
public import Idealize.ShloMosaic.Lib.Pipeline.ValueKit
public import Idealize.ShloMosaic.Lib.StableHlo.Predicate

@[expose] public section

noncomputable section

namespace Cert.RankIdeal.Block

open Cert.RankIdeal Cert.RankIdeal.Gen Cert.RankIdeal.Row Cert.RankIdeal.Count
open Idealize.ShloMosaic
open scoped BigOperators

section Shape
variable {F : FTy → Type} [FloatOps F]

theorem group_slices (g : ℕ) : S2048x32.Slices ![128 * (g % 16), 0] S128x32 := by
  refine ⟨rfl, fun a => ?_⟩
  have : g % 16 < 16 := Nat.mod_lt _ (by decide)
  fin_cases a
  · show 128 * (g % 16) + 128 ≤ 2048; omega
  · exact le_refl 32

/-- Group `g`'s rows of the one-hot matrix. -/
def group (oh : FVec F S2048x32 .f32) (g : ℕ) : FVec F S128x32 .f32 :=
  extractStridedSlice S128x32 ![128 * (g % 16), 0] oh (group_slices g)

/-- How many rows of the groups before `g` are in each bucket. -/
def running (oh : FVec F S2048x32 .f32) : ℕ → FVec F S1x32 .f32
  | 0 => k0_pay8
  | g + 1 => addf (running oh g)
      (shapeCast S1x32 (multiReduction .add [0] S32 (group oh g) 0x00000000#32 reduces_S128x32_S32 (.inl rfl) rfl) shapeCasts_S32_S1x32)

/-- The second triangle: 1 where the row's number is below the column's. -/
def upper : FVec F S32x32 .f32 :=
  sitofp .f32 (extui 32 (cmpi .slt (iota .tc S32x32 32 [0] iota_S32x32_d0_w32) (iota .tc S32x32 32 [1] iota_S32x32_d1_w32)) natLt_1_32)

/-- How many rows are in smaller buckets. -/
def smaller (oh : FVec F S2048x32 .f32) : FVec F S1x32 .f32 :=
  matmul dot_S1x32_S32x32_S1x32_1_0_0_1_n_n (some .fp32) (running oh 16) upper (constant S1x32 .f32 0x00000000#32)

/-- Group `g`'s ranks. -/
def column (oh : FVec F S2048x32 .f32) (g : ℕ) : FVec F S128x1 .f32 :=
  shapeCast S128x1 (multiReduction .add [1] S128
    (mulf (addf (addf (matmul dot_S128x128_S128x32_S128x32_1_0_0_1_n_n none k0_pay7 (group oh g) (constant S128x32 .f32 0x00000000#32))
        (broadcastTo S128x32 (running oh g) broadcasts_S1x32_S128x32))
      (broadcastTo S128x32 (smaller oh) broadcasts_S1x32_S128x32)) (group oh g))
    0x00000000#32 reduces_S128x32_S128 (.inl rfl) rfl) shapeCasts_S128_S128x1

theorem columns_fit (f : Fin 16 → FVec F S128x1 .f32) :
    Shape.Concatenates ((List.ofFn fun g : Fin 16 => (⟨S128x1, f g⟩ : (s : Shape) × (s.Idx → F .f32))).map (·.1)) S128x16 1 :=
  concatenates_S128x1_S128x1_S128x1_S128x1_S128x1_S128x1_S128x1_S128x1_S128x1_S128x1_S128x1_S128x1_S128x1_S128x1_S128x1_S128x1_S128x16_d1

/-- All groups' ranks, a column each. -/
def ranks (oh : FVec F S2048x32 .f32) : FVec F S128x16 .f32 :=
  concatenate S128x16 1 (List.ofFn fun g : Fin 16 => (⟨S128x1, column oh g.val⟩ : (s : Shape) × (s.Idx → F .f32))) (columns_fit _)

theorem z2 : (![0, 0] : Fin 2 → ℕ) = fun _ => 0 := by funext a; fin_cases a <;> rfl

set_option maxRecDepth 8000 in
theorem out_eq (i : grid0.Coords) (x0 : Vec F S1x2048x128 .f32) (x1 : Vec F S1x32x16 .f32) :
    out0_2 i x0 x1 = k0_pay5 (BitVec.ofNat 32 (i 0).val) (BitVec.ofNat 32 (i 1).val) (ranks (k0_pay6 (View.ld x0 r0_0) (View.ld x1 r0_1))) := by
  have e : out0_2 i x0 x1 = View.canon [⟨r0_2, k0_pay5 (BitVec.ofNat 32 (i 0).val) (BitVec.ofNat 32 (i 1).val)
      (ranks (k0_pay6 (View.ld x0 r0_0) (View.ld x1 r0_1)))⟩] := rfl
  rw [e]
  exact View.canon_unit_zero z2 _ _

end Shape

/-! ## The values -/

variable (b : ℕ → ℕ)

theorem ind_word (p : Prop) [Decidable p] (w : BitVec 1) (h : w = 1#1 ↔ p) :
    (FloatOps.sitofp (F := Ideal) .f32 (BitVec.setWidth 32 w) : EReal) = ind p := by
  have hw : w = 0#1 ∨ w = 1#1 := (by decide : ∀ w : BitVec 1, w = 0#1 ∨ w = 1#1) w
  unfold ind
  by_cases hp : p
  · rw [h.2 hp, if_pos hp]
    show (((BitVec.setWidth 32 (1#1)).toInt : ℝ) : EReal) = _
    rw [show (BitVec.setWidth 32 (1#1)).toInt = 1 by decide]; simp
  · rw [hw.resolve_right fun e => hp (h.1 e), if_neg hp]
    show (((BitVec.setWidth 32 (0#1)).toInt : ℝ) : EReal) = _
    rw [show (BitVec.setWidth 32 (0#1)).toInt = 0 by decide]; simp

theorem lane_word (k : ℕ) (hk : k < 2048) : (FloatOps.sitofp (F := Ideal) .f32 (BitVec.ofNat 32 k) : EReal) = ((k : ℕ) : EReal) := by
  show (((BitVec.ofNat 32 k).toInt : ℝ) : EReal) = _
  rw [show (BitVec.ofNat 32 k).toInt = (k : ℤ) from by
    rw [BitVec.toInt_eq_toNat_of_lt (by simp; omega)]; simp; omega]
  simp

theorem slt_small (i j : ℕ) (hi : i < 2048) (hj : j < 2048) :
    IntOp.cmpi .slt (BitVec.ofNat 32 i) (BitVec.ofNat 32 j) = 1#1 ↔ i < j := by
  rw [StableHlo.Predicate.slt_iff_toNat (by simp; omega) (by simp; omega)]
  rw [BitVec.toNat_ofNat, BitVec.toNat_ofNat, Nat.mod_eq_of_lt (by omega), Nat.mod_eq_of_lt (by omega)]

theorem lower_apply (i j : Fin 128) : k0_pay7 (F := Ideal) (ix2 i j) = ind (j.val < i.val) := by
  unfold k0_pay7
  simp only [pointwise]
  refine ind_word _ _ ?_
  simpa using slt_small j.val i.val (by omega) (by omega)

theorem upper_apply (i j : Fin 32) : upper (F := Ideal) (ix2 i j) = ind (i.val < j.val) := by
  unfold upper
  simp only [pointwise]
  refine ind_word _ _ ?_
  simpa using slt_small i.val j.val (by omega) (by omega)

/-- The one-hot matrix of the buckets `b`. -/
def OneHot (oh : FVec Ideal S2048x32 .f32) : Prop := ∀ (r : Fin 2048) (c : Fin 32), oh (ix2 r c) = ind (b r.val = c.val)

variable {b} {oh : FVec Ideal S2048x32 .f32} (h : OneHot b oh)
include h

theorem group_apply (g : ℕ) (hg : g < 16) (j : Fin 128) (c : Fin 32) : group oh g (ix2 j c) = ind (b (128 * g + j.val) = c.val) := by
  have e : group oh g (ix2 j c) = oh (ix2 ⟨128 * g + j.val, by omega⟩ c) := by
    unfold group
    simp only [pointwise]
    refine congrArg oh (funext fun a => Fin.ext ?_)
    fin_cases a
    · show 128 * (g % 16) + j.val = 128 * g + j.val
      rw [Nat.mod_eq_of_lt hg]
    · show 0 + c.val = c.val
      omega
  rw [e, h]

theorem running_apply (g : ℕ) (hg : g ≤ 16) (c : Fin 32) :
    running oh g (ix2 0 c) = ((∑ i ∈ Finset.range (128 * g), if b i = c.val then 1 else 0 : ℕ) : EReal) := by
  induction g with
  | zero =>
    show Ideal.ofBits .f32 0#32 = _
    simp [Ideal.ofBits, Ideal.ieee]
  | succ g ih =>
    have e : running oh (g + 1) (ix2 0 c) = running oh g (ix2 0 c) + ∑ k, group oh g (ix2 k c) := by
      show (addf _ _) _ = _
      simp only [pointwise]
    rw [e, ih (by omega), Finset.sum_congr rfl fun k _ => group_apply h g (by omega) k c, sum_ind,
      show 128 * (g + 1) = 128 * g + 128 by ring, Finset.sum_range_add, Finset.sum_range (n := 128), Nat.cast_add]

theorem smaller_apply (hb : ∀ n, b n < 32) (c : Fin 32) :
    smaller oh (ix2 0 c) = ((∑ i ∈ Finset.range 2048, if b i < c.val then 1 else 0 : ℕ) : EReal) := by
  have e : smaller oh (ix2 0 c) = ∑ k, running oh 16 (ix2 0 k) * upper (ix2 k c) := by
    unfold smaller
    simp only [pointwise, zero_add]
  rw [e]
  have t : ∀ k : Fin 32, running oh 16 (ix2 0 k) * upper (ix2 k c)
      = (((∑ i ∈ Finset.range 2048, if b i = k.val then 1 else 0) * (if k.val < c.val then 1 else 0) : ℕ) : EReal) := fun k => by
    rw [running_apply h 16 le_rfl, upper_apply, ind, ← EReal.natCast_mul]
  rw [Finset.sum_congr rfl fun k _ => t k, ← Nat.cast_sum]
  exact congrArg _ (sum_smaller b hb 2048 c.val)

theorem column_apply (hb : ∀ n, b n < 32) (g : ℕ) (hg : g < 16) (j : Fin 128) :
    column oh g (ix2 j 0) = ((rank b (128 * g + j.val) : ℕ) : EReal) := by
  have e : column oh g (ix2 j 0) = ∑ c, ((∑ k, k0_pay7 (F := Ideal) (ix2 j k) * group oh g (ix2 k c)) + running oh g (ix2 0 c)
      + smaller oh (ix2 0 c)) * group oh g (ix2 j c) := by
    unfold column
    simp only [pointwise, show ¬ (128 : ℕ) = 1 by decide, show ¬ (32 : ℕ) = 1 by decide, reduceDIte, zero_add]
  have t : ∀ c : Fin 32, (∑ k, k0_pay7 (F := Ideal) (ix2 j k) * group oh g (ix2 k c))
      = ((∑ i ∈ Finset.range j.val, if b (128 * g + i) = c.val then 1 else 0 : ℕ) : EReal) := fun c => by
    have u : ∀ k : Fin 128, k0_pay7 (F := Ideal) (ix2 j k) * group oh g (ix2 k c) = ind (k.val < j.val ∧ b (128 * g + k.val) = c.val) := fun k => by
      rw [lower_apply, group_apply h g hg, ind_mul]
    rw [Finset.sum_congr rfl fun k _ => u k, sum_ind]
    exact congrArg _ (sum_below (fun k => b (128 * g + k) = c.val) j.val 128 j.isLt.le)
  have u : ∀ c : Fin 32, group oh g (ix2 j c) = ind ((⟨b (128 * g + j.val), hb _⟩ : Fin 32) = c) := fun c => by
    rw [group_apply h g hg]; unfold ind; simp only [Fin.ext_iff]
  rw [e]
  refine (Finset.sum_congr rfl fun c _ => congrArg₂ (· * ·) (congrArg₂ (· + ·) (congrArg₂ (· + ·) (t c) (running_apply h g hg.le c))
    (smaller_apply h hb c)) (u c)).trans ((sum_pick (fun c => _) _).trans ?_)
  rw [rank_split, Nat.cast_add, Nat.cast_add]

theorem ranks_apply (hb : ∀ n, b n < 32) (j : Fin 128) (g : Fin 16) :
    ranks oh (ix2 j g) = ((rank b (128 * g.val + j.val) : ℕ) : EReal) := by
  refine (concatenate_ofFn_unit_apply (t := S128x16) 1 (fun g : Fin 16 => column oh g.val) _ rfl rfl (ix2 j g) g rfl (ix2 j 0) fun a ha => ?_).trans
    (column_apply h hb g.val g.isLt j)
  fin_cases a
  · rfl
  · exact absurd rfl ha

end Cert.RankIdeal.Block

end
-- ==== Proof.RankValue.lean ====
/-
  The array the ranking call leaves: every row's place among its head's rows ordered by bucket, in words, counted on from
  the head's first row. Each grid point writes one head, and the blocks tile the array.
-/
module

public import proofs.«01_k».proof.Proof.RankBlock

@[expose] public section

noncomputable section

namespace Cert.RankIdeal.Array

open Cert.RankIdeal Cert.RankIdeal.Gen Cert.RankIdeal.Row Cert.RankIdeal.Count Cert.RankIdeal.Block
open Idealize.ShloMosaic Idealize.ShloMosaic.TcCoe Idealize.SL.Sem
open Idealize.ShloMosaic.Pipeline (Dat)
open scoped BigOperators

/-- The buckets of rows with products `p`. -/
def bucket (p : Fin 2048 → Fin 16 → EReal) (n : ℕ) : ℕ := if h : n < 2048 then (first (both (p ⟨n, h⟩))).val else 0

theorem bucket_lt (p : Fin 2048 → Fin 16 → EReal) (n : ℕ) : bucket p n < 32 := by
  unfold bucket
  split
  · exact (first _).isLt
  · omega

theorem bucket_apply (p : Fin 2048 → Fin 16 → EReal) (n : Fin 2048) : bucket p n.val = (first (both (p n))).val := by
  unfold bucket
  rw [dif_pos n.isLt]

theorem bottom : Ideal.ofBits .f32 4286578688#32 = ⊥ := by simp [Ideal.ofBits, Ideal.ieee]
theorem top : Ideal.ofBits .f32 2139095040#32 = ⊤ := by simp [Ideal.ofBits, Ideal.ieee]
theorem word_32 : Ideal.ofBits .f32 1107296256#32 = 32 := by
  have : Ideal.ofBits .f32 1107296256#32 = ((32 : ℝ) : EReal) := by
    simp [Ideal.ofBits, Ideal.ieee, -EReal.coe_mul]; norm_num
  rw [this]; rfl
theorem word_16 : Ideal.ofBits .f32 1098907648#32 = 16 := by
  have : Ideal.ofBits .f32 1098907648#32 = ((16 : ℝ) : EReal) := by
    simp [Ideal.ofBits, Ideal.ieee, -EReal.coe_mul]; norm_num
  rw [this]; rfl

/-- The one-hot matrix is of the rows' buckets. -/
theorem oneHot (x : Vec Ideal S1x2048x32 .f32) (R : Vec Ideal S1x32x16 .f32) :
    OneHot (bucket fun n k => ∑ d, x (ix3 0 n d) * R (ix3 0 d k)) (k0_pay6 x R) := by
  intro r c
  rw [bucket_apply]
  unfold k0_pay6
  simp only [pointwise, show ¬ (2048 : ℕ) = 1 by decide, show ¬ (32 : ℕ) = 1 by decide, reduceDIte, zero_add, bottom, top, word_32, word_16]
  refine ind_word _ _ ?_
  have lane : ∀ (n : ℕ) (k : Fin n), n ≤ 32 → (FloatOps.sitofp (F := Ideal) .f32 (BitVec.ofNat 32 (List.foldl (fun m a => m * ![2048, n] a + ((ix2 r k) a).val) 0 [1])) : EReal)
      = ((k.val : ℕ) : EReal) := fun n k hn => by
    have e : List.foldl (fun m a => m * ![2048, n] a + ((ix2 r k) a).val) 0 [1] = k.val := by
      show 0 * n + k.val = k.val
      omega
    rw [e]
    exact lane_word k.val (by omega)
  simp only [lane 16 _ (by decide), lane 32 _ le_rfl]
  have f := found_eq fun k => ∑ d, x (ix3 0 r d) * R (ix3 0 d k)
  unfold found at f
  rw [f]
  have truth : ∀ (p : Prop) [Decidable p], BitVec.ofBool (decide p) = 1#1 ↔ p := fun p _ => by by_cases hp : p <;> simp [hp]
  rw [truth, Nat.cast_inj]

theorem whole_word (n : ℕ) (h : n < 2 ^ 31) : (FloatOps.fptosi (F := Ideal) (φ := .f32) 32 ((n : ℕ) : EReal)) = BitVec.ofNat 32 n := by
  show Ideal.fptosi 32 ((n : ℕ) : EReal) = _
  unfold Ideal.fptosi
  rw [show ((n : ℕ) : EReal) = (((n : ℕ) : ℝ) : EReal) by simp, Ideal.toIntClamped_coe, if_pos (by positivity), Int.floor_natCast]
  rw [min_eq_right (by norm_num; omega), max_eq_right (by norm_num)]
  simp

/-- A block's products. -/
def prods (x0 : Vec Ideal S1x2048x128 .f32) (x1 : Vec Ideal S1x32x16 .f32) (n : Fin 2048) (k : Fin 16) : EReal :=
  ∑ d : Fin 32, x0 (ix3 0 n ⟨d.val, by omega⟩) * x1 (ix3 0 d k)

theorem out_apply (i : grid0.Coords) (x0 : Vec Ideal S1x2048x128 .f32) (x1 : Vec Ideal S1x32x16 .f32) (g : Fin 16) (j : Fin 128) :
    out0_2 i x0 x1 (ix2 g j)
      = BitVec.ofNat 32 (rank (bucket (prods x0 x1)) (128 * g.val + j.val) + ((i 0).val * 32 + (i 1).val) * 2048) := by
  rw [out_eq]
  unfold k0_pay5
  simp only [pointwise]
  have e : (fun n k => ∑ d, View.ld x0 r0_0 (ix3 0 n d) * View.ld x1 r0_1 (ix3 0 d k)) = prods x0 x1 := by
    funext n k
    refine Finset.sum_congr rfl fun d _ => congrArg₂ (· * ·) ?_ ?_
    · refine View.ld_unit_apply_of _ _ _ _ _ _ fun a => ?_
      fin_cases a <;> simp
    · refine View.ld_unit_apply_of _ _ _ _ _ _ fun a => ?_
      fin_cases a <;> simp
  have h := oneHot (View.ld x0 r0_0) (View.ld x1 r0_1)
  rw [e] at h
  have hr := rank_lt (bucket (prods x0 x1)) (128 * g.val + j.val) (by omega)
  rw [ranks_apply h (bucket_lt _), whole_word _ (by omega)]
  show BitVec.ofNat 32 _ + (BitVec.ofNat 32 _ * 32#32 + BitVec.ofNat 32 _) * 2048#32 = _
  simp only [← BitVec.ofNat_mul, ← BitVec.ofNat_add]

/-! ## The array -/

/-- A head's products: its rows' first 32 lanes, times its random vectors. -/
def products (q : FVec Ideal S128x2048x128 .f32) (R : FVec Ideal S32x32x16 .f32) (hd : Fin 128) (n : Fin 2048) (k : Fin 16) : EReal :=
  ∑ d : Fin 32, q (ix3 hd n ⟨d.val, by omega⟩) * R (ix3 ⟨hd.val % 32, by omega⟩ d k)

/-- The whole result, from the argument arrays. -/
def result (q : FVec Ideal S128x2048x128 .f32) (R : FVec Ideal S32x32x16 .f32) : S2048x128.Idx → BitVec 32 := fun i =>
  BitVec.ofNat 32 (rank (bucket (products q R ⟨(i 0).val / 16, by have : (i 0).val < 2048 := (i 0).isLt; omega⟩)) (128 * ((i 0).val % 16) + (i 1).val)
    + (i 0).val / 16 * 2048)

variable (m : (ℓ : Loc nD τ sig) → Buf (Elt Ideal) ℓ)

/-- The windows' block indices at a grid point, all points at once. -/
theorem idx : ∀ t : Fin cfg0.N, win0_0.index t = ![t.val, 0, 0] ∧ win0_1.index t = ![t.val % 32, 0, 0] ∧ win0_2.index t = ![t.val, 0]
    ∧ ((grid0.coords t) 0).val * 32 + ((grid0.coords t) 1).val = t.val ∧ t.val < 128 :=
  (by decide +kernel : ∀ t : Fin grid0.N, _)

theorem read_0 (c : Dev nD) (t : Fin cfg0.N) (n : Fin 2048) (l : Fin 128) (h : t.val < 128) :
    (iblk m c 0 t : FVec Ideal S1x2048x128 .f32) (ix3 0 n l) = (m ((c : Thread nD τ).loc main_arg0) : FVec Ideal S128x2048x128 .f32) (ix3 ⟨t.val, h⟩ n l) := by
  blk_ext [iblk, V, idx t]

theorem read_1 (c : Dev nD) (t : Fin cfg0.N) (d : Fin 32) (k : Fin 16) :
    (iblk m c 1 t : FVec Ideal S1x32x16 .f32) (ix3 0 d k) = (m ((c : Thread nD τ).loc main_arg1) : FVec Ideal S32x32x16 .f32) (ix3 ⟨t.val % 32, by omega⟩ d k) := by
  blk_ext [iblk, V, idx t]

/-- THE ARRAY AFTER THE RUN. -/
theorem final (c : Dev nD) : (dats m 0 c).arrAt 2 cfg0.N
    = result (m ((c : Thread nD τ).loc main_arg0)) (m ((c : Thread nD τ).loc main_arg1)) := by
  refine (dats m 0 c).arrAt_eq_of_covers 2 _ (by decide +kernel) fun t _ y => ?_
  blk_simp
  rw [after0_2]
  obtain ⟨-, -, -, hc, ht⟩ := idx t
  obtain ⟨g, j, rfl⟩ : ∃ (g : Fin 16) (j : Fin 128), y = ix2 g j := ⟨y 0, y 1, eq_ix2 (n0 := 16) (n1 := 128) y⟩
  have he : ((cfg0.win 2).blk t).view.emb (ix2 (n0 := 16) (n1 := 128) g j)
      = ix2 (n0 := 2048) (n1 := 128) ⟨t.val * 16 + g.val, by omega⟩ j := by
    blk_ext [idx t]
  refine (out_apply (grid0.coords t) (iblk m c 0 t) (iblk m c 1 t) g j).trans ?_
  refine Eq.trans ?_ (congrArg (result (m ((c : Thread nD τ).loc main_arg0)) (m ((c : Thread nD τ).loc main_arg1))) he).symm
  have ep : prods (iblk m c 0 t) (iblk m c 1 t) = products (m ((c : Thread nD τ).loc main_arg0)) (m ((c : Thread nD τ).loc main_arg1)) ⟨t.val, ht⟩ := by
    funext n k
    exact Finset.sum_congr rfl fun d _ => congrArg₂ (· * ·) (read_0 m c t n ⟨d.val, by omega⟩ ht) (read_1 m c t d k)
  rw [ep, hc]
  unfold result
  have e1 : (t.val * 16 + g.val) / 16 = t.val := by omega
  have e2 : (t.val * 16 + g.val) % 16 = g.val := by omega
  show _ = BitVec.ofNat 32 (rank (bucket (products _ _ ⟨(t.val * 16 + g.val) / 16, _⟩)) (128 * ((t.val * 16 + g.val) % 16) + j.val) + (t.val * 16 + g.val) / 16 * 2048)
  simp only [e1, e2]

end Cert.RankIdeal.Array

end
-- ==== Proof.RankRun.lean ====
/-
  The run of the ranking call's reference: its operations in order, and what each leaves. The sixteen products and their
  negatives side by side; their arg-max; the keys; the order that sorts the keys, and the order that sorts that; the words
  counted on from each head's first row.
-/
module

public import proofs.«01_k».proof.Proof.Gen.RankRefIdeal
public import Idealize.ShloMosaic.Lib.StableHlo.Run

@[expose] public section

noncomputable section

namespace Cert.RankRefIdeal.Steps

open Cert.RankRefIdeal Cert.RankRefIdeal.Gen Idealize.ShloMosaic Idealize.ShloMosaic.TcCoe Idealize.SL.Sem Idealize.ShloMosaic.StableHlo

variable {F : FTy → Type} [FloatOps F]

/-! ## The values -/

/-- A row's products with its head's random vectors. -/
def turned (q : FVec F S128x2048x128 .f32) (R : FVec F S32x32x16 .f32) : FVec F S4x32x2048x16 .f32 :=
  transpose S4x32x2048x16 [2, 0, 3, 1] (Host.dotGeneral dot_S32x32x16_S4x32x2048x32_S32x16x4x2048_1_3_2_02_0_1 none R
    (shapeCast S4x32x2048x32 (extractStridedSlice S128x2048x32 ![0, 0, 0] q slices_S128x2048x128_S128x2048x32_0_0_0)
      shapeCasts_S128x2048x32_S4x32x2048x32)) transposes_S32x16x4x2048_S4x32x2048x16_2_0_3_1

/-- The products, then their negatives. -/
def paired (q : FVec F S128x2048x128 .f32) (R : FVec F S32x32x16 .f32) : FVec F S4x32x2048x32 .f32 :=
  concatenate S4x32x2048x32 3 [⟨S4x32x2048x16, turned q R⟩, ⟨S4x32x2048x16, Host.negf (turned q R)⟩]
    concatenates_S4x32x2048x16_S4x32x2048x16_S4x32x2048x32_d3

/-- Where the greatest stands first. -/
def greatest (x : FVec F S4x32x2048x32 .f32) : IVec S4x32x2048 32 := fun j =>
  (Host.argReduce reducer_argmax_f32_i32 x (iotaInDim S4x32x2048x32 32 3) (constant S_ .f32 0xFF800000#32) (constantI S_ 32 0#32)
    reducesTo_S4x32x2048x32_S4x32x2048_d3 h_S_ j).2

/-- The keys: bucket, then place. -/
def keyed (a : IVec S4x32x2048 32) : IVec S4x32x2048 32 :=
  addi (muli a (broadcastInDim S4x32x2048 ![] bcast_S_S4x32x2048 (constantI S_ 32 2048#32)))
    (broadcastInDim S4x32x2048 ![0, 1, 2] bcast_S1x1x2048_S4x32x2048_0_1_2 (broadcastInDim S1x1x2048 ![2] bcast_S2048_S1x1x2048_2 (iotaInDim S2048 32 0)))

/-- The order that sorts `k`. -/
def order (k : IVec S4x32x2048 32) : IVec S4x32x2048 32 :=
  (Host.sort2 S4x32x2048 2 comparator_i32_i32_d2 k (iotaInDim S4x32x2048 32 2)).2

/-- Counted on from each head's first row. -/
def counted (p : IVec S4x32x2048 32) : IVec S2048x128 32 :=
  shapeCast S2048x128 (addi (shapeCast S128x2048 p shapeCasts_S4x32x2048_S128x2048)
    (broadcastInDim S128x2048 ![0, 1] bcast_S128x1_S128x2048_0_1 (muli (broadcastInDim S128x1 ![] bcast_S_S128x1 (constantI S_ 32 2048#32))
      (broadcastInDim S128x1 ![0] bcast_S128_S128x1_0 (iotaInDim S128 32 0))))) shapeCasts_S128x2048_S2048x128

/-- What the reference returns. -/
def whole (q : FVec F S128x2048x128 .f32) (R : FVec F S32x32x16 .f32) : IVec S2048x128 32 :=
  counted (order (order (keyed (greatest (paired q R)))))

/-! ## The operations -/

abbrev steps : List (HloOp τ sig (Elt F)) :=
  [ unary main_arg0 main_v0 ((extractStridedSlice S128x2048x32 ![0, 0, 0] · slices_S128x2048x128_S128x2048x32_0_0_0) : (⟨S128x2048x128, .f32⟩ : BufTy).Contents (Elt F) → (⟨S128x2048x32, .f32⟩ : BufTy).Contents (Elt F)),
    reshape main_v0 main_v1 (rfl : (.f32 : EltTy) = .f32) shapeCasts_S128x2048x32_S4x32x2048x32,
    binary main_arg1 main_v1 main_v2 ((fun l r => Host.dotGeneral dot_S32x32x16_S4x32x2048x32_S32x16x4x2048_1_3_2_02_0_1 none l r) : (⟨S32x32x16, .f32⟩ : BufTy).Contents (Elt F) → (⟨S4x32x2048x32, .f32⟩ : BufTy).Contents (Elt F) → (⟨S32x16x4x2048, .f32⟩ : BufTy).Contents (Elt F)),
    unary main_v2 main_v3 ((transpose S4x32x2048x16 [2, 0, 3, 1] · transposes_S32x16x4x2048_S4x32x2048x16_2_0_3_1) : (⟨S32x16x4x2048, .f32⟩ : BufTy).Contents (Elt F) → (⟨S4x32x2048x16, .f32⟩ : BufTy).Contents (Elt F)),
    unary main_v3 main_v4 (Host.negf : (⟨S4x32x2048x16, .f32⟩ : BufTy).Contents (Elt F) → (⟨S4x32x2048x16, .f32⟩ : BufTy).Contents (Elt F)),
    binary main_v3 main_v4 main_v5 ((fun a b => concatenate S4x32x2048x32 3 [⟨S4x32x2048x16, a⟩, ⟨S4x32x2048x16, b⟩] concatenates_S4x32x2048x16_S4x32x2048x16_S4x32x2048x32_d3) : (⟨S4x32x2048x16, .f32⟩ : BufTy).Contents (Elt F) → (⟨S4x32x2048x16, .f32⟩ : BufTy).Contents (Elt F) → (⟨S4x32x2048x32, .f32⟩ : BufTy).Contents (Elt F)),
    TRef.nullary main_call0.v0 (iotaInDim S4x32x2048x32 32 3),
    TRef.nullary main_call0.cst (constant S_ .f32 0xFF800000#32),
    TRef.nullary main_call0.c (constantI S_ 32 0#32),
    TRef.quaternary (.of main_v5) main_call0.v0 main_call0.cst main_call0.c main_call0.v1_0 (fun x y u v j => (Host.argReduce reducer_argmax_f32_i32 x y u v reducesTo_S4x32x2048x32_S4x32x2048_d3 h_S_ j).1),
    TRef.quaternary (.of main_v5) main_call0.v0 main_call0.cst main_call0.c main_call0.v1_1 (fun x y u v j => (Host.argReduce reducer_argmax_f32_i32 x y u v reducesTo_S4x32x2048x32_S4x32x2048_d3 h_S_ j).2),
    nullary main_v7 (iotaInDim S2048 32 0),
    nullary main_c (constantI S_ 32 2048#32),
    unary main_c main_v8 (broadcastInDim S4x32x2048 ![] bcast_S_S4x32x2048 : (⟨S_, .i32⟩ : BufTy).Contents (Elt F) → (⟨S4x32x2048, .i32⟩ : BufTy).Contents (Elt F)),
    binary main_v6 main_v8 main_v9 (muli : (⟨S4x32x2048, .i32⟩ : BufTy).Contents (Elt F) → (⟨S4x32x2048, .i32⟩ : BufTy).Contents (Elt F) → (⟨S4x32x2048, .i32⟩ : BufTy).Contents (Elt F)),
    unary main_v7 main_v10 (broadcastInDim S1x1x2048 ![2] bcast_S2048_S1x1x2048_2 : (⟨S2048, .i32⟩ : BufTy).Contents (Elt F) → (⟨S1x1x2048, .i32⟩ : BufTy).Contents (Elt F)),
    unary main_v10 main_v11 (broadcastInDim S4x32x2048 ![0, 1, 2] bcast_S1x1x2048_S4x32x2048_0_1_2 : (⟨S1x1x2048, .i32⟩ : BufTy).Contents (Elt F) → (⟨S4x32x2048, .i32⟩ : BufTy).Contents (Elt F)),
    binary main_v9 main_v11 main_v12 (addi : (⟨S4x32x2048, .i32⟩ : BufTy).Contents (Elt F) → (⟨S4x32x2048, .i32⟩ : BufTy).Contents (Elt F) → (⟨S4x32x2048, .i32⟩ : BufTy).Contents (Elt F)),
    TRef.nullary main_call1.v0 (iotaInDim S4x32x2048 32 2),
    TRef.binary (.of main_v12) main_call1.v0 main_call1.v1_0 (fun x y => (Host.sort2 S4x32x2048 2 comparator_i32_i32_d2 x y).1),
    TRef.binary (.of main_v12) main_call1.v0 main_call1.v1_1 (fun x y => (Host.sort2 S4x32x2048 2 comparator_i32_i32_d2 x y).2),
    TRef.nullary main_call2.v0 (iotaInDim S4x32x2048 32 2),
    TRef.binary (.of main_v13) main_call2.v0 main_call2.v1_0 (fun x y => (Host.sort2 S4x32x2048 2 comparator_i32_i32_d2 x y).1),
    TRef.binary (.of main_v13) main_call2.v0 main_call2.v1_1 (fun x y => (Host.sort2 S4x32x2048 2 comparator_i32_i32_d2 x y).2),
    reshape main_v14 main_v15 (rfl : (.i32 : EltTy) = .i32) shapeCasts_S4x32x2048_S128x2048,
    nullary main_v16 (iotaInDim S128 32 0),
    unary main_v16 main_v17 (broadcastInDim S128x1 ![0] bcast_S128_S128x1_0 : (⟨S128, .i32⟩ : BufTy).Contents (Elt F) → (⟨S128x1, .i32⟩ : BufTy).Contents (Elt F)),
    nullary main_c_0 (constantI S_ 32 2048#32),
    unary main_c_0 main_v18 (broadcastInDim S128x1 ![] bcast_S_S128x1 : (⟨S_, .i32⟩ : BufTy).Contents (Elt F) → (⟨S128x1, .i32⟩ : BufTy).Contents (Elt F)),
    binary main_v18 main_v17 main_v19 (muli : (⟨S128x1, .i32⟩ : BufTy).Contents (Elt F) → (⟨S128x1, .i32⟩ : BufTy).Contents (Elt F) → (⟨S128x1, .i32⟩ : BufTy).Contents (Elt F)),
    unary main_v19 main_v20 (broadcastInDim S128x2048 ![0, 1] bcast_S128x1_S128x2048_0_1 : (⟨S128x1, .i32⟩ : BufTy).Contents (Elt F) → (⟨S128x2048, .i32⟩ : BufTy).Contents (Elt F)),
    binary main_v15 main_v20 main_v21 (addi : (⟨S128x2048, .i32⟩ : BufTy).Contents (Elt F) → (⟨S128x2048, .i32⟩ : BufTy).Contents (Elt F) → (⟨S128x2048, .i32⟩ : BufTy).Contents (Elt F)),
    reshape main_v21 main_v22 (rfl : (.i32 : EltTy) = .i32) shapeCasts_S128x2048_S2048x128 ]

theorem main_steps (c : Dev nD) : main (F := F) c = seq steps := rfl

theorem no_scoped_ref : (Finset.univ.filter fun b : Ref sig .tc => b.isScoped) = ∅ := by decide

theorem no_scoped_sem : (Finset.univ.filter fun sm : SemLoc sig => sm.isScoped .tc) = ∅ := by decide

theorem steps_within : (steps : List (HloOp τ sig (Elt F))).Forall fun op => op.bufs ⊆ tcRefs τ sig :=
  ⟨unary_bufs_sub .., reshape_bufs_sub .., binary_bufs_sub .., unary_bufs_sub .., unary_bufs_sub .., binary_bufs_sub ..,
    nullary_bufs_sub .., nullary_bufs_sub .., nullary_bufs_sub .., quaternary_bufs_sub .., quaternary_bufs_sub ..,
    nullary_bufs_sub .., nullary_bufs_sub .., unary_bufs_sub .., binary_bufs_sub .., unary_bufs_sub .., unary_bufs_sub .., binary_bufs_sub ..,
    nullary_bufs_sub .., binary_bufs_sub .., binary_bufs_sub .., nullary_bufs_sub .., binary_bufs_sub .., binary_bufs_sub ..,
    reshape_bufs_sub .., nullary_bufs_sub .., unary_bufs_sub .., nullary_bufs_sub .., unary_bufs_sub .., binary_bufs_sub .., unary_bufs_sub ..,
    binary_bufs_sub .., reshape_bufs_sub ..⟩

/-- The reference runs to its end, leaves `whole` of its arguments, and keeps the arguments. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v22) = whole (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c main_v22).trans (by
        simp only [steps, TRef.binary, TRef.nullary, TRef.quaternary, TRef.toBuf, TRef.ofBuf, cast_eq]; after_results <;> rfl),
      (h c main_arg0).trans (by
        simp only [steps, TRef.binary, TRef.nullary, TRef.quaternary, TRef.toBuf, TRef.ofBuf, cast_eq]; after_results <;> rfl),
      (h c main_arg1).trans (by
        simp only [steps, TRef.binary, TRef.nullary, TRef.quaternary, TRef.toBuf, TRef.ofBuf, cast_eq]; after_results <;> rfl)⟩)
    (run_seq no_scoped_ref no_scoped_sem defs main (fun _ => steps) main_steps (fun _ => steps_within) m ρ)

end Cert.RankRefIdeal.Steps

end
-- ==== Proof.RankRef.lean ====
/-
  What the ranking call's reference computes: the arg-max is the first of the greatest; the order that sorts the order
  that sorts the keys is, at every row, how many keys come before its key.
-/
module

public import proofs.«01_k».proof.Proof.RankRun
public import proofs.«01_k».proof.Proof.RankValue
public import Idealize.ShloMosaic.Lib.Pointwise
public import Idealize.ShloMosaic.Lib.Pipeline.Value
public import Idealize.ShloMosaic.Lib.StableHlo.Predicate

@[expose] public section

noncomputable section

namespace Cert.RankRefIdeal.Order

open Cert.RankRefIdeal Cert.RankRefIdeal.Gen Cert.RankRefIdeal.Steps
open Cert.RankIdeal.Row Cert.RankIdeal.Count
open Idealize.ShloMosaic
open scoped BigOperators

/-! ## The arg-max -/

/-- `p` is greater than `q`, or as great and not behind it. -/
def Beats (p q : EReal × BitVec 32) : Prop := q.1 < p.1 ∨ (q.1 = p.1 ∧ p.2.toNat ≤ q.2.toNat)

theorem Beats.refl (p : EReal × BitVec 32) : Beats p p := Or.inr ⟨rfl, le_rfl⟩

theorem Beats.trans {p q r : EReal × BitVec 32} (h : Beats p q) (h' : Beats q r) : Beats p r := by
  rcases h with h | ⟨h, hi⟩ <;> rcases h' with h' | ⟨h', hi'⟩
  · exact Or.inl (h'.trans h)
  · exact Or.inl (h' ▸ h)
  · exact Or.inl (h ▸ h')
  · exact Or.inr ⟨h'.trans h, hi.trans hi'⟩

theorem bit_cases (w : BitVec 1) : w = 0#1 ∨ w = 1#1 := (by decide : ∀ w : BitVec 1, w = 0#1 ∨ w = 1#1) w

theorem reducer_step (a b : EReal × BitVec 32) (ha : a.2.toNat < 2 ^ 31) (hb : b.2.toNat < 2 ^ 31) :
    (reducer_argmax_f32_i32 (F := Ideal) a b = a ∨ reducer_argmax_f32_i32 (F := Ideal) a b = b)
      ∧ Beats (reducer_argmax_f32_i32 (F := Ideal) a b) a ∧ Beats (reducer_argmax_f32_i32 (F := Ideal) a b) b := by
  obtain ⟨a1, a2⟩ := a
  obtain ⟨b1, b2⟩ := b
  have hs := StableHlo.Predicate.slt_iff_toNat (a := a2) (b := b2) ha hb
  have hu : FloatOps.cmpf (F := Ideal) (φ := .f32) .une a1 a1 = 0#1 := by simp [Ideal.cmpf_def, Ideal.cmp]
  rcases lt_trichotomy a1 b1 with h | h | h
  · have hg : FloatOps.cmpf (F := Ideal) (φ := .f32) .ogt a1 b1 = 0#1 := by
      rw [Ideal.cmpf_def]; unfold Ideal.cmp; simp only [decide_eq_false h.not_gt]; rfl
    have he : FloatOps.cmpf (F := Ideal) (φ := .f32) .oeq a1 b1 = 0#1 := by simp [Ideal.cmpf_def, Ideal.cmp, h.ne]
    have e : reducer_argmax_f32_i32 (F := Ideal) (a1, a2) (b1, b2) = (b1, b2) := by
      unfold reducer_argmax_f32_i32
      simp only [hu, hg, he]
      rcases bit_cases (IntOp.cmpi .slt a2 b2) with hw | hw <;> rw [hw] <;> rfl
    rw [e]
    exact ⟨Or.inr rfl, Or.inl h, Beats.refl _⟩
  · subst h
    have hg : FloatOps.cmpf (F := Ideal) (φ := .f32) .ogt a1 a1 = 0#1 := by simp [Ideal.cmpf_def, Ideal.cmp]
    have he : FloatOps.cmpf (F := Ideal) (φ := .f32) .oeq a1 a1 = 1#1 := by simp [Ideal.cmpf_def, Ideal.cmp]
    rcases bit_cases (IntOp.cmpi .slt a2 b2) with hw | hw
    · have e : reducer_argmax_f32_i32 (F := Ideal) (a1, a2) (a1, b2) = (a1, b2) := by
        unfold reducer_argmax_f32_i32
        simp only [hu, hg, he, hw]
        rfl
      rw [e]
      refine ⟨Or.inr rfl, Or.inr ⟨rfl, ?_⟩, Beats.refl _⟩
      by_contra hc
      rw [hs.2 (by simpa using hc)] at hw
      exact absurd hw (by decide)
    · have e : reducer_argmax_f32_i32 (F := Ideal) (a1, a2) (a1, b2) = (a1, a2) := by
        unfold reducer_argmax_f32_i32
        simp only [hu, hg, he, hw]
        rfl
      rw [e]
      exact ⟨Or.inl rfl, Beats.refl _, Or.inr ⟨rfl, (hs.1 hw).le⟩⟩
  · have hg : FloatOps.cmpf (F := Ideal) (φ := .f32) .ogt a1 b1 = 1#1 := by simp [Ideal.cmpf_def, Ideal.cmp, h]
    have e : reducer_argmax_f32_i32 (F := Ideal) (a1, a2) (b1, b2) = (a1, a2) := by
      unfold reducer_argmax_f32_i32
      simp only [hu, hg]
      rcases bit_cases (IntOp.andi (FloatOps.cmpf (F := Ideal) (φ := .f32) .oeq a1 b1) (IntOp.cmpi .slt a2 b2)) with hw | hw <;> rw [hw] <;> rfl
    rw [e]
    exact ⟨Or.inl rfl, Beats.refl _, Or.inl h⟩

theorem reducer_fold (l : List (EReal × BitVec 32)) (p : EReal × BitVec 32) (hp : p.2.toNat < 2 ^ 31) (hl : ∀ q ∈ l, q.2.toNat < 2 ^ 31) :
    (l.foldl (reducer_argmax_f32_i32 (F := Ideal)) p = p ∨ l.foldl (reducer_argmax_f32_i32 (F := Ideal)) p ∈ l)
      ∧ Beats (l.foldl (reducer_argmax_f32_i32 (F := Ideal)) p) p
      ∧ ∀ q ∈ l, Beats (l.foldl (reducer_argmax_f32_i32 (F := Ideal)) p) q := by
  induction l generalizing p with
  | nil => exact ⟨Or.inl rfl, Beats.refl _, by simp⟩
  | cons a l ih =>
    obtain ⟨hm, hbp, hba⟩ := reducer_step p a hp (hl a (by simp))
    have hp' : (reducer_argmax_f32_i32 (F := Ideal) p a).2.toNat < 2 ^ 31 := by
      rcases hm with hm | hm <;> rw [hm]
      · exact hp
      · exact hl a (by simp)
    obtain ⟨hm', hbp', hb'⟩ := ih (reducer_argmax_f32_i32 (F := Ideal) p a) hp' fun q hq => hl q (by simp [hq])
    rw [List.foldl_cons]
    refine ⟨?_, hbp'.trans hbp, fun q hq => ?_⟩
    · rcases hm' with hm' | hm'
      · rw [hm']
        rcases hm with hm | hm
        · exact Or.inl hm
        · exact Or.inr (by rw [hm]; simp)
      · exact Or.inr (List.mem_cons_of_mem _ hm')
    · rcases List.mem_cons.1 hq with rfl | hq
      · exact hbp'.trans hba
      · exact hb' q hq

theorem drop_ix4 (b : Fin 4) (h : Fin 32) (n : Fin 2048) (k : Fin 32) :
    reducesTo_S4x32x2048x32_S4x32x2048_d3.drop (ix4 b h n k) = ix3 b h n := by
  funext a
  fin_cases a <;> rfl

/-- The pairs along a row: each lane's value with its number. -/
theorem mem_row (x : FVec Ideal S4x32x2048x32 .f32) (b : Fin 4) (h : Fin 32) (n : Fin 2048) (p : EReal × BitVec 32) :
    p ∈ Host.argReduceFiber x (iotaInDim S4x32x2048x32 32 3) reducesTo_S4x32x2048x32_S4x32x2048_d3 (ix3 b h n)
      ↔ ∃ k : Fin 32, p = (x (ix4 b h n k), BitVec.ofNat 32 k.val) := by
  unfold Host.argReduceFiber
  rw [List.mem_map]
  constructor
  · rintro ⟨i, hi, rfl⟩
    have hd := of_decide_eq_true (List.mem_filter.1 hi).2
    generalize S4x32x2048x32.rowMajor.symm i = j at *
    obtain ⟨b', h', n', k, rfl⟩ : ∃ (b' : Fin 4) (h' : Fin 32) (n' : Fin 2048) (k : Fin 32), j = ix4 b' h' n' k :=
      ⟨_, _, _, _, eq_ix4 (n0 := 4) (n1 := 32) (n2 := 2048) (n3 := 32) j⟩
    rw [drop_ix4] at hd
    have h0 : b' = b := congrFun hd 0
    have h1 : h' = h := congrFun hd 1
    have h2 : n' = n := congrFun hd 2
    rw [h0, h1, h2]
    exact ⟨k, rfl⟩
  · rintro ⟨k, rfl⟩
    refine ⟨S4x32x2048x32.rowMajor (ix4 b h n k), List.mem_filter.2 ⟨List.mem_finRange _, ?_⟩, ?_⟩
    · rw [Equiv.symm_apply_apply, drop_ix4]; simp
    · rw [Equiv.symm_apply_apply]; rfl

/-- Where the arg-max begins. -/
theorem bottom_apply : (constant S_ .f32 0xFF800000#32 : FVec Ideal S_ .f32) (Shape.Idx.first h_S_) = (⊥ : EReal) := by
  simp only [pointwise]
  exact Cert.RankIdeal.Array.bottom

/-- The fold over pairs that are the lanes' values with their numbers ends at the first of the greatest. -/
theorem fold_first (f : Fin 32 → EReal) (l : List (EReal × BitVec 32)) (hl : ∀ p, p ∈ l ↔ ∃ k : Fin 32, p = (f k, BitVec.ofNat 32 k.val)) :
    (l.foldl (reducer_argmax_f32_i32 (F := Ideal)) (⊥, 0#32)).2 = BitVec.ofNat 32 (first f).val := by
  have small : ∀ k : Fin 32, (BitVec.ofNat 32 k.val).toNat = k.val := fun k => by
    rw [BitVec.toNat_ofNat]; omega
  obtain ⟨hm, -, hb⟩ := reducer_fold l (⊥, 0#32) (by decide) fun q hq => by
    obtain ⟨k, rfl⟩ := (hl q).1 hq
    rw [small]; omega
  generalize List.foldl _ _ _ = r at *
  have hb' : ∀ k : Fin 32, Beats r (f k, BitVec.ofNat 32 k.val) := fun k => hb _ ((hl _).2 ⟨k, rfl⟩)
  have hr : ∃ k : Fin 32, r = (f k, BitVec.ofNat 32 k.val) := by
    rcases hm with hm | hm
    · refine ⟨0, ?_⟩
      rcases hb' 0 with h0 | ⟨h0, -⟩
      · rw [hm] at h0; exact absurd h0 not_lt_bot
      · exact Prod.ext h0.symm (by rw [hm]; rfl)
    · exact (hl r).1 hm
  obtain ⟨k, rfl⟩ := hr
  have hf : IsFirst f k := by
    refine ⟨fun j => ?_, fun j hj => ?_⟩
    · rcases hb' j with h' | ⟨h', -⟩
      · exact h'.le
      · exact h'.le
    · rcases hb' j with h' | ⟨-, h'⟩
      · exact absurd hj h'.ne
      · rw [small, small] at h'; exact h'
  rw [(first_spec _).unique hf]

/-- The numbers an arg-max gives are a fold's along each row, for every shape. -/
theorem folded {s t u : Shape} {axes : List (Fin s.rank)} (f : EReal × BitVec 32 → EReal × BitVec 32 → EReal × BitVec 32)
    (x : FVec Ideal s .f32) (y : s.Idx → BitVec 32) (ix : FVec Ideal u .f32) (iy : u.Idx → BitVec 32) (h : s.ReducesTo axes t) (hu : 0 < u.numel)
    (p : EReal) (q : BitVec 32) (hp : ix (Shape.Idx.first hu) = p) (hq : iy (Shape.Idx.first hu) = q) (g : t.Idx → BitVec 32)
    (hg : g = fun j => (Host.argReduce (F := Ideal) (φ := .f32) f x y ix iy h hu j).2) (j : t.Idx) :
    g j = ((Host.argReduceFiber x y h j).foldl f (p, q)).2 := by
  subst hg hp hq
  show (Host.argReduce (F := Ideal) (φ := .f32) f x y ix iy h hu j).2 = _
  rw [Ideal.argReduce_eq_reduce2, Host.reduce2_eq_foldl_fiber]

theorem greatest_fold (x : FVec Ideal S4x32x2048x32 .f32) (j : S4x32x2048.Idx) :
    greatest x j = ((Host.argReduceFiber x (iotaInDim S4x32x2048x32 32 3) reducesTo_S4x32x2048x32_S4x32x2048_d3 j).foldl
      (reducer_argmax_f32_i32 (F := Ideal)) (⊥, 0#32)).2 :=
  folded (reducer_argmax_f32_i32 (F := Ideal)) x (iotaInDim S4x32x2048x32 32 3) (constant S_ .f32 0xFF800000#32) (constantI S_ 32 0#32)
    reducesTo_S4x32x2048x32_S4x32x2048_d3 h_S_ ⊥ 0#32 bottom_apply rfl (greatest x) rfl j

theorem greatest_apply (x : FVec Ideal S4x32x2048x32 .f32) (b : Fin 4) (h : Fin 32) (n : Fin 2048) :
    greatest x (ix3 b h n) = BitVec.ofNat 32 (first fun k : Fin 32 => x (ix4 b h n k)).val :=
  (greatest_fold x (ix3 b h n)).trans (fold_first _ _ (mem_row x b h n))

/-! ## The products -/

theorem turned_apply (q : FVec Ideal S128x2048x128 .f32) (R : FVec Ideal S32x32x16 .f32) (b : Fin 4) (h : Fin 32) (n : Fin 2048) (k : Fin 16) :
    turned q R (ix4 b h n k) = Cert.RankIdeal.Array.products q R ⟨b.val * 32 + h.val, by omega⟩ n k := by
  unfold turned
  simp only [pointwise, zero_add]
  unfold Cert.RankIdeal.Array.products
  refine Finset.sum_congr rfl fun d _ => ?_
  refine (mul_comm _ _).trans (congrArg₂ (· * ·) (congrArg q ?_) (congrArg R ?_))
  · funext z; refine Fin.ext ?_; fin_cases z <;> exact Nat.zero_add _
  · refine congrArg (fun e => ix3 e d k) (Fin.ext ?_)
    show h.val = (b.val * 32 + h.val) % 32
    omega

theorem paired_apply (q : FVec Ideal S128x2048x128 .f32) (R : FVec Ideal S32x32x16 .f32) (b : Fin 4) (h : Fin 32) (n : Fin 2048) (k : Fin 32) :
    paired q R (ix4 b h n k) = both (Cert.RankIdeal.Array.products q R ⟨b.val * 32 + h.val, by omega⟩ n) k := by
  unfold paired both
  simp only [pointwise]
  split
  · next hk =>
    refine Eq.trans (congrArg (turned q R) ?_) (turned_apply q R b h n ⟨k.val, hk⟩)
    funext z; refine Fin.ext ?_; fin_cases z <;> rfl
  · next hk =>
    refine congrArg Neg.neg (Eq.trans (congrArg (turned q R) ?_) (turned_apply q R b h n ⟨k.val - 16, by omega⟩))
    funext z; refine Fin.ext ?_; fin_cases z <;> rfl

/-! ## The keys and their order -/

theorem keyed_apply (a : IVec S4x32x2048 32) (b : Fin 4) (h : Fin 32) (n : Fin 2048) (β : ℕ) (e : a (ix3 b h n) = BitVec.ofNat 32 β) :
    keyed a (ix3 b h n) = BitVec.ofNat 32 (β * 2048 + n.val) := by
  have : keyed a (ix3 b h n) = a (ix3 b h n) * 2048#32 + BitVec.ofNat 32 n.val := rfl
  rw [this, e, ← BitVec.ofNat_mul, ← BitVec.ofNat_add]

section Rows
variable {l m n : ℕ} {α β : Type}

theorem along_lane (b : Fin l) (h : Fin m) (k k' : Fin n) :
    Shape.Idx.along (s := ⟨3, ![l, m, n]⟩) (ix3 b h k) (2 : Fin 3) k' = ix3 b h k' := by
  funext e
  unfold Shape.Idx.along
  match e with
  | ⟨0, _⟩ => rfl
  | ⟨1, _⟩ => rfl
  | ⟨2, _⟩ => rfl

theorem sort2_lane (cmp : α × β → α × β → BitVec 1) (x : (⟨3, ![l, m, n]⟩ : Shape).Idx → α) (y : (⟨3, ![l, m, n]⟩ : Shape).Idx → β)
    (b : Fin l) (h : Fin m) (k : Fin n) :
    (Host.sort2 ⟨3, ![l, m, n]⟩ 2 cmp x y).2 (ix3 b h k)
      = y (ix3 b h (sortedFrom (fun k k' => cmp (x (ix3 b h k), y (ix3 b h k)) (x (ix3 b h k'), y (ix3 b h k')) == 1#1) k)) := by
  unfold Host.sort2
  rw [dif_pos (show 2 < 3 by decide)]
  exact (congrArg y (along_lane b h k _)).trans (congrArg (fun f => y (ix3 b h (sortedFrom f k)))
    (funext fun c => funext fun c' => by rw [← along_lane b h k c, ← along_lane b h k c']; rfl))

end Rows

/-- The order that sorts words that are small numbers. -/
theorem order_apply (x : IVec S4x32x2048 32) (b : Fin 4) (h : Fin 32) (κ : Fin 2048 → ℕ) (hκ : ∀ n, κ n < 2 ^ 31)
    (e : ∀ n, x (ix3 b h n) = BitVec.ofNat 32 (κ n)) (n : Fin 2048) :
    order x (ix3 b h n) = BitVec.ofNat 32 (sortedFrom (fun k k' => decide (κ k < κ k')) n).val := by
  refine (sort2_lane comparator_i32_i32_d2 x (iotaInDim S4x32x2048 32 2) b h n).trans ?_
  have ef : (fun k k' : Fin 2048 => comparator_i32_i32_d2 (x (ix3 b h k), iotaInDim S4x32x2048 32 2 (ix3 b h k))
      (x (ix3 b h k'), iotaInDim S4x32x2048 32 2 (ix3 b h k')) == 1#1) = fun k k' => decide (κ k < κ k') := by
    funext k k'
    have hk := hκ k
    have hk' := hκ k'
    have hs := StableHlo.Predicate.slt_iff_toNat (a := BitVec.ofNat 32 (κ k)) (b := BitVec.ofNat 32 (κ k'))
      (by rw [BitVec.toNat_ofNat]; omega) (by rw [BitVec.toNat_ofNat]; omega)
    rw [BitVec.toNat_ofNat, BitVec.toNat_ofNat, Nat.mod_eq_of_lt (by omega), Nat.mod_eq_of_lt (by omega)] at hs
    show (IntOp.cmpi .slt (x (ix3 b h k)) (x (ix3 b h k')) == 1#1) = _
    rw [e, e, Bool.eq_iff_iff, beq_iff_eq, hs, decide_eq_true_iff]
  rw [ef]
  rfl

theorem key_inj (β : ℕ → ℕ) : Function.Injective fun n : Fin 2048 => key β n.val := by
  intro n n' h
  have := n.isLt
  have := n'.isLt
  have h : β n.val * 2048 + n.val = β n'.val * 2048 + n'.val := h
  exact Fin.ext (by omega)

/-- The order of the order of the keys is the rank. -/
theorem order_order (x : IVec S4x32x2048 32) (b : Fin 4) (h : Fin 32) (β : ℕ → ℕ) (hβ : ∀ n, β n < 32)
    (e : ∀ n, x (ix3 b h n) = BitVec.ofNat 32 (key β n.val)) (n : Fin 2048) :
    order (order x) (ix3 b h n) = BitVec.ofNat 32 (rank β n.val) := by
  have h1 := order_apply x b h (fun n => key β n.val) (fun n => by have := hβ n.val; have := n.isLt; unfold key; omega) e
  rw [order_apply (order x) b h (fun n => (sortedFrom (fun k k' : Fin 2048 => decide (key β k.val < key β k'.val)) n).val)
    (fun n => by have := (sortedFrom (fun k k' : Fin 2048 => decide (key β k.val < key β k'.val)) n).isLt; omega) h1 n,
    rank_eq β n.val n.isLt]
  exact congrArg _ (sort_sort (fun n : Fin 2048 => key β n.val) (key_inj β) n)

/-! ## The whole -/

theorem whole_eq (q : FVec Ideal S128x2048x128 .f32) (R : FVec Ideal S32x32x16 .f32) : whole q R = Cert.RankIdeal.Array.result q R := by
  funext i
  have h0 : (i 0).val < 2048 := (i 0).isLt
  have h1 : (i 1).val < 128 := (i 1).isLt
  unfold whole Cert.RankIdeal.Array.result
  have hb : ∀ n : Fin 2048, keyed (greatest (paired q R)) (ix3 ⟨(i 0).val / 16 / 32, by omega⟩ ⟨(i 0).val / 16 % 32, by omega⟩ n)
      = BitVec.ofNat 32 (key (Cert.RankIdeal.Array.bucket (Cert.RankIdeal.Array.products q R ⟨(i 0).val / 16, by omega⟩)) n.val) := fun n => by
    refine keyed_apply _ _ _ n _ ((greatest_apply _ _ _ n).trans ?_)
    rw [Cert.RankIdeal.Array.bucket_apply]
    refine congrArg (fun f : Fin 32 → EReal => BitVec.ofNat 32 (first f).val) (funext fun k => (paired_apply q R _ _ n k).trans ?_)
    refine congrArg (fun e => both (Cert.RankIdeal.Array.products q R e n) k) (Fin.ext ?_)
    show (i 0).val / 16 / 32 * 32 + (i 0).val / 16 % 32 = (i 0).val / 16
    omega
  have ho := order_order _ _ _ _ (Cert.RankIdeal.Array.bucket_lt _) hb ⟨128 * ((i 0).val % 16) + (i 1).val, by omega⟩
  unfold counted
  refine (shapeCast_apply _ _ i (ix2 (n0 := 128) (n1 := 2048) ⟨(i 0).val / 16, by omega⟩ ⟨128 * ((i 0).val % 16) + (i 1).val, by omega⟩) ?_).trans ?_
  · rw [Shape.rowMajor_val_two, Shape.rowMajor_val_two]
    show (i 0).val / 16 * 2048 + (128 * ((i 0).val % 16) + (i 1).val) = (i 0).val * 128 + (i 1).val
    omega
  · refine (congrArg₂ (· + ·) ((shapeCast_apply _ _ _ (ix3 (n0 := 4) (n1 := 32) (n2 := 2048) ⟨(i 0).val / 16 / 32, by omega⟩
      ⟨(i 0).val / 16 % 32, by omega⟩ ⟨128 * ((i 0).val % 16) + (i 1).val, by omega⟩) ?_).trans ho)
      (show _ = 2048#32 * BitVec.ofNat 32 ((i 0).val / 16) from rfl)).trans ?_
    · rw [Shape.rowMajor_val_two, Shape.rowMajor_val_three]
      show ((i 0).val / 16 / 32 * 32 + (i 0).val / 16 % 32) * 2048 + (128 * ((i 0).val % 16) + (i 1).val) = (i 0).val / 16 * 2048 + (128 * ((i 0).val % 16) + (i 1).val)
      omega
    · rw [← BitVec.ofNat_mul, ← BitVec.ofNat_add, mul_comm 2048]

end Cert.RankRefIdeal.Order

end
-- ==== Proof.RankClaims.lean ====
/-
  The bucket ranks: the frames, the idealization and the equality with the plain program, whatever the numbers.
-/
module

public import proofs.«01_k».proof.Defs
public import proofs.«01_k».proof.Proof.Gen.Rank.Frame
public import proofs.«01_k».proof.Proof.RankValue
public import proofs.«01_k».proof.Proof.RankRef
public import Idealize.ShloMosaic.Lib.Quiescent

@[expose] public section

noncomputable section

namespace Cert.Proof.Rank

open Idealize.ShloMosaic Idealize.SL.Sem

/-- The kernel as printed: it runs, its arguments and its counters end as they were. -/
theorem frame_p : Cert.quiescent_Rank := fun m g _ => Cert.Rank.Gen.frame m g

/-- The same of the idealized kernel, -/
theorem frame_pi : Cert.quiescent_RankIdeal := fun m g _ => Cert.RankIdeal.Gen.frame m g

/-- and of the plain program, which has no counter. -/
theorem frame_ri : Cert.quiescent_RankRefIdeal := by
  intro m g _
  exact (θ_run _ _ _).mono (fun r h => ⟨fun c => (h c).2, Idealize.ShloMosaic.sem_eq_zero_of_no_sems (by decide) r.2⟩)
    (Cert.RankRefIdeal.Steps.run (F := Ideal) m g)

/-- Kernel and plain program end with the same words. -/
theorem algebraic : Cert.algebraic_RankIdeal_RankRefIdeal := by
  intro m g m' g' _ hagree
  refine ⟨fun c => (Cert.RankIdeal.Gen.dats m 0 c).arrAt 2 Cert.RankIdeal.cfg0.N, ?_, ?_⟩
  · exact Cert.RankIdeal.Value.run_blocks m g
  · refine (θ_run _ _ _).mono (fun r h c => ⟨(h c).1.trans ?_, (h c).2⟩) (Cert.RankRefIdeal.Steps.run (F := Ideal) m' g')
    obtain ⟨h0, h1⟩ := hagree c
    refine Eq.trans ?_ (Cert.RankIdeal.Array.final m c).symm
    rw [h0, h1]
    exact Cert.RankRefIdeal.Order.whole_eq _ _

end Cert.Proof.Rank

end
-- ==== Proof.lean ====
/-
  The certificate: the six calls' claims, put together.
-/
module

public import proofs.«01_k».proof.Defs
public import proofs.«01_k».proof.Proof.UnsortClaims
public import proofs.«01_k».proof.Proof.PermuteClaims
public import proofs.«01_k».proof.Proof.TailClaims
public import proofs.«01_k».proof.Proof.AttendClaims
public import proofs.«01_k».proof.Proof.ProjectClaims
public import proofs.«01_k».proof.Proof.RankClaims

@[expose] public section

noncomputable section

namespace Cert.Proof

/-- Both of the SparseCore's calls, the block's end, the attention within blocks, the projections and the bucket ranks before them: their frames, their idealizations, and their equalities with the references. -/
theorem claim : Cert.Claim :=
  ⟨Cert.Unsort.Gen.facts, Cert.UnsortIdeal.Gen.facts, Cert.UnsortRefIdeal.Gen.facts,
    Cert.Permute.Gen.facts, Cert.PermuteIdeal.Gen.facts, Cert.PermuteRefIdeal.Gen.facts,
    Cert.Tail.Gen.facts, Cert.TailIdeal.Gen.facts, Cert.TailRefIdeal.Gen.facts,
    Cert.Attend.Gen.facts, Cert.AttendIdeal.Gen.facts, Cert.AttendRefIdeal.Gen.facts,
    Cert.Project.Gen.facts, Cert.ProjectIdeal.Gen.facts, Cert.ProjectRefIdeal.Gen.facts,
    Cert.Rank.Gen.facts, Cert.RankIdeal.Gen.facts, Cert.RankRefIdeal.Gen.facts,
    Cert.Pre_in_range.Gen.facts, Cert.Pre_positions.Gen.facts, Cert.Pre_finite.Gen.facts, Cert.On_attended_lanes.Gen.facts,
    Cert.On_projected_lanes.Gen.facts,
    Unsort.frame_p, Unsort.frame_pi, Unsort.frame_ri, Permute.frame_p, Permute.frame_pi, Permute.frame_ri,
    Tail.frame_p, Tail.frame_pi, Tail.frame_ri,
    Attend.frame_p, Attend.frame_pi, Attend.frame_pi_finite, Attend.frame_ri, Attend.frame_ri_finite,
    Project.frame_p, Project.frame_pi, Project.frame_ri,
    Rank.frame_p, Rank.frame_pi, Rank.frame_ri,
    trivial, Unsort.algebraic, trivial, Permute.algebraic, Tail.preserves, Tail.algebraic,
    Attend.preserves, Attend.algebraic, Project.preserves, Project.algebraic, trivial, Rank.algebraic⟩

end Cert.Proof

end
